-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_KernelGla (m : (ℓ : Loc Cert.KernelGla.nD Cert.KernelGla.τ Cert.KernelGla.sig) → Buf (Elt Bits) ℓ) : Prop :=
  True

def Pre_KernelGlaIdeal (m : (ℓ : Loc Cert.KernelGlaIdeal.nD Cert.KernelGlaIdeal.τ Cert.KernelGlaIdeal.sig) → Buf (Elt Ideal) ℓ) : Prop :=
  True

def Pre_ReferenceGlaIdeal (m : (ℓ : Loc Cert.ReferenceGlaIdeal.nD Cert.ReferenceGlaIdeal.τ Cert.ReferenceGlaIdeal.sig) → Buf (Elt Ideal) ℓ) : Prop :=
  True

def Pre_KernelMoba (m : (ℓ : Loc Cert.KernelMoba.nD Cert.KernelMoba.τ Cert.KernelMoba.sig) → Buf (Elt Bits) ℓ) : Prop :=
  True

def Pre_KernelMobaIdeal (m : (ℓ : Loc Cert.KernelMobaIdeal.nD Cert.KernelMobaIdeal.τ Cert.KernelMobaIdeal.sig) → Buf (Elt Ideal) ℓ) : Prop :=
  True

def Pre_ReferenceMobaIdeal (m : (ℓ : Loc Cert.ReferenceMobaIdeal.nD Cert.ReferenceMobaIdeal.τ Cert.ReferenceMobaIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_KernelOutIdeal_finite [hPre_finite : Cert.Pre_finite.Facts] (m : (ℓ : Loc Cert.KernelOutIdeal.nD Cert.KernelOutIdeal.τ Cert.KernelOutIdeal.sig) → Buf (Elt Ideal) ℓ) : Prop :=
  ∀ c : Dev Cert.KernelOutIdeal.nD,
    (Cert.Pre_finite.fn (F := Ideal) (m ((c.tc : Thread Cert.KernelOutIdeal.nD Cert.KernelOutIdeal.τ).loc Cert.KernelOutIdeal.main_arg0)) (m ((c.tc : Thread Cert.KernelOutIdeal.nD Cert.KernelOutIdeal.τ).loc Cert.KernelOutIdeal.main_arg1)) (m ((c.tc : Thread Cert.KernelOutIdeal.nD Cert.KernelOutIdeal.τ).loc Cert.KernelOutIdeal.main_arg2)) (m ((c.tc : Thread Cert.KernelOutIdeal.nD Cert.KernelOutIdeal.τ).loc Cert.KernelOutIdeal.main_arg3)) (m ((c.tc : Thread Cert.KernelOutIdeal.nD Cert.KernelOutIdeal.τ).loc Cert.KernelOutIdeal.main_arg4)) (m ((c.tc : Thread Cert.KernelOutIdeal.nD Cert.KernelOutIdeal.τ).loc Cert.KernelOutIdeal.main_arg5)) (m ((c.tc : Thread Cert.KernelOutIdeal.nD Cert.KernelOutIdeal.τ).loc Cert.KernelOutIdeal.main_arg6)) (m ((c.tc : Thread Cert.KernelOutIdeal.nD Cert.KernelOutIdeal.τ).loc Cert.KernelOutIdeal.main_arg7))) = (fun _ => 1#1)

def Pre_ReferenceOutIdeal (m : (ℓ : Loc Cert.ReferenceOutIdeal.nD Cert.ReferenceOutIdeal.τ Cert.ReferenceOutIdeal.sig) → Buf (Elt Ideal) ℓ) : Prop :=
  True

def Pre_ReferenceOutIdeal_finite [hPre_finite : Cert.Pre_finite.Facts] (m : (ℓ : Loc Cert.ReferenceOutIdeal.nD Cert.ReferenceOutIdeal.τ Cert.ReferenceOutIdeal.sig) → Buf (Elt Ideal) ℓ) : Prop :=
  ∀ c : Dev Cert.ReferenceOutIdeal.nD,
    (Cert.Pre_finite.fn (F := Ideal) (m ((c.tc : Thread Cert.ReferenceOutIdeal.nD Cert.ReferenceOutIdeal.τ).loc Cert.ReferenceOutIdeal.main_arg0)) (m ((c.tc : Thread Cert.ReferenceOutIdeal.nD Cert.ReferenceOutIdeal.τ).loc Cert.ReferenceOutIdeal.main_arg1)) (m ((c.tc : Thread Cert.ReferenceOutIdeal.nD Cert.ReferenceOutIdeal.τ).loc Cert.ReferenceOutIdeal.main_arg2)) (m ((c.tc : Thread Cert.ReferenceOutIdeal.nD Cert.ReferenceOutIdeal.τ).loc Cert.ReferenceOutIdeal.main_arg3)) (m ((c.tc : Thread Cert.ReferenceOutIdeal.nD Cert.ReferenceOutIdeal.τ).loc Cert.ReferenceOutIdeal.main_arg4)) (m ((c.tc : Thread Cert.ReferenceOutIdeal.nD Cert.ReferenceOutIdeal.τ).loc Cert.ReferenceOutIdeal.main_arg5)) (m ((c.tc : Thread Cert.ReferenceOutIdeal.nD Cert.ReferenceOutIdeal.τ).loc Cert.ReferenceOutIdeal.main_arg6)) (m ((c.tc : Thread Cert.ReferenceOutIdeal.nD Cert.ReferenceOutIdeal.τ).loc Cert.ReferenceOutIdeal.main_arg7))) = (fun _ => 1#1)

def Pre_KernelLow (m : (ℓ : Loc Cert.KernelLow.nD Cert.KernelLow.τ Cert.KernelLow.sig) → Buf (Elt Bits) ℓ) : Prop :=
  True

def Pre_KernelLowIdeal (m : (ℓ : Loc Cert.KernelLowIdeal.nD Cert.KernelLowIdeal.τ Cert.KernelLowIdeal.sig) → Buf (Elt Ideal) ℓ) : Prop :=
  True

def Pre_ReferenceLowIdeal (m : (ℓ : Loc Cert.ReferenceLowIdeal.nD Cert.ReferenceLowIdeal.τ Cert.ReferenceLowIdeal.sig) → Buf (Elt Ideal) ℓ) : Prop :=
  True

def Pre_KernelRope (m : (ℓ : Loc Cert.KernelRope.nD Cert.KernelRope.τ Cert.KernelRope.sig) → Buf (Elt Bits) ℓ) : Prop :=
  True

def Pre_KernelRopeIdeal (m : (ℓ : Loc Cert.KernelRopeIdeal.nD Cert.KernelRopeIdeal.τ Cert.KernelRopeIdeal.sig) → Buf (Elt Ideal) ℓ) : Prop :=
  True

def Pre_ReferenceRopeIdeal (m : (ℓ : Loc Cert.ReferenceRopeIdeal.nD Cert.ReferenceRopeIdeal.τ Cert.ReferenceRopeIdeal.sig) → Buf (Elt Ideal) ℓ) : Prop :=
  True

def Pre_KernelPrep (m : (ℓ : Loc Cert.KernelPrep.nD Cert.KernelPrep.τ Cert.KernelPrep.sig) → Buf (Elt Bits) ℓ) : Prop :=
  True

def Pre_KernelPrepIdeal (m : (ℓ : Loc Cert.KernelPrepIdeal.nD Cert.KernelPrepIdeal.τ Cert.KernelPrepIdeal.sig) → Buf (Elt Ideal) ℓ) : Prop :=
  True

def Pre_KernelPrepIdeal_finite_prep [hPre_finite_prep : Cert.Pre_finite_prep.Facts] (m : (ℓ : Loc Cert.KernelPrepIdeal.nD Cert.KernelPrepIdeal.τ Cert.KernelPrepIdeal.sig) → Buf (Elt Ideal) ℓ) : Prop :=
  ∀ c : Dev Cert.KernelPrepIdeal.nD,
    (Cert.Pre_finite_prep.fn (F := Ideal) (m ((c.tc : Thread Cert.KernelPrepIdeal.nD Cert.KernelPrepIdeal.τ).loc Cert.KernelPrepIdeal.main_arg0)) (m ((c.tc : Thread Cert.KernelPrepIdeal.nD Cert.KernelPrepIdeal.τ).loc Cert.KernelPrepIdeal.main_arg1)) (m ((c.tc : Thread Cert.KernelPrepIdeal.nD Cert.KernelPrepIdeal.τ).loc Cert.KernelPrepIdeal.main_arg2))) = (fun _ => 1#1)

def Pre_ReferencePrepIdeal (m : (ℓ : Loc Cert.ReferencePrepIdeal.nD Cert.ReferencePrepIdeal.τ Cert.ReferencePrepIdeal.sig) → Buf (Elt Ideal) ℓ) : Prop :=
  True

def Pre_ReferencePrepIdeal_finite_prep [hPre_finite_prep : Cert.Pre_finite_prep.Facts] (m : (ℓ : Loc Cert.ReferencePrepIdeal.nD Cert.ReferencePrepIdeal.τ Cert.ReferencePrepIdeal.sig) → Buf (Elt Ideal) ℓ) : Prop :=
  ∀ c : Dev Cert.ReferencePrepIdeal.nD,
    (Cert.Pre_finite_prep.fn (F := Ideal) (m ((c.tc : Thread Cert.ReferencePrepIdeal.nD Cert.ReferencePrepIdeal.τ).loc Cert.ReferencePrepIdeal.main_arg0)) (m ((c.tc : Thread Cert.ReferencePrepIdeal.nD Cert.ReferencePrepIdeal.τ).loc Cert.ReferencePrepIdeal.main_arg1)) (m ((c.tc : Thread Cert.ReferencePrepIdeal.nD Cert.ReferencePrepIdeal.τ).loc Cert.ReferencePrepIdeal.main_arg2))) = (fun _ => 1#1)

def Pre_KernelCombine [hPre_in_rows : Cert.Pre_in_rows.Facts] (m : (ℓ : Loc Cert.KernelCombine.nD Cert.KernelCombine.τ Cert.KernelCombine.sig) → Buf (Elt Bits) ℓ) : Prop :=
  ∀ c : Dev Cert.KernelCombine.nD,
    (Cert.Pre_in_rows.fn (F := Bits) (m ((c.tc : Thread Cert.KernelCombine.nD Cert.KernelCombine.τ).loc Cert.KernelCombine.main_arg0)) (m ((c.tc : Thread Cert.KernelCombine.nD Cert.KernelCombine.τ).loc Cert.KernelCombine.main_arg1)) (m ((c.tc : Thread Cert.KernelCombine.nD Cert.KernelCombine.τ).loc Cert.KernelCombine.main_arg2)) (m ((c.tc : Thread Cert.KernelCombine.nD Cert.KernelCombine.τ).loc Cert.KernelCombine.main_arg3)) (m ((c.tc : Thread Cert.KernelCombine.nD Cert.KernelCombine.τ).loc Cert.KernelCombine.main_arg4)) (m ((c.tc : Thread Cert.KernelCombine.nD Cert.KernelCombine.τ).loc Cert.KernelCombine.main_arg5))) = (fun _ => 1#1)

def Pre_KernelCombineIdeal [hPre_in_rows : Cert.Pre_in_rows.Facts] (m : (ℓ : Loc Cert.KernelCombineIdeal.nD Cert.KernelCombineIdeal.τ Cert.KernelCombineIdeal.sig) → Buf (Elt Ideal) ℓ) : Prop :=
  ∀ c : Dev Cert.KernelCombineIdeal.nD,
    (Cert.Pre_in_rows.fn (F := Ideal) (m ((c.tc : Thread Cert.KernelCombineIdeal.nD Cert.KernelCombineIdeal.τ).loc Cert.KernelCombineIdeal.main_arg0)) (m ((c.tc : Thread Cert.KernelCombineIdeal.nD Cert.KernelCombineIdeal.τ).loc Cert.KernelCombineIdeal.main_arg1)) (m ((c.tc : Thread Cert.KernelCombineIdeal.nD Cert.KernelCombineIdeal.τ).loc Cert.KernelCombineIdeal.main_arg2)) (m ((c.tc : Thread Cert.KernelCombineIdeal.nD Cert.KernelCombineIdeal.τ).loc Cert.KernelCombineIdeal.main_arg3)) (m ((c.tc : Thread Cert.KernelCombineIdeal.nD Cert.KernelCombineIdeal.τ).loc Cert.KernelCombineIdeal.main_arg4)) (m ((c.tc : Thread Cert.KernelCombineIdeal.nD Cert.KernelCombineIdeal.τ).loc Cert.KernelCombineIdeal.main_arg5))) = (fun _ => 1#1)

def Pre_ReferenceCombineIdeal (m : (ℓ : Loc Cert.ReferenceCombineIdeal.nD Cert.ReferenceCombineIdeal.τ Cert.ReferenceCombineIdeal.sig) → Buf (Elt Ideal) ℓ) : Prop :=
  True

def Pre_ReferenceCombineIdeal_in_rows [hPre_in_rows : Cert.Pre_in_rows.Facts] (m : (ℓ : Loc Cert.ReferenceCombineIdeal.nD Cert.ReferenceCombineIdeal.τ Cert.ReferenceCombineIdeal.sig) → Buf (Elt Ideal) ℓ) : Prop :=
  ∀ c : Dev Cert.ReferenceCombineIdeal.nD,
    (Cert.Pre_in_rows.fn (F := Ideal) (m ((c.tc : Thread Cert.ReferenceCombineIdeal.nD Cert.ReferenceCombineIdeal.τ).loc Cert.ReferenceCombineIdeal.main_arg0)) (m ((c.tc : Thread Cert.ReferenceCombineIdeal.nD Cert.ReferenceCombineIdeal.τ).loc Cert.ReferenceCombineIdeal.main_arg1)) (m ((c.tc : Thread Cert.ReferenceCombineIdeal.nD Cert.ReferenceCombineIdeal.τ).loc Cert.ReferenceCombineIdeal.main_arg2)) (m ((c.tc : Thread Cert.ReferenceCombineIdeal.nD Cert.ReferenceCombineIdeal.τ).loc Cert.ReferenceCombineIdeal.main_arg3)) (m ((c.tc : Thread Cert.ReferenceCombineIdeal.nD Cert.ReferenceCombineIdeal.τ).loc Cert.ReferenceCombineIdeal.main_arg4)) (m ((c.tc : Thread Cert.ReferenceCombineIdeal.nD Cert.ReferenceCombineIdeal.τ).loc Cert.ReferenceCombineIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelGla [hKernelGla : Cert.KernelGla.Facts] : Prop :=
  ∀ (m : (ℓ : Loc Cert.KernelGla.nD Cert.KernelGla.τ Cert.KernelGla.sig) → Buf (Elt Bits) ℓ) (g : Dev Cert.KernelGla.nD → PrngReg), Pre_KernelGla m →
    θ_run (Cert.KernelGla.defs (F := Bits)) (onTc (τ := Cert.KernelGla.τ) (Cert.KernelGla.main (F := Bits))) ⟨m, fun _ => 0, g⟩ (fun r => (∀ c : Dev Cert.KernelGla.nD,
      r.2.mem ((c.tc : Thread Cert.KernelGla.nD Cert.KernelGla.τ).loc Cert.KernelGla.main_arg0) = m ((c.tc : Thread Cert.KernelGla.nD Cert.KernelGla.τ).loc Cert.KernelGla.main_arg0)
      ∧ r.2.mem ((c.tc : Thread Cert.KernelGla.nD Cert.KernelGla.τ).loc Cert.KernelGla.main_arg1) = m ((c.tc : Thread Cert.KernelGla.nD Cert.KernelGla.τ).loc Cert.KernelGla.main_arg1))
      ∧ r.2.sem = fun _ => 0)

def quiescent_KernelGlaIdeal [hKernelGlaIdeal : Cert.KernelGlaIdeal.Facts] : Prop :=
  ∀ (m : (ℓ : Loc Cert.KernelGlaIdeal.nD Cert.KernelGlaIdeal.τ Cert.KernelGlaIdeal.sig) → Buf (Elt Ideal) ℓ) (g : Dev Cert.KernelGlaIdeal.nD → PrngReg), Pre_KernelGlaIdeal m →
    θ_run (Cert.KernelGlaIdeal.defs (F := Ideal)) (onTc (τ := Cert.KernelGlaIdeal.τ) (Cert.KernelGlaIdeal.main (F := Ideal))) ⟨m, fun _ => 0, g⟩ (fun r => (∀ c : Dev Cert.KernelGlaIdeal.nD,
      r.2.mem ((c.tc : Thread Cert.KernelGlaIdeal.nD Cert.KernelGlaIdeal.τ).loc Cert.KernelGlaIdeal.main_arg0) = m ((c.tc : Thread Cert.KernelGlaIdeal.nD Cert.KernelGlaIdeal.τ).loc Cert.KernelGlaIdeal.main_arg0)
      ∧ r.2.mem ((c.tc : Thread Cert.KernelGlaIdeal.nD Cert.KernelGlaIdeal.τ).loc Cert.KernelGlaIdeal.main_arg1) = m ((c.tc : Thread Cert.KernelGlaIdeal.nD Cert.KernelGlaIdeal.τ).loc Cert.KernelGlaIdeal.main_arg1))
      ∧ r.2.sem = fun _ => 0)

def quiescent_ReferenceGlaIdeal [hReferenceGlaIdeal : Cert.ReferenceGlaIdeal.Facts] : Prop :=
  ∀ (m : (ℓ : Loc Cert.ReferenceGlaIdeal.nD Cert.ReferenceGlaIdeal.τ Cert.ReferenceGlaIdeal.sig) → Buf (Elt Ideal) ℓ) (g : Dev Cert.ReferenceGlaIdeal.nD → PrngReg), Pre_ReferenceGlaIdeal m →
    θ_run (Cert.ReferenceGlaIdeal.defs (F := Ideal)) (onTc (τ := Cert.ReferenceGlaIdeal.τ) (Cert.ReferenceGlaIdeal.main (F := Ideal))) ⟨m, fun _ => 0, g⟩ (fun r => (∀ c : Dev Cert.ReferenceGlaIdeal.nD,
      r.2.mem ((c.tc : Thread Cert.ReferenceGlaIdeal.nD Cert.ReferenceGlaIdeal.τ).loc Cert.ReferenceGlaIdeal.main_arg0) = m ((c.tc : Thread Cert.ReferenceGlaIdeal.nD Cert.ReferenceGlaIdeal.τ).loc Cert.ReferenceGlaIdeal.main_arg0)
      ∧ r.2.mem ((c.tc : Thread Cert.ReferenceGlaIdeal.nD Cert.ReferenceGlaIdeal.τ).loc Cert.ReferenceGlaIdeal.main_arg1) = m ((c.tc : Thread Cert.ReferenceGlaIdeal.nD Cert.ReferenceGlaIdeal.τ).loc Cert.ReferenceGlaIdeal.main_arg1))
      ∧ r.2.sem = fun _ => 0)

def quiescent_KernelMoba [hKernelMoba : Cert.KernelMoba.Facts] : Prop :=
  ∀ (m : (ℓ : Loc Cert.KernelMoba.nD Cert.KernelMoba.τ Cert.KernelMoba.sig) → Buf (Elt Bits) ℓ) (g : Dev Cert.KernelMoba.nD → PrngReg), Pre_KernelMoba m →
    θ_run (Cert.KernelMoba.defs (F := Bits)) (onTc (τ := Cert.KernelMoba.τ) (Cert.KernelMoba.main (F := Bits))) ⟨m, fun _ => 0, g⟩ (fun r => (∀ c : Dev Cert.KernelMoba.nD,
      r.2.mem ((c.tc : Thread Cert.KernelMoba.nD Cert.KernelMoba.τ).loc Cert.KernelMoba.main_arg0) = m ((c.tc : Thread Cert.KernelMoba.nD Cert.KernelMoba.τ).loc Cert.KernelMoba.main_arg0)
      ∧ r.2.mem ((c.tc : Thread Cert.KernelMoba.nD Cert.KernelMoba.τ).loc Cert.KernelMoba.main_arg1) = m ((c.tc : Thread Cert.KernelMoba.nD Cert.KernelMoba.τ).loc Cert.KernelMoba.main_arg1))
      ∧ r.2.sem = fun _ => 0)

def quiescent_KernelMobaIdeal [hKernelMobaIdeal : Cert.KernelMobaIdeal.Facts] : Prop :=
  ∀ (m : (ℓ : Loc Cert.KernelMobaIdeal.nD Cert.KernelMobaIdeal.τ Cert.KernelMobaIdeal.sig) → Buf (Elt Ideal) ℓ) (g : Dev Cert.KernelMobaIdeal.nD → PrngReg), Pre_KernelMobaIdeal m →
    θ_run (Cert.KernelMobaIdeal.defs (F := Ideal)) (onTc (τ := Cert.KernelMobaIdeal.τ) (Cert.KernelMobaIdeal.main (F := Ideal))) ⟨m, fun _ => 0, g⟩ (fun r => (∀ c : Dev Cert.KernelMobaIdeal.nD,
      r.2.mem ((c.tc : Thread Cert.KernelMobaIdeal.nD Cert.KernelMobaIdeal.τ).loc Cert.KernelMobaIdeal.main_arg0) = m ((c.tc : Thread Cert.KernelMobaIdeal.nD Cert.KernelMobaIdeal.τ).loc Cert.KernelMobaIdeal.main_arg0)
      ∧ r.2.mem ((c.tc : Thread Cert.KernelMobaIdeal.nD Cert.KernelMobaIdeal.τ).loc Cert.KernelMobaIdeal.main_arg1) = m ((c.tc : Thread Cert.KernelMobaIdeal.nD Cert.KernelMobaIdeal.τ).loc Cert.KernelMobaIdeal.main_arg1))
      ∧ r.2.sem = fun _ => 0)

def quiescent_ReferenceMobaIdeal [hReferenceMobaIdeal : Cert.ReferenceMobaIdeal.Facts] : Prop :=
  ∀ (m : (ℓ : Loc Cert.ReferenceMobaIdeal.nD Cert.ReferenceMobaIdeal.τ Cert.ReferenceMobaIdeal.sig) → Buf (Elt Ideal) ℓ) (g : Dev Cert.ReferenceMobaIdeal.nD → PrngReg), Pre_ReferenceMobaIdeal m →
    θ_run (Cert.ReferenceMobaIdeal.defs (F := Ideal)) (onTc (τ := Cert.ReferenceMobaIdeal.τ) (Cert.ReferenceMobaIdeal.main (F := Ideal))) ⟨m, fun _ => 0, g⟩ (fun r => (∀ c : Dev Cert.ReferenceMobaIdeal.nD,
      r.2.mem ((c.tc : Thread Cert.ReferenceMobaIdeal.nD Cert.ReferenceMobaIdeal.τ).loc Cert.ReferenceMobaIdeal.main_arg0) = m ((c.tc : Thread Cert.ReferenceMobaIdeal.nD Cert.ReferenceMobaIdeal.τ).loc Cert.ReferenceMobaIdeal.main_arg0)
      ∧ r.2.mem ((c.tc : Thread Cert.ReferenceMobaIdeal.nD Cert.ReferenceMobaIdeal.τ).loc Cert.ReferenceMobaIdeal.main_arg1) = m ((c.tc : Thread Cert.ReferenceMobaIdeal.nD Cert.ReferenceMobaIdeal.τ).loc Cert.ReferenceMobaIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5)
      ∧ r.2.mem ((c.tc : Thread Cert.KernelOut.nD Cert.KernelOut.τ).loc Cert.KernelOut.main_arg6) = m ((c.tc : Thread Cert.KernelOut.nD Cert.KernelOut.τ).loc Cert.KernelOut.main_arg6)
      ∧ r.2.mem ((c.tc : Thread Cert.KernelOut.nD Cert.KernelOut.τ).loc Cert.KernelOut.main_arg7) = m ((c.tc : Thread Cert.KernelOut.nD Cert.KernelOut.τ).loc Cert.KernelOut.main_arg7))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
      ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6)
      ∧ r.2.mem ((c.tc : Thread Cert.KernelOutIdeal.nD Cert.KernelOutIdeal.τ).loc Cert.KernelOutIdeal.main_arg7) = m ((c.tc : Thread Cert.KernelOutIdeal.nD Cert.KernelOutIdeal.τ).loc Cert.KernelOutIdeal.main_arg7))
      ∧ r.2.sem = fun _ => 0)

def quiescent_KernelOutIdeal_pre_finite [hKernelOutIdeal : Cert.KernelOutIdeal.Facts] [hPre_finite : Cert.Pre_finite.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal_finite m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
      ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6)
      ∧ r.2.mem ((c.tc : Thread Cert.KernelOutIdeal.nD Cert.KernelOutIdeal.τ).loc Cert.KernelOutIdeal.main_arg7) = m ((c.tc : Thread Cert.KernelOutIdeal.nD Cert.KernelOutIdeal.τ).loc Cert.KernelOutIdeal.main_arg7))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5)
      ∧ r.2.mem ((c.tc : Thread Cert.ReferenceOutIdeal.nD Cert.ReferenceOutIdeal.τ).loc Cert.ReferenceOutIdeal.main_arg6) = m ((c.tc : Thread Cert.ReferenceOutIdeal.nD Cert.ReferenceOutIdeal.τ).loc Cert.ReferenceOutIdeal.main_arg6)
      ∧ r.2.mem ((c.tc : Thread Cert.ReferenceOutIdeal.nD Cert.ReferenceOutIdeal.τ).loc Cert.ReferenceOutIdeal.main_arg7) = m ((c.tc : Thread Cert.ReferenceOutIdeal.nD Cert.ReferenceOutIdeal.τ).loc Cert.ReferenceOutIdeal.main_arg7))
      ∧ r.2.sem = fun _ => 0)

def quiescent_ReferenceOutIdeal_pre_finite [hReferenceOutIdeal : Cert.ReferenceOutIdeal.Facts] [hPre_finite : Cert.Pre_finite.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal_finite m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5)
      ∧ r.2.mem ((c.tc : Thread Cert.ReferenceOutIdeal.nD Cert.ReferenceOutIdeal.τ).loc Cert.ReferenceOutIdeal.main_arg6) = m ((c.tc : Thread Cert.ReferenceOutIdeal.nD Cert.ReferenceOutIdeal.τ).loc Cert.ReferenceOutIdeal.main_arg6)
      ∧ r.2.mem ((c.tc : Thread Cert.ReferenceOutIdeal.nD Cert.ReferenceOutIdeal.τ).loc Cert.ReferenceOutIdeal.main_arg7) = m ((c.tc : Thread Cert.ReferenceOutIdeal.nD Cert.ReferenceOutIdeal.τ).loc Cert.ReferenceOutIdeal.main_arg7))
      ∧ r.2.sem = fun _ => 0)

def quiescent_KernelLow [hKernelLow : Cert.KernelLow.Facts] : Prop :=
  ∀ (m : (ℓ : Loc Cert.KernelLow.nD Cert.KernelLow.τ Cert.KernelLow.sig) → Buf (Elt Bits) ℓ) (g : Dev Cert.KernelLow.nD → PrngReg), Pre_KernelLow m →
    θ_run (Cert.KernelLow.defs (F := Bits)) (onTc (τ := Cert.KernelLow.τ) (Cert.KernelLow.main (F := Bits))) ⟨m, fun _ => 0, g⟩ (fun r => (∀ c : Dev Cert.KernelLow.nD,
      r.2.mem ((c.tc : Thread Cert.KernelLow.nD Cert.KernelLow.τ).loc Cert.KernelLow.main_arg0) = m ((c.tc : Thread Cert.KernelLow.nD Cert.KernelLow.τ).loc Cert.KernelLow.main_arg0)
      ∧ r.2.mem ((c.tc : Thread Cert.KernelLow.nD Cert.KernelLow.τ).loc Cert.KernelLow.main_arg1) = m ((c.tc : Thread Cert.KernelLow.nD Cert.KernelLow.τ).loc Cert.KernelLow.main_arg1))
      ∧ r.2.sem = fun _ => 0)

def quiescent_KernelLowIdeal [hKernelLowIdeal : Cert.KernelLowIdeal.Facts] : Prop :=
  ∀ (m : (ℓ : Loc Cert.KernelLowIdeal.nD Cert.KernelLowIdeal.τ Cert.KernelLowIdeal.sig) → Buf (Elt Ideal) ℓ) (g : Dev Cert.KernelLowIdeal.nD → PrngReg), Pre_KernelLowIdeal m →
    θ_run (Cert.KernelLowIdeal.defs (F := Ideal)) (onTc (τ := Cert.KernelLowIdeal.τ) (Cert.KernelLowIdeal.main (F := Ideal))) ⟨m, fun _ => 0, g⟩ (fun r => (∀ c : Dev Cert.KernelLowIdeal.nD,
      r.2.mem ((c.tc : Thread Cert.KernelLowIdeal.nD Cert.KernelLowIdeal.τ).loc Cert.KernelLowIdeal.main_arg0) = m ((c.tc : Thread Cert.KernelLowIdeal.nD Cert.KernelLowIdeal.τ).loc Cert.KernelLowIdeal.main_arg0)
      ∧ r.2.mem ((c.tc : Thread Cert.KernelLowIdeal.nD Cert.KernelLowIdeal.τ).loc Cert.KernelLowIdeal.main_arg1) = m ((c.tc : Thread Cert.KernelLowIdeal.nD Cert.KernelLowIdeal.τ).loc Cert.KernelLowIdeal.main_arg1))
      ∧ r.2.sem = fun _ => 0)

def quiescent_ReferenceLowIdeal [hReferenceLowIdeal : Cert.ReferenceLowIdeal.Facts] : Prop :=
  ∀ (m : (ℓ : Loc Cert.ReferenceLowIdeal.nD Cert.ReferenceLowIdeal.τ Cert.ReferenceLowIdeal.sig) → Buf (Elt Ideal) ℓ) (g : Dev Cert.ReferenceLowIdeal.nD → PrngReg), Pre_ReferenceLowIdeal m →
    θ_run (Cert.ReferenceLowIdeal.defs (F := Ideal)) (onTc (τ := Cert.ReferenceLowIdeal.τ) (Cert.ReferenceLowIdeal.main (F := Ideal))) ⟨m, fun _ => 0, g⟩ (fun r => (∀ c : Dev Cert.ReferenceLowIdeal.nD,
      r.2.mem ((c.tc : Thread Cert.ReferenceLowIdeal.nD Cert.ReferenceLowIdeal.τ).loc Cert.ReferenceLowIdeal.main_arg0) = m ((c.tc : Thread Cert.ReferenceLowIdeal.nD Cert.ReferenceLowIdeal.τ).loc Cert.ReferenceLowIdeal.main_arg0)
      ∧ r.2.mem ((c.tc : Thread Cert.ReferenceLowIdeal.nD Cert.ReferenceLowIdeal.τ).loc Cert.ReferenceLowIdeal.main_arg1) = m ((c.tc : Thread Cert.ReferenceLowIdeal.nD Cert.ReferenceLowIdeal.τ).loc Cert.ReferenceLowIdeal.main_arg1))
      ∧ r.2.sem = fun _ => 0)

def quiescent_KernelRope [hKernelRope : Cert.KernelRope.Facts] : Prop :=
  ∀ (m : (ℓ : Loc Cert.KernelRope.nD Cert.KernelRope.τ Cert.KernelRope.sig) → Buf (Elt Bits) ℓ) (g : Dev Cert.KernelRope.nD → PrngReg), Pre_KernelRope m →
    θ_run (Cert.KernelRope.defs (F := Bits)) (onTc (τ := Cert.KernelRope.τ) (Cert.KernelRope.main (F := Bits))) ⟨m, fun _ => 0, g⟩ (fun r => (∀ c : Dev Cert.KernelRope.nD,
      r.2.mem ((c.tc : Thread Cert.KernelRope.nD Cert.KernelRope.τ).loc Cert.KernelRope.main_arg0) = m ((c.tc : Thread Cert.KernelRope.nD Cert.KernelRope.τ).loc Cert.KernelRope.main_arg0))
      ∧ r.2.sem = fun _ => 0)

def quiescent_KernelRopeIdeal [hKernelRopeIdeal : Cert.KernelRopeIdeal.Facts] : Prop :=
  ∀ (m : (ℓ : Loc Cert.KernelRopeIdeal.nD Cert.KernelRopeIdeal.τ Cert.KernelRopeIdeal.sig) → Buf (Elt Ideal) ℓ) (g : Dev Cert.KernelRopeIdeal.nD → PrngReg), Pre_KernelRopeIdeal m →
    θ_run (Cert.KernelRopeIdeal.defs (F := Ideal)) (onTc (τ := Cert.KernelRopeIdeal.τ) (Cert.KernelRopeIdeal.main (F := Ideal))) ⟨m, fun _ => 0, g⟩ (fun r => (∀ c : Dev Cert.KernelRopeIdeal.nD,
      r.2.mem ((c.tc : Thread Cert.KernelRopeIdeal.nD Cert.KernelRopeIdeal.τ).loc Cert.KernelRopeIdeal.main_arg0) = m ((c.tc : Thread Cert.KernelRopeIdeal.nD Cert.KernelRopeIdeal.τ).loc Cert.KernelRopeIdeal.main_arg0))
      ∧ r.2.sem = fun _ => 0)

def quiescent_ReferenceRopeIdeal [hReferenceRopeIdeal : Cert.ReferenceRopeIdeal.Facts] : Prop :=
  ∀ (m : (ℓ : Loc Cert.ReferenceRopeIdeal.nD Cert.ReferenceRopeIdeal.τ Cert.ReferenceRopeIdeal.sig) → Buf (Elt Ideal) ℓ) (g : Dev Cert.ReferenceRopeIdeal.nD → PrngReg), Pre_ReferenceRopeIdeal m →
    θ_run (Cert.ReferenceRopeIdeal.defs (F := Ideal)) (onTc (τ := Cert.ReferenceRopeIdeal.τ) (Cert.ReferenceRopeIdeal.main (F := Ideal))) ⟨m, fun _ => 0, g⟩ (fun r => (∀ c : Dev Cert.ReferenceRopeIdeal.nD,
      r.2.mem ((c.tc : Thread Cert.ReferenceRopeIdeal.nD Cert.ReferenceRopeIdeal.τ).loc Cert.ReferenceRopeIdeal.main_arg0) = m ((c.tc : Thread Cert.ReferenceRopeIdeal.nD Cert.ReferenceRopeIdeal.τ).loc Cert.ReferenceRopeIdeal.main_arg0))
      ∧ r.2.sem = fun _ => 0)

def quiescent_KernelPrep [hKernelPrep : Cert.KernelPrep.Facts] : Prop :=
  ∀ (m : (ℓ : Loc Cert.KernelPrep.nD Cert.KernelPrep.τ Cert.KernelPrep.sig) → Buf (Elt Bits) ℓ) (g : Dev Cert.KernelPrep.nD → PrngReg), Pre_KernelPrep m →
    θ_run (Cert.KernelPrep.defs (F := Bits)) (onTc (τ := Cert.KernelPrep.τ) (Cert.KernelPrep.main (F := Bits))) ⟨m, fun _ => 0, g⟩ (fun r => (∀ c : Dev Cert.KernelPrep.nD,
      r.2.mem ((c.tc : Thread Cert.KernelPrep.nD Cert.KernelPrep.τ).loc Cert.KernelPrep.main_arg0) = m ((c.tc : Thread Cert.KernelPrep.nD Cert.KernelPrep.τ).loc Cert.KernelPrep.main_arg0)
      ∧ r.2.mem ((c.tc : Thread Cert.KernelPrep.nD Cert.KernelPrep.τ).loc Cert.KernelPrep.main_arg1) = m ((c.tc : Thread Cert.KernelPrep.nD Cert.KernelPrep.τ).loc Cert.KernelPrep.main_arg1)
      ∧ r.2.mem ((c.tc : Thread Cert.KernelPrep.nD Cert.KernelPrep.τ).loc Cert.KernelPrep.main_arg2) = m ((c.tc : Thread Cert.KernelPrep.nD Cert.KernelPrep.τ).loc Cert.KernelPrep.main_arg2))
      ∧ r.2.sem = fun _ => 0)

def quiescent_KernelPrepIdeal [hKernelPrepIdeal : Cert.KernelPrepIdeal.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg), Pre_KernelPrepIdeal m →
    θ_run (Cert.KernelPrepIdeal.defs (F := Ideal)) (onTc (τ := Cert.KernelPrepIdeal.τ) (Cert.KernelPrepIdeal.main (F := Ideal))) ⟨m, fun _ => 0, g⟩ (fun r => (∀ c : Dev Cert.KernelPrepIdeal.nD,
      r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0)
      ∧ r.2.mem ((c.tc : Thread Cert.KernelPrepIdeal.nD Cert.KernelPrepIdeal.τ).loc Cert.KernelPrepIdeal.main_arg1) = m ((c.tc : Thread Cert.KernelPrepIdeal.nD Cert.KernelPrepIdeal.τ).loc Cert.KernelPrepIdeal.main_arg1)
      ∧ r.2.mem ((c.tc : Thread Cert.KernelPrepIdeal.nD Cert.KernelPrepIdeal.τ).loc Cert.KernelPrepIdeal.main_arg2) = m ((c.tc : Thread Cert.KernelPrepIdeal.nD Cert.KernelPrepIdeal.τ).loc Cert.KernelPrepIdeal.main_arg2))
      ∧ r.2.sem = fun _ => 0)

def quiescent_KernelPrepIdeal_pre_finite_prep [hKernelPrepIdeal : Cert.KernelPrepIdeal.Facts] [hPre_finite_prep : Cert.Pre_finite_prep.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg), Pre_KernelPrepIdeal_finite_prep m →
    θ_run (Cert.KernelPrepIdeal.defs (F := Ideal)) (onTc (τ := Cert.KernelPrepIdeal.τ) (Cert.KernelPrepIdeal.main (F := Ideal))) ⟨m, fun _ => 0, g⟩ (fun r => (∀ c : Dev Cert.KernelPrepIdeal.nD,
      r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0)
      ∧ r.2.mem ((c.tc : Thread Cert.KernelPrepIdeal.nD Cert.KernelPrepIdeal.τ).loc Cert.KernelPrepIdeal.main_arg1) = m ((c.tc : Thread Cert.KernelPrepIdeal.nD Cert.KernelPrepIdeal.τ).loc Cert.KernelPrepIdeal.main_arg1)
      ∧ r.2.mem ((c.tc : Thread Cert.KernelPrepIdeal.nD Cert.KernelPrepIdeal.τ).loc Cert.KernelPrepIdeal.main_arg2) = m ((c.tc : Thread Cert.KernelPrepIdeal.nD Cert.KernelPrepIdeal.τ).loc Cert.KernelPrepIdeal.main_arg2))
      ∧ r.2.sem = fun _ => 0)

def quiescent_ReferencePrepIdeal [hReferencePrepIdeal : Cert.ReferencePrepIdeal.Facts] : Prop :=
  ∀ (m : (ℓ : Loc Cert.ReferencePrepIdeal.nD Cert.ReferencePrepIdeal.τ Cert.ReferencePrepIdeal.sig) → Buf (Elt Ideal) ℓ) (g : Dev Cert.ReferencePrepIdeal.nD → PrngReg), Pre_ReferencePrepIdeal m →
    θ_run (Cert.ReferencePrepIdeal.defs (F := Ideal)) (onTc (τ := Cert.ReferencePrepIdeal.τ) (Cert.ReferencePrepIdeal.main (F := Ideal))) ⟨m, fun _ => 0, g⟩ (fun r => (∀ c : Dev Cert.ReferencePrepIdeal.nD,
      r.2.mem ((c.tc : Thread Cert.ReferencePrepIdeal.nD Cert.ReferencePrepIdeal.τ).loc Cert.ReferencePrepIdeal.main_arg0) = m ((c.tc : Thread Cert.ReferencePrepIdeal.nD Cert.ReferencePrepIdeal.τ).loc Cert.ReferencePrepIdeal.main_arg0)
      ∧ r.2.mem ((c.tc : Thread Cert.ReferencePrepIdeal.nD Cert.ReferencePrepIdeal.τ).loc Cert.ReferencePrepIdeal.main_arg1) = m ((c.tc : Thread Cert.ReferencePrepIdeal.nD Cert.ReferencePrepIdeal.τ).loc Cert.ReferencePrepIdeal.main_arg1)
      ∧ r.2.mem ((c.tc : Thread Cert.ReferencePrepIdeal.nD Cert.ReferencePrepIdeal.τ).loc Cert.ReferencePrepIdeal.main_arg2) = m ((c.tc : Thread Cert.ReferencePrepIdeal.nD Cert.ReferencePrepIdeal.τ).loc Cert.ReferencePrepIdeal.main_arg2))
      ∧ r.2.sem = fun _ => 0)

def quiescent_ReferencePrepIdeal_pre_finite_prep [hReferencePrepIdeal : Cert.ReferencePrepIdeal.Facts] [hPre_finite_prep : Cert.Pre_finite_prep.Facts] : Prop :=
  ∀ (m : (ℓ : Loc Cert.ReferencePrepIdeal.nD Cert.ReferencePrepIdeal.τ Cert.ReferencePrepIdeal.sig) → Buf (Elt Ideal) ℓ) (g : Dev Cert.ReferencePrepIdeal.nD → PrngReg), Pre_ReferencePrepIdeal_finite_prep m →
    θ_run (Cert.ReferencePrepIdeal.defs (F := Ideal)) (onTc (τ := Cert.ReferencePrepIdeal.τ) (Cert.ReferencePrepIdeal.main (F := Ideal))) ⟨m, fun _ => 0, g⟩ (fun r => (∀ c : Dev Cert.ReferencePrepIdeal.nD,
      r.2.mem ((c.tc : Thread Cert.ReferencePrepIdeal.nD Cert.ReferencePrepIdeal.τ).loc Cert.ReferencePrepIdeal.main_arg0) = m ((c.tc : Thread Cert.ReferencePrepIdeal.nD Cert.ReferencePrepIdeal.τ).loc Cert.ReferencePrepIdeal.main_arg0)
      ∧ r.2.mem ((c.tc : Thread Cert.ReferencePrepIdeal.nD Cert.ReferencePrepIdeal.τ).loc Cert.ReferencePrepIdeal.main_arg1) = m ((c.tc : Thread Cert.ReferencePrepIdeal.nD Cert.ReferencePrepIdeal.τ).loc Cert.ReferencePrepIdeal.main_arg1)
      ∧ r.2.mem ((c.tc : Thread Cert.ReferencePrepIdeal.nD Cert.ReferencePrepIdeal.τ).loc Cert.ReferencePrepIdeal.main_arg2) = m ((c.tc : Thread Cert.ReferencePrepIdeal.nD Cert.ReferencePrepIdeal.τ).loc Cert.ReferencePrepIdeal.main_arg2))
      ∧ r.2.sem = fun _ => 0)

def quiescent_KernelCombine [hKernelCombine : Cert.KernelCombine.Facts] [hPre_in_rows : Cert.Pre_in_rows.Facts] : Prop :=
  ∀ (m : (ℓ : Loc Cert.KernelCombine.nD Cert.KernelCombine.τ Cert.KernelCombine.sig) → Buf (Elt Bits) ℓ) (g : Dev Cert.KernelCombine.nD → PrngReg), Pre_KernelCombine m →
    θ_run (Cert.KernelCombine.defs (F := Bits)) (onTc (τ := Cert.KernelCombine.τ) (Cert.KernelCombine.main (F := Bits))) ⟨m, fun _ => 0, g⟩ (fun r => (∀ c : Dev Cert.KernelCombine.nD,
      r.2.mem ((c.tc : Thread Cert.KernelCombine.nD Cert.KernelCombine.τ).loc Cert.KernelCombine.main_arg0) = m ((c.tc : Thread Cert.KernelCombine.nD Cert.KernelCombine.τ).loc Cert.KernelCombine.main_arg0)
      ∧ r.2.mem ((c.tc : Thread Cert.KernelCombine.nD Cert.KernelCombine.τ).loc Cert.KernelCombine.main_arg1) = m ((c.tc : Thread Cert.KernelCombine.nD Cert.KernelCombine.τ).loc Cert.KernelCombine.main_arg1)
      ∧ r.2.mem ((c.tc : Thread Cert.KernelCombine.nD Cert.KernelCombine.τ).loc Cert.KernelCombine.main_arg2) = m ((c.tc : Thread Cert.KernelCombine.nD Cert.KernelCombine.τ).loc Cert.KernelCombine.main_arg2)
      ∧ r.2.mem ((c.tc : Thread Cert.KernelCombine.nD Cert.KernelCombine.τ).loc Cert.KernelCombine.main_arg3) = m ((c.tc : Thread Cert.KernelCombine.nD Cert.KernelCombine.τ).loc Cert.KernelCombine.main_arg3)
      ∧ r.2.mem ((c.tc : Thread Cert.KernelCombine.nD Cert.KernelCombine.τ).loc Cert.KernelCombine.main_arg4) = m ((c.tc : Thread Cert.KernelCombine.nD Cert.KernelCombine.τ).loc Cert.KernelCombine.main_arg4)
      ∧ r.2.mem ((c.tc : Thread Cert.KernelCombine.nD Cert.KernelCombine.τ).loc Cert.KernelCombine.main_arg5) = m ((c.tc : Thread Cert.KernelCombine.nD Cert.KernelCombine.τ).loc Cert.KernelCombine.main_arg5))
      ∧ r.2.sem = fun _ => 0)

def quiescent_KernelCombineIdeal [hKernelCombineIdeal : Cert.KernelCombineIdeal.Facts] [hPre_in_rows : Cert.Pre_in_rows.Facts] : Prop :=
  ∀ (m : (ℓ : Loc Cert.KernelCombineIdeal.nD Cert.KernelCombineIdeal.τ Cert.KernelCombineIdeal.sig) → Buf (Elt Ideal) ℓ) (g : Dev Cert.KernelCombineIdeal.nD → PrngReg), Pre_KernelCombineIdeal m →
    θ_run (Cert.KernelCombineIdeal.defs (F := Ideal)) (onTc (τ := Cert.KernelCombineIdeal.τ) (Cert.KernelCombineIdeal.main (F := Ideal))) ⟨m, fun _ => 0, g⟩ (fun r => (∀ c : Dev Cert.KernelCombineIdeal.nD,
      r.2.mem ((c.tc : Thread Cert.KernelCombineIdeal.nD Cert.KernelCombineIdeal.τ).loc Cert.KernelCombineIdeal.main_arg0) = m ((c.tc : Thread Cert.KernelCombineIdeal.nD Cert.KernelCombineIdeal.τ).loc Cert.KernelCombineIdeal.main_arg0)
      ∧ r.2.mem ((c.tc : Thread Cert.KernelCombineIdeal.nD Cert.KernelCombineIdeal.τ).loc Cert.KernelCombineIdeal.main_arg1) = m ((c.tc : Thread Cert.KernelCombineIdeal.nD Cert.KernelCombineIdeal.τ).loc Cert.KernelCombineIdeal.main_arg1)
      ∧ r.2.mem ((c.tc : Thread Cert.KernelCombineIdeal.nD Cert.KernelCombineIdeal.τ).loc Cert.KernelCombineIdeal.main_arg2) = m ((c.tc : Thread Cert.KernelCombineIdeal.nD Cert.KernelCombineIdeal.τ).loc Cert.KernelCombineIdeal.main_arg2)
      ∧ r.2.mem ((c.tc : Thread Cert.KernelCombineIdeal.nD Cert.KernelCombineIdeal.τ).loc Cert.KernelCombineIdeal.main_arg3) = m ((c.tc : Thread Cert.KernelCombineIdeal.nD Cert.KernelCombineIdeal.τ).loc Cert.KernelCombineIdeal.main_arg3)
      ∧ r.2.mem ((c.tc : Thread Cert.KernelCombineIdeal.nD Cert.KernelCombineIdeal.τ).loc Cert.KernelCombineIdeal.main_arg4) = m ((c.tc : Thread Cert.KernelCombineIdeal.nD Cert.KernelCombineIdeal.τ).loc Cert.KernelCombineIdeal.main_arg4)
      ∧ r.2.mem ((c.tc : Thread Cert.KernelCombineIdeal.nD Cert.KernelCombineIdeal.τ).loc Cert.KernelCombineIdeal.main_arg5) = m ((c.tc : Thread Cert.KernelCombineIdeal.nD Cert.KernelCombineIdeal.τ).loc Cert.KernelCombineIdeal.main_arg5))
      ∧ r.2.sem = fun _ => 0)

def quiescent_ReferenceCombineIdeal [hReferenceCombineIdeal : Cert.ReferenceCombineIdeal.Facts] : Prop :=
  ∀ (m : (ℓ : Loc Cert.ReferenceCombineIdeal.nD Cert.ReferenceCombineIdeal.τ Cert.ReferenceCombineIdeal.sig) → Buf (Elt Ideal) ℓ) (g : Dev Cert.ReferenceCombineIdeal.nD → PrngReg), Pre_ReferenceCombineIdeal m →
    θ_run (Cert.ReferenceCombineIdeal.defs (F := Ideal)) (onTc (τ := Cert.ReferenceCombineIdeal.τ) (Cert.ReferenceCombineIdeal.main (F := Ideal))) ⟨m, fun _ => 0, g⟩ (fun r => (∀ c : Dev Cert.ReferenceCombineIdeal.nD,
      r.2.mem ((c.tc : Thread Cert.ReferenceCombineIdeal.nD Cert.ReferenceCombineIdeal.τ).loc Cert.ReferenceCombineIdeal.main_arg0) = m ((c.tc : Thread Cert.ReferenceCombineIdeal.nD Cert.ReferenceCombineIdeal.τ).loc Cert.ReferenceCombineIdeal.main_arg0)
      ∧ r.2.mem ((c.tc : Thread Cert.ReferenceCombineIdeal.nD Cert.ReferenceCombineIdeal.τ).loc Cert.ReferenceCombineIdeal.main_arg1) = m ((c.tc : Thread Cert.ReferenceCombineIdeal.nD Cert.ReferenceCombineIdeal.τ).loc Cert.ReferenceCombineIdeal.main_arg1)
      ∧ r.2.mem ((c.tc : Thread Cert.ReferenceCombineIdeal.nD Cert.ReferenceCombineIdeal.τ).loc Cert.ReferenceCombineIdeal.main_arg2) = m ((c.tc : Thread Cert.ReferenceCombineIdeal.nD Cert.ReferenceCombineIdeal.τ).loc Cert.ReferenceCombineIdeal.main_arg2)
      ∧ r.2.mem ((c.tc : Thread Cert.ReferenceCombineIdeal.nD Cert.ReferenceCombineIdeal.τ).loc Cert.ReferenceCombineIdeal.main_arg3) = m ((c.tc : Thread Cert.ReferenceCombineIdeal.nD Cert.ReferenceCombineIdeal.τ).loc Cert.ReferenceCombineIdeal.main_arg3)
      ∧ r.2.mem ((c.tc : Thread Cert.ReferenceCombineIdeal.nD Cert.ReferenceCombineIdeal.τ).loc Cert.ReferenceCombineIdeal.main_arg4) = m ((c.tc : Thread Cert.ReferenceCombineIdeal.nD Cert.ReferenceCombineIdeal.τ).loc Cert.ReferenceCombineIdeal.main_arg4)
      ∧ r.2.mem ((c.tc : Thread Cert.ReferenceCombineIdeal.nD Cert.ReferenceCombineIdeal.τ).loc Cert.ReferenceCombineIdeal.main_arg5) = m ((c.tc : Thread Cert.ReferenceCombineIdeal.nD Cert.ReferenceCombineIdeal.τ).loc Cert.ReferenceCombineIdeal.main_arg5))
      ∧ r.2.sem = fun _ => 0)

def quiescent_ReferenceCombineIdeal_pre_in_rows [hReferenceCombineIdeal : Cert.ReferenceCombineIdeal.Facts] [hPre_in_rows : Cert.Pre_in_rows.Facts] : Prop :=
  ∀ (m : (ℓ : Loc Cert.ReferenceCombineIdeal.nD Cert.ReferenceCombineIdeal.τ Cert.ReferenceCombineIdeal.sig) → Buf (Elt Ideal) ℓ) (g : Dev Cert.ReferenceCombineIdeal.nD → PrngReg), Pre_ReferenceCombineIdeal_in_rows m →
    θ_run (Cert.ReferenceCombineIdeal.defs (F := Ideal)) (onTc (τ := Cert.ReferenceCombineIdeal.τ) (Cert.ReferenceCombineIdeal.main (F := Ideal))) ⟨m, fun _ => 0, g⟩ (fun r => (∀ c : Dev Cert.ReferenceCombineIdeal.nD,
      r.2.mem ((c.tc : Thread Cert.ReferenceCombineIdeal.nD Cert.ReferenceCombineIdeal.τ).loc Cert.ReferenceCombineIdeal.main_arg0) = m ((c.tc : Thread Cert.ReferenceCombineIdeal.nD Cert.ReferenceCombineIdeal.τ).loc Cert.ReferenceCombineIdeal.main_arg0)
      ∧ r.2.mem ((c.tc : Thread Cert.ReferenceCombineIdeal.nD Cert.ReferenceCombineIdeal.τ).loc Cert.ReferenceCombineIdeal.main_arg1) = m ((c.tc : Thread Cert.ReferenceCombineIdeal.nD Cert.ReferenceCombineIdeal.τ).loc Cert.ReferenceCombineIdeal.main_arg1)
      ∧ r.2.mem ((c.tc : Thread Cert.ReferenceCombineIdeal.nD Cert.ReferenceCombineIdeal.τ).loc Cert.ReferenceCombineIdeal.main_arg2) = m ((c.tc : Thread Cert.ReferenceCombineIdeal.nD Cert.ReferenceCombineIdeal.τ).loc Cert.ReferenceCombineIdeal.main_arg2)
      ∧ r.2.mem ((c.tc : Thread Cert.ReferenceCombineIdeal.nD Cert.ReferenceCombineIdeal.τ).loc Cert.ReferenceCombineIdeal.main_arg3) = m ((c.tc : Thread Cert.ReferenceCombineIdeal.nD Cert.ReferenceCombineIdeal.τ).loc Cert.ReferenceCombineIdeal.main_arg3)
      ∧ r.2.mem ((c.tc : Thread Cert.ReferenceCombineIdeal.nD Cert.ReferenceCombineIdeal.τ).loc Cert.ReferenceCombineIdeal.main_arg4) = m ((c.tc : Thread Cert.ReferenceCombineIdeal.nD Cert.ReferenceCombineIdeal.τ).loc Cert.ReferenceCombineIdeal.main_arg4)
      ∧ r.2.mem ((c.tc : Thread Cert.ReferenceCombineIdeal.nD Cert.ReferenceCombineIdeal.τ).loc Cert.ReferenceCombineIdeal.main_arg5) = m ((c.tc : Thread Cert.ReferenceCombineIdeal.nD Cert.ReferenceCombineIdeal.τ).loc Cert.ReferenceCombineIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelGla_KernelGlaIdeal : Prop :=
  True

def algebraic_KernelGlaIdeal_ReferenceGlaIdeal [hKernelGlaIdeal : Cert.KernelGlaIdeal.Facts] [hReferenceGlaIdeal : Cert.ReferenceGlaIdeal.Facts] : Prop :=
  ∀ (m : (ℓ : Loc Cert.KernelGlaIdeal.nD Cert.KernelGlaIdeal.τ Cert.KernelGlaIdeal.sig) → Buf (Elt Ideal) ℓ) (g : Dev Cert.KernelGlaIdeal.nD → PrngReg)
    (m' : (ℓ : Loc Cert.ReferenceGlaIdeal.nD Cert.ReferenceGlaIdeal.τ Cert.ReferenceGlaIdeal.sig) → Buf (Elt Ideal) ℓ) (g' : Dev Cert.ReferenceGlaIdeal.nD → PrngReg), Pre_KernelGlaIdeal m →
    (∀ c : Dev Cert.KernelGlaIdeal.nD,
      m' ((c.tc : Thread Cert.ReferenceGlaIdeal.nD Cert.ReferenceGlaIdeal.τ).loc Cert.ReferenceGlaIdeal.main_arg0) = m ((c.tc : Thread Cert.KernelGlaIdeal.nD Cert.KernelGlaIdeal.τ).loc Cert.KernelGlaIdeal.main_arg0)
      ∧ m' ((c.tc : Thread Cert.ReferenceGlaIdeal.nD Cert.ReferenceGlaIdeal.τ).loc Cert.ReferenceGlaIdeal.main_arg1) = m ((c.tc : Thread Cert.KernelGlaIdeal.nD Cert.KernelGlaIdeal.τ).loc Cert.KernelGlaIdeal.main_arg1)) →
    ∃ (v0 : (c : Dev Cert.KernelGlaIdeal.nD) → Buf (Elt Ideal) ((c.tc : Thread Cert.KernelGlaIdeal.nD Cert.KernelGlaIdeal.τ).loc Cert.KernelGlaIdeal.main_v0)),
      θ_run (Cert.KernelGlaIdeal.defs (F := Ideal)) (onTc (τ := Cert.KernelGlaIdeal.τ) (Cert.KernelGlaIdeal.main (F := Ideal))) ⟨m, fun _ => 0, g⟩ (fun r => ∀ c : Dev Cert.KernelGlaIdeal.nD,
          r.2.mem ((c.tc : Thread Cert.KernelGlaIdeal.nD Cert.KernelGlaIdeal.τ).loc Cert.KernelGlaIdeal.main_v0) = v0 c
          ∧ r.2.mem ((c.tc : Thread Cert.KernelGlaIdeal.nD Cert.KernelGlaIdeal.τ).loc Cert.KernelGlaIdeal.main_arg0) = m ((c.tc : Thread Cert.KernelGlaIdeal.nD Cert.KernelGlaIdeal.τ).loc Cert.KernelGlaIdeal.main_arg0)
          ∧ r.2.mem ((c.tc : Thread Cert.KernelGlaIdeal.nD Cert.KernelGlaIdeal.τ).loc Cert.KernelGlaIdeal.main_arg1) = m ((c.tc : Thread Cert.KernelGlaIdeal.nD Cert.KernelGlaIdeal.τ).loc Cert.KernelGlaIdeal.main_arg1))
      ∧ θ_run (Cert.ReferenceGlaIdeal.defs (F := Ideal)) (onTc (τ := Cert.ReferenceGlaIdeal.τ) (Cert.ReferenceGlaIdeal.main (F := Ideal))) ⟨m', fun _ => 0, g'⟩ (fun r => ∀ c : Dev Cert.ReferenceGlaIdeal.nD,
          r.2.mem ((c.tc : Thread Cert.ReferenceGlaIdeal.nD Cert.ReferenceGlaIdeal.τ).loc Cert.ReferenceGlaIdeal.main_v1) = v0 c
          ∧ r.2.mem ((c.tc : Thread Cert.ReferenceGlaIdeal.nD Cert.ReferenceGlaIdeal.τ).loc Cert.ReferenceGlaIdeal.main_arg0) = m' ((c.tc : Thread Cert.ReferenceGlaIdeal.nD Cert.ReferenceGlaIdeal.τ).loc Cert.ReferenceGlaIdeal.main_arg0)
          ∧ r.2.mem ((c.tc : Thread Cert.ReferenceGlaIdeal.nD Cert.ReferenceGlaIdeal.τ).loc Cert.ReferenceGlaIdeal.main_arg1) = m' ((c.tc : Thread Cert.ReferenceGlaIdeal.nD Cert.ReferenceGlaIdeal.τ).loc Cert.ReferenceGlaIdeal.main_arg1))

def preserves_KernelMoba_KernelMobaIdeal : Prop :=
  True

def algebraic_KernelMobaIdeal_ReferenceMobaIdeal [hKernelMobaIdeal : Cert.KernelMobaIdeal.Facts] [hReferenceMobaIdeal : Cert.ReferenceMobaIdeal.Facts] : Prop :=
  ∀ (m : (ℓ : Loc Cert.KernelMobaIdeal.nD Cert.KernelMobaIdeal.τ Cert.KernelMobaIdeal.sig) → Buf (Elt Ideal) ℓ) (g : Dev Cert.KernelMobaIdeal.nD → PrngReg)
    (m' : (ℓ : Loc Cert.ReferenceMobaIdeal.nD Cert.ReferenceMobaIdeal.τ Cert.ReferenceMobaIdeal.sig) → Buf (Elt Ideal) ℓ) (g' : Dev Cert.ReferenceMobaIdeal.nD → PrngReg), Pre_KernelMobaIdeal m →
    (∀ c : Dev Cert.KernelMobaIdeal.nD,
      m' ((c.tc : Thread Cert.ReferenceMobaIdeal.nD Cert.ReferenceMobaIdeal.τ).loc Cert.ReferenceMobaIdeal.main_arg0) = m ((c.tc : Thread Cert.KernelMobaIdeal.nD Cert.KernelMobaIdeal.τ).loc Cert.KernelMobaIdeal.main_arg0)
      ∧ m' ((c.tc : Thread Cert.ReferenceMobaIdeal.nD Cert.ReferenceMobaIdeal.τ).loc Cert.ReferenceMobaIdeal.main_arg1) = m ((c.tc : Thread Cert.KernelMobaIdeal.nD Cert.KernelMobaIdeal.τ).loc Cert.KernelMobaIdeal.main_arg1)) →
    ∃ (v0 : (c : Dev Cert.KernelMobaIdeal.nD) → Buf (Elt Ideal) ((c.tc : Thread Cert.KernelMobaIdeal.nD Cert.KernelMobaIdeal.τ).loc Cert.KernelMobaIdeal.main_v1)),
      θ_run (Cert.KernelMobaIdeal.defs (F := Ideal)) (onTc (τ := Cert.KernelMobaIdeal.τ) (Cert.KernelMobaIdeal.main (F := Ideal))) ⟨m, fun _ => 0, g⟩ (fun r => ∀ c : Dev Cert.KernelMobaIdeal.nD,
          r.2.mem ((c.tc : Thread Cert.KernelMobaIdeal.nD Cert.KernelMobaIdeal.τ).loc Cert.KernelMobaIdeal.main_v1) = v0 c
          ∧ r.2.mem ((c.tc : Thread Cert.KernelMobaIdeal.nD Cert.KernelMobaIdeal.τ).loc Cert.KernelMobaIdeal.main_arg0) = m ((c.tc : Thread Cert.KernelMobaIdeal.nD Cert.KernelMobaIdeal.τ).loc Cert.KernelMobaIdeal.main_arg0)
          ∧ r.2.mem ((c.tc : Thread Cert.KernelMobaIdeal.nD Cert.KernelMobaIdeal.τ).loc Cert.KernelMobaIdeal.main_arg1) = m ((c.tc : Thread Cert.KernelMobaIdeal.nD Cert.KernelMobaIdeal.τ).loc Cert.KernelMobaIdeal.main_arg1))
      ∧ θ_run (Cert.ReferenceMobaIdeal.defs (F := Ideal)) (onTc (τ := Cert.ReferenceMobaIdeal.τ) (Cert.ReferenceMobaIdeal.main (F := Ideal))) ⟨m', fun _ => 0, g'⟩ (fun r => ∀ c : Dev Cert.ReferenceMobaIdeal.nD,
          r.2.mem ((c.tc : Thread Cert.ReferenceMobaIdeal.nD Cert.ReferenceMobaIdeal.τ).loc Cert.ReferenceMobaIdeal.main_v1) = v0 c
          ∧ r.2.mem ((c.tc : Thread Cert.ReferenceMobaIdeal.nD Cert.ReferenceMobaIdeal.τ).loc Cert.ReferenceMobaIdeal.main_arg0) = m' ((c.tc : Thread Cert.ReferenceMobaIdeal.nD Cert.ReferenceMobaIdeal.τ).loc Cert.ReferenceMobaIdeal.main_arg0)
          ∧ r.2.mem ((c.tc : Thread Cert.ReferenceMobaIdeal.nD Cert.ReferenceMobaIdeal.τ).loc Cert.ReferenceMobaIdeal.main_arg1) = m' ((c.tc : Thread Cert.ReferenceMobaIdeal.nD Cert.ReferenceMobaIdeal.τ).loc Cert.ReferenceMobaIdeal.main_arg1))

def preserves_KernelOut_KernelOutIdeal : Prop :=
  IdealRules.named_const.Statement Cert.KernelOutIdeal.κ "alpha" .f32 0x3FB504F3#32 ((Real.sqrt 2 : ℝ) : EReal)
  ∧ IdealRules.named_const.Statement Cert.KernelOutIdeal.κ "ln_eps" .f32 0x3727C5AC#32 ((1 / 100000 : ℝ) : EReal)

def algebraic_KernelOutIdeal_ReferenceOutIdeal_pre_finite [hKernelOutIdeal : Cert.KernelOutIdeal.Facts] [hReferenceOutIdeal : Cert.ReferenceOutIdeal.Facts] [hPre_finite : Cert.Pre_finite.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal_finite m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)
      ∧ m' ((c.tc : Thread Cert.ReferenceOutIdeal.nD Cert.ReferenceOutIdeal.τ).loc Cert.ReferenceOutIdeal.main_arg6) = m ((c.tc : Thread Cert.KernelOutIdeal.nD Cert.KernelOutIdeal.τ).loc Cert.KernelOutIdeal.main_arg6)
      ∧ m' ((c.tc : Thread Cert.ReferenceOutIdeal.nD Cert.ReferenceOutIdeal.τ).loc Cert.ReferenceOutIdeal.main_arg7) = m ((c.tc : Thread Cert.KernelOutIdeal.nD Cert.KernelOutIdeal.τ).loc Cert.KernelOutIdeal.main_arg7)) →
    ∃ (v0 : (c : Dev Cert.KernelOutIdeal.nD) → Buf (Elt Ideal) ((c.tc : Thread Cert.KernelOutIdeal.nD Cert.KernelOutIdeal.τ).loc Cert.KernelOutIdeal.main_v11_0)) (v1 : (c : Dev Cert.KernelOutIdeal.nD) → Buf (Elt Ideal) ((c.tc : Thread Cert.KernelOutIdeal.nD Cert.KernelOutIdeal.τ).loc Cert.KernelOutIdeal.main_v11_1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v11_0) = v0 c
          ∧ r.2.mem ((c.tc : Thread Cert.KernelOutIdeal.nD Cert.KernelOutIdeal.τ).loc Cert.KernelOutIdeal.main_v11_1) = v1 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
          ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6)
          ∧ r.2.mem ((c.tc : Thread Cert.KernelOutIdeal.nD Cert.KernelOutIdeal.τ).loc Cert.KernelOutIdeal.main_arg7) = m ((c.tc : Thread Cert.KernelOutIdeal.nD Cert.KernelOutIdeal.τ).loc Cert.KernelOutIdeal.main_arg7))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v32) = v0 c
          ∧ r.2.mem ((c.tc : Thread Cert.ReferenceOutIdeal.nD Cert.ReferenceOutIdeal.τ).loc Cert.ReferenceOutIdeal.main_v69) = v1 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5)
          ∧ r.2.mem ((c.tc : Thread Cert.ReferenceOutIdeal.nD Cert.ReferenceOutIdeal.τ).loc Cert.ReferenceOutIdeal.main_arg6) = m' ((c.tc : Thread Cert.ReferenceOutIdeal.nD Cert.ReferenceOutIdeal.τ).loc Cert.ReferenceOutIdeal.main_arg6)
          ∧ r.2.mem ((c.tc : Thread Cert.ReferenceOutIdeal.nD Cert.ReferenceOutIdeal.τ).loc Cert.ReferenceOutIdeal.main_arg7) = m' ((c.tc : Thread Cert.ReferenceOutIdeal.nD Cert.ReferenceOutIdeal.τ).loc Cert.ReferenceOutIdeal.main_arg7))

def preserves_KernelLow_KernelLowIdeal : Prop :=
  True

def algebraic_KernelLowIdeal_ReferenceLowIdeal [hKernelLowIdeal : Cert.KernelLowIdeal.Facts] [hReferenceLowIdeal : Cert.ReferenceLowIdeal.Facts] : Prop :=
  ∀ (m : (ℓ : Loc Cert.KernelLowIdeal.nD Cert.KernelLowIdeal.τ Cert.KernelLowIdeal.sig) → Buf (Elt Ideal) ℓ) (g : Dev Cert.KernelLowIdeal.nD → PrngReg)
    (m' : (ℓ : Loc Cert.ReferenceLowIdeal.nD Cert.ReferenceLowIdeal.τ Cert.ReferenceLowIdeal.sig) → Buf (Elt Ideal) ℓ) (g' : Dev Cert.ReferenceLowIdeal.nD → PrngReg), Pre_KernelLowIdeal m →
    (∀ c : Dev Cert.KernelLowIdeal.nD,
      m' ((c.tc : Thread Cert.ReferenceLowIdeal.nD Cert.ReferenceLowIdeal.τ).loc Cert.ReferenceLowIdeal.main_arg0) = m ((c.tc : Thread Cert.KernelLowIdeal.nD Cert.KernelLowIdeal.τ).loc Cert.KernelLowIdeal.main_arg0)
      ∧ m' ((c.tc : Thread Cert.ReferenceLowIdeal.nD Cert.ReferenceLowIdeal.τ).loc Cert.ReferenceLowIdeal.main_arg1) = m ((c.tc : Thread Cert.KernelLowIdeal.nD Cert.KernelLowIdeal.τ).loc Cert.KernelLowIdeal.main_arg1)) →
    ∃ (v0 : (c : Dev Cert.KernelLowIdeal.nD) → Buf (Elt Ideal) ((c.tc : Thread Cert.KernelLowIdeal.nD Cert.KernelLowIdeal.τ).loc Cert.KernelLowIdeal.main_v2)),
      θ_run (Cert.KernelLowIdeal.defs (F := Ideal)) (onTc (τ := Cert.KernelLowIdeal.τ) (Cert.KernelLowIdeal.main (F := Ideal))) ⟨m, fun _ => 0, g⟩ (fun r => ∀ c : Dev Cert.KernelLowIdeal.nD,
          r.2.mem ((c.tc : Thread Cert.KernelLowIdeal.nD Cert.KernelLowIdeal.τ).loc Cert.KernelLowIdeal.main_v2) = v0 c
          ∧ r.2.mem ((c.tc : Thread Cert.KernelLowIdeal.nD Cert.KernelLowIdeal.τ).loc Cert.KernelLowIdeal.main_arg0) = m ((c.tc : Thread Cert.KernelLowIdeal.nD Cert.KernelLowIdeal.τ).loc Cert.KernelLowIdeal.main_arg0)
          ∧ r.2.mem ((c.tc : Thread Cert.KernelLowIdeal.nD Cert.KernelLowIdeal.τ).loc Cert.KernelLowIdeal.main_arg1) = m ((c.tc : Thread Cert.KernelLowIdeal.nD Cert.KernelLowIdeal.τ).loc Cert.KernelLowIdeal.main_arg1))
      ∧ θ_run (Cert.ReferenceLowIdeal.defs (F := Ideal)) (onTc (τ := Cert.ReferenceLowIdeal.τ) (Cert.ReferenceLowIdeal.main (F := Ideal))) ⟨m', fun _ => 0, g'⟩ (fun r => ∀ c : Dev Cert.ReferenceLowIdeal.nD,
          r.2.mem ((c.tc : Thread Cert.ReferenceLowIdeal.nD Cert.ReferenceLowIdeal.τ).loc Cert.ReferenceLowIdeal.main_v3) = v0 c
          ∧ r.2.mem ((c.tc : Thread Cert.ReferenceLowIdeal.nD Cert.ReferenceLowIdeal.τ).loc Cert.ReferenceLowIdeal.main_arg0) = m' ((c.tc : Thread Cert.ReferenceLowIdeal.nD Cert.ReferenceLowIdeal.τ).loc Cert.ReferenceLowIdeal.main_arg0)
          ∧ r.2.mem ((c.tc : Thread Cert.ReferenceLowIdeal.nD Cert.ReferenceLowIdeal.τ).loc Cert.ReferenceLowIdeal.main_arg1) = m' ((c.tc : Thread Cert.ReferenceLowIdeal.nD Cert.ReferenceLowIdeal.τ).loc Cert.ReferenceLowIdeal.main_arg1))

def preserves_KernelRope_KernelRopeIdeal : Prop :=
  True

def algebraic_KernelRopeIdeal_ReferenceRopeIdeal [hKernelRopeIdeal : Cert.KernelRopeIdeal.Facts] [hReferenceRopeIdeal : Cert.ReferenceRopeIdeal.Facts] : Prop :=
  ∀ (m : (ℓ : Loc Cert.KernelRopeIdeal.nD Cert.KernelRopeIdeal.τ Cert.KernelRopeIdeal.sig) → Buf (Elt Ideal) ℓ) (g : Dev Cert.KernelRopeIdeal.nD → PrngReg)
    (m' : (ℓ : Loc Cert.ReferenceRopeIdeal.nD Cert.ReferenceRopeIdeal.τ Cert.ReferenceRopeIdeal.sig) → Buf (Elt Ideal) ℓ) (g' : Dev Cert.ReferenceRopeIdeal.nD → PrngReg), Pre_KernelRopeIdeal m →
    (∀ c : Dev Cert.KernelRopeIdeal.nD,
      m' ((c.tc : Thread Cert.ReferenceRopeIdeal.nD Cert.ReferenceRopeIdeal.τ).loc Cert.ReferenceRopeIdeal.main_arg0) = m ((c.tc : Thread Cert.KernelRopeIdeal.nD Cert.KernelRopeIdeal.τ).loc Cert.KernelRopeIdeal.main_arg0)) →
    ∃ (v0 : (c : Dev Cert.KernelRopeIdeal.nD) → Buf (Elt Ideal) ((c.tc : Thread Cert.KernelRopeIdeal.nD Cert.KernelRopeIdeal.τ).loc Cert.KernelRopeIdeal.main_v20_0)) (v1 : (c : Dev Cert.KernelRopeIdeal.nD) → Buf (Elt Ideal) ((c.tc : Thread Cert.KernelRopeIdeal.nD Cert.KernelRopeIdeal.τ).loc Cert.KernelRopeIdeal.main_v20_1)),
      θ_run (Cert.KernelRopeIdeal.defs (F := Ideal)) (onTc (τ := Cert.KernelRopeIdeal.τ) (Cert.KernelRopeIdeal.main (F := Ideal))) ⟨m, fun _ => 0, g⟩ (fun r => ∀ c : Dev Cert.KernelRopeIdeal.nD,
          r.2.mem ((c.tc : Thread Cert.KernelRopeIdeal.nD Cert.KernelRopeIdeal.τ).loc Cert.KernelRopeIdeal.main_v20_0) = v0 c
          ∧ r.2.mem ((c.tc : Thread Cert.KernelRopeIdeal.nD Cert.KernelRopeIdeal.τ).loc Cert.KernelRopeIdeal.main_v20_1) = v1 c
          ∧ r.2.mem ((c.tc : Thread Cert.KernelRopeIdeal.nD Cert.KernelRopeIdeal.τ).loc Cert.KernelRopeIdeal.main_arg0) = m ((c.tc : Thread Cert.KernelRopeIdeal.nD Cert.KernelRopeIdeal.τ).loc Cert.KernelRopeIdeal.main_arg0))
      ∧ θ_run (Cert.ReferenceRopeIdeal.defs (F := Ideal)) (onTc (τ := Cert.ReferenceRopeIdeal.τ) (Cert.ReferenceRopeIdeal.main (F := Ideal))) ⟨m', fun _ => 0, g'⟩ (fun r => ∀ c : Dev Cert.ReferenceRopeIdeal.nD,
          r.2.mem ((c.tc : Thread Cert.ReferenceRopeIdeal.nD Cert.ReferenceRopeIdeal.τ).loc Cert.ReferenceRopeIdeal.main_v20) = v0 c
          ∧ r.2.mem ((c.tc : Thread Cert.ReferenceRopeIdeal.nD Cert.ReferenceRopeIdeal.τ).loc Cert.ReferenceRopeIdeal.main_v22) = v1 c
          ∧ r.2.mem ((c.tc : Thread Cert.ReferenceRopeIdeal.nD Cert.ReferenceRopeIdeal.τ).loc Cert.ReferenceRopeIdeal.main_arg0) = m' ((c.tc : Thread Cert.ReferenceRopeIdeal.nD Cert.ReferenceRopeIdeal.τ).loc Cert.ReferenceRopeIdeal.main_arg0))

def preserves_KernelPrep_KernelPrepIdeal : Prop :=
  IdealRules.named_const.Statement Cert.KernelPrepIdeal.κ "q_scale" .f32 0x3E0293EE#32 (((Real.sqrt 128)⁻¹ * (Real.log 2)⁻¹ : ℝ) : EReal)
  ∧ IdealRules.named_const.Statement Cert.KernelPrepIdeal.κ "neg" .f32 0xF149F2CA#32 ⊥

def algebraic_KernelPrepIdeal_ReferencePrepIdeal_pre_finite_prep [hKernelPrepIdeal : Cert.KernelPrepIdeal.Facts] [hReferencePrepIdeal : Cert.ReferencePrepIdeal.Facts] [hPre_finite_prep : Cert.Pre_finite_prep.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg)
    (m' : (ℓ : Loc Cert.ReferencePrepIdeal.nD Cert.ReferencePrepIdeal.τ Cert.ReferencePrepIdeal.sig) → Buf (Elt Ideal) ℓ) (g' : Dev Cert.ReferencePrepIdeal.nD → PrngReg), Pre_KernelPrepIdeal_finite_prep m →
    (∀ c : Dev Cert.KernelPrepIdeal.nD,
      m' ((c.tc : Thread Cert.ReferencePrepIdeal.nD Cert.ReferencePrepIdeal.τ).loc Cert.ReferencePrepIdeal.main_arg0) = m ((c.tc : Thread Cert.KernelPrepIdeal.nD Cert.KernelPrepIdeal.τ).loc Cert.KernelPrepIdeal.main_arg0)
      ∧ m' ((c.tc : Thread Cert.ReferencePrepIdeal.nD Cert.ReferencePrepIdeal.τ).loc Cert.ReferencePrepIdeal.main_arg1) = m ((c.tc : Thread Cert.KernelPrepIdeal.nD Cert.KernelPrepIdeal.τ).loc Cert.KernelPrepIdeal.main_arg1)
      ∧ m' ((c.tc : Thread Cert.ReferencePrepIdeal.nD Cert.ReferencePrepIdeal.τ).loc Cert.ReferencePrepIdeal.main_arg2) = m ((c.tc : Thread Cert.KernelPrepIdeal.nD Cert.KernelPrepIdeal.τ).loc Cert.KernelPrepIdeal.main_arg2)) →
    ∃ (v0 : (c : Dev Cert.KernelPrepIdeal.nD) → Buf (Elt Ideal) ((c.tc : Thread Cert.KernelPrepIdeal.nD Cert.KernelPrepIdeal.τ).loc Cert.KernelPrepIdeal.main_v0_0)) (v1 : (c : Dev Cert.KernelPrepIdeal.nD) → Buf (Elt Ideal) ((c.tc : Thread Cert.KernelPrepIdeal.nD Cert.KernelPrepIdeal.τ).loc Cert.KernelPrepIdeal.main_v0_1)) (v2 : (c : Dev Cert.KernelPrepIdeal.nD) → Buf (Elt Ideal) ((c.tc : Thread Cert.KernelPrepIdeal.nD Cert.KernelPrepIdeal.τ).loc Cert.KernelPrepIdeal.main_v0_2)),
      θ_run (Cert.KernelPrepIdeal.defs (F := Ideal)) (onTc (τ := Cert.KernelPrepIdeal.τ) (Cert.KernelPrepIdeal.main (F := Ideal))) ⟨m, fun _ => 0, g⟩ (fun r => ∀ c : Dev Cert.KernelPrepIdeal.nD,
          r.2.mem ((c.tc : Thread Cert.KernelPrepIdeal.nD Cert.KernelPrepIdeal.τ).loc Cert.KernelPrepIdeal.main_v0_0) = v0 c
          ∧ r.2.mem ((c.tc : Thread Cert.KernelPrepIdeal.nD Cert.KernelPrepIdeal.τ).loc Cert.KernelPrepIdeal.main_v0_1) = v1 c
          ∧ r.2.mem ((c.tc : Thread Cert.KernelPrepIdeal.nD Cert.KernelPrepIdeal.τ).loc Cert.KernelPrepIdeal.main_v0_2) = v2 c
          ∧ r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0)
          ∧ r.2.mem ((c.tc : Thread Cert.KernelPrepIdeal.nD Cert.KernelPrepIdeal.τ).loc Cert.KernelPrepIdeal.main_arg1) = m ((c.tc : Thread Cert.KernelPrepIdeal.nD Cert.KernelPrepIdeal.τ).loc Cert.KernelPrepIdeal.main_arg1)
          ∧ r.2.mem ((c.tc : Thread Cert.KernelPrepIdeal.nD Cert.KernelPrepIdeal.τ).loc Cert.KernelPrepIdeal.main_arg2) = m ((c.tc : Thread Cert.KernelPrepIdeal.nD Cert.KernelPrepIdeal.τ).loc Cert.KernelPrepIdeal.main_arg2))
      ∧ θ_run (Cert.ReferencePrepIdeal.defs (F := Ideal)) (onTc (τ := Cert.ReferencePrepIdeal.τ) (Cert.ReferencePrepIdeal.main (F := Ideal))) ⟨m', fun _ => 0, g'⟩ (fun r => ∀ c : Dev Cert.ReferencePrepIdeal.nD,
          r.2.mem ((c.tc : Thread Cert.ReferencePrepIdeal.nD Cert.ReferencePrepIdeal.τ).loc Cert.ReferencePrepIdeal.main_v102) = v0 c
          ∧ r.2.mem ((c.tc : Thread Cert.ReferencePrepIdeal.nD Cert.ReferencePrepIdeal.τ).loc Cert.ReferencePrepIdeal.main_v104) = v1 c
          ∧ r.2.mem ((c.tc : Thread Cert.ReferencePrepIdeal.nD Cert.ReferencePrepIdeal.τ).loc Cert.ReferencePrepIdeal.main_v106) = v2 c
          ∧ r.2.mem ((c.tc : Thread Cert.ReferencePrepIdeal.nD Cert.ReferencePrepIdeal.τ).loc Cert.ReferencePrepIdeal.main_arg0) = m' ((c.tc : Thread Cert.ReferencePrepIdeal.nD Cert.ReferencePrepIdeal.τ).loc Cert.ReferencePrepIdeal.main_arg0)
          ∧ r.2.mem ((c.tc : Thread Cert.ReferencePrepIdeal.nD Cert.ReferencePrepIdeal.τ).loc Cert.ReferencePrepIdeal.main_arg1) = m' ((c.tc : Thread Cert.ReferencePrepIdeal.nD Cert.ReferencePrepIdeal.τ).loc Cert.ReferencePrepIdeal.main_arg1)
          ∧ r.2.mem ((c.tc : Thread Cert.ReferencePrepIdeal.nD Cert.ReferencePrepIdeal.τ).loc Cert.ReferencePrepIdeal.main_arg2) = m' ((c.tc : Thread Cert.ReferencePrepIdeal.nD Cert.ReferencePrepIdeal.τ).loc Cert.ReferencePrepIdeal.main_arg2))

def preserves_KernelCombine_KernelCombineIdeal : Prop :=
  IdealRules.named_const.Statement Cert.KernelCombineIdeal.κ "alpha" .f32 0x3FB504F3#32 ((Real.sqrt 2 : ℝ) : EReal)
  ∧ IdealRules.named_const.Statement Cert.KernelCombineIdeal.κ "ln_eps" .f32 0x3727C5AC#32 ((1 / 100000 : ℝ) : EReal)

def algebraic_KernelCombineIdeal_ReferenceCombineIdeal [hKernelCombineIdeal : Cert.KernelCombineIdeal.Facts] [hReferenceCombineIdeal : Cert.ReferenceCombineIdeal.Facts] [hPre_in_rows : Cert.Pre_in_rows.Facts] : Prop :=
  ∀ (m : (ℓ : Loc Cert.KernelCombineIdeal.nD Cert.KernelCombineIdeal.τ Cert.KernelCombineIdeal.sig) → Buf (Elt Ideal) ℓ) (g : Dev Cert.KernelCombineIdeal.nD → PrngReg)
    (m' : (ℓ : Loc Cert.ReferenceCombineIdeal.nD Cert.ReferenceCombineIdeal.τ Cert.ReferenceCombineIdeal.sig) → Buf (Elt Ideal) ℓ) (g' : Dev Cert.ReferenceCombineIdeal.nD → PrngReg), Pre_KernelCombineIdeal m →
    (∀ c : Dev Cert.KernelCombineIdeal.nD,
      m' ((c.tc : Thread Cert.ReferenceCombineIdeal.nD Cert.ReferenceCombineIdeal.τ).loc Cert.ReferenceCombineIdeal.main_arg0) = m ((c.tc : Thread Cert.KernelCombineIdeal.nD Cert.KernelCombineIdeal.τ).loc Cert.KernelCombineIdeal.main_arg0)
      ∧ m' ((c.tc : Thread Cert.ReferenceCombineIdeal.nD Cert.ReferenceCombineIdeal.τ).loc Cert.ReferenceCombineIdeal.main_arg1) = m ((c.tc : Thread Cert.KernelCombineIdeal.nD Cert.KernelCombineIdeal.τ).loc Cert.KernelCombineIdeal.main_arg1)
      ∧ m' ((c.tc : Thread Cert.ReferenceCombineIdeal.nD Cert.ReferenceCombineIdeal.τ).loc Cert.ReferenceCombineIdeal.main_arg2) = m ((c.tc : Thread Cert.KernelCombineIdeal.nD Cert.KernelCombineIdeal.τ).loc Cert.KernelCombineIdeal.main_arg2)
      ∧ m' ((c.tc : Thread Cert.ReferenceCombineIdeal.nD Cert.ReferenceCombineIdeal.τ).loc Cert.ReferenceCombineIdeal.main_arg3) = m ((c.tc : Thread Cert.KernelCombineIdeal.nD Cert.KernelCombineIdeal.τ).loc Cert.KernelCombineIdeal.main_arg3)
      ∧ m' ((c.tc : Thread Cert.ReferenceCombineIdeal.nD Cert.ReferenceCombineIdeal.τ).loc Cert.ReferenceCombineIdeal.main_arg4) = m ((c.tc : Thread Cert.KernelCombineIdeal.nD Cert.KernelCombineIdeal.τ).loc Cert.KernelCombineIdeal.main_arg4)
      ∧ m' ((c.tc : Thread Cert.ReferenceCombineIdeal.nD Cert.ReferenceCombineIdeal.τ).loc Cert.ReferenceCombineIdeal.main_arg5) = m ((c.tc : Thread Cert.KernelCombineIdeal.nD Cert.KernelCombineIdeal.τ).loc Cert.KernelCombineIdeal.main_arg5)) →
    ∃ (v0 : (c : Dev Cert.KernelCombineIdeal.nD) → Buf (Elt Ideal) ((c.tc : Thread Cert.KernelCombineIdeal.nD Cert.KernelCombineIdeal.τ).loc Cert.KernelCombineIdeal.main_v0)),
      θ_run (Cert.KernelCombineIdeal.defs (F := Ideal)) (onTc (τ := Cert.KernelCombineIdeal.τ) (Cert.KernelCombineIdeal.main (F := Ideal))) ⟨m, fun _ => 0, g⟩ (fun r => ∀ c : Dev Cert.KernelCombineIdeal.nD,
          r.2.mem ((c.tc : Thread Cert.KernelCombineIdeal.nD Cert.KernelCombineIdeal.τ).loc Cert.KernelCombineIdeal.main_v0) = v0 c
          ∧ r.2.mem ((c.tc : Thread Cert.KernelCombineIdeal.nD Cert.KernelCombineIdeal.τ).loc Cert.KernelCombineIdeal.main_arg0) = m ((c.tc : Thread Cert.KernelCombineIdeal.nD Cert.KernelCombineIdeal.τ).loc Cert.KernelCombineIdeal.main_arg0)
          ∧ r.2.mem ((c.tc : Thread Cert.KernelCombineIdeal.nD Cert.KernelCombineIdeal.τ).loc Cert.KernelCombineIdeal.main_arg1) = m ((c.tc : Thread Cert.KernelCombineIdeal.nD Cert.KernelCombineIdeal.τ).loc Cert.KernelCombineIdeal.main_arg1)
          ∧ r.2.mem ((c.tc : Thread Cert.KernelCombineIdeal.nD Cert.KernelCombineIdeal.τ).loc Cert.KernelCombineIdeal.main_arg2) = m ((c.tc : Thread Cert.KernelCombineIdeal.nD Cert.KernelCombineIdeal.τ).loc Cert.KernelCombineIdeal.main_arg2)
          ∧ r.2.mem ((c.tc : Thread Cert.KernelCombineIdeal.nD Cert.KernelCombineIdeal.τ).loc Cert.KernelCombineIdeal.main_arg3) = m ((c.tc : Thread Cert.KernelCombineIdeal.nD Cert.KernelCombineIdeal.τ).loc Cert.KernelCombineIdeal.main_arg3)
          ∧ r.2.mem ((c.tc : Thread Cert.KernelCombineIdeal.nD Cert.KernelCombineIdeal.τ).loc Cert.KernelCombineIdeal.main_arg4) = m ((c.tc : Thread Cert.KernelCombineIdeal.nD Cert.KernelCombineIdeal.τ).loc Cert.KernelCombineIdeal.main_arg4)
          ∧ r.2.mem ((c.tc : Thread Cert.KernelCombineIdeal.nD Cert.KernelCombineIdeal.τ).loc Cert.KernelCombineIdeal.main_arg5) = m ((c.tc : Thread Cert.KernelCombineIdeal.nD Cert.KernelCombineIdeal.τ).loc Cert.KernelCombineIdeal.main_arg5))
      ∧ θ_run (Cert.ReferenceCombineIdeal.defs (F := Ideal)) (onTc (τ := Cert.ReferenceCombineIdeal.τ) (Cert.ReferenceCombineIdeal.main (F := Ideal))) ⟨m', fun _ => 0, g'⟩ (fun r => ∀ c : Dev Cert.ReferenceCombineIdeal.nD,
          r.2.mem ((c.tc : Thread Cert.ReferenceCombineIdeal.nD Cert.ReferenceCombineIdeal.τ).loc Cert.ReferenceCombineIdeal.main_v43) = v0 c
          ∧ r.2.mem ((c.tc : Thread Cert.ReferenceCombineIdeal.nD Cert.ReferenceCombineIdeal.τ).loc Cert.ReferenceCombineIdeal.main_arg0) = m' ((c.tc : Thread Cert.ReferenceCombineIdeal.nD Cert.ReferenceCombineIdeal.τ).loc Cert.ReferenceCombineIdeal.main_arg0)
          ∧ r.2.mem ((c.tc : Thread Cert.ReferenceCombineIdeal.nD Cert.ReferenceCombineIdeal.τ).loc Cert.ReferenceCombineIdeal.main_arg1) = m' ((c.tc : Thread Cert.ReferenceCombineIdeal.nD Cert.ReferenceCombineIdeal.τ).loc Cert.ReferenceCombineIdeal.main_arg1)
          ∧ r.2.mem ((c.tc : Thread Cert.ReferenceCombineIdeal.nD Cert.ReferenceCombineIdeal.τ).loc Cert.ReferenceCombineIdeal.main_arg2) = m' ((c.tc : Thread Cert.ReferenceCombineIdeal.nD Cert.ReferenceCombineIdeal.τ).loc Cert.ReferenceCombineIdeal.main_arg2)
          ∧ r.2.mem ((c.tc : Thread Cert.ReferenceCombineIdeal.nD Cert.ReferenceCombineIdeal.τ).loc Cert.ReferenceCombineIdeal.main_arg3) = m' ((c.tc : Thread Cert.ReferenceCombineIdeal.nD Cert.ReferenceCombineIdeal.τ).loc Cert.ReferenceCombineIdeal.main_arg3)
          ∧ r.2.mem ((c.tc : Thread Cert.ReferenceCombineIdeal.nD Cert.ReferenceCombineIdeal.τ).loc Cert.ReferenceCombineIdeal.main_arg4) = m' ((c.tc : Thread Cert.ReferenceCombineIdeal.nD Cert.ReferenceCombineIdeal.τ).loc Cert.ReferenceCombineIdeal.main_arg4)
          ∧ r.2.mem ((c.tc : Thread Cert.ReferenceCombineIdeal.nD Cert.ReferenceCombineIdeal.τ).loc Cert.ReferenceCombineIdeal.main_arg5) = m' ((c.tc : Thread Cert.ReferenceCombineIdeal.nD Cert.ReferenceCombineIdeal.τ).loc Cert.ReferenceCombineIdeal.main_arg5))

def Claim : Prop :=
  ∃ (hKernel : Cert.Kernel.Facts) (hKernelIdeal : Cert.KernelIdeal.Facts) (hReferenceIdeal : Cert.ReferenceIdeal.Facts) (hKernelGla : Cert.KernelGla.Facts) (hKernelGlaIdeal : Cert.KernelGlaIdeal.Facts) (hReferenceGlaIdeal : Cert.ReferenceGlaIdeal.Facts) (hKernelMoba : Cert.KernelMoba.Facts) (hKernelMobaIdeal : Cert.KernelMobaIdeal.Facts) (hReferenceMobaIdeal : Cert.ReferenceMobaIdeal.Facts) (hKernelOut : Cert.KernelOut.Facts) (hKernelOutIdeal : Cert.KernelOutIdeal.Facts) (hReferenceOutIdeal : Cert.ReferenceOutIdeal.Facts) (hKernelLow : Cert.KernelLow.Facts) (hKernelLowIdeal : Cert.KernelLowIdeal.Facts) (hReferenceLowIdeal : Cert.ReferenceLowIdeal.Facts) (hKernelRope : Cert.KernelRope.Facts) (hKernelRopeIdeal : Cert.KernelRopeIdeal.Facts) (hReferenceRopeIdeal : Cert.ReferenceRopeIdeal.Facts) (hKernelPrep : Cert.KernelPrep.Facts) (hKernelPrepIdeal : Cert.KernelPrepIdeal.Facts) (hReferencePrepIdeal : Cert.ReferencePrepIdeal.Facts) (hKernelCombine : Cert.KernelCombine.Facts) (hKernelCombineIdeal : Cert.KernelCombineIdeal.Facts) (hReferenceCombineIdeal : Cert.ReferenceCombineIdeal.Facts) (hPre_in_range : Cert.Pre_in_range.Facts) (hPre_finite : Cert.Pre_finite.Facts) (hPre_finite_prep : Cert.Pre_finite_prep.Facts) (hPre_in_rows : Cert.Pre_in_rows.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_KernelGla (hKernelGla := hKernelGla)
    ∧ quiescent_KernelGlaIdeal (hKernelGlaIdeal := hKernelGlaIdeal)
    ∧ quiescent_ReferenceGlaIdeal (hReferenceGlaIdeal := hReferenceGlaIdeal)
    ∧ quiescent_KernelMoba (hKernelMoba := hKernelMoba)
    ∧ quiescent_KernelMobaIdeal (hKernelMobaIdeal := hKernelMobaIdeal)
    ∧ quiescent_ReferenceMobaIdeal (hReferenceMobaIdeal := hReferenceMobaIdeal)
    ∧ quiescent_KernelOut (hKernelOut := hKernelOut)
    ∧ quiescent_KernelOutIdeal (hKernelOutIdeal := hKernelOutIdeal)
    ∧ quiescent_KernelOutIdeal_pre_finite (hKernelOutIdeal := hKernelOutIdeal) (hPre_finite := hPre_finite)
    ∧ quiescent_ReferenceOutIdeal (hReferenceOutIdeal := hReferenceOutIdeal)
    ∧ quiescent_ReferenceOutIdeal_pre_finite (hReferenceOutIdeal := hReferenceOutIdeal) (hPre_finite := hPre_finite)
    ∧ quiescent_KernelLow (hKernelLow := hKernelLow)
    ∧ quiescent_KernelLowIdeal (hKernelLowIdeal := hKernelLowIdeal)
    ∧ quiescent_ReferenceLowIdeal (hReferenceLowIdeal := hReferenceLowIdeal)
    ∧ quiescent_KernelRope (hKernelRope := hKernelRope)
    ∧ quiescent_KernelRopeIdeal (hKernelRopeIdeal := hKernelRopeIdeal)
    ∧ quiescent_ReferenceRopeIdeal (hReferenceRopeIdeal := hReferenceRopeIdeal)
    ∧ quiescent_KernelPrep (hKernelPrep := hKernelPrep)
    ∧ quiescent_KernelPrepIdeal (hKernelPrepIdeal := hKernelPrepIdeal)
    ∧ quiescent_KernelPrepIdeal_pre_finite_prep (hKernelPrepIdeal := hKernelPrepIdeal) (hPre_finite_prep := hPre_finite_prep)
    ∧ quiescent_ReferencePrepIdeal (hReferencePrepIdeal := hReferencePrepIdeal)
    ∧ quiescent_ReferencePrepIdeal_pre_finite_prep (hReferencePrepIdeal := hReferencePrepIdeal) (hPre_finite_prep := hPre_finite_prep)
    ∧ quiescent_KernelCombine (hKernelCombine := hKernelCombine) (hPre_in_rows := hPre_in_rows)
    ∧ quiescent_KernelCombineIdeal (hKernelCombineIdeal := hKernelCombineIdeal) (hPre_in_rows := hPre_in_rows)
    ∧ quiescent_ReferenceCombineIdeal (hReferenceCombineIdeal := hReferenceCombineIdeal)
    ∧ quiescent_ReferenceCombineIdeal_pre_in_rows (hReferenceCombineIdeal := hReferenceCombineIdeal) (hPre_in_rows := hPre_in_rows)
    ∧ preserves_Kernel_KernelIdeal
    ∧ algebraic_KernelIdeal_ReferenceIdeal (hKernelIdeal := hKernelIdeal) (hReferenceIdeal := hReferenceIdeal) (hPre_in_range := hPre_in_range)
    ∧ preserves_KernelGla_KernelGlaIdeal
    ∧ algebraic_KernelGlaIdeal_ReferenceGlaIdeal (hKernelGlaIdeal := hKernelGlaIdeal) (hReferenceGlaIdeal := hReferenceGlaIdeal)
    ∧ preserves_KernelMoba_KernelMobaIdeal
    ∧ algebraic_KernelMobaIdeal_ReferenceMobaIdeal (hKernelMobaIdeal := hKernelMobaIdeal) (hReferenceMobaIdeal := hReferenceMobaIdeal)
    ∧ preserves_KernelOut_KernelOutIdeal
    ∧ algebraic_KernelOutIdeal_ReferenceOutIdeal_pre_finite (hKernelOutIdeal := hKernelOutIdeal) (hReferenceOutIdeal := hReferenceOutIdeal) (hPre_finite := hPre_finite)
    ∧ preserves_KernelLow_KernelLowIdeal
    ∧ algebraic_KernelLowIdeal_ReferenceLowIdeal (hKernelLowIdeal := hKernelLowIdeal) (hReferenceLowIdeal := hReferenceLowIdeal)
    ∧ preserves_KernelRope_KernelRopeIdeal
    ∧ algebraic_KernelRopeIdeal_ReferenceRopeIdeal (hKernelRopeIdeal := hKernelRopeIdeal) (hReferenceRopeIdeal := hReferenceRopeIdeal)
    ∧ preserves_KernelPrep_KernelPrepIdeal
    ∧ algebraic_KernelPrepIdeal_ReferencePrepIdeal_pre_finite_prep (hKernelPrepIdeal := hKernelPrepIdeal) (hReferencePrepIdeal := hReferencePrepIdeal) (hPre_finite_prep := hPre_finite_prep)
    ∧ preserves_KernelCombine_KernelCombineIdeal
    ∧ algebraic_KernelCombineIdeal_ReferenceCombineIdeal (hKernelCombineIdeal := hKernelCombineIdeal) (hReferenceCombineIdeal := hReferenceCombineIdeal) (hPre_in_rows := hPre_in_rows)
-- ==== Pre_finite.lean ====
abbrev S16384x1024 : Shape := ⟨2, ![16384, 1024]⟩
abbrev S16384x2048 : Shape := ⟨2, ![16384, 2048]⟩
abbrev S2048x2048 : Shape := ⟨2, ![2048, 2048]⟩
abbrev S2048 : Shape := ⟨1, ![2048]⟩
abbrev S2048x16 : Shape := ⟨2, ![2048, 16]⟩
abbrev S16 : Shape := ⟨1, ![16]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x2048 : S_.BroadcastsInDim S16384x2048 (![] : Fin 0 → Fin S16384x2048.rank)
  reducesTo_S16384x2048_S_d0_1 : S16384x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S2048x16 : S_.BroadcastsInDim S2048x16 (![] : Fin 0 → Fin S2048x16.rank)
  reducesTo_S2048x16_S_d0_1 : S2048x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S16 .f32) (main_v30 : IVec S_ 1) (main_v33 : IVec S2048x16 1) (main_c_11 : IVec S_ 1) : IVec S_ 1 :=
  let main_v34 : IVec S_ 1 := (fun x v => Host.reduce IntOp.andi x v reducesTo_S2048x16_S_d0_1 h_S_) main_v33 main_c_11
  let main_v35 : IVec S_ 1 := andi main_v30 main_v34
  let main_v36 : FVec F S16 .f32 := Host.absf main_arg7
  let main_cst_12 : FVec F S_ .f32 := constant S_ .f32 0x7F800000#32
  let main_v37 : FVec F S16 .f32 := broadcastInDim S16 ![] bcast_S_S16 main_cst_12
  let main_v38 : IVec S16 1 := cmpf .olt main_v36 main_v37
  let main_c_13 : IVec S_ 1 := constantI S_ 1 1#1
  let main_v39 : IVec S_ 1 := (fun x v => Host.reduce IntOp.andi x v reducesTo_S16_S_d0 h_S_) main_v38 main_c_13
  let main_v40 : IVec S_ 1 := andi main_v35 main_v39
  main_v40

def fn_part1 {F : FTy → Type} [FloatOps F] (main_arg4 : FVec F S2048 .f32) (main_arg5 : FVec F S2048 .f32) (main_arg6 : FVec F S2048x16 .f32) (main_arg7 : FVec F S16 .f32) (main_v15 : IVec S_ 1) (main_v16 : FVec F S2048x2048 .f32) (main_cst_4 : FVec F S_ .f32) : IVec S_ 1 :=
  let main_v17 : FVec F S2048x2048 .f32 := broadcastInDim S2048x2048 ![] bcast_S_S2048x2048 main_cst_4
  let main_v18 : IVec S2048x2048 1 := cmpf .olt main_v16 main_v17
  let main_c_5 : IVec S_ 1 := constantI S_ 1 1#1
  let main_v19 : IVec S_ 1 := (fun x v => Host.reduce IntOp.andi x v reducesTo_S2048x2048_S_d0_1 h_S_) main_v18 main_c_5
  let main_v20 : IVec S_ 1 := andi main_v15 main_v19
  let main_v21 : FVec F S2048 .f32 := Host.absf main_arg4
  let main_cst_6 : FVec F S_ .f32 := constant S_ .f32 0x7F800000#32
  let main_v22 : FVec F S2048 .f32 := broadcastInDim S2048 ![] bcast_S_S2048 main_cst_6
  let main_v23 : IVec S2048 1 := cmpf .olt main_v21 main_v22
  let main_c_7 : IVec S_ 1 := constantI S_ 1 1#1
  let main_v24 : IVec S_ 1 := (fun x v => Host.reduce IntOp.andi x v reducesTo_S2048_S_d0 h_S_) main_v23 main_c_7
  let main_v25 : IVec S_ 1 := andi main_v20 main_v24
  let main_v26 : FVec F S2048 .f32 := Host.absf main_arg5
  let main_cst_8 : FVec F S_ .f32 := constant S_ .f32 0x7F800000#32
  let main_v27 : FVec F S2048 .f32 := broadcastInDim S2048 ![] bcast_S_S2048 main_cst_8
  let main_v28 : IVec S2048 1 := cmpf .olt main_v26 main_v27
  let main_c_9 : IVec S_ 1 := constantI S_ 1 1#1
  let main_v29 : IVec S_ 1 := (fun x v => Host.reduce IntOp.andi x v reducesTo_S2048_S_d0 h_S_) main_v28 main_c_9
  let main_v30 : IVec S_ 1 := andi main_v25 main_v29
  let main_v31 : FVec F S2048x16 .f32 := Host.absf main_arg6
  let main_cst_10 : FVec F S_ .f32 := constant S_ .f32 0x7F800000#32
  let main_v32 : FVec F S2048x16 .f32 := broadcastInDim S2048x16 ![] bcast_S_S2048x16 main_cst_10
  let main_v33 : IVec S2048x16 1 := cmpf .olt main_v31 main_v32
  let main_c_11 : IVec S_ 1 := constantI S_ 1 1#1
  fn_part2 (F := F) main_arg7 main_v30 main_v33 main_c_11

def fn {F : FTy → Type} [FloatOps F] (main_arg0 : FVec F S16384x1024 .bf16) (main_arg1 : FVec F S16384x1024 .bf16) (main_arg2 : FVec F S16384x2048 .f32) (main_arg3 : FVec F S2048x2048 .f32) (main_arg4 : FVec F S2048 .f32) (main_arg5 : FVec F S2048 .f32) (main_arg6 : FVec F S2048x16 .f32) (main_arg7 : FVec F S16 .f32) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S16384x1024 .f32 := (extf .f32 · bitsLt_bf16_f32) main_arg1
  let main_v6 : FVec F S16384x1024 .f32 := Host.absf main_v5
  let main_cst_0 : FVec F S_ .f32 := constant S_ .f32 0x7F800000#32
  let main_v7 : FVec F S16384x1024 .f32 := broadcastInDim S16384x1024 ![] bcast_S_S16384x1024 main_cst_0
  let main_v8 : IVec S16384x1024 1 := cmpf .olt main_v6 main_v7
  let main_c_1 : IVec S_ 1 := constantI S_ 1 1#1
  let main_v9 : IVec S_ 1 := (fun x v => Host.reduce IntOp.andi x v reducesTo_S16384x1024_S_d0_1 h_S_) main_v8 main_c_1
  let main_v10 : IVec S_ 1 := andi main_v4 main_v9
  let main_v11 : FVec F S16384x2048 .f32 := Host.absf main_arg2
  let main_cst_2 : FVec F S_ .f32 := constant S_ .f32 0x7F800000#32
  let main_v12 : FVec F S16384x2048 .f32 := broadcastInDim S16384x2048 ![] bcast_S_S16384x2048 main_cst_2
  let main_v13 : IVec S16384x2048 1 := cmpf .olt main_v11 main_v12
  let main_c_3 : IVec S_ 1 := constantI S_ 1 1#1
  let main_v14 : IVec S_ 1 := (fun x v => Host.reduce IntOp.andi x v reducesTo_S16384x2048_S_d0_1 h_S_) main_v13 main_c_3
  let main_v15 : IVec S_ 1 := andi main_v10 main_v14
  let main_v16 : FVec F S2048x2048 .f32 := Host.absf main_arg3
  let main_cst_4 : FVec F S_ .f32 := constant S_ .f32 0x7F800000#32
  fn_part1 (F := F) main_arg4 main_arg5 main_arg6 main_arg7 main_v15 main_v16 main_cst_4
-- ==== Pre_finite_prep.lean ====
abbrev S16384x3072 : Shape := ⟨2, ![16384, 3072]⟩
abbrev S16384x128 : Shape := ⟨2, ![16384, 128]⟩
abbrev S_ : Shape := ⟨0, ![]⟩

class Facts : Prop where
  bcast_S_S16384x3072 : S_.BroadcastsInDim S16384x3072 (![] : Fin 0 → Fin S16384x3072.rank)
  reducesTo_S16384x3072_S_d0_1 : S16384x3072.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_

variable [Facts]

def fn {F : FTy → Type} [FloatOps F] (main_arg0 : FVec F S16384x3072 .f32) (main_arg1 : FVec F S16384x128 .f32) (main_arg2 : FVec F S16384x128 .f32) : IVec S_ 1 :=
  let main_v0 : FVec F S16384x3072 .f32 := Host.absf main_arg0
  let main_cst : FVec F S_ .f32 := constant S_ .f32 0x7F800000#32
  let main_v1 : FVec F S16384x3072 .f32 := broadcastInDim S16384x3072 ![] bcast_S_S16384x3072 main_cst
  let main_v2 : IVec S16384x3072 1 := cmpf .olt main_v0 main_v1
  let main_c : IVec S_ 1 := constantI S_ 1 1#1
  let main_v3 : IVec S_ 1 := (fun x v => Host.reduce IntOp.andi x v reducesTo_S16384x3072_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S16384x128 .f32 := Host.absf main_arg2
  let main_cst_2 : FVec F S_ .f32 := constant S_ .f32 0x7F800000#32
  let main_v10 : FVec F S16384x128 .f32 := broadcastInDim S16384x128 ![] bcast_S_S16384x128 main_cst_2
  let main_v11 : IVec S16384x128 1 := cmpf .olt main_v9 main_v10
  let main_c_3 : IVec S_ 1 := constantI S_ 1 1#1
  let main_v12 : IVec S_ 1 := (fun x v => Host.reduce IntOp.andi x v reducesTo_S16384x128_S_d0_1 h_S_) main_v11 main_c_3
  let main_v13 : IVec S_ 1 := andi main_v8 main_v12
  main_v13
-- ==== Pre_in_range.lean ====
abbrev S80 : Shape := ⟨1, ![80]⟩
abbrev S40960x2048 : Shape := ⟨2, ![40960, 2048]⟩
abbrev S16x2048x1024 : Shape := ⟨3, ![16, 2048, 1024]⟩
abbrev S16x1024x2048 : Shape := ⟨3, ![16, 1024, 2048]⟩
abbrev S_ : Shape := ⟨0, ![]⟩

class Facts : Prop where
  bcast_S_S80 : S_.BroadcastsInDim S80 (![] : Fin 0 → Fin S80.rank)

variable [Facts]

def fn {F : FTy → Type} [FloatOps F] (main_arg0 : IVec S80 32) (main_arg1 : IVec S80 32) (main_arg2 : FVec F S40960x2048 .f32) (main_arg3 : FVec F S16x2048x1024 .bf16) (main_arg4 : FVec F S16x2048x1024 .bf16) (main_arg5 : FVec F S16x1024x2048 .bf16) : IVec S80 1 :=
  let main_c : IVec S_ 32 := constantI S_ 32 0#32
  let main_v0 : IVec S80 32 := broadcastInDim S80 ![] bcast_S_S80 main_c
  let main_v1 : IVec S80 1 := cmpi .sge main_arg0 main_v0
  let main_c_0 : IVec S_ 32 := constantI S_ 32 16#32
  let main_v2 : IVec S80 32 := broadcastInDim S80 ![] bcast_S_S80 main_c_0
  let main_v3 : IVec S80 1 := cmpi .slt main_arg0 main_v2
  let main_v4 : IVec S80 1 := andi main_v1 main_v3
  let main_c_1 : IVec S_ 32 := constantI S_ 32 0#32
  let main_v5 : IVec S80 32 := broadcastInDim S80 ![] bcast_S_S80 main_c_1
  let main_v6 : IVec S80 1 := cmpi .sge main_arg1 main_v5
  let main_v7 : IVec S80 1 := andi main_v4 main_v6
  main_v7
-- ==== Pre_in_rows.lean ====
abbrev S32768 : Shape := ⟨1, ![32768]⟩
abbrev S40960x2048 : Shape := ⟨2, ![40960, 2048]⟩
abbrev S16384x2048 : Shape := ⟨2, ![16384, 2048]⟩
abbrev S16384x128 : Shape := ⟨2, ![16384, 128]⟩
abbrev S1x2048 : Shape := ⟨2, ![1, 2048]⟩
abbrev S_ : Shape := ⟨0, ![]⟩

class Facts : Prop where
  bcast_S_S32768 : S_.BroadcastsInDim S32768 (![] : Fin 0 → Fin S32768.rank)

variable [Facts]

def fn {F : FTy → Type} [FloatOps F] (main_arg0 : IVec S32768 32) (main_arg1 : FVec F S40960x2048 .f32) (main_arg2 : FVec F S16384x2048 .f32) (main_arg3 : FVec F S16384x128 .f32) (main_arg4 : FVec F S1x2048 .f32) (main_arg5 : FVec F S1x2048 .f32) : IVec S32768 1 :=
  let main_c : IVec S_ 32 := constantI S_ 32 0#32
  let main_v0 : IVec S32768 32 := broadcastInDim S32768 ![] bcast_S_S32768 main_c
  let main_v1 : IVec S32768 1 := cmpi .sge main_arg0 main_v0
  let main_c_0 : IVec S_ 32 := constantI S_ 32 40960#32
  let main_v2 : IVec S32768 32 := broadcastInDim S32768 ![] bcast_S_S32768 main_c_0
  let main_v3 : IVec S32768 1 := cmpi .slt main_arg0 main_v2
  let main_v4 : IVec S32768 1 := andi main_v1 main_v3
  main_v4
-- ==== Kernel.lean ====
abbrev S80 : Shape := ⟨1, ![80]⟩
abbrev S40960x2048 : Shape := ⟨2, ![40960, 2048]⟩
abbrev S16x2048x1024 : Shape := ⟨3, ![16, 2048, 1024]⟩
abbrev S16x1024x2048 : Shape := ⟨3, ![16, 1024, 2048]⟩
abbrev S512x2048 : Shape := ⟨2, ![512, 2048]⟩
abbrev S1x2048x1024 : Shape := ⟨3, ![1, 2048, 1024]⟩
abbrev S1 : Shape := ⟨1, ![1]⟩
abbrev S1x1024x2048 : Shape := ⟨3, ![1, 1024, 2048]⟩
abbrev S1x2048x256 : Shape := ⟨3, ![1, 2048, 256]⟩
abbrev S2048x256 : Shape := ⟨2, ![2048, 256]⟩
abbrev S512x256 : Shape := ⟨2, ![512, 256]⟩
abbrev S1x256x2048 : Shape := ⟨3, ![1, 256, 2048]⟩
abbrev S256x2048 : Shape := ⟨2, ![256, 2048]⟩

abbrev nBuf : Space → Nat
  | .hbm => 5
  | .vmem => 10
  | .smem => 2
  | _ => 0

abbrev bufTy : (tb : Table) → Fin (tcTables nBuf tb) → BufTy
  | .hbm, ⟨0, _⟩ => ⟨S40960x2048, .f32⟩
  | .hbm, ⟨1, _⟩ => ⟨S16x2048x1024, .bf16⟩
  | .hbm, ⟨2, _⟩ => ⟨S16x2048x1024, .bf16⟩
  | .hbm, ⟨3, _⟩ => ⟨S16x1024x2048, .bf16⟩
  | .hbm, ⟨4, _⟩ => ⟨S40960x2048, .f32⟩
  | .local _ .vmem, ⟨0, _⟩ => ⟨S512x2048, .f32⟩
  | .local _ .vmem, ⟨1, _⟩ => ⟨S512x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S512x2048, .f32⟩
  | .local _ .vmem, ⟨9, _⟩ => ⟨S512x2048, .f32⟩
  | .local _ .smem, ⟨0, _⟩ => ⟨S80, .i32⟩
  | .local _ .smem, ⟨1, _⟩ => ⟨S80, .i32⟩
  | _, _ => ⟨S40960x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![80], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c0_i32_1 : BitVec 32 := 0#32
  let v5 : BitVec 1 := Scalar.cmpi .sgt v1 c0_i32_1
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S80 : Shape := ⟨1, ![80]⟩
abbrev S40960x2048 : Shape := ⟨2, ![40960, 2048]⟩
abbrev S16x2048x1024 : Shape := ⟨3, ![16, 2048, 1024]⟩
abbrev S16x1024x2048 : Shape := ⟨3, ![16, 1024, 2048]⟩
abbrev S_ : Shape := ⟨0, ![]⟩
abbrev S16 : Shape := ⟨1, ![16]⟩
abbrev S16x1 : Shape := ⟨2, ![16, 1]⟩
abbrev S1x80 : Shape := ⟨2, ![1, 80]⟩
abbrev S16x80 : Shape := ⟨2, ![16, 80]⟩
abbrev S16x80x512 : Shape := ⟨3, ![16, 80, 512]⟩
abbrev S16x40960 : Shape := ⟨2, ![16, 40960]⟩
abbrev S16x40960x1 : Shape := ⟨3, ![16, 40960, 1]⟩
abbrev S40960x16x1024 : Shape := ⟨3, ![40960, 16, 1024]⟩
abbrev S16x40960x2048 : Shape := ⟨3, ![16, 40960, 2048]⟩

abbrev nBuf : Space → Nat
  | .hbm => 49
  | .vmem => 0
  | .smem => 0
  | _ => 0

abbrev bufTy : (tb : Table) → Fin (tcTables nBuf tb) → BufTy
  | .hbm, ⟨0, _⟩ => ⟨S80, .i32⟩
  | .hbm, ⟨1, _⟩ => ⟨S80, .i32⟩
  | .hbm, ⟨2, _⟩ => ⟨S40960x2048, .f32⟩
  | .hbm, ⟨3, _⟩ => ⟨S16x2048x1024, .bf16⟩
  | .hbm, ⟨4, _⟩ => ⟨S16x2048x1024, .bf16⟩
  | .hbm, ⟨5, _⟩ => ⟨S16x1024x2048, .bf16⟩
  | .hbm, ⟨6, _⟩ => ⟨S16x2048x1024, .f32⟩
  | .hbm, ⟨7, _⟩ => ⟨S16x2048x1024, .f32⟩
  | .hbm, ⟨8, _⟩ => ⟨S16x1024x2048, .f32⟩
  | .hbm, ⟨9, _⟩ => ⟨S_, .i32⟩
  | .hbm, ⟨10, _⟩ => ⟨S80, .i32⟩
  | .hbm, ⟨11, _⟩ => ⟨S80, .i1⟩
  | .hbm, ⟨12, _⟩ => ⟨S_, .f32⟩
  | .hbm, ⟨13, _⟩ => ⟨S_, .f32⟩
  | .hbm, ⟨14, _⟩ => ⟨S80, .f32⟩
  | .hbm, ⟨15, _⟩ => ⟨S80, .f32⟩
  | .hbm, ⟨16, _⟩ => ⟨S80, .f32⟩
  | .hbm, ⟨17, _⟩ => ⟨S16, .i32⟩
  | .hbm, ⟨18, _⟩ => ⟨S16x1, .i32⟩
  | .hbm, ⟨19, _⟩ => ⟨S1x80, .i32⟩
  | .hbm, ⟨20, _⟩ => ⟨S16x80, .i32⟩
  | .hbm, ⟨21, _⟩ => ⟨S16x80, .i32⟩
  | .hbm, ⟨22, _⟩ => ⟨S16x80, .i1⟩
  | .hbm, ⟨23, _⟩ => ⟨S1x80, .f32⟩
  | .hbm, ⟨24, _⟩ => ⟨S_, .f32⟩
  | .hbm, ⟨25, _⟩ => ⟨S16x80, .f32⟩
  | .hbm, ⟨26, _⟩ => ⟨S16x80, .f32⟩
  | .hbm, ⟨27, _⟩ => ⟨S16x80, .f32⟩
  | .hbm, ⟨28, _⟩ => ⟨S16x80x512, .f32⟩
  | .hbm, ⟨29, _⟩ => ⟨S16x40960, .f32⟩
  | .hbm, ⟨30, _⟩ => ⟨S16x40960x1, .f32⟩
  | .hbm, ⟨31, _⟩ => ⟨S40960x16x1024, .f32⟩
  | .hbm, ⟨32, _⟩ => ⟨S40960x16x1024, .f32⟩
  | .hbm, ⟨33, _⟩ => ⟨S40960x16x1024, .f32⟩
  | .hbm, ⟨34, _⟩ => ⟨S_, .f32⟩
  | .hbm, ⟨35, _⟩ => ⟨S40960x16x1024, .f32⟩
  | .hbm, ⟨36, _⟩ => ⟨S40960x16x1024, .f32⟩
  | .hbm, ⟨37, _⟩ => ⟨S_, .f32⟩
  | .hbm, ⟨38, _⟩ => ⟨S40960x16x1024, .f32⟩
  | .hbm, ⟨39, _⟩ => ⟨S40960x16x1024, .f32⟩
  | .hbm, ⟨40, _⟩ => ⟨S40960x16x1024, .f32⟩
  | .hbm, ⟨41, _⟩ => ⟨S40960x16x1024, .f32⟩
  | .hbm, ⟨42, _⟩ => ⟨S40960x16x1024, .f32⟩
  | .hbm, ⟨43, _⟩ => ⟨S16x40960x2048, .f32⟩
  | .hbm, ⟨44, _⟩ => ⟨S16x40960x1, .f32⟩
  | .hbm, ⟨45, _⟩ => ⟨S16x40960x2048, .f32⟩
  | .hbm, ⟨46, _⟩ => ⟨S16x40960x2048, .f32⟩
  | .hbm, ⟨47, _⟩ => ⟨S_, .f32⟩
  | .hbm, ⟨48, _⟩ => ⟨S40960x2048, .f32⟩
  | _, _ => ⟨S80, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_call1_v0 : Ref sig .tc := ⟨.hbm, 25, rfl⟩
abbrev main_call1_v1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call2_v0 : Ref sig .tc := ⟨.hbm, 32, rfl⟩
abbrev main_call2_v1 : Ref sig .tc := ⟨.hbm, 33, rfl⟩
abbrev main_call2_cst : Ref sig .tc := ⟨.hbm, 34, rfl⟩
abbrev main_call2_v2 : Ref sig .tc := ⟨.hbm, 35, rfl⟩
abbrev main_call2_v3 : Ref sig .tc := ⟨.hbm, 36, rfl⟩
abbrev main_call2_cst_0 : Ref sig .tc := ⟨.hbm, 37, rfl⟩
abbrev main_call2_v4 : Ref sig .tc := ⟨.hbm, 38, rfl⟩
abbrev main_call2_v5 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_2 : Ref sig .tc := ⟨.hbm, 47, rfl⟩
abbrev main_v25 : Ref sig .tc := ⟨.hbm, 48, rfl⟩

abbrev nD : Nat := 1
abbrev τ : Topo := Topo.v7x

variable {F : FTy → Type} [FloatOps F]
-- ==== KernelGla.lean ====
abbrev S16384x2048 : Shape := ⟨2, ![16384, 2048]⟩
abbrev S2048x6160 : Shape := ⟨2, ![2048, 6160]⟩
abbrev S16384x3072 : Shape := ⟨2, ![16384, 3072]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S2048x6160, .f32⟩
  | .hbm, ⟨2, _⟩ => ⟨S16384x3072, .f32⟩
  | .local _ .vmem, ⟨0, _⟩ => ⟨S512x2048, .f32⟩
  | .local _ .vmem, ⟨1, _⟩ => ⟨S512x2048, .f32⟩
  | .local _ .vmem, ⟨2, _⟩ => ⟨S2048x1024, .f32⟩
  | .local _ .vmem, ⟨3, _⟩ => ⟨S2048x1024, .f32⟩
  | .local _ .vmem, ⟨4, _⟩ => ⟨S512x1024, .f32⟩
  | .local _ .vmem, ⟨5, _⟩ => ⟨S512x1024, .f32⟩
  | .local _ .vmem, ⟨6, _⟩ => ⟨S2048x1024, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceGlaIdeal.lean ====
abbrev S16384x2048 : Shape := ⟨2, ![16384, 2048]⟩
abbrev S2048x6160 : Shape := ⟨2, ![2048, 6160]⟩
abbrev S2048x3072 : Shape := ⟨2, ![2048, 3072]⟩
abbrev S16384x3072 : Shape := ⟨2, ![16384, 3072]⟩

abbrev nBuf : Space → Nat
  | .hbm => 4
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x6160, .f32⟩
  | .hbm, ⟨2, _⟩ => ⟨S2048x3072, .f32⟩
  | .hbm, ⟨3, _⟩ => ⟨S16384x3072, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelMoba.lean ====
abbrev S16384x2048 : Shape := ⟨2, ![16384, 2048]⟩
abbrev S2048x6160 : Shape := ⟨2, ![2048, 6160]⟩
abbrev S2048x3072 : Shape := ⟨2, ![2048, 3072]⟩
abbrev S16384x3072 : Shape := ⟨2, ![16384, 3072]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S2048x6160, .f32⟩
  | .hbm, ⟨2, _⟩ => ⟨S2048x3072, .f32⟩
  | .hbm, ⟨3, _⟩ => ⟨S16384x3072, .f32⟩
  | .local _ .vmem, ⟨0, _⟩ => ⟨S512x2048, .f32⟩
  | .local _ .vmem, ⟨1, _⟩ => ⟨S512x2048, .f32⟩
  | .local _ .vmem, ⟨2, _⟩ => ⟨S2048x1024, .f32⟩
  | .local _ .vmem, ⟨3, _⟩ => ⟨S2048x1024, .f32⟩
  | .local _ .vmem, ⟨4, _⟩ => ⟨S512x1024, .f32⟩
  | .local _ .vmem, ⟨5, _⟩ => ⟨S512x1024, .f32⟩
  | .local _ .vmem, ⟨6, _⟩ => ⟨S2048x1024, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceMobaIdeal.lean ====
abbrev S16384x2048 : Shape := ⟨2, ![16384, 2048]⟩
abbrev S2048x6160 : Shape := ⟨2, ![2048, 6160]⟩
abbrev S2048x3072 : Shape := ⟨2, ![2048, 3072]⟩
abbrev S16384x3072 : Shape := ⟨2, ![16384, 3072]⟩

abbrev nBuf : Space → Nat
  | .hbm => 4
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x6160, .f32⟩
  | .hbm, ⟨2, _⟩ => ⟨S2048x3072, .f32⟩
  | .hbm, ⟨3, _⟩ => ⟨S16384x3072, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelOut.lean ====
abbrev S16384x1024 : Shape := ⟨2, ![16384, 1024]⟩
abbrev S16384x2048 : Shape := ⟨2, ![16384, 2048]⟩
abbrev S2048x2048 : Shape := ⟨2, ![2048, 2048]⟩
abbrev S2048 : Shape := ⟨1, ![2048]⟩
abbrev S2048x16 : Shape := ⟨2, ![2048, 16]⟩
abbrev S16 : Shape := ⟨1, ![16]⟩
abbrev S_ : Shape := ⟨0, ![]⟩
abbrev S2048x128 : Shape := ⟨2, ![2048, 128]⟩
abbrev S2048x256 : Shape := ⟨2, ![2048, 256]⟩
abbrev S128 : Shape := ⟨1, ![128]⟩
abbrev S1x128 : Shape := ⟨2, ![1, 128]⟩
abbrev S1x2048 : Shape := ⟨2, ![1, 2048]⟩
abbrev S16384x128 : Shape := ⟨2, ![16384, 128]⟩
abbrev S512x1024 : Shape := ⟨2, ![512, 1024]⟩
abbrev S512x2048 : Shape := ⟨2, ![512, 2048]⟩
abbrev S512x128 : Shape := ⟨2, ![512, 128]⟩
abbrev S1024x2048 : Shape := ⟨2, ![1024, 2048]⟩
abbrev S512 : Shape := ⟨1, ![512]⟩
abbrev S512x1 : Shape := ⟨2, ![512, 1]⟩
abbrev S512x256 : Shape := ⟨2, ![512, 256]⟩

abbrev nBuf : Space → Nat
  | .hbm => 25
  | .vmem => 15
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048x16, .f32⟩
  | .hbm, ⟨7, _⟩ => ⟨S16, .f32⟩
  | .hbm, ⟨8, _⟩ => ⟨S_, .i32⟩
  | .hbm, ⟨9, _⟩ => ⟨S_, .f32⟩
  | .hbm, ⟨10, _⟩ => ⟨S2048x128, .f32⟩
  | .hbm, ⟨11, _⟩ => ⟨S2048x128, .bf16⟩
  | .hbm, ⟨12, _⟩ => ⟨S2048x128, .f32⟩
  | .hbm, ⟨13, _⟩ => ⟨S2048x128, .f32⟩
  | .hbm, ⟨14, _⟩ => ⟨S2048x128, .bf16⟩
  | .hbm, ⟨15, _⟩ => ⟨S2048x256, .bf16⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S2048x2048, .bf16⟩
  | .hbm, ⟨21, _⟩ => ⟨S1x2048, .f32⟩
  | .hbm, ⟨22, _⟩ => ⟨S1x2048, .f32⟩
  | .hbm, ⟨23, _⟩ => ⟨S16384x2048, .f32⟩
  | .hbm, ⟨24, _⟩ => ⟨S16384x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S1x2048, .f32⟩
  | .local _ .vmem, ⟨8, _⟩ => ⟨S1x2048, .f32⟩
  | .local _ .vmem, ⟨9, _⟩ => ⟨S2048x256, .bf16⟩
  | .local _ .vmem, ⟨10, _⟩ => ⟨S1x128, .f32⟩
  | .local _ .vmem, ⟨11, _⟩ => ⟨S512x2048, .f32⟩
  | .local _ .vmem, ⟨12, _⟩ => ⟨S512x2048, .f32⟩
  | .local _ .vmem, ⟨13, _⟩ => ⟨S512x128, .f32⟩
  | .local _ .vmem, ⟨14, _⟩ => ⟨S512x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_call1_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelOutIdeal.lean ====
variable {F : FTy → Type} [FloatOps F] [Named F]
def κ : String → Option EReal := fun
  | "alpha" => some ((Real.sqrt 2 : ℝ) : EReal)
  | "ln_eps" => some ((1 / 100000 : ℝ) : EReal)
  | _ => none
-- ==== ReferenceOutIdeal.lean ====
abbrev S16384x1024 : Shape := ⟨2, ![16384, 1024]⟩
abbrev S16384x2048 : Shape := ⟨2, ![16384, 2048]⟩
abbrev S2048x2048 : Shape := ⟨2, ![2048, 2048]⟩
abbrev S2048 : Shape := ⟨1, ![2048]⟩
abbrev S2048x16 : Shape := ⟨2, ![2048, 16]⟩
abbrev S16 : Shape := ⟨1, ![16]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x16 : Shape := ⟨2, ![16384, 16]⟩
abbrev S1x16 : Shape := ⟨2, ![1, 16]⟩
abbrev S16384x4x4 : Shape := ⟨3, ![16384, 4, 4]⟩
abbrev S16384x4x2 : Shape := ⟨3, ![16384, 4, 2]⟩
abbrev S16384x4 : Shape := ⟨2, ![16384, 4]⟩
abbrev S4 : Shape := ⟨1, ![4]⟩
abbrev S1x4 : Shape := ⟨2, ![1, 4]⟩
abbrev S16384x4x1 : Shape := ⟨3, ![16384, 4, 1]⟩
abbrev S16384x2 : Shape := ⟨2, ![16384, 2]⟩
abbrev S16384x2x1 : Shape := ⟨3, ![16384, 2, 1]⟩
abbrev S1x1x16 : Shape := ⟨3, ![1, 1, 16]⟩
abbrev S16384x2x16 : Shape := ⟨3, ![16384, 2, 16]⟩
abbrev S16384x1x16 : Shape := ⟨3, ![16384, 1, 16]⟩
abbrev S16384x124 : Shape := ⟨2, ![16384, 124]⟩
abbrev S16384x128 : Shape := ⟨2, ![16384, 128]⟩

abbrev nBuf : Space → Nat
  | .hbm => 107
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048x16, .f32⟩
  | .hbm, ⟨7, _⟩ => ⟨S16, .f32⟩
  | .hbm, ⟨8, _⟩ => ⟨S16384x1024, .f32⟩
  | .hbm, ⟨9, _⟩ => ⟨S16384x1024, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S_, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x2048, .f32⟩
  | .hbm, ⟨33, _⟩ => ⟨S16384x2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x2048, .f32⟩
  | .hbm, ⟨41, _⟩ => ⟨S16384x2048, .f32⟩
  | .hbm, ⟨42, _⟩ => ⟨S1x2048, .f32⟩
  | .hbm, ⟨43, _⟩ => ⟨S16384x2048, .f32⟩
  | .hbm, ⟨44, _⟩ => ⟨S16384x2048, .f32⟩
  | .hbm, ⟨45, _⟩ => ⟨S1x2048, .f32⟩
  | .hbm, ⟨46, _⟩ => ⟨S16384x2048, .f32⟩
  | .hbm, ⟨47, _⟩ => ⟨S16384x2048, .f32⟩
  | .hbm, ⟨48, _⟩ => ⟨S16384x16, .f32⟩
  | .hbm, ⟨49, _⟩ => ⟨S_, .f32⟩
  | .hbm, ⟨50, _⟩ => ⟨S16384, .f32⟩
  | .hbm, ⟨51, _⟩ => ⟨S_, .f32⟩
  | .hbm, ⟨52, _⟩ => ⟨S16384, .f32⟩
  | .hbm, ⟨53, _⟩ => ⟨S16384, .f32⟩
  | .hbm, ⟨54, _⟩ => ⟨S16384x1, .f32⟩
  | .hbm, ⟨55, _⟩ => ⟨S16384x16, .f32⟩
  | .hbm, ⟨56, _⟩ => ⟨S16384x16, .f32⟩
  | .hbm, ⟨57, _⟩ => ⟨S16384x16, .f32⟩
  | .hbm, ⟨58, _⟩ => ⟨S_, .f32⟩
  | .hbm, ⟨59, _⟩ => ⟨S16384, .f32⟩
  | .hbm, ⟨60, _⟩ => ⟨S16384x1, .f32⟩
  | .hbm, ⟨61, _⟩ => ⟨S16384x16, .f32⟩
  | .hbm, ⟨62, _⟩ => ⟨S16384x16, .f32⟩
  | .hbm, ⟨63, _⟩ => ⟨S1x16, .f32⟩
  | .hbm, ⟨64, _⟩ => ⟨S16384x16, .f32⟩
  | .hbm, ⟨65, _⟩ => ⟨S16384x16, .f32⟩
  | .hbm, ⟨66, _⟩ => ⟨S16384x4x4, .f32⟩
  | .hbm, ⟨67, _⟩ => ⟨S16384x4x2, .f32⟩
  | .hbm, ⟨68, _⟩ => ⟨S16384x4x2, .i32⟩
  | .hbm, ⟨69, _⟩ => ⟨S_, .f32⟩
  | .hbm, ⟨70, _⟩ => ⟨S16384x4, .f32⟩
  | .hbm, ⟨71, _⟩ => ⟨S16384x1, .f32⟩
  | .hbm, ⟨72, _⟩ => ⟨S16384x1, .i32⟩
  | .hbm, ⟨73, _⟩ => ⟨S4, .i32⟩
  | .hbm, ⟨74, _⟩ => ⟨S1x4, .i32⟩
  | .hbm, ⟨75, _⟩ => ⟨S16384x4, .i32⟩
  | .hbm, ⟨76, _⟩ => ⟨S16384x4, .i32⟩
  | .hbm, ⟨77, _⟩ => ⟨S16384x4, .i1⟩
  | .hbm, ⟨78, _⟩ => ⟨S16384x4x1, .i1⟩
  | .hbm, ⟨79, _⟩ => ⟨S_, .f32⟩
  | .hbm, ⟨80, _⟩ => ⟨S_, .f32⟩
  | .hbm, ⟨81, _⟩ => ⟨S16384x4x4, .i1⟩
  | .hbm, ⟨82, _⟩ => ⟨S16384x4x4, .f32⟩
  | .hbm, ⟨83, _⟩ => ⟨S16384x4x4, .f32⟩
  | .hbm, ⟨84, _⟩ => ⟨S16384x16, .f32⟩
  | .hbm, ⟨85, _⟩ => ⟨S16384x2, .f32⟩
  | .hbm, ⟨86, _⟩ => ⟨S16384x2, .i32⟩
  | .hbm, ⟨87, _⟩ => ⟨S16384x2x1, .i32⟩
  | .hbm, ⟨88, _⟩ => ⟨S1x1x16, .i32⟩
  | .hbm, ⟨89, _⟩ => ⟨S16384x2x16, .i32⟩
  | .hbm, ⟨90, _⟩ => ⟨S16384x2x16, .i32⟩
  | .hbm, ⟨91, _⟩ => ⟨S16384x2x16, .i1⟩
  | .hbm, ⟨92, _⟩ => ⟨S16384x2x16, .f32⟩
  | .hbm, ⟨93, _⟩ => ⟨S16384x1x16, .f32⟩
  | .hbm, ⟨94, _⟩ => ⟨S16384x2x16, .f32⟩
  | .hbm, ⟨95, _⟩ => ⟨S16384x2x16, .f32⟩
  | .hbm, ⟨96, _⟩ => ⟨S_, .f32⟩
  | .hbm, ⟨97, _⟩ => ⟨S16384x2, .f32⟩
  | .hbm, ⟨98, _⟩ => ⟨S_, .f32⟩
  | .hbm, ⟨99, _⟩ => ⟨S16384, .f32⟩
  | .hbm, ⟨100, _⟩ => ⟨S16384x1, .f32⟩
  | .hbm, ⟨101, _⟩ => ⟨S16384x2, .f32⟩
  | .hbm, ⟨102, _⟩ => ⟨S16384x2, .f32⟩
  | .hbm, ⟨103, _⟩ => ⟨S16384x2, .f32⟩
  | .hbm, ⟨104, _⟩ => ⟨S_, .f32⟩
  | .hbm, ⟨105, _⟩ => ⟨S16384x124, .f32⟩
  | .hbm, ⟨106, _⟩ => ⟨S16384x128, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_values : Ref sig .tc := ⟨.hbm, 67, rfl⟩
abbrev main_indices : Ref sig .tc := ⟨.hbm, 68, rfl⟩
abbrev main_cst_9 : Ref sig .tc := ⟨.hbm, 69, rfl⟩
abbrev main_v49 : Ref sig .tc := ⟨.hbm, 70, rfl⟩
abbrev main_values_10 : Ref sig .tc := ⟨.hbm, 71, rfl⟩
abbrev main_indices_11 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_v56 : Ref sig .tc := ⟨.hbm, 83, rfl⟩
abbrev main_v57 : Ref sig .tc := ⟨.hbm, 84, rfl⟩
abbrev main_values_13 : Ref sig .tc := ⟨.hbm, 85, rfl⟩
abbrev main_indices_14 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_15 : Ref sig .tc := ⟨.hbm, 96, rfl⟩
abbrev main_v62 : Ref sig .tc := ⟨.hbm, 97, rfl⟩
abbrev main_cst_16 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_17 : Ref sig .tc := ⟨.hbm, 104, rfl⟩
abbrev main_v68 : Ref sig .tc := ⟨.hbm, 105, rfl⟩
abbrev main_v69 : Ref sig .tc := ⟨.hbm, 106, rfl⟩

abbrev nD : Nat := 1
abbrev τ : Topo := Topo.v7x

variable {F : FTy → Type} [FloatOps F]
-- ==== KernelLow.lean ====
abbrev S16384x2048 : Shape := ⟨2, ![16384, 2048]⟩
abbrev S2048x6160 : Shape := ⟨2, ![2048, 6160]⟩
abbrev S2048x16 : Shape := ⟨2, ![2048, 16]⟩
abbrev S_ : Shape := ⟨0, ![]⟩
abbrev S2048x128 : Shape := ⟨2, ![2048, 128]⟩
abbrev S16384x128 : Shape := ⟨2, ![16384, 128]⟩
abbrev S512x2048 : Shape := ⟨2, ![512, 2048]⟩
abbrev S512x128 : Shape := ⟨2, ![512, 128]⟩

abbrev nBuf : Space → Nat
  | .hbm => 7
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S2048x6160, .f32⟩
  | .hbm, ⟨2, _⟩ => ⟨S2048x16, .f32⟩
  | .hbm, ⟨3, _⟩ => ⟨S_, .i32⟩
  | .hbm, ⟨4, _⟩ => ⟨S_, .f32⟩
  | .hbm, ⟨5, _⟩ => ⟨S2048x128, .f32⟩
  | .hbm, ⟨6, _⟩ => ⟨S16384x128, .f32⟩
  | .local _ .vmem, ⟨0, _⟩ => ⟨S512x2048, .f32⟩
  | .local _ .vmem, ⟨1, _⟩ => ⟨S512x2048, .f32⟩
  | .local _ .vmem, ⟨2, _⟩ => ⟨S2048x128, .f32⟩
  | .local _ .vmem, ⟨3, _⟩ => ⟨S512x128, .f32⟩
  | .local _ .vmem, ⟨4, _⟩ => ⟨S512x128, .f32⟩
  | .local _ .vmem, ⟨5, _⟩ => ⟨S2048x128, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceLowIdeal.lean ====
abbrev S16384x2048 : Shape := ⟨2, ![16384, 2048]⟩
abbrev S2048x6160 : Shape := ⟨2, ![2048, 6160]⟩
abbrev S2048x16 : Shape := ⟨2, ![2048, 16]⟩
abbrev S16384x16 : Shape := ⟨2, ![16384, 16]⟩
abbrev S_ : Shape := ⟨0, ![]⟩
abbrev S16384x112 : Shape := ⟨2, ![16384, 112]⟩
abbrev S16384x128 : Shape := ⟨2, ![16384, 128]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x6160, .f32⟩
  | .hbm, ⟨2, _⟩ => ⟨S2048x16, .f32⟩
  | .hbm, ⟨3, _⟩ => ⟨S16384x16, .f32⟩
  | .hbm, ⟨4, _⟩ => ⟨S_, .f32⟩
  | .hbm, ⟨5, _⟩ => ⟨S16384x112, .f32⟩
  | .hbm, ⟨6, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelRope.lean ====
abbrev S1x16384 : Shape := ⟨2, ![1, 16384]⟩
abbrev S16384x1 : Shape := ⟨2, ![16384, 1]⟩
abbrev S64 : Shape := ⟨1, ![64]⟩
abbrev S_ : Shape := ⟨0, ![]⟩
abbrev S128 : Shape := ⟨1, ![128]⟩
abbrev S1x128 : Shape := ⟨2, ![1, 128]⟩
abbrev S16384x128 : Shape := ⟨2, ![16384, 128]⟩
abbrev S512x1 : Shape := ⟨2, ![512, 1]⟩
abbrev S512x128 : Shape := ⟨2, ![512, 128]⟩

abbrev nBuf : Space → Nat
  | .hbm => 30
  | .vmem => 8
  | .smem => 0
  | _ => 0

abbrev bufTy : (tb : Table) → Fin (tcTables nBuf tb) → BufTy
  | .hbm, ⟨0, _⟩ => ⟨S1x16384, .i32⟩
  | .hbm, ⟨1, _⟩ => ⟨S16384x1, .i32⟩
  | .hbm, ⟨2, _⟩ => ⟨S16384x1, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S128, .f32⟩
  | .hbm, ⟨20, _⟩ => ⟨S1x128, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S128, .f32⟩
  | .hbm, ⟨27, _⟩ => ⟨S1x128, .f32⟩
  | .hbm, ⟨28, _⟩ => ⟨S16384x128, .f32⟩
  | .hbm, ⟨29, _⟩ => ⟨S16384x128, .f32⟩
  | .local _ .vmem, ⟨0, _⟩ => ⟨S512x1, .f32⟩
  | .local _ .vmem, ⟨1, _⟩ => ⟨S512x1, .f32⟩
  | .local _ .vmem, ⟨2, _⟩ => ⟨S1x128, .f32⟩
  | .local _ .vmem, ⟨3, _⟩ => ⟨S1x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S1x16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_4 : Ref sig .tc := ⟨.hbm, 21, rfl⟩
abbrev main_v15 : Ref sig .tc := ⟨.hbm, 22, rfl⟩
abbrev main_v16 : Ref sig .tc := ⟨.hbm, 23, rfl⟩
abbrev main_cst_5 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceRopeIdeal.lean ====
abbrev S1x16384 : Shape := ⟨2, ![1, 16384]⟩
abbrev S64 : Shape := ⟨1, ![64]⟩
abbrev S_ : Shape := ⟨0, ![]⟩
abbrev S16384 : Shape := ⟨1, ![16384]⟩
abbrev S16384x1 : Shape := ⟨2, ![16384, 1]⟩
abbrev S1x64 : Shape := ⟨2, ![1, 64]⟩
abbrev S16384x64 : Shape := ⟨2, ![16384, 64]⟩
abbrev S16384x128 : Shape := ⟨2, ![16384, 128]⟩

abbrev nBuf : Space → Nat
  | .hbm => 29
  | .vmem => 0
  | .smem => 0
  | _ => 0

abbrev bufTy : (tb : Table) → Fin (tcTables nBuf tb) → BufTy
  | .hbm, ⟨0, _⟩ => ⟨S1x16384, .i32⟩
  | .hbm, ⟨1, _⟩ => ⟨S64, .f32⟩
  | .hbm, ⟨2, _⟩ => ⟨S_, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S16384, .i32⟩
  | .hbm, ⟨18, _⟩ => ⟨S16384, .f32⟩
  | .hbm, ⟨19, _⟩ => ⟨S16384x1, .f32⟩
  | .hbm, ⟨20, _⟩ => ⟨S1x64, .f32⟩
  | .hbm, ⟨21, _⟩ => ⟨S16384x64, .f32⟩
  | .hbm, ⟨22, _⟩ => ⟨S16384x64, .f32⟩
  | .hbm, ⟨23, _⟩ => ⟨S16384x64, .f32⟩
  | .hbm, ⟨24, _⟩ => ⟨S16384x64, .f32⟩
  | .hbm, ⟨25, _⟩ => ⟨S16384x64, .f32⟩
  | .hbm, ⟨26, _⟩ => ⟨S16384x128, .f32⟩
  | .hbm, ⟨27, _⟩ => ⟨S16384x64, .f32⟩
  | .hbm, ⟨28, _⟩ => ⟨S16384x128, .f32⟩
  | _, _ => ⟨S1x16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_cst_3 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== KernelPrep.lean ====
abbrev S16384x3072 : Shape := ⟨2, ![16384, 3072]⟩
abbrev S16384x128 : Shape := ⟨2, ![16384, 128]⟩
abbrev S8x256x16384 : Shape := ⟨3, ![8, 256, 16384]⟩
abbrev S64x8x256x256 : Shape := ⟨4, ![64, 8, 256, 256]⟩
abbrev S64x8x144x256 : Shape := ⟨4, ![64, 8, 144, 256]⟩
abbrev S256x1024 : Shape := ⟨2, ![256, 1024]⟩
abbrev S256x128 : Shape := ⟨2, ![256, 128]⟩
abbrev S8x256x256 : Shape := ⟨3, ![8, 256, 256]⟩
abbrev S1x8x256x256 : Shape := ⟨4, ![1, 8, 256, 256]⟩
abbrev S1x8x144x256 : Shape := ⟨4, ![1, 8, 144, 256]⟩
abbrev S64x1024 : Shape := ⟨2, ![64, 1024]⟩
abbrev S64x256 : Shape := ⟨2, ![64, 256]⟩
abbrev S64x128 : Shape := ⟨2, ![64, 128]⟩
abbrev S16x256 : Shape := ⟨2, ![16, 256]⟩
abbrev S1x1x256x128 : Shape := ⟨4, ![1, 1, 256, 128]⟩
abbrev S128 : Shape := ⟨1, ![128]⟩
abbrev S1x128 : Shape := ⟨2, ![1, 128]⟩
abbrev S128x256 : Shape := ⟨2, ![128, 256]⟩
abbrev S1x128x256 : Shape := ⟨3, ![1, 128, 256]⟩
abbrev S1x1x128x256 : Shape := ⟨4, ![1, 1, 128, 256]⟩
abbrev S1x1x16x256 : Shape := ⟨4, ![1, 1, 16, 256]⟩
abbrev S256 : Shape := ⟨1, ![256]⟩
abbrev S1x256 : Shape := ⟨2, ![1, 256]⟩
abbrev S1x64x256 : Shape := ⟨3, ![1, 64, 256]⟩

abbrev nBuf : Space → Nat
  | .hbm => 6
  | .vmem => 17
  | .smem => 0
  | _ => 0

abbrev bufTy : (tb : Table) → Fin (tcTables nBuf tb) → BufTy
  | .hbm, ⟨0, _⟩ => ⟨S16384x3072, .f32⟩
  | .hbm, ⟨1, _⟩ => ⟨S16384x128, .f32⟩
  | .hbm, ⟨2, _⟩ => ⟨S16384x128, .f32⟩
  | .hbm, ⟨3, _⟩ => ⟨S8x256x16384, .bf16⟩
  | .hbm, ⟨4, _⟩ => ⟨S64x8x256x256, .bf16⟩
  | .hbm, ⟨5, _⟩ => ⟨S64x8x144x256, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S8x256x256, .bf16⟩
  | .local _ .vmem, ⟨11, _⟩ => ⟨S8x256x256, .bf16⟩
  | .local _ .vmem, ⟨12, _⟩ => ⟨S1x8x256x256, .bf16⟩
  | .local _ .vmem, ⟨13, _⟩ => ⟨S1x8x256x256, .bf16⟩
  | .local _ .vmem, ⟨14, _⟩ => ⟨S1x8x144x256, .bf16⟩
  | .local _ .vmem, ⟨15, _⟩ => ⟨S1x8x144x256, .bf16⟩
  | .local _ .vmem, ⟨16, _⟩ => ⟨S64x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x144x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelPrepIdeal.lean ====
variable {F : FTy → Type} [FloatOps F] [Named F]
def κ : String → Option EReal := fun
  | "neg" => some ⊥
  | "q_scale" => some (((Real.sqrt 128)⁻¹ * (Real.log 2)⁻¹ : ℝ) : EReal)
  | _ => none
-- ==== ReferencePrepIdeal.lean ====
abbrev S16384x3072 : Shape := ⟨2, ![16384, 3072]⟩
abbrev S16384x128 : Shape := ⟨2, ![16384, 128]⟩
abbrev S64x256x1x128 : Shape := ⟨4, ![64, 256, 1, 128]⟩
abbrev S16384x1024 : Shape := ⟨2, ![16384, 1024]⟩
abbrev S64x256x8x128 : Shape := ⟨4, ![64, 256, 8, 128]⟩
abbrev S64x256x8x64 : Shape := ⟨4, ![64, 256, 8, 64]⟩
abbrev S_ : Shape := ⟨0, ![]⟩
abbrev S64x8x128 : Shape := ⟨3, ![64, 8, 128]⟩
abbrev S8x64x64x256 : Shape := ⟨4, ![8, 64, 64, 256]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S64x1x1x64 : Shape := ⟨4, ![64, 1, 1, 64]⟩
abbrev S64x256x8x3 : Shape := ⟨4, ![64, 256, 8, 3]⟩
abbrev S64x256x8x1 : Shape := ⟨4, ![64, 256, 8, 1]⟩
abbrev S1x1x1x64 : Shape := ⟨4, ![1, 1, 1, 64]⟩
abbrev S64x1x1x1 : Shape := ⟨4, ![64, 1, 1, 1]⟩
abbrev S64x256x8x256 : Shape := ⟨4, ![64, 256, 8, 256]⟩
abbrev S128 : Shape := ⟨1, ![128]⟩
abbrev S1x128 : Shape := ⟨2, ![1, 128]⟩
abbrev S64x128 : Shape := ⟨2, ![64, 128]⟩
abbrev S64x1x1x128 : Shape := ⟨4, ![64, 1, 1, 128]⟩
abbrev S64x256x8x15 : Shape := ⟨4, ![64, 256, 8, 15]⟩
abbrev S64x256x8x144 : Shape := ⟨4, ![64, 256, 8, 144]⟩
abbrev S8x256x64x256 : Shape := ⟨4, ![8, 256, 64, 256]⟩
abbrev S8x256x16384 : Shape := ⟨3, ![8, 256, 16384]⟩
abbrev S64x8x256x256 : Shape := ⟨4, ![64, 8, 256, 256]⟩
abbrev S64x8x144x256 : Shape := ⟨4, ![64, 8, 144, 256]⟩

abbrev nBuf : Space → Nat
  | .hbm => 131
  | .vmem => 0
  | .smem => 0
  | _ => 0

abbrev hbmTy0_0 (i : Nat) : BufTy := match i % 128 with
  | 0 => ⟨S16384x3072, .f32⟩
  | 1 => ⟨S16384x128, .f32⟩
  | 2 => ⟨S16384x128, .f32⟩
  | 3 => ⟨S64x256x1x128, .f32⟩
  | 4 => ⟨S64x256x1x128, .f32⟩
  | 5 => ⟨S16384x1024, .f32⟩
  | 6 => ⟨S64x256x8x128, .f32⟩
  | 7 => ⟨S64x256x8x64, .f32⟩
  | 8 => ⟨S64x256x8x64, .f32⟩
  | 9 => ⟨S64x256x8x128, .f32⟩
  | 10 => ⟨S64x256x8x128, .f32⟩
  | 11 => ⟨S64x256x8x128, .f32⟩
  | 12 => ⟨S64x256x8x128, .f32⟩
  | 13 => ⟨S64x256x8x128, .f32⟩
  | 14 => ⟨S64x256x8x128, .f32⟩
  | 15 => ⟨S16384x1024, .f32⟩
  | 16 => ⟨S64x256x8x128, .f32⟩
  | 17 => ⟨S64x256x8x64, .f32⟩
  | 18 => ⟨S64x256x8x64, .f32⟩
  | 19 => ⟨S64x256x8x128, .f32⟩
  | 20 => ⟨S64x256x8x128, .f32⟩
  | 21 => ⟨S64x256x8x128, .f32⟩
  | 22 => ⟨S64x256x8x128, .f32⟩
  | 23 => ⟨S64x256x8x128, .f32⟩
  | 24 => ⟨S64x256x8x128, .f32⟩
  | 25 => ⟨S16384x1024, .f32⟩
  | 26 => ⟨S64x256x8x128, .f32⟩
  | 27 => ⟨S_, .f32⟩
  | 28 => ⟨S64x8x128, .f32⟩
  | 29 => ⟨S_, .f32⟩
  | 30 => ⟨S64x8x128, .f32⟩
  | 31 => ⟨S64x8x128, .f32⟩
  | 32 => ⟨S8x64x64x256, .f32⟩
  | 33 => ⟨S64x256x8x64, .f32⟩
  | 34 => ⟨S64, .i32⟩
  | 35 => ⟨S1x64, .i32⟩
  | 36 => ⟨S64x1, .i32⟩
  | 37 => ⟨S64x64, .i32⟩
  | 38 => ⟨S64x64, .i32⟩
  | 39 => ⟨S64x64, .i1⟩
  | 40 => ⟨S64x1x1x64, .i1⟩
  | 41 => ⟨S_, .f32⟩
  | 42 => ⟨S_, .f32⟩
  | 43 => ⟨S64x256x8x64, .i1⟩
  | 44 => ⟨S64x256x8x64, .f32⟩
  | 45 => ⟨S64x256x8x64, .f32⟩
  | 46 => ⟨S64x256x8x3, .f32⟩
  | 47 => ⟨S64x256x8x3, .i32⟩
  | 48 => ⟨S1x64, .i32⟩
  | 49 => ⟨S64x1, .i32⟩
  | 50 => ⟨S64x64, .i32⟩
  | 51 => ⟨S64x64, .i32⟩
  | 52 => ⟨S64x64, .i1⟩
  | 53 => ⟨S64x1x1x64, .i1⟩
  | 54 => ⟨S64x256x8x1, .i32⟩
  | 55 => ⟨S1x1x1x64, .i32⟩
  | 56 => ⟨S64x256x8x64, .i32⟩
  | 57 => ⟨S64x256x8x64, .i32⟩
  | 58 => ⟨S64x256x8x64, .i1⟩
  | 59 => ⟨S_, .i32⟩
  | 60 => ⟨S64, .i32⟩
  | 61 => ⟨S64, .i1⟩
  | 62 => ⟨S64x1x1x1, .i1⟩
  | 63 => ⟨S64x256x8x64, .i1⟩
  | 64 => ⟨S64x256x8x64, .i1⟩
  | 65 => ⟨S64x256x8x64, .i1⟩
  | 66 => ⟨S64x256x8x64, .i1⟩
  | 67 => ⟨S64x256x8x1, .i32⟩
  | 68 => ⟨S1x1x1x64, .i32⟩
  | 69 => ⟨S64x256x8x64, .i32⟩
  | 70 => ⟨S64x256x8x64, .i32⟩
  | 71 => ⟨S64x256x8x64, .i1⟩
  | 72 => ⟨S_, .i32⟩
  | 73 => ⟨S64, .i32⟩
  | 74 => ⟨S64, .i1⟩
  | 75 => ⟨S64x1x1x1, .i1⟩
  | 76 => ⟨S64x256x8x64, .i1⟩
  | 77 => ⟨S64x256x8x64, .i1⟩
  | 78 => ⟨S64x256x8x64, .i1⟩
  | 79 => ⟨S64x256x8x1, .i32⟩
  | 80 => ⟨S1x1x1x64, .i32⟩
  | 81 => ⟨S64x256x8x64, .i32⟩
  | 82 => ⟨S64x256x8x64, .i32⟩
  | 83 => ⟨S64x256x8x64, .i1⟩
  | 84 => ⟨S_, .i32⟩
  | 85 => ⟨S64, .i32⟩
  | 86 => ⟨S64, .i1⟩
  | 87 => ⟨S64x1x1x1, .i1⟩
  | 88 => ⟨S64x256x8x64, .i1⟩
  | 89 => ⟨S64x256x8x64, .i1⟩
  | 90 => ⟨S64x256x8x64, .i1⟩
  | 91 => ⟨S_, .f32⟩
  | 92 => ⟨S_, .f32⟩
  | 93 => ⟨S64x256x8x64, .f32⟩
  | 94 => ⟨S64x256x8x64, .f32⟩
  | 95 => ⟨S64x256x8x64, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S64x256x8x128, .f32⟩
  | 104 => ⟨S64x256x8x128, .f32⟩
  | 105 => ⟨S_, .f32⟩
  | 106 => ⟨S64x256x8x64, .f32⟩
  | 107 => ⟨S64x256x8x64, .f32⟩
  | 108 => ⟨S64x256x8x256, .f32⟩
  | 109 => ⟨S128, .i32⟩
  | 110 => ⟨S1x128, .i32⟩
  | 111 => ⟨S64x1, .i32⟩
  | 112 => ⟨S64x128, .i32⟩
  | 113 => ⟨S64x128, .i32⟩
  | 114 => ⟨S64x128, .i1⟩
  | 115 => ⟨S64x128, .f32⟩
  | 116 => ⟨S64x1x1x128, .f32⟩
  | 117 => ⟨S64x256x8x128, .f32⟩
  | 118 => ⟨S64x256x8x256, .f32⟩
  | 119 => ⟨S_, .f32⟩
  | 120 => ⟨S64x256x8x1, .f32⟩
  | 121 => ⟨S_, .f32⟩
  | 122 => ⟨S64x256x8x15, .f32⟩
  | 123 => ⟨S64x256x8x144, .f32⟩
  | 124 => ⟨S8x256x64x256, .f32⟩
  | 125 => ⟨S8x256x16384, .f32⟩
  | 126 => ⟨S8x256x16384, .bf16⟩
  | 127 => ⟨S64x8x256x256, .f32⟩
  | _ => ⟨S16384x3072, .f32⟩

abbrev hbmTy0_1 (i : Nat) : BufTy := match i % 128 with
  | 0 => ⟨S64x8x256x256, .bf16⟩
  | 1 => ⟨S64x8x144x256, .f32⟩
  | 2 => ⟨S64x8x144x256, .bf16⟩
  | _ => ⟨S16384x3072, .f32⟩

abbrev hbmTy (i : Nat) : BufTy := match i / 128 with
  | 0 => hbmTy0_0 i
  | 1 => hbmTy0_1 i
  | _ => ⟨S16384x3072, .f32⟩

abbrev bufTy : (tb : Table) → Fin (tcTables nBuf tb) → BufTy
  | .hbm, ⟨i, _⟩ => hbmTy i
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst : Ref sig .tc := ⟨.hbm, 27, rfl⟩
abbrev main_v24 : Ref sig .tc := ⟨.hbm, 28, rfl⟩
abbrev main_cst_0 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst_1 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v36 : Ref sig .tc := ⟨.hbm, 45, rfl⟩
abbrev main_values : Ref sig .tc := ⟨.hbm, 46, rfl⟩
abbrev main_indices : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_c : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_c_2 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_c_3 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_cst_4 : Ref sig .tc := ⟨.hbm, 91, rfl⟩
abbrev main_cst_5 : Ref sig .tc := ⟨.hbm, 92, rfl⟩
abbrev main_call1_v0 : Ref sig .tc := ⟨.hbm, 93, rfl⟩
abbrev main_call1_v1 : Ref sig .tc := ⟨.hbm, 94, rfl⟩
abbrev main_v77 : Ref sig .tc := ⟨.hbm, 95, rfl⟩
abbrev main_cst_6 : Ref sig .tc := ⟨.hbm, 96, rfl⟩
abbrev main_v78 : Ref sig .tc := ⟨.hbm, 97, rfl⟩
abbrev main_cst_7 : Ref sig .tc := ⟨.hbm, 98, rfl⟩
abbrev main_v79 : Ref sig .tc := ⟨.hbm, 99, rfl⟩
abbrev main_v80 : Ref sig .tc := ⟨.hbm, 100, rfl⟩
abbrev main_cst_8 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_9 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_cst_10 : Ref sig .tc := ⟨.hbm, 119, rfl⟩
abbrev main_v97 : Ref sig .tc := ⟨.hbm, 120, rfl⟩
abbrev main_cst_11 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩

abbrev nD : Nat := 1
abbrev τ : Topo := Topo.v7x

variable {F : FTy → Type} [FloatOps F]
-- ==== KernelCombine.lean ====
abbrev S32768 : Shape := ⟨1, ![32768]⟩
abbrev S40960x2048 : Shape := ⟨2, ![40960, 2048]⟩
abbrev S16384x2048 : Shape := ⟨2, ![16384, 2048]⟩
abbrev S16384x128 : Shape := ⟨2, ![16384, 128]⟩
abbrev S1x2048 : Shape := ⟨2, ![1, 2048]⟩
abbrev S256x2048 : Shape := ⟨2, ![256, 2048]⟩
abbrev S256x128 : Shape := ⟨2, ![256, 128]⟩
abbrev S2x256x2048 : Shape := ⟨3, ![2, 256, 2048]⟩
abbrev S_ : Shape := ⟨0, ![]⟩
abbrev S1 : Shape := ⟨1, ![1]⟩
abbrev S1x256x2048 : Shape := ⟨3, ![1, 256, 2048]⟩
abbrev S256x1 : Shape := ⟨2, ![256, 1]⟩
abbrev S256 : Shape := ⟨1, ![256]⟩

abbrev nBuf : Space → Nat
  | .hbm => 6
  | .vmem => 9
  | .smem => 1
  | _ => 0

abbrev bufTy : (tb : Table) → Fin (tcTables nBuf tb) → BufTy
  | .hbm, ⟨0, _⟩ => ⟨S40960x2048, .f32⟩
  | .hbm, ⟨1, _⟩ => ⟨S16384x2048, .f32⟩
  | .hbm, ⟨2, _⟩ => ⟨S16384x128, .f32⟩
  | .hbm, ⟨3, _⟩ => ⟨S1x2048, .f32⟩
  | .hbm, ⟨4, _⟩ => ⟨S1x2048, .f32⟩
  | .hbm, ⟨5, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x128, .f32⟩
  | .local _ .vmem, ⟨3, _⟩ => ⟨S256x128, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S2x256x2048, .f32⟩
  | .local _ .smem, ⟨0, _⟩ => ⟨S32768, .i32⟩
  | _, _ => ⟨S40960x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c256_i32 : BitVec 32 := 256#32
  let v1 : BitVec 32 := Scalar.addi c0_i32 c256_i32
  let c1_i32 : BitVec 32 := 1#32
  ⟨c0_i32, v1, c1_i32⟩
def k0_off1 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c2_i32 : BitVec 32 := 2#32
  let c0_i32 : BitVec 32 := 0#32
  let c1_i32 : BitVec 32 := 1#32
  let arg10 : BitVec 32 := Scf.iv c0_i32 c1_i32 k0_t1
  let v42 : BitVec 32 := Scalar.muli c2_i32 arg10
  let v43 : BitVec 32 := Scalar.addi v0 v42
  let v44 : Index := Scalar.indexCast v43
  ![v44.toNat]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c0_i32_27 : BitVec 32 := 0#32
  ![arg10.toNat, 0]
def k0_off3 (v45 : BitVec 32) : Fin 2 → Nat :=
  let c0_i32_28 : BitVec 32 := 0#32
  ![v45.toNat, 0]

def k0_chk1 (v45 : BitVec 32) : Prop :=
  (∀ a, (k0_off3 v45) a + S1x2048.size a ≤ S40960x2048.size a)
theorem k0_off3_inb : ∀ (v45 : BitVec 32) (k0_hw1 : k0_chk1 v45), ∀ a, (k0_off3 v45) a + S1x2048.size a ≤ S40960x2048.size a := fun v45 k0_hw1 => k0_hw1

def k0_off4 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c2_i32_29 : BitVec 32 := 2#32
  let c0_i32 : BitVec 32 := 0#32
  let c1_i32 : BitVec 32 := 1#32
  let arg10 : BitVec 32 := Scf.iv c0_i32 c1_i32 k0_t1
  let v50 : BitVec 32 := Scalar.muli c2_i32_29 arg10
  let v51 : BitVec 32 := Scalar.addi v0 v50
  let c1_i32_30 : BitVec 32 := 1#32
  let v52 : BitVec 32 := Scalar.addi v51 c1_i32_30
  let v53 : Index := Scalar.indexCast v52
  ![v53.toNat]
def k0_off5 (k0_t1 : Fin k0_t1_loop.trips) : Fin 2 → Nat :=
  let c0_i32 : BitVec 32 := 0#32
  let c1_i32 : BitVec 32 := 1#32
  let arg10 : BitVec 32 := Scf.iv c0_i32 c1_i32 k0_t1
  let c0_i32_34 : BitVec 32 := 0#32
  ![arg10.toNat, 0]
def k0_off6 (v54 : BitVec 32) : Fin 2 → Nat :=
  let c0_i32_35 : BitVec 32 := 0#32
  ![v54.toNat, 0]

def k0_chk2 (v54 : BitVec 32) : Prop :=
  (∀ a, (k0_off6 v54) a + S1x2048.size a ≤ S40960x2048.size a)
theorem k0_off6_inb : ∀ (v54 : BitVec 32) (k0_hw2 : k0_chk2 v54), ∀ a, (k0_off6 v54) a + S1x2048.size a ≤ S40960x2048.size a := fun v54 k0_hw2 => k0_hw2

@[reducible] def k0_t2_loop : Scf.Loop 32 :=
  let c0_i32_1 : BitVec 32 := 0#32
  let c256_i32_2 : BitVec 32 := 256#32
  let v2 : BitVec 32 := Scalar.addi c0_i32_1 c256_i32_2
  let c1_i32_3 : BitVec 32 := 1#32
  ⟨c0_i32_1, v2, c1_i32_3⟩
def k0_off7 (i : grid0.Coords) (k0_t2 : Fin k0_t2_loop.trips) : Fin 1 → Nat :=
  let arg0 : BitVec 32 := BitVec.ofNat 32 (i 0).val
  let c512_i32 : BitVec 32 := 512#32
  let v0 : BitVec 32 := Scalar.muli arg0 c512_i32
  let c2_i32 : BitVec 32 := 2#32
  let c0_i32_1 : BitVec 32 := 0#32
  let c1_i32_3 : BitVec 32 := 1#32
  let arg10 : BitVec 32 := Scf.iv c0_i32_1 c1_i32_3 k0_t2
  let v42 : BitVec 32 := Scalar.muli c2_i32 arg10
  let v43 : BitVec 32 := Scalar.addi v0 v42
  let v44 : Index := Scalar.indexCast v43
  ![v44.toNat]
def k0_off8 (k0_t2 : Fin k0_t2_loop.trips) : Fin 2 → Nat :=
  let c0_i32_1 : BitVec 32 := 0#32
  let c1_i32_3 : BitVec 32 := 1#32
  let arg10 : BitVec 32 := Scf.iv c0_i32_1 c1_i32_3 k0_t2
  let c0_i32_27 : BitVec 32 := 0#32
  ![arg10.toNat, 0]
def k0_off9 (v45 : BitVec 32) : Fin 2 → Nat :=
  let c0_i32_28 : BitVec 32 := 0#32
  ![v45.toNat, 0]

def k0_chk3 (v45 : BitVec 32) : Prop :=
  (∀ a, (k0_off9 v45) a + S1x2048.size a ≤ S40960x2048.size a)
theorem k0_off9_inb : ∀ (v45 : BitVec 32) (k0_hw3 : k0_chk3 v45), ∀ a, (k0_off9 v45) a + S1x2048.size a ≤ S40960x2048.size a := fun v45 k0_hw3 => k0_hw3

def k0_off10 (i : grid0.Coords) (k0_t2 : Fin k0_t2_loop.trips) : Fin 1 → Nat :=
  let arg0 : BitVec 32 := BitVec.ofNat 32 (i 0).val
  let c512_i32 : BitVec 32 := 512#32
  let v0 : BitVec 32 := Scalar.muli arg0 c512_i32
  let c2_i32_29 : BitVec 32 := 2#32
  let c0_i32_1 : BitVec 32 := 0#32
  let c1_i32_3 : BitVec 32 := 1#32
  let arg10 : BitVec 32 := Scf.iv c0_i32_1 c1_i32_3 k0_t2
  let v50 : BitVec 32 := Scalar.muli c2_i32_29 arg10
  let v51 : BitVec 32 := Scalar.addi v0 v50
  let c1_i32_30 : BitVec 32 := 1#32
  let v52 : BitVec 32 := Scalar.addi v51 c1_i32_30
  let v53 : Index := Scalar.indexCast v52
  ![v53.toNat]
def k0_off11 (k0_t2 : Fin k0_t2_loop.trips) : Fin 2 → Nat :=
  let c0_i32_1 : BitVec 32 := 0#32
  let c1_i32_3 : BitVec 32 := 1#32
  let arg10 : BitVec 32 := Scf.iv c0_i32_1 c1_i32_3 k0_t2
  let c0_i32_34 : BitVec 32 := 0#32
  ![arg10.toNat, 0]
def k0_off12 (v54 : BitVec 32) : Fin 2 → Nat :=
  let c0_i32_35 : BitVec 32 := 0#32
  ![v54.toNat, 0]

def k0_chk4 (v54 : BitVec 32) : Prop :=
  (∀ a, (k0_off12 v54) a + S1x2048.size a ≤ S40960x2048.size a)
theorem k0_off12_inb : ∀ (v54 : BitVec 32) (k0_hw4 : k0_chk4 v54), ∀ a, (k0_off12 v54) a + S1x2048.size a ≤ S40960x2048.size a := fun v54 k0_hw4 => k0_hw4

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelCombineIdeal.lean ====
variable {F : FTy → Type} [FloatOps F] [Named F]
def κ : String → Option EReal := fun
  | "alpha" => some ((Real.sqrt 2 : ℝ) : EReal)
  | "ln_eps" => some ((1 / 100000 : ℝ) : EReal)
  | _ => none
-- ==== ReferenceCombineIdeal.lean ====
abbrev S32768 : Shape := ⟨1, ![32768]⟩
abbrev S40960x2048 : Shape := ⟨2, ![40960, 2048]⟩
abbrev S16384x2048 : Shape := ⟨2, ![16384, 2048]⟩
abbrev S16384x128 : Shape := ⟨2, ![16384, 128]⟩
abbrev S1x2048 : Shape := ⟨2, ![1, 2048]⟩
abbrev S_ : Shape := ⟨0, ![]⟩
abbrev S32768x1 : Shape := ⟨2, ![32768, 1]⟩
abbrev S32768x2048 : Shape := ⟨2, ![32768, 2048]⟩
abbrev S16384x2x2048 : Shape := ⟨3, ![16384, 2, 2048]⟩
abbrev S16384x1 : Shape := ⟨2, ![16384, 1]⟩
abbrev S16384x1x2048 : Shape := ⟨3, ![16384, 1, 2048]⟩
abbrev S16384 : Shape := ⟨1, ![16384]⟩

abbrev nBuf : Space → Nat
  | .hbm => 59
  | .vmem => 0
  | .smem => 0
  | _ => 0

abbrev bufTy : (tb : Table) → Fin (tcTables nBuf tb) → BufTy
  | .hbm, ⟨0, _⟩ => ⟨S32768, .i32⟩
  | .hbm, ⟨1, _⟩ => ⟨S40960x2048, .f32⟩
  | .hbm, ⟨2, _⟩ => ⟨S16384x2048, .f32⟩
  | .hbm, ⟨3, _⟩ => ⟨S16384x128, .f32⟩
  | .hbm, ⟨4, _⟩ => ⟨S1x2048, .f32⟩
  | .hbm, ⟨5, _⟩ => ⟨S1x2048, .f32⟩
  | .hbm, ⟨6, _⟩ => ⟨S_, .i32⟩
  | .hbm, ⟨7, _⟩ => ⟨S32768, .i32⟩
  | .hbm, ⟨8, _⟩ => ⟨S32768, .i1⟩
  | .hbm, ⟨9, _⟩ => ⟨S_, .i32⟩
  | .hbm, ⟨10, _⟩ => ⟨S32768, .i32⟩
  | .hbm, ⟨11, _⟩ => ⟨S32768, .i32⟩
  | .hbm, ⟨12, _⟩ => ⟨S32768, .i32⟩
  | .hbm, ⟨13, _⟩ => ⟨S32768x1, .i32⟩
  | .hbm, ⟨14, _⟩ => ⟨S32768x2048, .f32⟩
  | .hbm, ⟨15, _⟩ => ⟨S16384x2x2048, .f32⟩
  | .hbm, ⟨16, _⟩ => ⟨S_, .f32⟩
  | .hbm, ⟨17, _⟩ => ⟨S_, .f32⟩
  | .hbm, ⟨18, _⟩ => ⟨S16384x2048, .f32⟩
  | .hbm, ⟨19, _⟩ => ⟨S16384x2048, .f32⟩
  | .hbm, ⟨20, _⟩ => ⟨S16384x1, .f32⟩
  | .hbm, ⟨21, _⟩ => ⟨S16384x1x2048, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S16384x1, .f32⟩
  | .hbm, ⟨26, _⟩ => ⟨S16384x1x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1, .f32⟩
  | .hbm, ⟨53, _⟩ => ⟨S16384x2048, .f32⟩
  | .hbm, ⟨54, _⟩ => ⟨S16384x2048, .f32⟩
  | .hbm, ⟨55, _⟩ => ⟨S16384x2048, .f32⟩
  | .hbm, ⟨56, _⟩ => ⟨S16384x2048, .f32⟩
  | .hbm, ⟨57, _⟩ => ⟨S16384x2048, .f32⟩
  | .hbm, ⟨58, _⟩ => ⟨S16384x2048, .f32⟩
  | _, _ => ⟨S32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Proof.Bits.Body.lean ====
/- What the experts' kernel body leaves in its output block, on each of its two control paths: zeros for a tile
   without rows, and the four partial feed-forward products, summed in order, for a tile with rows. The tables are
   arbitrary here: a path's decision about the tile's row count is a hypothesis. -/
module

public import proofs.«01_k».proof.Proof.Gen.Kernel.Skeleton
public import proofs.«01_k».proof.Proof.Gen.Kernel.Launch
public import Idealize.ShloMosaic.Lib.Pipeline.ValueKit
public import Idealize.ShloMosaic.Lib.Exec
public import Idealize.ShloMosaic.Lib.Ring
public import Idealize.ShloMosaic.Lib.Pipeline.Quiescent
public import Idealize.ShloMosaic.Lib.Pipeline.FrameBody
public import Idealize.ShloMosaic.Lib.Pipeline.TableIdle
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Kernel.Experts

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The two prefetched tables, whole: each tile's expert and each tile's row count. -/
abbrev tabE : Memref sig .tc .smem S80 .i32 := Memref.whole main_arg0
abbrev tabR : Memref sig .tc .smem S80 .i32 := Memref.whole main_arg1

/-- The row count the body reads for the tile at grid point `i`. -/
abbrev rowWord (T1 : S80.Idx → Elt Bits .i32) (i : grid0.Coords) : Elt Bits .i32 :=
  View.readAt (Elt Bits) tabR.view (Rect.unit (s := S80) (k0_off1 i) S1.size (k0_off1_inb i)).toLoadRect T1
    (Shape.Idx.first (numel1_S1.symm ▸ Nat.one_pos))

/-- One output staging buffer, through which block contents are stated. -/
abbrev VO : View sig .tc .vmem S512x2048 .f32 := (Memref.whole cc0_stg4_0 : Memref sig .tc .vmem S512x2048 .f32).view

/-- Chunk `o` (256 columns from column `o` on) of a gate or up weight block. -/
abbrev colsAt (o : Fin 3 → ℕ) (h : ∀ a, o a + S1x2048x256.size a ≤ S1x2048x1024.size a)
    (x : S1x2048x1024.Idx → Elt Bits .bf16) : S1x2048x256.Idx → Elt Bits .bf16 :=
  View.ld x (Rect.unit (s := S1x2048x1024) o S1x2048x256.size h)

/-- Chunk `o` (256 rows from row `o` on) of a down weight block. -/
abbrev rowsAt (o : Fin 3 → ℕ) (h : ∀ a, o a + S1x256x2048.size a ≤ S1x1024x2048.size a)
    (x : S1x1024x2048.Idx → Elt Bits .bf16) : S1x256x2048.Idx → Elt Bits .bf16 :=
  View.ld x (Rect.unit (s := S1x1024x2048) o S1x256x2048.size h)

/-- The output block of a tile with rows: the first chunk's product, plus the second's, the third's and the fourth's. -/
def fourChunks (x0 : S512x2048.Idx → Elt Bits .f32) (x1 x2 : S1x2048x1024.Idx → Elt Bits .bf16)
    (x3 : S1x1024x2048.Idx → Elt Bits .bf16) : S512x2048.Idx → Elt Bits .f32 :=
  k0_pay2 (k0_pay3 x0)
    (colsAt ![0, 0, 768] inb_S1x2048x1024_S1x2048x256_0_0_768 x1)
    (colsAt ![0, 0, 768] inb_S1x2048x1024_S1x2048x256_0_0_768 x2)
    (rowsAt ![0, 768, 0] inb_S1x1024x2048_S1x256x2048_0_768_0 x3)
    (k0_pay9 (k0_pay3 x0)
      (colsAt ![0, 0, 512] inb_S1x2048x1024_S1x2048x256_0_0_512 x1)
      (colsAt ![0, 0, 512] inb_S1x2048x1024_S1x2048x256_0_0_512 x2)
      (rowsAt ![0, 512, 0] inb_S1x1024x2048_S1x256x2048_0_512_0 x3)
      (k0_pay8
        (k0_pay5 x0 (colsAt ![0, 0, 256] inb_S1x2048x1024_S1x2048x256_0_0_256 x1))
        (k0_pay6 x0 (colsAt ![0, 0, 256] inb_S1x2048x1024_S1x2048x256_0_0_256 x2))
        (k0_pay7 x0 (colsAt ![0, 0, 256] inb_S1x2048x1024_S1x2048x256_0_0_256 x1))
        (rowsAt ![0, 256, 0] inb_S1x1024x2048_S1x256x2048_0_256_0 x3)
        (k0_pay4 x0
          (colsAt ![0, 0, 0] inb_S1x2048x1024_S1x2048x256_0_0_0 x1)
          (colsAt ![0, 0, 0] inb_S1x2048x1024_S1x2048x256_0_0_0 x2)
          (rowsAt ![0, 0, 0] inb_S1x1024x2048_S1x256x2048_0_0_0 x3))))

section Runs

variable (c : Dev nD) (i : grid0.Coords)
  (arg3 : Memref sig .tc .vmem S512x2048 .f32) (harg3 : arg3.IsWhole)
  (arg4 : Memref sig .tc .vmem S1x2048x1024 .bf16) (harg4 : arg4.IsWhole)
  (arg5 : Memref sig .tc .vmem S1x2048x1024 .bf16) (harg5 : arg5.IsWhole)
  (arg6 : Memref sig .tc .vmem S1x1024x2048 .bf16) (harg6 : arg6.IsWhole)
  (arg7 : Memref sig .tc .vmem S512x2048 .f32) (harg7 : arg7.IsWhole)
  (T0 T1 : S80.Idx → Elt Bits .i32)
  (x0 : S512x2048.Idx → Elt Bits .f32) (x1 x2 : S1x2048x1024.Idx → Elt Bits .bf16)
  (x3 : S1x1024x2048.Idx → Elt Bits .bf16)

/-- What the body holds besides its output: the four input blocks and its halves of the tables. -/
def held : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (tabE.view.loc (c : Thread nD τ) ↦{fullShare.right} T0)
    ∗ (tabR.view.loc (c : Thread nD τ) ↦{fullShare.right} T1))

set_option backward.proofsInPublic true in
set_option maxHeartbeats 8000000 in
/-- A tile with rows: the stores the body makes, with the proof that it runs and makes them. -/
noncomputable def runRows (h1 : ¬ k0_cond1 (rowWord T1 i) = 1#1) (h2 : k0_cond2 (rowWord T1 i) = 1#1) :
    { out : List (View.Piece (Elt Bits) S512x2048 .f32) //
      ∀ (K : PUnit → sProp 𝕄),
        iprop(held c arg3 arg4 arg5 arg6 T0 T1 x0 x1 x2 x3
          ∗ (∃ d, owns (c : Thread nD τ) arg7 fullShare d)
          ∗ (iprop(held c arg3 arg4 arg5 arg6 T0 T1 x0 x1 x2 x3
              ∗ (∃ f, arg7.view.loc (c : Thread nD τ) ↦[arg7.view.set]{fullShare} arg7.view.writes (Elt Bits) f out)) -∗ K ⟨⟩))
          ⊢ wp frame (wpE (defs₀ (F := Bits)) Variants.none c none) Set.univ
              (cc0_moe_experts i tabE (Memref.isWhole_whole _) tabR (Memref.isWhole_whole _)
                arg3 harg3 arg4 harg4 arg5 harg5 arg6 harg6 arg7 harg7) K } :=
  ⟨_, fun K => by
    unfold held owns
    rw [cc0_moe_experts_eq_skeleton]; unfold cc0_moe_experts_skel
    iintro ⟨⟨H0, H1, H2, H3, HT0, HT1⟩, ⟨%d4, %f4, -, HO4⟩, Hk⟩
    have hT0 : tabE.IsWhole := Memref.isWhole_whole _
    have hT1 : tabR.IsWhole := Memref.isWhole_whole _
    sl_exec! (disch := first | (guard_target = ¬(k0_cond1 _ = _); exact h1) | (guard_target = k0_cond2 _ = _; exact h2))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    iexists _; iexact HO4⟩

set_option backward.proofsInPublic true in
set_option maxHeartbeats 8000000 in
/-- A tile without rows: the stores the body makes, with the proof that it runs and makes them. -/
noncomputable def runEmpty (h1 : k0_cond1 (rowWord T1 i) = 1#1) (h2 : ¬ k0_cond2 (rowWord T1 i) = 1#1) :
    { out : List (View.Piece (Elt Bits) S512x2048 .f32) //
      ∀ (K : PUnit → sProp 𝕄),
        iprop(held c arg3 arg4 arg5 arg6 T0 T1 x0 x1 x2 x3
          ∗ (∃ d, owns (c : Thread nD τ) arg7 fullShare d)
          ∗ (iprop(held c arg3 arg4 arg5 arg6 T0 T1 x0 x1 x2 x3
              ∗ (∃ f, arg7.view.loc (c : Thread nD τ) ↦[arg7.view.set]{fullShare} arg7.view.writes (Elt Bits) f out)) -∗ K ⟨⟩))
          ⊢ wp frame (wpE (defs₀ (F := Bits)) Variants.none c none) Set.univ
              (cc0_moe_experts i tabE (Memref.isWhole_whole _) tabR (Memref.isWhole_whole _)
                arg3 harg3 arg4 harg4 arg5 harg5 arg6 harg6 arg7 harg7) K } :=
  ⟨_, fun K => by
    unfold held owns
    rw [cc0_moe_experts_eq_skeleton]; unfold cc0_moe_experts_skel
    iintro ⟨⟨H0, H1, H2, H3, HT0, HT1⟩, ⟨%d4, %f4, -, HO4⟩, Hk⟩
    have hT0 : tabE.IsWhole := Memref.isWhole_whole _
    have hT1 : tabR.IsWhole := Memref.isWhole_whole _
    sl_exec! (disch := first | (guard_target = k0_cond1 _ = _; exact h1) | (guard_target = ¬(k0_cond2 _ = _); exact h2))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    iexists _; iexact HO4⟩

/-- Either way the stores cover the output block. -/
theorem coverRows (h1 : ¬ k0_cond1 (rowWord T1 i) = 1#1) (h2 : k0_cond2 (rowWord T1 i) = 1#1) (y : S512x2048.Idx) :
    ∃ pc ∈ (runRows c i arg3 harg3 arg4 harg4 arg5 harg5 arg6 harg6 arg7 harg7 T0 T1 x0 x1 x2 x3 h1 h2).1, y ∈ pc.1.set :=
  View.cover_of_tiledL (runRows c i arg3 harg3 arg4 harg4 arg5 harg5 arg6 harg6 arg7 harg7 T0 T1 x0 x1 x2 x3 h1 h2).1
    S512x2048.size (by sl_kernel_rfl) y

theorem coverEmpty (h1 : k0_cond1 (rowWord T1 i) = 1#1) (h2 : ¬ k0_cond2 (rowWord T1 i) = 1#1) (y : S512x2048.Idx) :
    ∃ pc ∈ (runEmpty c i arg3 harg3 arg4 harg4 arg5 harg5 arg6 harg6 arg7 harg7 T0 T1 x0 x1 x2 x3 h1 h2).1, y ∈ pc.1.set :=
  View.cover_of_tiledL (runEmpty c i arg3 harg3 arg4 harg4 arg5 harg5 arg6 harg6 arg7 harg7 T0 T1 x0 x1 x2 x3 h1 h2).1
    S512x2048.size (by sl_kernel_rfl) y

/-- The block a tile with rows leaves. -/
theorem valueRows (h1 : ¬ k0_cond1 (rowWord T1 i) = 1#1) (h2 : k0_cond2 (rowWord T1 i) = 1#1) :
    VO.read (Elt Bits) (VO.writes (Elt Bits) VO.junk
      (runRows c i arg3 harg3 arg4 harg4 arg5 harg5 arg6 harg6 arg7 harg7 T0 T1 x0 x1 x2 x3 h1 h2).1)
      = fourChunks x0 x1 x2 x3 := by
  rw [View.read_writes_junk_eq_canon]
  unfold runRows fourChunks
  frame_out
  simp only [View.read_rep]

/-- The block a tile without rows leaves. -/
theorem valueEmpty (h1 : k0_cond1 (rowWord T1 i) = 1#1) (h2 : ¬ k0_cond2 (rowWord T1 i) = 1#1) :
    VO.read (Elt Bits) (VO.writes (Elt Bits) VO.junk
      (runEmpty c i arg3 harg3 arg4 harg4 arg5 harg5 arg6 harg6 arg7 harg7 T0 T1 x0 x1 x2 x3 h1 h2).1)
      = k0_pay1 (F := Bits) := by
  rw [View.read_writes_junk_eq_canon]
  unfold runEmpty
  frame_out

end Runs

end Cert.Kernel.Experts

end
-- ==== Proof.Bits.Launch.lean ====
/- The experts' kernel run whole, at any tables in range: every execution terminates with every counter at zero, the
   arguments unchanged, and the result array made of the blocks the tiles leave. -/
module

public import proofs.«01_k».proof.Proof.Bits.Tables
public import Idealize.ShloMosaic.Lib.Claim
public import Idealize.ShloMosaic.Lib.Pipeline.Kit
public import Idealize.ShloMosaic.Lib.Writes

@[expose] public section

set_option maxRecDepth 16384
set_option Elab.async false

noncomputable section

namespace Cert.Kernel.Experts

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

abbrev EP : Emb (UR sig nD τ) 𝕄 := emb₁

variable {m : (ℓ : Loc nD τ sig) → Buf (Elt Bits) ℓ} (hr : InRange m) (ρ : Dev nD → PrngReg)

/-- The pipeline at the memory's own tables. -/
def adm : (pcfg0 (F := Bits)).Adm := ⟨tables m, tables_ok hr⟩
abbrev cfgA : Pipeline.Cfg sig Λ₀ := cfg0 (F := Bits) (adm hr)
abbrev pcs : Fin 1 → Pipeline.Cfg sig Λ₀ := Pipeline.pin (pcfgs (F := Bits)) fun _ => adm hr

/-- A tile's coordinates and its five staging buffers. -/
abbrev crd (t : Fin (cfgA hr).N) : (cfgA hr).grid.Coords := (cfgA hr).grid.coords t
abbrev ms0 (t : Fin (cfgA hr).N) : Memref sig .tc .vmem S512x2048 .f32 := spec0_0.stage ((cfgA hr).slots t (0 : Fin 5))
abbrev hs0 (t : Fin (cfgA hr).N) : (ms0 hr t).IsWhole := hstage0_0 (((cfgA hr).slots t (0 : Fin 5)).cast nbuf0_0)
abbrev ms1 (t : Fin (cfgA hr).N) : Memref sig .tc .vmem S1x2048x1024 .bf16 := spec0_1.stage ((cfgA hr).slots t (1 : Fin 5))
abbrev hs1 (t : Fin (cfgA hr).N) : (ms1 hr t).IsWhole := hstage0_1 (((cfgA hr).slots t (1 : Fin 5)).cast nbuf0_1)
abbrev ms2 (t : Fin (cfgA hr).N) : Memref sig .tc .vmem S1x2048x1024 .bf16 := spec0_2.stage ((cfgA hr).slots t (2 : Fin 5))
abbrev hs2 (t : Fin (cfgA hr).N) : (ms2 hr t).IsWhole := hstage0_2 (((cfgA hr).slots t (2 : Fin 5)).cast nbuf0_2)
abbrev ms3 (t : Fin (cfgA hr).N) : Memref sig .tc .vmem S1x1024x2048 .bf16 := spec0_3.stage ((cfgA hr).slots t (3 : Fin 5))
abbrev hs3 (t : Fin (cfgA hr).N) : (ms3 hr t).IsWhole := hstage0_3 (((cfgA hr).slots t (3 : Fin 5)).cast nbuf0_3)
abbrev ms4 (t : Fin (cfgA hr).N) : Memref sig .tc .vmem S512x2048 .f32 := spec0_4.stage ((cfgA hr).slots t (4 : Fin 5))
abbrev hs4 (t : Fin (cfgA hr).N) : (ms4 hr t).IsWhole := hstage0_4 (((cfgA hr).slots t (4 : Fin 5)).cast nbuf0_4)

/-- A window's block at a tile, read off its array at launch. -/
def iblk (c : Dev nD) (w : Fin (cfgA hr).W) (t : Fin (cfgA hr).N) :
    (((cfgA hr).win w).xblock (crd hr t)).Idx → Elt Bits ((cfgA hr).win w).elt :=
  (((cfgA hr).win w).blk t).view.read (Elt Bits) ((s₀ m ρ).mem (((cfgA hr).win w).arr.view.loc (c : Thread nD τ)))

/-- The block a tile leaves: zeros without rows, the four chunks' sum with rows. -/
def left (c : Dev nD) (t : Fin (cfgA hr).N) : S512x2048.Idx → Elt Bits .f32 :=
  if rowWord (tileR m) (crd hr t) = 0#32 then k0_pay1 (F := Bits)
  else fourChunks (iblk hr ρ c (0 : Fin 5) t) (iblk hr ρ c (1 : Fin 5) t) (iblk hr ρ c (2 : Fin 5) t) (iblk hr ρ c (3 : Fin 5) t)

/-- The count at a tile is not negative. -/
theorem word_nonneg (t : Fin (cfgA hr).N) : 0 ≤ (rowWord (tileR m) (crd hr t)).toInt := by
  obtain ⟨y, hy, -⟩ := rowWord_eq (tileR m) (crd hr t)
  rw [hy]; exact hr.rows y

theorem flush4 (t : Fin (cfgA hr).N) : ((cfgA hr).win (4 : Fin 5)).flush t = true := by
  unfold Pipeline.Window.flush
  rcases moves4 t with h | ⟨h, hne⟩
  · rw [Bool.and_eq_true]
    exact ⟨rfl, by rw [Bool.or_eq_true]; exact .inl (decide_eq_true h)⟩
  · rw [Bool.and_eq_true]
    exact ⟨rfl, by rw [Bool.or_eq_true]; exact .inr (decide_eq_true ⟨h, hne⟩)⟩

theorem idle4 (t : Fin (cfgA hr).N) : (cfgA hr).idle (4 : Fin 5) ((cfgA hr).grid.coords t) = false := by
  have key : (!(k0_cond1 ((tables m).atD 1 (k0_off1 (crd hr t))) == 1#1)
      && !(k0_cond2 ((tables m).atD 1 (k0_off1 (crd hr t))) == 1#1)) = false := by
    have e := atD_eq (m := m) (crd hr t)
    have hp := paths _ (word_nonneg hr t)
    by_cases h0 : rowWord (tileR m) (crd hr t) = 0#32
    · have := (hp.1 h0).1
      rw [e, this]; rfl
    · have := (hp.2 h0).2
      rw [e, this]; simp
  exact key

/-- What the body keeps between tiles: its halves of the tables. -/
def Phi (c : Dev nD) : sProp 𝕄 :=
  iprop((tabE.view.loc (c : Thread nD τ) ↦{fullShare.right} tileE m) ∗ (tabR.view.loc (c : Thread nD τ) ↦{fullShare.right} tileR m))

/-- The pipeline's proof data on core `c`. -/
def dats (_ : Fin 1) (c : Dev nD) : Dat τ (Elt Bits) Unit ℕ (UR sig nD τ) ℕ (cfgA hr) c where
  A w := (s₀ m ρ).mem (((cfgA hr).win w).arr.view.loc (c : Thread nD τ))
  after w t := match w with
    | ⟨0, _⟩ => iblk hr ρ c (0 : Fin 5) t
    | ⟨1, _⟩ => iblk hr ρ c (1 : Fin 5) t
    | ⟨2, _⟩ => iblk hr ρ c (2 : Fin 5) t
    | ⟨3, _⟩ => iblk hr ρ c (3 : Fin 5) t
    | ⟨4, _⟩ => left hr ρ c t
  Φ _ := Phi (m := m) c
  q _ := fullShare
  owed _ := 0

theorem after0 (c : Dev nD) (t : Fin (cfgA hr).N) : (dats hr ρ 0 c).after (0 : Fin 5) t = iblk hr ρ c (0 : Fin 5) t := rfl
theorem after1 (c : Dev nD) (t : Fin (cfgA hr).N) : (dats hr ρ 0 c).after (1 : Fin 5) t = iblk hr ρ c (1 : Fin 5) t := rfl
theorem after2 (c : Dev nD) (t : Fin (cfgA hr).N) : (dats hr ρ 0 c).after (2 : Fin 5) t = iblk hr ρ c (2 : Fin 5) t := rfl
theorem after3 (c : Dev nD) (t : Fin (cfgA hr).N) : (dats hr ρ 0 c).after (3 : Fin 5) t = iblk hr ρ c (3 : Fin 5) t := rfl
theorem after4 (c : Dev nD) (t : Fin (cfgA hr).N) : (dats hr ρ 0 c).after (4 : Fin 5) t = left hr ρ c t := rfl

/-- Each input's staging buffer holds its block when the body runs. -/
theorem before0 (c : Dev nD) (t : Fin (cfgA hr).N) (d) : (dats hr ρ 0 c).before (0 : Fin 5) t d = iblk hr ρ c (0 : Fin 5) t :=
  ((dats hr ρ 0 c).before_in_eq_fetched (0 : Fin 5) rfl (fun _ => rfl) (fun _ _ _ => rfl) (fun t => by rw [after0]; unfold Dat.blockOf iblk; rfl) t d).trans
    (by unfold Dat.fetched Dat.blockOf iblk; rfl)
theorem before1 (c : Dev nD) (t : Fin (cfgA hr).N) (d) : (dats hr ρ 0 c).before (1 : Fin 5) t d = iblk hr ρ c (1 : Fin 5) t :=
  ((dats hr ρ 0 c).before_in_eq_fetched (1 : Fin 5) rfl (fun _ => rfl) (fun _ _ _ => rfl) (fun t => by rw [after1]; unfold Dat.blockOf iblk; rfl) t d).trans
    (by unfold Dat.fetched Dat.blockOf iblk; rfl)
theorem before2 (c : Dev nD) (t : Fin (cfgA hr).N) (d) : (dats hr ρ 0 c).before (2 : Fin 5) t d = iblk hr ρ c (2 : Fin 5) t :=
  ((dats hr ρ 0 c).before_in_eq_fetched (2 : Fin 5) rfl (fun _ => rfl) (fun _ _ _ => rfl) (fun t => by rw [after2]; unfold Dat.blockOf iblk; rfl) t d).trans
    (by unfold Dat.fetched Dat.blockOf iblk; rfl)
theorem before3 (c : Dev nD) (t : Fin (cfgA hr).N) (d) : (dats hr ρ 0 c).before (3 : Fin 5) t d = iblk hr ρ c (3 : Fin 5) t :=
  ((dats hr ρ 0 c).before_in_eq_fetched (3 : Fin 5) rfl (fun _ => rfl) (fun _ _ _ => rfl) (fun t => by rw [after3]; unfold Dat.blockOf iblk; rfl) t d).trans
    (by unfold Dat.fetched Dat.blockOf iblk; rfl)

/-- The body at a tile. -/
abbrev bodyAt (t : Fin (cfgA hr).N) : Prog (TpuEff nD τ sig (Elt Bits) Λ₀ .tc) PUnit :=
  cc0_moe_experts (crd hr t) tabE (Memref.isWhole_whole _) tabR (Memref.isWhole_whole _)
    (ms0 hr t) (hs0 hr t) (ms1 hr t) (hs1 hr t) (ms2 hr t) (hs2 hr t) (ms3 hr t) (hs3 hr t) (ms4 hr t) (hs4 hr t)

set_option maxHeartbeats 4000000 in
/-- The body, run on the blocks a tile stages, leaves `left`. -/
theorem body_leaves (c : Dev nD) (t : Fin (cfgA hr).N) (K : PUnit → sProp 𝕄) :
    iprop(held c (ms0 hr t) (ms1 hr t) (ms2 hr t) (ms3 hr t) (tileE m) (tileR m) (iblk hr ρ c (0 : Fin 5) t)
          (iblk hr ρ c (1 : Fin 5) t) (iblk hr ρ c (2 : Fin 5) t) (iblk hr ρ c (3 : Fin 5) t)
        ∗ (∃ d, owns (c : Thread nD τ) (ms4 hr t) fullShare d)
        ∗ (iprop(held c (ms0 hr t) (ms1 hr t) (ms2 hr t) (ms3 hr t) (tileE m) (tileR m) (iblk hr ρ c (0 : Fin 5) t)
              (iblk hr ρ c (1 : Fin 5) t) (iblk hr ρ c (2 : Fin 5) t) (iblk hr ρ c (3 : Fin 5) t)
            ∗ owns (c : Thread nD τ) (ms4 hr t) fullShare (left hr ρ c t)) -∗ K ⟨⟩))
      ⊢ wp frame (wpE (defs₀ (F := Bits)) Variants.none c none) Set.univ (bodyAt hr t) K := by
  have hp := paths _ (word_nonneg hr t)
  by_cases h0 : rowWord (tileR m) (crd hr t) = 0#32
  · obtain ⟨h1, h2⟩ := hp.1 h0
    iintro ⟨Hh, Ho, Hk⟩
    iapply ((runEmpty c (crd hr t) (ms0 hr t) (hs0 hr t) (ms1 hr t) (hs1 hr t) (ms2 hr t) (hs2 hr t) (ms3 hr t) (hs3 hr t)
      (ms4 hr t) (hs4 hr t) (tileE m) (tileR m) (iblk hr ρ c (0 : Fin 5) t)
          (iblk hr ρ c (1 : Fin 5) t) (iblk hr ρ c (2 : Fin 5) t) (iblk hr ρ c (3 : Fin 5) t) h1 h2).2 _)
    isplitl [Hh]; · iexact Hh
    isplitl [Ho]; · iexact Ho
    iintro ⟨Hh, ⟨%e, He⟩⟩
    iapply Hk
    isplitl [Hh]; · iexact Hh
    unfold owns; iexists _; isplitr; swap
    · iexact He
    · ipureintro
      unfold left; rw [if_pos h0, ← valueEmpty c (crd hr t) (ms0 hr t) (hs0 hr t) (ms1 hr t) (hs1 hr t) (ms2 hr t) (hs2 hr t) (ms3 hr t) (hs3 hr t)
        (ms4 hr t) (hs4 hr t) (tileE m) (tileR m) (iblk hr ρ c (0 : Fin 5) t)
          (iblk hr ρ c (1 : Fin 5) t) (iblk hr ρ c (2 : Fin 5) t) (iblk hr ρ c (3 : Fin 5) t) h1 h2]
      exact View.read_writes_of_cover _ _ _ _ _ (coverEmpty c _ _ _ _ _ _ _ _ _ _ _ _ _ _ _ _ _ _ _)
  · obtain ⟨h1, h2⟩ := hp.2 h0
    iintro ⟨Hh, Ho, Hk⟩
    iapply ((runRows c (crd hr t) (ms0 hr t) (hs0 hr t) (ms1 hr t) (hs1 hr t) (ms2 hr t) (hs2 hr t) (ms3 hr t) (hs3 hr t)
      (ms4 hr t) (hs4 hr t) (tileE m) (tileR m) (iblk hr ρ c (0 : Fin 5) t)
          (iblk hr ρ c (1 : Fin 5) t) (iblk hr ρ c (2 : Fin 5) t) (iblk hr ρ c (3 : Fin 5) t) h1 h2).2 _)
    isplitl [Hh]; · iexact Hh
    isplitl [Ho]; · iexact Ho
    iintro ⟨Hh, ⟨%e, He⟩⟩
    iapply Hk
    isplitl [Hh]; · iexact Hh
    unfold owns; iexists _; isplitr; swap
    · iexact He
    · ipureintro
      unfold left; rw [if_neg h0, ← valueRows c (crd hr t) (ms0 hr t) (hs0 hr t) (ms1 hr t) (hs1 hr t) (ms2 hr t) (hs2 hr t) (ms3 hr t) (hs3 hr t)
        (ms4 hr t) (hs4 hr t) (tileE m) (tileR m) (iblk hr ρ c (0 : Fin 5) t)
          (iblk hr ρ c (1 : Fin 5) t) (iblk hr ρ c (2 : Fin 5) t) (iblk hr ρ c (3 : Fin 5) t) h1 h2]
      exact View.read_writes_of_cover _ _ _ _ _ (coverRows c _ _ _ _ _ _ _ _ _ _ _ _ _ _ _ _ _ _ _)

set_option maxHeartbeats 4000000 in
/-- The body's obligation at a tile. -/
theorem sound_body (c : Dev nD) (t : Fin (cfgA hr).N) :
    iprop((dats hr ρ 0 c).Φ t.castSucc ∗ (dats hr ρ 0 c).owesAt () t.castSucc
        ∗ (∃ d, owns (c : Thread nD τ) (ms0 hr t) fullShare ((dats hr ρ 0 c).before (0 : Fin 5) t d))
        ∗ (∃ d, owns (c : Thread nD τ) (ms1 hr t) fullShare ((dats hr ρ 0 c).before (1 : Fin 5) t d))
        ∗ (∃ d, owns (c : Thread nD τ) (ms2 hr t) fullShare ((dats hr ρ 0 c).before (2 : Fin 5) t d))
        ∗ (∃ d, owns (c : Thread nD τ) (ms3 hr t) fullShare ((dats hr ρ 0 c).before (3 : Fin 5) t d))
        ∗ (∃ d, owns (c : Thread nD τ) (ms4 hr t) fullShare ((dats hr ρ 0 c).before (4 : Fin 5) t d)))
      ⊢ wp frame (wpE (defs₀ (F := Bits)) Variants.none c none) Set.univ (bodyAt hr t) fun _ =>
          iprop((dats hr ρ 0 c).Φ t.succ ∗ (dats hr ρ 0 c).owesAt () t.succ
            ∗ bigSep Finset.univ fun w : Fin (cfgA hr).W =>
                match (cfgA hr).idle w ((cfgA hr).grid.coords t) with
                | true =>
                  match ((cfgA hr).win w).flush t with
                  | false => iprop(∃ d, owns (c : Thread nD τ) (((cfgA hr).win w).stage ((cfgA hr).slots t w)) fullShare ((dats hr ρ 0 c).before w t d))
                  | true => owns (c : Thread nD τ) (((cfgA hr).win w).stage ((cfgA hr).slots t w)) fullShare ((dats hr ρ 0 c).after w t)
                | false => owns (c : Thread nD τ) (((cfgA hr).win w).stage ((cfgA hr).slots t w)) fullShare ((dats hr ρ 0 c).after w t)) := by
  rw [bigSep_W0]
  rewrite [idle4 hr t]
  simp only [before0, before1, before2, before3, after0, after1, after2, after3, after4, flush4]
  rewrite [show (dats hr ρ 0 c).Φ t.succ = Phi (m := m) c from rfl, show (dats hr ρ 0 c).Φ t.castSucc = Phi (m := m) c from rfl,
    show (dats hr ρ 0 c).owesAt () t.succ = (dats hr ρ 0 c).owesAt () t.castSucc from rfl]
  unfold Phi
  iintro ⟨⟨HT0, HT1⟩, Ho, ⟨%d0, H0⟩, ⟨%d1, H1⟩, ⟨%d2, H2⟩, ⟨%d3, H3⟩, ⟨%d4, H4⟩⟩
  iapply (body_leaves hr ρ c t _)
  unfold held
  isplitl [H0 H1 H2 H3 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    iexact HT1
  isplitl [H4]; · iexists _; iexact H4
  iintro ⟨⟨H0, H1, H2, H3, HT0, HT1⟩, H4⟩
  isplitl [HT0 HT1]
  · isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  iexact H4

theorem body_obligation (c : Dev nD) : BodyObligation (dats hr ρ 0 c) (defs₀ (F := Bits)) Variants.none () Set.univ := fun t => by
  rw [bigSep_W0]
  exact sound_body hr ρ c t

/-- The launch's resources. -/
def u₀ : UR sig nD τ :=
  initOf (Pipeline.cells (pcs hr) ((launch0 (F := Bits)).cellOf_inj fun _ => adm hr))
    (Pipeline.launchToks (pcs hr) ((launch0 (F := Bits)).cellOf_inj fun _ => adm hr))

theorem share_eq (c : Dev nD) (w : Fin (cfgA hr).W) : (dats hr ρ 0 c).share w = fullShare := by unfold Dat.share; split <;> rfl

theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi_intro (c : Dev nD) :
    iprop(BI.emp ∗ Pipeline.prefHeld pre0 c (fun _ => fullShare.right) (adm hr).1 ∗ Pipeline.scopedRest spec0 c) ⊢ (dats hr ρ 0 c).Φ 0 := by
  rw [prefHeld_eq, scopedRest0_eq, show (dats hr ρ 0 c).Φ 0 = Phi (m := m) c from rfl]
  unfold Phi
  iintro ⟨-, ⟨HT0, HT1⟩, -⟩
  isplitl [HT0]
  · iexact HT0
  iexact HT1

theorem phi_exit (c : Dev nD) : (dats hr ρ 0 c).Φ (Fin.last (cfgA hr).N) ⊢ iprop(BI.emp ∗ Pipeline.scopedRest spec0 c) := by
  rw [scopedRest0_eq, show (dats hr ρ 0 c).Φ (Fin.last (cfgA hr).N) = Phi (m := m) c from rfl]
  unfold Phi
  iintro ⟨-, -⟩
  isplitr; · iempintro
  iempintro

/-- What holds at the end: every array at what the tiles leave, every table as it was. -/
def Ends : PUnit × MemSt nD τ sig (Elt Bits) → Prop := fun r =>
  ∀ c : Dev nD, (∀ w : Fin (cfgA hr).W, r.2.mem (((cfgA hr).win w).arr.view.loc (c : Thread nD τ)) = (dats hr ρ 0 c).arrAt w (cfgA hr).N)
    ∧ ∀ j, r.2.mem ((c : Thread nD τ).loc (pre0.ref j)) = (adm hr).1 j

theorem tables_held (c : Dev nD) (j : Fin 2) : m ((c : Thread nD τ).loc (pre0.ref j)) = (adm hr).1 j := by
  obtain rfl : c = 0 := Subsingleton.elim _ _
  fin_cases j <;> rfl

set_option backward.isDefEq.respectTransparency.types false in
set_option maxHeartbeats 4000000 in
/-- The kernel's program terminates from any memory whose tables are in range. -/
theorem run_quiescent : θ_run (defs (F := Bits)) (onTc (τ := τ) (main (F := Bits))) (s₀ m ρ) (fun r => Ends hr ρ r ∧ r.2.sem = fun _ => 0) :=
  Pipeline.θ_run_region_noSem_pf_quiescent pcfgs (fun _ => adm hr) (dats hr ρ) () ((launch0 (F := Bits)).cellOf_inj fun _ => adm hr) (0 : Fin 1)
    (launch0 (F := Bits)).win.to₀ (launch0 (F := Bits)).pre EP defs₀ Variants.none m ρ main
    (hbody := fun c => (body_obligation hr ρ c).loose) (hne := (launch0 (F := Bits)).block_pos)
    (harr := (launch0 (F := Bits)).arr_whole) (hstage := (launch0 (F := Bits)).stage_whole) (howed := fun _ _ => rfl)
    (u₀ := u₀ hr) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs hr) (dats hr ρ) 0 (launch0 (F := Bits)).win.arr_inj c (launch0 (F := Bits)).arr_whole
      (share_eq hr ρ c) _ _ fun _ => rfl)
    (hpf := tables_held hr)
    (X := fun _ => iprop(emp)) (Y := fun _ => iprop(emp)) (Z := fun _ => iprop(emp))
    (hX := fun c => by rw [unscopedRestP0_eq]; iintro -; isplitr <;> iempintro)
    (hin := phi_intro hr ρ)
    (hout := phi_exit hr ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run with the result array named and the arguments unchanged. -/
theorem run_result : θ_run (defs (F := Bits)) (onTc (τ := τ) (main (F := Bits))) ⟨m, fun _ => 0, ρ⟩ (fun r => (∀ c : Dev nD,
      r.2.mem ((c.tc : Thread nD τ).loc main_v0) = (dats hr ρ 0 c).arrAt (4 : Fin 5) (cfgA hr).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (4 : Fin 5),
    ((h.1 c).2 0).trans (tables_held hr c 0).symm, ((h.1 c).2 1).trans (tables_held hr c 1).symm,
    ((h.1 c).1 (0 : Fin 5)).trans ((dats hr ρ 0 c).arrAt_in (0 : Fin 5) rfl _),
    ((h.1 c).1 (1 : Fin 5)).trans ((dats hr ρ 0 c).arrAt_in (1 : Fin 5) rfl _),
    ((h.1 c).1 (2 : Fin 5)).trans ((dats hr ρ 0 c).arrAt_in (2 : Fin 5) rfl _),
    ((h.1 c).1 (3 : Fin 5)).trans ((dats hr ρ 0 c).arrAt_in (3 : Fin 5) rfl _)⟩, h.2⟩) (run_quiescent hr ρ)

end Cert.Kernel.Experts

end
-- ==== Proof.Ideal.Body.lean ====
/- What the experts' kernel body leaves in its output block, on each of its two control paths: zeros for a tile
   without rows, and the four partial feed-forward products, summed in order, for a tile with rows. The tables are
   arbitrary here: a path's decision about the tile's row count is a hypothesis. -/
module

public import proofs.«01_k».proof.Proof.Gen.KernelIdeal.Skeleton
public import proofs.«01_k».proof.Proof.Gen.KernelIdeal.Launch
public import Idealize.ShloMosaic.Lib.Pipeline.ValueKit
public import Idealize.ShloMosaic.Lib.Exec
public import Idealize.ShloMosaic.Lib.Ring
public import Idealize.ShloMosaic.Lib.Pipeline.Quiescent
public import Idealize.ShloMosaic.Lib.Pipeline.FrameBody
public import Idealize.ShloMosaic.Lib.Pipeline.TableIdle
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The two prefetched tables, whole: each tile's expert and each tile's row count. -/
abbrev tabE : Memref sig .tc .smem S80 .i32 := Memref.whole main_arg0
abbrev tabR : Memref sig .tc .smem S80 .i32 := Memref.whole main_arg1

/-- The row count the body reads for the tile at grid point `i`. -/
abbrev rowWord (T1 : S80.Idx → Elt Ideal .i32) (i : grid0.Coords) : Elt Ideal .i32 :=
  View.readAt (Elt Ideal) tabR.view (Rect.unit (s := S80) (k0_off1 i) S1.size (k0_off1_inb i)).toLoadRect T1
    (Shape.Idx.first (numel1_S1.symm ▸ Nat.one_pos))

/-- One output staging buffer, through which block contents are stated. -/
abbrev VO : View sig .tc .vmem S512x2048 .f32 := (Memref.whole cc0_stg4_0 : Memref sig .tc .vmem S512x2048 .f32).view

/-- Chunk `o` (256 columns from column `o` on) of a gate or up weight block. -/
abbrev colsAt (o : Fin 3 → ℕ) (h : ∀ a, o a + S1x2048x256.size a ≤ S1x2048x1024.size a)
    (x : S1x2048x1024.Idx → Elt Ideal .bf16) : S1x2048x256.Idx → Elt Ideal .bf16 :=
  View.ld x (Rect.unit (s := S1x2048x1024) o S1x2048x256.size h)

/-- Chunk `o` (256 rows from row `o` on) of a down weight block. -/
abbrev rowsAt (o : Fin 3 → ℕ) (h : ∀ a, o a + S1x256x2048.size a ≤ S1x1024x2048.size a)
    (x : S1x1024x2048.Idx → Elt Ideal .bf16) : S1x256x2048.Idx → Elt Ideal .bf16 :=
  View.ld x (Rect.unit (s := S1x1024x2048) o S1x256x2048.size h)

/-- The output block of a tile with rows: the first chunk's product, plus the second's, the third's and the fourth's. -/
def fourChunks (x0 : S512x2048.Idx → Elt Ideal .f32) (x1 x2 : S1x2048x1024.Idx → Elt Ideal .bf16)
    (x3 : S1x1024x2048.Idx → Elt Ideal .bf16) : S512x2048.Idx → Elt Ideal .f32 :=
  k0_pay2 (k0_pay3 x0)
    (colsAt ![0, 0, 768] inb_S1x2048x1024_S1x2048x256_0_0_768 x1)
    (colsAt ![0, 0, 768] inb_S1x2048x1024_S1x2048x256_0_0_768 x2)
    (rowsAt ![0, 768, 0] inb_S1x1024x2048_S1x256x2048_0_768_0 x3)
    (k0_pay9 (k0_pay3 x0)
      (colsAt ![0, 0, 512] inb_S1x2048x1024_S1x2048x256_0_0_512 x1)
      (colsAt ![0, 0, 512] inb_S1x2048x1024_S1x2048x256_0_0_512 x2)
      (rowsAt ![0, 512, 0] inb_S1x1024x2048_S1x256x2048_0_512_0 x3)
      (k0_pay8
        (k0_pay5 x0 (colsAt ![0, 0, 256] inb_S1x2048x1024_S1x2048x256_0_0_256 x1))
        (k0_pay6 x0 (colsAt ![0, 0, 256] inb_S1x2048x1024_S1x2048x256_0_0_256 x2))
        (k0_pay7 x0 (colsAt ![0, 0, 256] inb_S1x2048x1024_S1x2048x256_0_0_256 x1))
        (rowsAt ![0, 256, 0] inb_S1x1024x2048_S1x256x2048_0_256_0 x3)
        (k0_pay4 x0
          (colsAt ![0, 0, 0] inb_S1x2048x1024_S1x2048x256_0_0_0 x1)
          (colsAt ![0, 0, 0] inb_S1x2048x1024_S1x2048x256_0_0_0 x2)
          (rowsAt ![0, 0, 0] inb_S1x1024x2048_S1x256x2048_0_0_0 x3))))

section Runs

variable (c : Dev nD) (i : grid0.Coords)
  (arg3 : Memref sig .tc .vmem S512x2048 .f32) (harg3 : arg3.IsWhole)
  (arg4 : Memref sig .tc .vmem S1x2048x1024 .bf16) (harg4 : arg4.IsWhole)
  (arg5 : Memref sig .tc .vmem S1x2048x1024 .bf16) (harg5 : arg5.IsWhole)
  (arg6 : Memref sig .tc .vmem S1x1024x2048 .bf16) (harg6 : arg6.IsWhole)
  (arg7 : Memref sig .tc .vmem S512x2048 .f32) (harg7 : arg7.IsWhole)
  (T0 T1 : S80.Idx → Elt Ideal .i32)
  (x0 : S512x2048.Idx → Elt Ideal .f32) (x1 x2 : S1x2048x1024.Idx → Elt Ideal .bf16)
  (x3 : S1x1024x2048.Idx → Elt Ideal .bf16)

/-- What the body holds besides its output: the four input blocks and its halves of the tables. -/
def held : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (tabE.view.loc (c : Thread nD τ) ↦{fullShare.right} T0)
    ∗ (tabR.view.loc (c : Thread nD τ) ↦{fullShare.right} T1))

set_option backward.proofsInPublic true in
set_option maxHeartbeats 8000000 in
/-- A tile with rows: the stores the body makes, with the proof that it runs and makes them. -/
noncomputable def runRows (h1 : ¬ k0_cond1 (rowWord T1 i) = 1#1) (h2 : k0_cond2 (rowWord T1 i) = 1#1) :
    { out : List (View.Piece (Elt Ideal) S512x2048 .f32) //
      ∀ (K : PUnit → sProp 𝕄),
        iprop(held c arg3 arg4 arg5 arg6 T0 T1 x0 x1 x2 x3
          ∗ (∃ d, owns (c : Thread nD τ) arg7 fullShare d)
          ∗ (iprop(held c arg3 arg4 arg5 arg6 T0 T1 x0 x1 x2 x3
              ∗ (∃ f, arg7.view.loc (c : Thread nD τ) ↦[arg7.view.set]{fullShare} arg7.view.writes (Elt Ideal) f out)) -∗ K ⟨⟩))
          ⊢ wp frame (wpE (defs₀ (F := Ideal)) Variants.none c none) Set.univ
              (cc0_moe_experts i tabE (Memref.isWhole_whole _) tabR (Memref.isWhole_whole _)
                arg3 harg3 arg4 harg4 arg5 harg5 arg6 harg6 arg7 harg7) K } :=
  ⟨_, fun K => by
    unfold held owns
    rw [cc0_moe_experts_eq_skeleton]; unfold cc0_moe_experts_skel
    iintro ⟨⟨H0, H1, H2, H3, HT0, HT1⟩, ⟨%d4, %f4, -, HO4⟩, Hk⟩
    have hT0 : tabE.IsWhole := Memref.isWhole_whole _
    have hT1 : tabR.IsWhole := Memref.isWhole_whole _
    sl_exec! (disch := first | (guard_target = ¬(k0_cond1 _ = _); exact h1) | (guard_target = k0_cond2 _ = _; exact h2))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    iexists _; iexact HO4⟩

set_option backward.proofsInPublic true in
set_option maxHeartbeats 8000000 in
/-- A tile without rows: the stores the body makes, with the proof that it runs and makes them. -/
noncomputable def runEmpty (h1 : k0_cond1 (rowWord T1 i) = 1#1) (h2 : ¬ k0_cond2 (rowWord T1 i) = 1#1) :
    { out : List (View.Piece (Elt Ideal) S512x2048 .f32) //
      ∀ (K : PUnit → sProp 𝕄),
        iprop(held c arg3 arg4 arg5 arg6 T0 T1 x0 x1 x2 x3
          ∗ (∃ d, owns (c : Thread nD τ) arg7 fullShare d)
          ∗ (iprop(held c arg3 arg4 arg5 arg6 T0 T1 x0 x1 x2 x3
              ∗ (∃ f, arg7.view.loc (c : Thread nD τ) ↦[arg7.view.set]{fullShare} arg7.view.writes (Elt Ideal) f out)) -∗ K ⟨⟩))
          ⊢ wp frame (wpE (defs₀ (F := Ideal)) Variants.none c none) Set.univ
              (cc0_moe_experts i tabE (Memref.isWhole_whole _) tabR (Memref.isWhole_whole _)
                arg3 harg3 arg4 harg4 arg5 harg5 arg6 harg6 arg7 harg7) K } :=
  ⟨_, fun K => by
    unfold held owns
    rw [cc0_moe_experts_eq_skeleton]; unfold cc0_moe_experts_skel
    iintro ⟨⟨H0, H1, H2, H3, HT0, HT1⟩, ⟨%d4, %f4, -, HO4⟩, Hk⟩
    have hT0 : tabE.IsWhole := Memref.isWhole_whole _
    have hT1 : tabR.IsWhole := Memref.isWhole_whole _
    sl_exec! (disch := first | (guard_target = k0_cond1 _ = _; exact h1) | (guard_target = ¬(k0_cond2 _ = _); exact h2))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    iexists _; iexact HO4⟩

/-- Either way the stores cover the output block. -/
theorem coverRows (h1 : ¬ k0_cond1 (rowWord T1 i) = 1#1) (h2 : k0_cond2 (rowWord T1 i) = 1#1) (y : S512x2048.Idx) :
    ∃ pc ∈ (runRows c i arg3 harg3 arg4 harg4 arg5 harg5 arg6 harg6 arg7 harg7 T0 T1 x0 x1 x2 x3 h1 h2).1, y ∈ pc.1.set :=
  View.cover_of_tiledL (runRows c i arg3 harg3 arg4 harg4 arg5 harg5 arg6 harg6 arg7 harg7 T0 T1 x0 x1 x2 x3 h1 h2).1
    S512x2048.size (by sl_kernel_rfl) y

theorem coverEmpty (h1 : k0_cond1 (rowWord T1 i) = 1#1) (h2 : ¬ k0_cond2 (rowWord T1 i) = 1#1) (y : S512x2048.Idx) :
    ∃ pc ∈ (runEmpty c i arg3 harg3 arg4 harg4 arg5 harg5 arg6 harg6 arg7 harg7 T0 T1 x0 x1 x2 x3 h1 h2).1, y ∈ pc.1.set :=
  View.cover_of_tiledL (runEmpty c i arg3 harg3 arg4 harg4 arg5 harg5 arg6 harg6 arg7 harg7 T0 T1 x0 x1 x2 x3 h1 h2).1
    S512x2048.size (by sl_kernel_rfl) y

/-- The block a tile with rows leaves. -/
theorem valueRows (h1 : ¬ k0_cond1 (rowWord T1 i) = 1#1) (h2 : k0_cond2 (rowWord T1 i) = 1#1) :
    VO.read (Elt Ideal) (VO.writes (Elt Ideal) VO.junk
      (runRows c i arg3 harg3 arg4 harg4 arg5 harg5 arg6 harg6 arg7 harg7 T0 T1 x0 x1 x2 x3 h1 h2).1)
      = fourChunks x0 x1 x2 x3 := by
  rw [View.read_writes_junk_eq_canon]
  unfold runRows fourChunks
  frame_out
  simp only [View.read_rep]

/-- The block a tile without rows leaves. -/
theorem valueEmpty (h1 : k0_cond1 (rowWord T1 i) = 1#1) (h2 : ¬ k0_cond2 (rowWord T1 i) = 1#1) :
    VO.read (Elt Ideal) (VO.writes (Elt Ideal) VO.junk
      (runEmpty c i arg3 harg3 arg4 harg4 arg5 harg5 arg6 harg6 arg7 harg7 T0 T1 x0 x1 x2 x3 h1 h2).1)
      = k0_pay1 (F := Ideal) := by
  rw [View.read_writes_junk_eq_canon]
  unfold runEmpty
  frame_out

end Runs

end Cert.KernelIdeal.Experts

end
-- ==== Proof.Ideal.Tables.lean ====
/- The routing tables as the kernel's memory holds them, the range the plan keeps them in, and what follows from the
   range: every weight block the tables name lies inside its array, every row count selects exactly one of the body's two
   paths, and the output block is written back at every tile. -/
module

public import proofs.«01_k».proof.Proof.Ideal.Body

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

/-- Each tile's expert, read off the memory. -/
def tileE : S80.Idx → BitVec 32 := m (((0 : Dev nD) : Thread nD τ).loc main_arg0)
/-- Each tile's row count, read off the memory. -/
def tileR : S80.Idx → BitVec 32 := m (((0 : Dev nD) : Thread nD τ).loc main_arg1)

/-- The plan's range: every tile's expert is one of the sixteen, no row count is negative. -/
structure InRange : Prop where
  expert : ∀ y, (tileE m y).toNat < 16
  rows : ∀ y, 0 ≤ (tileR m y).toInt

set_option backward.proofsInPublic true in
/-- Both tables. -/
def tables : pre0.Contents (Elt Ideal) :=
  fun | ⟨0, _⟩ => tileE m | ⟨1, _⟩ => tileR m | ⟨_ + 2, h⟩ => absurd h (by simp)

/-- A block index whose first entry is an expert and whose others are zero stays inside the weights. -/
theorem block_inb {e d0 d1 : ℕ} (he : e < 16) (a : Fin 3) :
    ((![e, 0, 0] : Fin 3 → ℕ) a + 1) * (![1, d0, d1] : Fin 3 → ℕ) a ≤ (![16, d0, d1] : Fin 3 → ℕ) a := by
  fin_cases a <;> simp <;> omega

variable {m}

theorem tables_ok (h : InRange m) : ok0 (F := Ideal) (tables m) :=
  ⟨fun i => ⟨fun a => block_inb (h.expert _) a, .inr (Affine.block_words_dvd (s := S16x2048x1024) (p := EltTy.packing .bf16) (by decide) (by decide))⟩,
   fun i => ⟨fun a => block_inb (h.expert _) a, .inr (Affine.block_words_dvd (s := S16x2048x1024) (p := EltTy.packing .bf16) (by decide) (by decide))⟩,
   fun i => ⟨fun a => block_inb (h.expert _) a, .inr (Affine.block_words_dvd (s := S16x1024x2048) (p := EltTy.packing .bf16) (by decide) (by decide))⟩⟩

/-- A count that is not negative takes one path: zero the first, any other the second. -/
theorem paths (w : BitVec 32) (h : 0 ≤ w.toInt) :
    (w = 0#32 → k0_cond1 w = 1#1 ∧ ¬ k0_cond2 w = 1#1) ∧ (w ≠ 0#32 → ¬ k0_cond1 w = 1#1 ∧ k0_cond2 w = 1#1) := by
  constructor
  · rintro rfl; decide
  · intro hw
    have h1 : (w == 0#32) = false := by simpa using hw
    have h2 : (0#32).slt w = true := by
      rw [BitVec.slt_eq_decide]
      have : w.toInt ≠ 0 := fun h0 => hw (by rw [← BitVec.toInt_inj]; simpa using h0)
      simp only [decide_eq_true_eq, BitVec.toInt_zero]; omega
    constructor
    · simp [k0_cond1, Scalar.cmpi, IntOp.cmpi, h1]
      decide
    · simp [k0_cond2, Scalar.cmpi, IntOp.cmpi, h2]
      decide

/-- The word the body reads at point `i` is the table's entry there. -/
theorem rowWord_eq (T : S80.Idx → BitVec 32) (i : grid0.Coords) : ∃ y, rowWord T i = T y ∧ (y 0).val = (i 0).val := by
  refine ⟨(Rect.unit (s := S80) (k0_off1 i) S1.size (k0_off1_inb i)).emb (Shape.Idx.first (numel1_S1.symm ▸ Nat.one_pos)), ?_, ?_⟩
  · rfl
  · have : ∀ i : grid0.Coords, ((Rect.unit (s := S80) (k0_off1 i) S1.size (k0_off1_inb i)).emb (Shape.Idx.first (numel1_S1.symm ▸ Nat.one_pos)) 0).val = (i 0).val := by
      decide +kernel
    exact this i

theorem off_inb : ∀ (i : grid0.Coords) (a : Fin 1), k0_off1 i a + 1 ≤ (![80] : Fin 1 → ℕ) a := by decide +kernel

theorem atD_eq (i : grid0.Coords) : (tables m).atD 1 (k0_off1 i) = rowWord (tileR m) i :=
  (dif_pos (off_inb i)).trans rfl

/-- The output's block index differs from each tile to the next. -/
theorem moves4 : ∀ t : Fin grid0.N, t.val + 1 = grid0.N ∨
    ∃ h : t.val + 1 < grid0.N, cc0_transform_4 (grid0.coords ⟨t.val + 1, h⟩) ≠ cc0_transform_4 (grid0.coords t) := by
  decide +kernel

end Cert.KernelIdeal.Experts

end
-- ==== Proof.Ideal.Launch.lean ====
/- The experts' kernel run whole, at any tables in range: every execution terminates with every counter at zero, the
   arguments unchanged, and the result array made of the blocks the tiles leave. -/
module

public import proofs.«01_k».proof.Proof.Ideal.Tables
public import Idealize.ShloMosaic.Lib.Claim
public import Idealize.ShloMosaic.Lib.Pipeline.Kit
public import Idealize.ShloMosaic.Lib.Writes

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev EP : Emb (UR sig nD τ) 𝕄 := emb₁

variable {m : (ℓ : Loc nD τ sig) → Buf (Elt Ideal) ℓ} (hr : InRange m) (ρ : Dev nD → PrngReg)

/-- The pipeline at the memory's own tables. -/
def adm : (pcfg0 (F := Ideal)).Adm := ⟨tables m, tables_ok hr⟩
abbrev cfgA : Pipeline.Cfg sig Λ₀ := cfg0 (F := Ideal) (adm hr)
abbrev pcs : Fin 1 → Pipeline.Cfg sig Λ₀ := Pipeline.pin (pcfgs (F := Ideal)) fun _ => adm hr

/-- A tile's coordinates and its five staging buffers. -/
abbrev crd (t : Fin (cfgA hr).N) : (cfgA hr).grid.Coords := (cfgA hr).grid.coords t
abbrev ms0 (t : Fin (cfgA hr).N) : Memref sig .tc .vmem S512x2048 .f32 := spec0_0.stage ((cfgA hr).slots t (0 : Fin 5))
abbrev hs0 (t : Fin (cfgA hr).N) : (ms0 hr t).IsWhole := hstage0_0 (((cfgA hr).slots t (0 : Fin 5)).cast nbuf0_0)
abbrev ms1 (t : Fin (cfgA hr).N) : Memref sig .tc .vmem S1x2048x1024 .bf16 := spec0_1.stage ((cfgA hr).slots t (1 : Fin 5))
abbrev hs1 (t : Fin (cfgA hr).N) : (ms1 hr t).IsWhole := hstage0_1 (((cfgA hr).slots t (1 : Fin 5)).cast nbuf0_1)
abbrev ms2 (t : Fin (cfgA hr).N) : Memref sig .tc .vmem S1x2048x1024 .bf16 := spec0_2.stage ((cfgA hr).slots t (2 : Fin 5))
abbrev hs2 (t : Fin (cfgA hr).N) : (ms2 hr t).IsWhole := hstage0_2 (((cfgA hr).slots t (2 : Fin 5)).cast nbuf0_2)
abbrev ms3 (t : Fin (cfgA hr).N) : Memref sig .tc .vmem S1x1024x2048 .bf16 := spec0_3.stage ((cfgA hr).slots t (3 : Fin 5))
abbrev hs3 (t : Fin (cfgA hr).N) : (ms3 hr t).IsWhole := hstage0_3 (((cfgA hr).slots t (3 : Fin 5)).cast nbuf0_3)
abbrev ms4 (t : Fin (cfgA hr).N) : Memref sig .tc .vmem S512x2048 .f32 := spec0_4.stage ((cfgA hr).slots t (4 : Fin 5))
abbrev hs4 (t : Fin (cfgA hr).N) : (ms4 hr t).IsWhole := hstage0_4 (((cfgA hr).slots t (4 : Fin 5)).cast nbuf0_4)

/-- A window's block at a tile, read off its array at launch. -/
def iblk (c : Dev nD) (w : Fin (cfgA hr).W) (t : Fin (cfgA hr).N) :
    (((cfgA hr).win w).xblock (crd hr t)).Idx → Elt Ideal ((cfgA hr).win w).elt :=
  (((cfgA hr).win w).blk t).view.read (Elt Ideal) ((s₀ m ρ).mem (((cfgA hr).win w).arr.view.loc (c : Thread nD τ)))

/-- The block a tile leaves: zeros without rows, the four chunks' sum with rows. -/
def left (c : Dev nD) (t : Fin (cfgA hr).N) : S512x2048.Idx → Elt Ideal .f32 :=
  if rowWord (tileR m) (crd hr t) = 0#32 then k0_pay1 (F := Ideal)
  else fourChunks (iblk hr ρ c (0 : Fin 5) t) (iblk hr ρ c (1 : Fin 5) t) (iblk hr ρ c (2 : Fin 5) t) (iblk hr ρ c (3 : Fin 5) t)

/-- The count at a tile is not negative. -/
theorem word_nonneg (t : Fin (cfgA hr).N) : 0 ≤ (rowWord (tileR m) (crd hr t)).toInt := by
  obtain ⟨y, hy, -⟩ := rowWord_eq (tileR m) (crd hr t)
  rw [hy]; exact hr.rows y

theorem flush4 (t : Fin (cfgA hr).N) : ((cfgA hr).win (4 : Fin 5)).flush t = true := by
  unfold Pipeline.Window.flush
  rcases moves4 t with h | ⟨h, hne⟩
  · rw [Bool.and_eq_true]
    exact ⟨rfl, by rw [Bool.or_eq_true]; exact .inl (decide_eq_true h)⟩
  · rw [Bool.and_eq_true]
    exact ⟨rfl, by rw [Bool.or_eq_true]; exact .inr (decide_eq_true ⟨h, hne⟩)⟩

theorem idle4 (t : Fin (cfgA hr).N) : (cfgA hr).idle (4 : Fin 5) ((cfgA hr).grid.coords t) = false := by
  have key : (!(k0_cond1 ((tables m).atD 1 (k0_off1 (crd hr t))) == 1#1)
      && !(k0_cond2 ((tables m).atD 1 (k0_off1 (crd hr t))) == 1#1)) = false := by
    have e := atD_eq (m := m) (crd hr t)
    have hp := paths _ (word_nonneg hr t)
    by_cases h0 : rowWord (tileR m) (crd hr t) = 0#32
    · have := (hp.1 h0).1
      rw [e, this]; rfl
    · have := (hp.2 h0).2
      rw [e, this]; simp
  exact key

/-- What the body keeps between tiles: its halves of the tables. -/
def Phi (c : Dev nD) : sProp 𝕄 :=
  iprop((tabE.view.loc (c : Thread nD τ) ↦{fullShare.right} tileE m) ∗ (tabR.view.loc (c : Thread nD τ) ↦{fullShare.right} tileR m))

/-- The pipeline's proof data on core `c`. -/
def dats (_ : Fin 1) (c : Dev nD) : Dat τ (Elt Ideal) Unit ℕ (UR sig nD τ) ℕ (cfgA hr) c where
  A w := (s₀ m ρ).mem (((cfgA hr).win w).arr.view.loc (c : Thread nD τ))
  after w t := match w with
    | ⟨0, _⟩ => iblk hr ρ c (0 : Fin 5) t
    | ⟨1, _⟩ => iblk hr ρ c (1 : Fin 5) t
    | ⟨2, _⟩ => iblk hr ρ c (2 : Fin 5) t
    | ⟨3, _⟩ => iblk hr ρ c (3 : Fin 5) t
    | ⟨4, _⟩ => left hr ρ c t
  Φ _ := Phi (m := m) c
  q _ := fullShare
  owed _ := 0

theorem after0 (c : Dev nD) (t : Fin (cfgA hr).N) : (dats hr ρ 0 c).after (0 : Fin 5) t = iblk hr ρ c (0 : Fin 5) t := rfl
theorem after1 (c : Dev nD) (t : Fin (cfgA hr).N) : (dats hr ρ 0 c).after (1 : Fin 5) t = iblk hr ρ c (1 : Fin 5) t := rfl
theorem after2 (c : Dev nD) (t : Fin (cfgA hr).N) : (dats hr ρ 0 c).after (2 : Fin 5) t = iblk hr ρ c (2 : Fin 5) t := rfl
theorem after3 (c : Dev nD) (t : Fin (cfgA hr).N) : (dats hr ρ 0 c).after (3 : Fin 5) t = iblk hr ρ c (3 : Fin 5) t := rfl
theorem after4 (c : Dev nD) (t : Fin (cfgA hr).N) : (dats hr ρ 0 c).after (4 : Fin 5) t = left hr ρ c t := rfl

/-- Each input's staging buffer holds its block when the body runs. -/
theorem before0 (c : Dev nD) (t : Fin (cfgA hr).N) (d) : (dats hr ρ 0 c).before (0 : Fin 5) t d = iblk hr ρ c (0 : Fin 5) t :=
  ((dats hr ρ 0 c).before_in_eq_fetched (0 : Fin 5) rfl (fun _ => rfl) (fun _ _ _ => rfl) (fun t => by rw [after0]; unfold Dat.blockOf iblk; rfl) t d).trans
    (by unfold Dat.fetched Dat.blockOf iblk; rfl)
theorem before1 (c : Dev nD) (t : Fin (cfgA hr).N) (d) : (dats hr ρ 0 c).before (1 : Fin 5) t d = iblk hr ρ c (1 : Fin 5) t :=
  ((dats hr ρ 0 c).before_in_eq_fetched (1 : Fin 5) rfl (fun _ => rfl) (fun _ _ _ => rfl) (fun t => by rw [after1]; unfold Dat.blockOf iblk; rfl) t d).trans
    (by unfold Dat.fetched Dat.blockOf iblk; rfl)
theorem before2 (c : Dev nD) (t : Fin (cfgA hr).N) (d) : (dats hr ρ 0 c).before (2 : Fin 5) t d = iblk hr ρ c (2 : Fin 5) t :=
  ((dats hr ρ 0 c).before_in_eq_fetched (2 : Fin 5) rfl (fun _ => rfl) (fun _ _ _ => rfl) (fun t => by rw [after2]; unfold Dat.blockOf iblk; rfl) t d).trans
    (by unfold Dat.fetched Dat.blockOf iblk; rfl)
theorem before3 (c : Dev nD) (t : Fin (cfgA hr).N) (d) : (dats hr ρ 0 c).before (3 : Fin 5) t d = iblk hr ρ c (3 : Fin 5) t :=
  ((dats hr ρ 0 c).before_in_eq_fetched (3 : Fin 5) rfl (fun _ => rfl) (fun _ _ _ => rfl) (fun t => by rw [after3]; unfold Dat.blockOf iblk; rfl) t d).trans
    (by unfold Dat.fetched Dat.blockOf iblk; rfl)

/-- The body at a tile. -/
abbrev bodyAt (t : Fin (cfgA hr).N) : Prog (TpuEff nD τ sig (Elt Ideal) Λ₀ .tc) PUnit :=
  cc0_moe_experts (crd hr t) tabE (Memref.isWhole_whole _) tabR (Memref.isWhole_whole _)
    (ms0 hr t) (hs0 hr t) (ms1 hr t) (hs1 hr t) (ms2 hr t) (hs2 hr t) (ms3 hr t) (hs3 hr t) (ms4 hr t) (hs4 hr t)

set_option maxHeartbeats 4000000 in
/-- The body, run on the blocks a tile stages, leaves `left`. -/
theorem body_leaves (c : Dev nD) (t : Fin (cfgA hr).N) (K : PUnit → sProp 𝕄) :
    iprop(held c (ms0 hr t) (ms1 hr t) (ms2 hr t) (ms3 hr t) (tileE m) (tileR m) (iblk hr ρ c (0 : Fin 5) t)
          (iblk hr ρ c (1 : Fin 5) t) (iblk hr ρ c (2 : Fin 5) t) (iblk hr ρ c (3 : Fin 5) t)
        ∗ (∃ d, owns (c : Thread nD τ) (ms4 hr t) fullShare d)
        ∗ (iprop(held c (ms0 hr t) (ms1 hr t) (ms2 hr t) (ms3 hr t) (tileE m) (tileR m) (iblk hr ρ c (0 : Fin 5) t)
              (iblk hr ρ c (1 : Fin 5) t) (iblk hr ρ c (2 : Fin 5) t) (iblk hr ρ c (3 : Fin 5) t)
            ∗ owns (c : Thread nD τ) (ms4 hr t) fullShare (left hr ρ c t)) -∗ K ⟨⟩))
      ⊢ wp frame (wpE (defs₀ (F := Ideal)) Variants.none c none) Set.univ (bodyAt hr t) K := by
  have hp := paths _ (word_nonneg hr t)
  by_cases h0 : rowWord (tileR m) (crd hr t) = 0#32
  · obtain ⟨h1, h2⟩ := hp.1 h0
    iintro ⟨Hh, Ho, Hk⟩
    iapply ((runEmpty c (crd hr t) (ms0 hr t) (hs0 hr t) (ms1 hr t) (hs1 hr t) (ms2 hr t) (hs2 hr t) (ms3 hr t) (hs3 hr t)
      (ms4 hr t) (hs4 hr t) (tileE m) (tileR m) (iblk hr ρ c (0 : Fin 5) t)
          (iblk hr ρ c (1 : Fin 5) t) (iblk hr ρ c (2 : Fin 5) t) (iblk hr ρ c (3 : Fin 5) t) h1 h2).2 _)
    isplitl [Hh]; · iexact Hh
    isplitl [Ho]; · iexact Ho
    iintro ⟨Hh, ⟨%e, He⟩⟩
    iapply Hk
    isplitl [Hh]; · iexact Hh
    unfold owns; iexists _; isplitr; swap
    · iexact He
    · ipureintro
      unfold left; rw [if_pos h0, ← valueEmpty c (crd hr t) (ms0 hr t) (hs0 hr t) (ms1 hr t) (hs1 hr t) (ms2 hr t) (hs2 hr t) (ms3 hr t) (hs3 hr t)
        (ms4 hr t) (hs4 hr t) (tileE m) (tileR m) (iblk hr ρ c (0 : Fin 5) t)
          (iblk hr ρ c (1 : Fin 5) t) (iblk hr ρ c (2 : Fin 5) t) (iblk hr ρ c (3 : Fin 5) t) h1 h2]
      exact View.read_writes_of_cover _ _ _ _ _ (coverEmpty c _ _ _ _ _ _ _ _ _ _ _ _ _ _ _ _ _ _ _)
  · obtain ⟨h1, h2⟩ := hp.2 h0
    iintro ⟨Hh, Ho, Hk⟩
    iapply ((runRows c (crd hr t) (ms0 hr t) (hs0 hr t) (ms1 hr t) (hs1 hr t) (ms2 hr t) (hs2 hr t) (ms3 hr t) (hs3 hr t)
      (ms4 hr t) (hs4 hr t) (tileE m) (tileR m) (iblk hr ρ c (0 : Fin 5) t)
          (iblk hr ρ c (1 : Fin 5) t) (iblk hr ρ c (2 : Fin 5) t) (iblk hr ρ c (3 : Fin 5) t) h1 h2).2 _)
    isplitl [Hh]; · iexact Hh
    isplitl [Ho]; · iexact Ho
    iintro ⟨Hh, ⟨%e, He⟩⟩
    iapply Hk
    isplitl [Hh]; · iexact Hh
    unfold owns; iexists _; isplitr; swap
    · iexact He
    · ipureintro
      unfold left; rw [if_neg h0, ← valueRows c (crd hr t) (ms0 hr t) (hs0 hr t) (ms1 hr t) (hs1 hr t) (ms2 hr t) (hs2 hr t) (ms3 hr t) (hs3 hr t)
        (ms4 hr t) (hs4 hr t) (tileE m) (tileR m) (iblk hr ρ c (0 : Fin 5) t)
          (iblk hr ρ c (1 : Fin 5) t) (iblk hr ρ c (2 : Fin 5) t) (iblk hr ρ c (3 : Fin 5) t) h1 h2]
      exact View.read_writes_of_cover _ _ _ _ _ (coverRows c _ _ _ _ _ _ _ _ _ _ _ _ _ _ _ _ _ _ _)

set_option maxHeartbeats 4000000 in
/-- The body's obligation at a tile. -/
theorem sound_body (c : Dev nD) (t : Fin (cfgA hr).N) :
    iprop((dats hr ρ 0 c).Φ t.castSucc ∗ (dats hr ρ 0 c).owesAt () t.castSucc
        ∗ (∃ d, owns (c : Thread nD τ) (ms0 hr t) fullShare ((dats hr ρ 0 c).before (0 : Fin 5) t d))
        ∗ (∃ d, owns (c : Thread nD τ) (ms1 hr t) fullShare ((dats hr ρ 0 c).before (1 : Fin 5) t d))
        ∗ (∃ d, owns (c : Thread nD τ) (ms2 hr t) fullShare ((dats hr ρ 0 c).before (2 : Fin 5) t d))
        ∗ (∃ d, owns (c : Thread nD τ) (ms3 hr t) fullShare ((dats hr ρ 0 c).before (3 : Fin 5) t d))
        ∗ (∃ d, owns (c : Thread nD τ) (ms4 hr t) fullShare ((dats hr ρ 0 c).before (4 : Fin 5) t d)))
      ⊢ wp frame (wpE (defs₀ (F := Ideal)) Variants.none c none) Set.univ (bodyAt hr t) fun _ =>
          iprop((dats hr ρ 0 c).Φ t.succ ∗ (dats hr ρ 0 c).owesAt () t.succ
            ∗ bigSep Finset.univ fun w : Fin (cfgA hr).W =>
                match (cfgA hr).idle w ((cfgA hr).grid.coords t) with
                | true =>
                  match ((cfgA hr).win w).flush t with
                  | false => iprop(∃ d, owns (c : Thread nD τ) (((cfgA hr).win w).stage ((cfgA hr).slots t w)) fullShare ((dats hr ρ 0 c).before w t d))
                  | true => owns (c : Thread nD τ) (((cfgA hr).win w).stage ((cfgA hr).slots t w)) fullShare ((dats hr ρ 0 c).after w t)
                | false => owns (c : Thread nD τ) (((cfgA hr).win w).stage ((cfgA hr).slots t w)) fullShare ((dats hr ρ 0 c).after w t)) := by
  rw [bigSep_W0]
  rewrite [idle4 hr t]
  simp only [before0, before1, before2, before3, after0, after1, after2, after3, after4, flush4]
  rewrite [show (dats hr ρ 0 c).Φ t.succ = Phi (m := m) c from rfl, show (dats hr ρ 0 c).Φ t.castSucc = Phi (m := m) c from rfl,
    show (dats hr ρ 0 c).owesAt () t.succ = (dats hr ρ 0 c).owesAt () t.castSucc from rfl]
  unfold Phi
  iintro ⟨⟨HT0, HT1⟩, Ho, ⟨%d0, H0⟩, ⟨%d1, H1⟩, ⟨%d2, H2⟩, ⟨%d3, H3⟩, ⟨%d4, H4⟩⟩
  iapply (body_leaves hr ρ c t _)
  unfold held
  isplitl [H0 H1 H2 H3 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    iexact HT1
  isplitl [H4]; · iexists _; iexact H4
  iintro ⟨⟨H0, H1, H2, H3, HT0, HT1⟩, H4⟩
  isplitl [HT0 HT1]
  · isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  iexact H4

theorem body_obligation (c : Dev nD) : BodyObligation (dats hr ρ 0 c) (defs₀ (F := Ideal)) Variants.none () Set.univ := fun t => by
  rw [bigSep_W0]
  exact sound_body hr ρ c t

/-- The launch's resources. -/
def u₀ : UR sig nD τ :=
  initOf (Pipeline.cells (pcs hr) ((launch0 (F := Ideal)).cellOf_inj fun _ => adm hr))
    (Pipeline.launchToks (pcs hr) ((launch0 (F := Ideal)).cellOf_inj fun _ => adm hr))

theorem share_eq (c : Dev nD) (w : Fin (cfgA hr).W) : (dats hr ρ 0 c).share w = fullShare := by unfold Dat.share; split <;> rfl

theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi_intro (c : Dev nD) :
    iprop(BI.emp ∗ Pipeline.prefHeld pre0 c (fun _ => fullShare.right) (adm hr).1 ∗ Pipeline.scopedRest spec0 c) ⊢ (dats hr ρ 0 c).Φ 0 := by
  rw [prefHeld_eq, scopedRest0_eq, show (dats hr ρ 0 c).Φ 0 = Phi (m := m) c from rfl]
  unfold Phi
  iintro ⟨-, ⟨HT0, HT1⟩, -⟩
  isplitl [HT0]
  · iexact HT0
  iexact HT1

theorem phi_exit (c : Dev nD) : (dats hr ρ 0 c).Φ (Fin.last (cfgA hr).N) ⊢ iprop(BI.emp ∗ Pipeline.scopedRest spec0 c) := by
  rw [scopedRest0_eq, show (dats hr ρ 0 c).Φ (Fin.last (cfgA hr).N) = Phi (m := m) c from rfl]
  unfold Phi
  iintro ⟨-, -⟩
  isplitr; · iempintro
  iempintro

/-- What holds at the end: every array at what the tiles leave, every table as it was. -/
def Ends : PUnit × MemSt nD τ sig (Elt Ideal) → Prop := fun r =>
  ∀ c : Dev nD, (∀ w : Fin (cfgA hr).W, r.2.mem (((cfgA hr).win w).arr.view.loc (c : Thread nD τ)) = (dats hr ρ 0 c).arrAt w (cfgA hr).N)
    ∧ ∀ j, r.2.mem ((c : Thread nD τ).loc (pre0.ref j)) = (adm hr).1 j

theorem tables_held (c : Dev nD) (j : Fin 2) : m ((c : Thread nD τ).loc (pre0.ref j)) = (adm hr).1 j := by
  obtain rfl : c = 0 := Subsingleton.elim _ _
  fin_cases j <;> rfl

set_option backward.isDefEq.respectTransparency.types false in
set_option maxHeartbeats 4000000 in
/-- The kernel's program terminates from any memory whose tables are in range. -/
theorem run_quiescent : θ_run (defs (F := Ideal)) (onTc (τ := τ) (main (F := Ideal))) (s₀ m ρ) (fun r => Ends hr ρ r ∧ r.2.sem = fun _ => 0) :=
  Pipeline.θ_run_region_noSem_pf_quiescent pcfgs (fun _ => adm hr) (dats hr ρ) () ((launch0 (F := Ideal)).cellOf_inj fun _ => adm hr) (0 : Fin 1)
    (launch0 (F := Ideal)).win.to₀ (launch0 (F := Ideal)).pre EP defs₀ Variants.none m ρ main
    (hbody := fun c => (body_obligation hr ρ c).loose) (hne := (launch0 (F := Ideal)).block_pos)
    (harr := (launch0 (F := Ideal)).arr_whole) (hstage := (launch0 (F := Ideal)).stage_whole) (howed := fun _ _ => rfl)
    (u₀ := u₀ hr) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs hr) (dats hr ρ) 0 (launch0 (F := Ideal)).win.arr_inj c (launch0 (F := Ideal)).arr_whole
      (share_eq hr ρ c) _ _ fun _ => rfl)
    (hpf := tables_held hr)
    (X := fun _ => iprop(emp)) (Y := fun _ => iprop(emp)) (Z := fun _ => iprop(emp))
    (hX := fun c => by rw [unscopedRestP0_eq]; iintro -; isplitr <;> iempintro)
    (hin := phi_intro hr ρ)
    (hout := phi_exit hr ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run with the result array named and the arguments unchanged. -/
theorem run_result : θ_run (defs (F := Ideal)) (onTc (τ := τ) (main (F := Ideal))) ⟨m, fun _ => 0, ρ⟩ (fun r => (∀ c : Dev nD,
      r.2.mem ((c.tc : Thread nD τ).loc main_v0) = (dats hr ρ 0 c).arrAt (4 : Fin 5) (cfgA hr).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (4 : Fin 5),
    ((h.1 c).2 0).trans (tables_held hr c 0).symm, ((h.1 c).2 1).trans (tables_held hr c 1).symm,
    ((h.1 c).1 (0 : Fin 5)).trans ((dats hr ρ 0 c).arrAt_in (0 : Fin 5) rfl _),
    ((h.1 c).1 (1 : Fin 5)).trans ((dats hr ρ 0 c).arrAt_in (1 : Fin 5) rfl _),
    ((h.1 c).1 (2 : Fin 5)).trans ((dats hr ρ 0 c).arrAt_in (2 : Fin 5) rfl _),
    ((h.1 c).1 (3 : Fin 5)).trans ((dats hr ρ 0 c).arrAt_in (3 : Fin 5) rfl _)⟩, h.2⟩) (run_quiescent hr ρ)

end Cert.KernelIdeal.Experts

end
-- ==== Proof.Ideal.Block.lean ====
/- What one tile with rows leaves, element by element: the expert's feed-forward of the tile's row, the sum over the
   1024 hidden columns taken whole where the kernel takes it in four chunks of 256. -/
module

public import proofs.«01_k».proof.Proof.Ideal.Body
public import Idealize.ShloMosaic.Lib.Pointwise

@[expose] public section

set_option maxRecDepth 16384
set_option Elab.async false

noncomputable section

namespace Cert.KernelIdeal.Experts

open Cert.KernelIdeal Cert.KernelIdeal.Gen
open Idealize.ShloMosaic

/-- One plus an exponential is never zero. -/
theorem one_add_exp_ne_zero (x : EReal) : (1 : EReal) + Ideal.exp x ≠ 0 := by
  have h : (0 : EReal) ≤ Ideal.exp x := by
    unfold Ideal.exp
    match x with
    | none => exact le_rfl
    | some none => exact le_top
    | some (some a) => exact EReal.coe_nonneg.2 (Real.exp_nonneg a)
  have : (0 : EReal) < 1 + Ideal.exp x := lt_of_lt_of_le zero_lt_one (le_add_of_nonneg_right h)
  exact this.ne'

/-- A hidden unit: the gate through x·(1 + e⁻ˣ)⁻¹, times the up projection. -/
def gated (h u : EReal) : EReal := h * (1 + Ideal.exp (-h))⁻¹ * u

theorem div_eq_gate (h : EReal) : Ideal.div h (1 + Ideal.exp (0 - h)) = h * (1 + Ideal.exp (-h))⁻¹ := by
  unfold Ideal.div
  rw [if_neg (one_add_exp_ne_zero _), zero_sub]

/-- One hidden column's share of a row's output. -/
def unit (x : Fin 2048 → EReal) (g u : Fin 2048 → EReal) (d : EReal) : EReal :=
  gated (∑ j : Fin 2048, x j * g j) (∑ j : Fin 2048, x j * u j) * d

variable (x0 : S512x2048.Idx → Elt Ideal .f32) (x1 x2 : S1x2048x1024.Idx → Elt Ideal .bf16)
  (x3 : S1x1024x2048.Idx → Elt Ideal .bf16) (r : Fin 512) (l : Fin 2048)

/-- Hidden column `k`'s share of element (r, l) of a tile's block. -/
def share (k : Fin 1024) : EReal :=
  unit (fun j => x0 (ix2 r j)) (fun j => x1 (ix3 (0 : Fin 1) j k)) (fun j => x2 (ix3 (0 : Fin 1) j k)) (x3 (ix3 (0 : Fin 1) k l))

theorem chunk0 :
    k0_pay4 (F := Ideal) x0 (colsAt ![0, 0, 0] inb_S1x2048x1024_S1x2048x256_0_0_0 x1)
        (colsAt ![0, 0, 0] inb_S1x2048x1024_S1x2048x256_0_0_0 x2)
        (rowsAt ![0, 0, 0] inb_S1x1024x2048_S1x256x2048_0_0_0 x3) (ix2 r l)
      = ∑ t : Fin 256, share x0 x1 x2 x3 r l ⟨0 * 256 + t.val, by omega⟩ := by
  unfold share unit gated
  simp only [← div_eq_gate]
  pointwise [k0_pay4, k0_pay3, colsAt, rowsAt]

theorem chunk1 (acc : S512x2048.Idx → Elt Ideal .f32) :
    k0_pay8 (F := Ideal) (k0_pay5 x0 (colsAt ![0, 0, 256] inb_S1x2048x1024_S1x2048x256_0_0_256 x1))
        (k0_pay6 x0 (colsAt ![0, 0, 256] inb_S1x2048x1024_S1x2048x256_0_0_256 x2))
        (k0_pay7 x0 (colsAt ![0, 0, 256] inb_S1x2048x1024_S1x2048x256_0_0_256 x1))
        (rowsAt ![0, 256, 0] inb_S1x1024x2048_S1x256x2048_0_256_0 x3) acc (ix2 r l)
      = acc (ix2 r l) + ∑ t : Fin 256, share x0 x1 x2 x3 r l ⟨1 * 256 + t.val, by omega⟩ := by
  unfold share unit gated
  simp only [← div_eq_gate]
  pointwise [k0_pay8, k0_pay7, k0_pay6, k0_pay5, k0_pay3, colsAt, rowsAt]

theorem chunk2 (acc : S512x2048.Idx → Elt Ideal .f32) :
    k0_pay9 (F := Ideal) (k0_pay3 x0) (colsAt ![0, 0, 512] inb_S1x2048x1024_S1x2048x256_0_0_512 x1)
        (colsAt ![0, 0, 512] inb_S1x2048x1024_S1x2048x256_0_0_512 x2)
        (rowsAt ![0, 512, 0] inb_S1x1024x2048_S1x256x2048_0_512_0 x3) acc (ix2 r l)
      = acc (ix2 r l) + ∑ t : Fin 256, share x0 x1 x2 x3 r l ⟨2 * 256 + t.val, by omega⟩ := by
  unfold share unit gated
  simp only [← div_eq_gate]
  pointwise [k0_pay9, k0_pay3, colsAt, rowsAt]

theorem chunk3 (acc : S512x2048.Idx → Elt Ideal .f32) :
    k0_pay2 (F := Ideal) (k0_pay3 x0) (colsAt ![0, 0, 768] inb_S1x2048x1024_S1x2048x256_0_0_768 x1)
        (colsAt ![0, 0, 768] inb_S1x2048x1024_S1x2048x256_0_0_768 x2)
        (rowsAt ![0, 768, 0] inb_S1x1024x2048_S1x256x2048_0_768_0 x3) acc (ix2 r l)
      = acc (ix2 r l) + ∑ t : Fin 256, share x0 x1 x2 x3 r l ⟨3 * 256 + t.val, by omega⟩ := by
  unfold share unit gated
  simp only [← div_eq_gate]
  pointwise [k0_pay2, k0_pay3, colsAt, rowsAt]

/-- The four chunks together: the sum over all 1024 hidden columns. -/
theorem fourChunks_apply :
    fourChunks x0 x1 x2 x3 (ix2 r l) = ∑ k : Fin 1024, share x0 x1 x2 x3 r l k := by
  unfold fourChunks
  rw [chunk3 x0 x1 x2 x3, chunk2 x0 x1 x2 x3, chunk1 x0 x1 x2 x3, chunk0 x0 x1 x2 x3,
    Idealize.ShloMosaic.Fin.sum_univ_tiles 4 256 rfl, Fin.sum_univ_four]
  rfl

theorem noRows_apply : k0_pay1 (F := Ideal) (ix2 r l) = 0 := by
  pointwise [k0_pay1]

end Cert.KernelIdeal.Experts

end
-- ==== Proof.Ideal.Array.lean ====
/- The kernel's result array, element by element: row r of tile r / 512 is zero where the tile has no rows, and the
   feed-forward of that tile's expert where it has. -/
module

public import proofs.«01_k».proof.Proof.Ideal.Launch
public import proofs.«01_k».proof.Proof.Ideal.Block
public import Idealize.ShloMosaic.Lib.Pipeline.Covers
public import Idealize.ShloMosaic.Lib.Pipeline.ValueKit

@[expose] public section

set_option maxRecDepth 16384
set_option Elab.async false

noncomputable section

namespace Cert.KernelIdeal.Experts

open Cert.KernelIdeal Cert.KernelIdeal.Gen
open Idealize.ShloMosaic
open Idealize.ShloMosaic.TcCoe
open Idealize.SL Idealize.SL.Sem
open Idealize.ShloMosaic.Pipeline (Dat Cfg Window)

/-- The tile a row lies in. -/
def tileOf (i : Fin 40960) : S80.Idx := ix1 (⟨i.val / 512, by omega⟩ : Fin 80)

/-- Element (i, l) of the result, where row `i` lies in tile `y`, from the tables and the four arrays. -/
def outIn (E R : S80.Idx → BitVec 32) (hE : ∀ y, (E y).toNat < 16) (x : S40960x2048.Idx → EReal)
    (wg wu : S16x2048x1024.Idx → EReal) (wd : S16x1024x2048.Idx → EReal) (y : S80.Idx) (i : Fin 40960) (l : Fin 2048) : EReal :=
  if R y = 0#32 then 0
  else ∑ k : Fin 1024, unit (fun j => x (ix2 i j)) (fun j => wg (ix3 ⟨(E y).toNat, hE _⟩ j k))
    (fun j => wu (ix3 ⟨(E y).toNat, hE _⟩ j k)) (wd (ix3 ⟨(E y).toNat, hE _⟩ k l))

variable {m : (ℓ : Loc nD τ sig) → Buf (Elt Ideal) ℓ} (hr : InRange m) (ρ : Dev nD → PrngReg)

theorem outBlocks : ∀ β0 : Fin 80, ∀ β1 : Fin 1, ∃ i : grid0.Coords, cc0_transform_4 i = ![β0.val, β1.val] := by decide +kernel

theorem covers4 : ((cfgA hr).win (4 : Fin 5)).Covers :=
  Window.covers_of_indexMap_surj _ rfl
    (fun a => match a with
      | ⟨0, _⟩ => by show 0 < 512; decide
      | ⟨1, _⟩ => by show 0 < 2048; decide)
    (fun β => by
      obtain ⟨i, hi⟩ := outBlocks
        ⟨(β (0 : Fin 2)).val, (β (0 : Fin 2)).isLt.trans_eq (show (40960 + 512 - 1) / 512 = 80 by decide)⟩
        ⟨(β (1 : Fin 2)).val, (β (1 : Fin 2)).isLt.trans_eq (show (2048 + 2048 - 1) / 2048 = 1 by decide)⟩
      refine ⟨i, fun a => ?_⟩
      match a with
      | ⟨0, _⟩ => exact congrFun hi 0
      | ⟨1, _⟩ => exact congrFun hi 1)

theorem index0 (t : Fin grid0.N) : cc0_transform_0 (grid0.coords t) = ![t.val, 0] := by
  revert t; decide +kernel
theorem index4 (t : Fin grid0.N) : cc0_transform_4 (grid0.coords t) = ![t.val, 0] := by
  revert t; decide +kernel
theorem coord0 (t : Fin grid0.N) : ((grid0.coords t) 0).val = t.val := by
  revert t; decide +kernel

/-- The result array as one function. -/
def out (c : Dev nD) : Buf (Elt Ideal) ((c : Thread nD τ).loc main_v0) := fun i =>
  outIn (tileE m) (tileR m) hr.expert (m ((c : Thread nD τ).loc main_arg2)) (m ((c : Thread nD τ).loc main_arg3))
    (m ((c : Thread nD τ).loc main_arg4)) (m ((c : Thread nD τ).loc main_arg5)) (tileOf (i 0)) (i 0) (i 1)

/-- The tile at point `t`, as an index of the tables. -/
def tileAt (t : Fin grid0.N) : S80.Idx := ix1 (⟨t.val, t.isLt⟩ : Fin 80)

theorem rowWord_at (T : S80.Idx → BitVec 32) (t : Fin grid0.N) : rowWord T (grid0.coords t) = T (tileAt t) := by
  obtain ⟨y, hy, h0⟩ := rowWord_eq T (grid0.coords t)
  rw [hy]
  congr 1
  funext a
  match a with
  | ⟨0, _⟩ => exact Fin.ext (h0.trans (coord0 t))

/-- Row `r` of tile `t`. -/
def rowAt (t : Fin grid0.N) (r : Fin 512) : Fin 40960 := ⟨t.val * 512 + r.val, by have : t.val < 80 := t.isLt; omega⟩

theorem tileOf_rowAt (t : Fin grid0.N) (r : Fin 512) : tileOf (rowAt t r) = tileAt t := by
  unfold tileOf tileAt rowAt
  congr 1
  apply Fin.ext
  show (t.val * 512 + r.val) / 512 = t.val
  omega

theorem iblk0_apply (c : Dev nD) (t : Fin (cfgA hr).N) (r : Fin 512) (j : Fin 2048) :
    iblk hr ρ c (0 : Fin 5) t (ix2 r j) = m ((c : Thread nD τ).loc main_arg2) (ix2 (rowAt t r) j) := by
  unfold iblk
  rw [View.read_apply]
  show m ((c : Thread nD τ).loc main_arg2) _ = m ((c : Thread nD τ).loc main_arg2) _
  congr 1
  funext a
  apply Fin.ext
  match a with
  | ⟨0, _⟩ =>
    refine (Window.rect_emb_val ((cfgA hr).win (0 : Fin 5)) t (ix2 r j) (0 : Fin 2)).trans ?_
    show cc0_transform_0 (grid0.coords t) 0 * 512 + r.val = t.val * 512 + r.val
    rw [index0]; rfl
  | ⟨1, _⟩ =>
    refine (Window.rect_emb_val ((cfgA hr).win (0 : Fin 5)) t (ix2 r j) (1 : Fin 2)).trans ?_
    show cc0_transform_0 (grid0.coords t) 1 * 2048 + j.val = j.val
    rw [index0]; show 0 * 2048 + j.val = j.val; omega

theorem iblk1_apply (c : Dev nD) (t : Fin (cfgA hr).N) (j : Fin 2048) (k : Fin 1024) :
    iblk hr ρ c (1 : Fin 5) t (ix3 (0 : Fin 1) j k)
      = m ((c : Thread nD τ).loc main_arg3) (ix3 ⟨(tileE m (tileAt t)).toNat, hr.expert _⟩ j k) := by
  unfold iblk
  rw [View.read_apply]
  show m ((c : Thread nD τ).loc main_arg3) _ = m ((c : Thread nD τ).loc main_arg3) _
  congr 1
  funext a
  apply Fin.ext
  match a with
  | ⟨0, _⟩ =>
    refine (Window.rect_emb_val ((cfgA hr).win (1 : Fin 5)) t (ix3 (0 : Fin 1) j k) (0 : Fin 3)).trans ?_
    show (rowWord (tileE m) (grid0.coords t)).toNat * 1 + 0 = (tileE m (tileAt t)).toNat
    rw [rowWord_at]; omega
  | ⟨1, _⟩ =>
    refine (Window.rect_emb_val ((cfgA hr).win (1 : Fin 5)) t (ix3 (0 : Fin 1) j k) (1 : Fin 3)).trans ?_
    show 0 * 2048 + j.val = j.val; omega
  | ⟨2, _⟩ =>
    refine (Window.rect_emb_val ((cfgA hr).win (1 : Fin 5)) t (ix3 (0 : Fin 1) j k) (2 : Fin 3)).trans ?_
    show 0 * 1024 + k.val = k.val; omega

theorem iblk2_apply (c : Dev nD) (t : Fin (cfgA hr).N) (j : Fin 2048) (k : Fin 1024) :
    iblk hr ρ c (2 : Fin 5) t (ix3 (0 : Fin 1) j k)
      = m ((c : Thread nD τ).loc main_arg4) (ix3 ⟨(tileE m (tileAt t)).toNat, hr.expert _⟩ j k) := by
  unfold iblk
  rw [View.read_apply]
  show m ((c : Thread nD τ).loc main_arg4) _ = m ((c : Thread nD τ).loc main_arg4) _
  congr 1
  funext a
  apply Fin.ext
  match a with
  | ⟨0, _⟩ =>
    refine (Window.rect_emb_val ((cfgA hr).win (2 : Fin 5)) t (ix3 (0 : Fin 1) j k) (0 : Fin 3)).trans ?_
    show (rowWord (tileE m) (grid0.coords t)).toNat * 1 + 0 = (tileE m (tileAt t)).toNat
    rw [rowWord_at]; omega
  | ⟨1, _⟩ =>
    refine (Window.rect_emb_val ((cfgA hr).win (2 : Fin 5)) t (ix3 (0 : Fin 1) j k) (1 : Fin 3)).trans ?_
    show 0 * 2048 + j.val = j.val; omega
  | ⟨2, _⟩ =>
    refine (Window.rect_emb_val ((cfgA hr).win (2 : Fin 5)) t (ix3 (0 : Fin 1) j k) (2 : Fin 3)).trans ?_
    show 0 * 1024 + k.val = k.val; omega

theorem iblk3_apply (c : Dev nD) (t : Fin (cfgA hr).N) (k : Fin 1024) (l : Fin 2048) :
    iblk hr ρ c (3 : Fin 5) t (ix3 (0 : Fin 1) k l)
      = m ((c : Thread nD τ).loc main_arg5) (ix3 ⟨(tileE m (tileAt t)).toNat, hr.expert _⟩ k l) := by
  unfold iblk
  rw [View.read_apply]
  show m ((c : Thread nD τ).loc main_arg5) _ = m ((c : Thread nD τ).loc main_arg5) _
  congr 1
  funext a
  apply Fin.ext
  match a with
  | ⟨0, _⟩ =>
    refine (Window.rect_emb_val ((cfgA hr).win (3 : Fin 5)) t (ix3 (0 : Fin 1) k l) (0 : Fin 3)).trans ?_
    show (rowWord (tileE m) (grid0.coords t)).toNat * 1 + 0 = (tileE m (tileAt t)).toNat
    rw [rowWord_at]; omega
  | ⟨1, _⟩ =>
    refine (Window.rect_emb_val ((cfgA hr).win (3 : Fin 5)) t (ix3 (0 : Fin 1) k l) (1 : Fin 3)).trans ?_
    show 0 * 1024 + k.val = k.val; omega
  | ⟨2, _⟩ =>
    refine (Window.rect_emb_val ((cfgA hr).win (3 : Fin 5)) t (ix3 (0 : Fin 1) k l) (2 : Fin 3)).trans ?_
    show 0 * 2048 + l.val = l.val; omega

/-- What tile `t` leaves is the result's rows t·512 … t·512 + 511. -/
theorem left_apply (c : Dev nD) (t : Fin (cfgA hr).N) (r : Fin 512) (l : Fin 2048) :
    left hr ρ c t (ix2 r l) = out hr c (ix2 (rowAt t r) l) := by
  show left hr ρ c t (ix2 r l) = outIn (tileE m) (tileR m) hr.expert _ _ _ _ (tileOf (rowAt t r)) (rowAt t r) l
  rw [tileOf_rowAt]
  unfold left outIn
  rw [show rowWord (tileR m) (crd hr t) = tileR m (tileAt t) from rowWord_at _ t]
  by_cases h0 : tileR m (tileAt t) = 0#32
  · rw [if_pos h0, if_pos h0, noRows_apply]
  · rw [if_neg h0, if_neg h0, fourChunks_apply]
    refine Finset.sum_congr rfl fun k _ => ?_
    unfold share
    rw [iblk3_apply hr ρ c t k l]
    congr 1
    · funext j; exact iblk0_apply hr ρ c t r j
    · funext j; exact iblk1_apply hr ρ c t j k
    · funext j; exact iblk2_apply hr ρ c t j k

/-- The result array. -/
theorem final4 (c : Dev nD) : (dats hr ρ 0 c).arrAt (4 : Fin 5) (cfgA hr).N = out hr c := by
  refine (dats hr ρ 0 c).arrAt_eq_of_covers (4 : Fin 5) _ (covers4 hr) (fun t _ y => ?_) (Memref.isWhole_whole _)
  refine (cast_eq _ _).trans ?_
  refine (congrArg (left hr ρ c t) (show _ = ix2 (y (0 : Fin 2)) (y (1 : Fin 2)) from ?_)).trans
    ((left_apply hr ρ c t (y (0 : Fin 2)) (y (1 : Fin 2))).trans (congrArg (out hr c) ?_))
  · funext a
    match a with
    | ⟨0, _⟩ => rfl
    | ⟨1, _⟩ => rfl
  · funext a
    apply Fin.ext
    match a with
    | ⟨0, _⟩ =>
      refine Eq.trans ?_ (Window.rect_emb_val ((cfgA hr).win (4 : Fin 5)) t y (0 : Fin 2)).symm
      show t.val * 512 + (y (0 : Fin 2)).val = cc0_transform_4 (grid0.coords t) 0 * 512 + (y (0 : Fin 2)).val
      rw [index4]; rfl
    | ⟨1, _⟩ =>
      refine Eq.trans ?_ (Window.rect_emb_val ((cfgA hr).win (4 : Fin 5)) t y (1 : Fin 2)).symm
      show (y (1 : Fin 2)).val = cc0_transform_4 (grid0.coords t) 1 * 2048 + (y (1 : Fin 2)).val
      rw [index4]; show _ = 0 * 2048 + _; omega

end Cert.KernelIdeal.Experts

end
-- ==== Proof.Reference.lean ====
/- What the reference computes, element by element: the sum over the sixteen experts of the row's weight for that expert
   times the expert's feed-forward of the row. A row's weight is one for its tile's own expert when the tile has rows, and
   zero otherwise, so at most one term of the sum is left. -/
module

public import proofs.«01_k».proof.Proof.Gen.ReferenceIdeal.Run
public import proofs.«01_k».proof.Proof.Ideal.Array
public import Idealize.ShloMosaic.Lib.Pointwise

@[expose] public section

set_option maxRecDepth 16384
set_option Elab.async false

noncomputable section

namespace Cert.ReferenceIdeal.Experts

open Cert.ReferenceIdeal Cert.ReferenceIdeal.Gen
open Idealize.ShloMosaic
open Idealize.ShloMosaic.TcCoe

variable (E R : S80.Idx → BitVec 32) (x : FVec Ideal S40960x2048 .f32) (wg wu : FVec Ideal S16x2048x1024 .bf16)
  (wd : FVec Ideal S16x1024x2048 .bf16)

theorem ofBool_eq_one (p : Bool) : BitVec.ofBool p = 1 ↔ p = true := by cases p <;> decide

/-- The weight of every row for every expert. -/
def weights : FVec Ideal S16x40960x2048 .f32 :=
  broadcastInDim S16x40960x2048 ![0, 1, 2] bcast_S16x40960x1_S16x40960x2048_0_1_2 (id (broadcastInDim S16x40960x1 ![0, 1] bcast_S16x40960_S16x40960x1_0_1 (shapeCast _ (broadcastInDim S16x80x512 ![0, 1] bcast_S16x80_S16x80x512_0_1 (select (cmpi .eq (broadcastInDim S16x80 ![0, 1] bcast_S16x1_S16x80_0_1 (broadcastInDim S16x1 ![0] bcast_S16_S16x1_0 (iotaInDim S16 32 0))) (broadcastInDim S16x80 ![0, 1] bcast_S1x80_S16x80_0_1 (broadcastInDim S1x80 ![1] bcast_S80_S1x80_1 E))) (broadcastInDim S16x80 ![0, 1] bcast_S1x80_S16x80_0_1 (broadcastInDim S1x80 ![1] bcast_S80_S1x80_1 (select (cmpi .sgt R (broadcastInDim S80 ![] bcast_S_S80 (constantI S_ 32 0#32))) (broadcastInDim S80 ![] bcast_S_S80 (constant S_ .f32 0x3F800000#32)) (broadcastInDim S80 ![] bcast_S_S80 (constant S_ .f32 0x00000000#32))))) (broadcastInDim S16x80 ![] bcast_S_S16x80 (constant S_ .f32 0x00000000#32)))) shapeCasts_S16x80x512_S16x40960)))

/-- The rows' products with every expert's gate or up weights. -/
def hidden (w : FVec Ideal S16x2048x1024 .bf16) : FVec Ideal S40960x16x1024 .f32 :=
  Host.dotGeneral dot_S40960x2048_S16x2048x1024_S40960x16x1024_1_1_0_02_n_n none x (extf .f32 w bitsLt_bf16_f32)

/-- Every expert's feed-forward of every row. -/
def forward : FVec Ideal S16x40960x2048 .f32 :=
  Host.dotGeneral dot_S40960x16x1024_S16x1024x2048_S16x40960x2048_2_1_0_2_1_0 none
    (mulf (mulf (hidden x wg) (Host.divf (broadcastInDim S40960x16x1024 ![] bcast_S_S40960x16x1024 (constant S_ .f32 0x3F800000#32)) (addf (broadcastInDim S40960x16x1024 ![] bcast_S_S40960x16x1024 (constant S_ .f32 0x3F800000#32)) (Host.exp (Host.negf (hidden x wg)))))) (hidden x wu))
    (extf .f32 wd bitsLt_bf16_f32)

/-- The reference's result. -/
def result : FVec Ideal S40960x2048 .f32 :=
  Host.reduceAdd (mulf (weights E R) (forward x wg wu wd)) (constant S_ .f32 0x00000000#32) reducesTo_S16x40960x2048_S40960x2048_d0 h_S_

theorem hidden_apply (w : FVec Ideal S16x2048x1024 .bf16) (i : Fin 40960) (e : Fin 16) (k : Fin 1024) :
    hidden x w (ix3 i e k) = ∑ j : Fin 2048, x (ix2 i j) * w (ix3 e j k) := by
  pointwise [hidden]

theorem forward_apply (e : Fin 16) (i : Fin 40960) (l : Fin 2048) :
    forward x wg wu wd (ix3 e i l)
      = ∑ k : Fin 1024, hidden x wg (ix3 i e k) * Ideal.div 1 (1 + Ideal.exp (-(hidden x wg (ix3 i e k)))) * hidden x wu (ix3 i e k)
          * wd (ix3 e k l) := by
  pointwise [forward]

theorem weights_apply (e : Fin 16) (i : Fin 40960) (l : Fin 2048) :
    weights E R (ix3 e i l) = if BitVec.ofNat 32 e.val = E (ix1 (⟨i.val / 512, by omega⟩ : Fin 80))
      then (if (0#32).slt (R (ix1 (⟨i.val / 512, by omega⟩ : Fin 80))) then 1 else 0) else 0 := by
  pointwise [weights, id_eq]
  simp only [Scalar.select, IntOp.cmpi, ofBool_eq_one, beq_iff_eq]

theorem result_apply (i : Fin 40960) (l : Fin 2048) :
    result E R x wg wu wd (ix2 i l) = ∑ e : Fin 16, weights E R (ix3 e i l) * forward x wg wu wd (ix3 e i l) := by
  pointwise [result]

open Cert.KernelIdeal.Experts (outIn tileOf gated unit one_add_exp_ne_zero)

/-- The reference's hidden unit is the kernel's. -/
theorem gate_eq (h u : EReal) : h * Ideal.div 1 (1 + Ideal.exp (-h)) * u = gated h u := by
  unfold gated Ideal.div
  rw [if_neg (one_add_exp_ne_zero _), one_mul]

theorem forward_eq (e : Fin 16) (i : Fin 40960) (l : Fin 2048) :
    forward x wg wu wd (ix3 e i l) = ∑ k : Fin 1024, unit (fun j => x (ix2 i j)) (fun j => wg (ix3 e j k)) (fun j => wu (ix3 e j k)) (wd (ix3 e k l)) := by
  rw [forward_apply]
  refine Finset.sum_congr rfl fun k _ => ?_
  rw [gate_eq, hidden_apply, hidden_apply]
  rfl

/-- A word below sixteen is the word of one number below sixteen only. -/
theorem word_eq_iff (w : BitVec 32) (h : w.toNat < 16) (e : Fin 16) : BitVec.ofNat 32 e.val = w ↔ e = ⟨w.toNat, h⟩ := by
  constructor
  · rintro rfl
    apply Fin.ext
    show e.val = (BitVec.ofNat 32 e.val).toNat
    rw [BitVec.toNat_ofNat]
    have := e.isLt
    omega
  · rintro rfl
    exact BitVec.eq_of_toNat_eq (by rw [BitVec.toNat_ofNat]; exact Nat.mod_eq_of_lt w.isLt)

theorem pos_iff (w : BitVec 32) (h : 0 ≤ w.toInt) : (0#32).slt w = true ↔ ¬ w = 0#32 := by
  rw [BitVec.slt_eq_decide, decide_eq_true_eq, BitVec.toInt_zero, ← BitVec.toInt_inj, BitVec.toInt_zero]
  omega

/-- The reference's element (i, l): zero where the row's tile has no rows, else the tile's expert's feed-forward. -/
theorem result_eq (hE : ∀ y, (E y).toNat < 16) (hR : ∀ y, 0 ≤ (R y).toInt) (i : Fin 40960) (l : Fin 2048) :
    result E R x wg wu wd (ix2 i l) = outIn E R hE x wg wu wd (tileOf i) i l := by
  rw [result_apply]
  have hw : ∀ e : Fin 16, weights E R (ix3 e i l) * forward x wg wu wd (ix3 e i l)
      = if e = ⟨(E (tileOf i)).toNat, hE _⟩ then (if R (tileOf i) = 0#32 then 0 else forward x wg wu wd (ix3 e i l)) else 0 := by
    intro e
    rw [weights_apply]
    show (if BitVec.ofNat 32 e.val = E (tileOf i) then (if (0#32).slt (R (tileOf i)) then (1 : EReal) else 0) else 0) * _ = _
    simp only [word_eq_iff _ (hE (tileOf i)), pos_iff _ (hR (tileOf i))]
    by_cases h1 : e = ⟨(E (tileOf i)).toNat, hE _⟩
    · rw [if_pos h1, if_pos h1]
      by_cases h2 : R (tileOf i) = 0#32
      · rw [if_neg (not_not.2 h2), if_pos h2, zero_mul]
      · rw [if_pos h2, if_neg h2, one_mul]
    · rw [if_neg h1, if_neg h1, zero_mul]
  rw [Finset.sum_congr rfl fun e _ => hw e, Finset.sum_ite_eq' Finset.univ, if_pos (Finset.mem_univ _), forward_eq]
  rfl

end Cert.ReferenceIdeal.Experts

end
-- ==== Proof.Range.lean ====
/- The precondition, decoded: where it is all ones, every tile's expert is one of the sixteen and no row count is
   negative. -/
module

public import proofs.«01_k».proof.Pre_in_range
public import proofs.«01_k».proof.Proof.Gen.Pre_in_range
public import Idealize.ShloMosaic.Lib.Pointwise

@[expose] public section

set_option Elab.async false

noncomputable section

namespace Cert.Range

open Idealize.ShloMosaic Cert.Pre_in_range Cert.Pre_in_range.Gen

theorem andi_ofBool (p q : Bool) : IntOp.andi (BitVec.ofBool p) (BitVec.ofBool q) = BitVec.ofBool (p && q) := by
  cases p <;> cases q <;> decide
theorem ofBool_eq_one (p : Bool) : BitVec.ofBool p = 1#1 ↔ p = true := by cases p <;> decide

variable {F : FTy → Type} [FloatOps F]

theorem of_pre (E R : IVec S80 32) (x : FVec F S40960x2048 .f32) (wg wu : FVec F S16x2048x1024 .bf16) (wd : FVec F S16x1024x2048 .bf16)
    (h : fn (F := F) E R x wg wu wd = fun _ => 1#1) (y : S80.Idx) : (E y).toNat < 16 ∧ 0 ≤ (R y).toInt := by
  have e := congrFun h y
  simp only [fn, andi, cmpi, broadcastInDim, constantI, IntOp.cmpi, andi_ofBool, ofBool_eq_one, Bool.and_eq_true] at e
  obtain ⟨⟨h1, h2⟩, h3⟩ := e
  simp only [BitVec.sle, BitVec.slt, decide_eq_true_eq] at h1 h2 h3
  have z : (0#32).toInt = 0 := by decide
  have s : (16#32).toInt = 16 := by decide
  rw [z] at h1 h3
  rw [s] at h2
  refine ⟨?_, h3⟩
  have := BitVec.toInt_eq_toNat_cond (E y)
  split at this <;> omega

end Cert.Range

end
-- ==== Proof.Equation.lean ====
/- The equation: the kernel's result array and the reference's are the same extended reals, and both programs run. -/
module

public import proofs.«01_k».proof.Defs
public import proofs.«01_k».proof.Proof.Ideal.Array
public import proofs.«01_k».proof.Proof.Reference
public import proofs.«01_k».proof.Proof.Range

@[expose] public section

set_option Elab.async false

noncomputable section

namespace Cert.Equation

open Idealize.ShloMosaic Idealize.ShloMosaic.TcCoe Idealize.SL.Sem
open Cert.KernelIdeal.Experts (InRange tileE tileR out outIn tileOf run_result final4)

/-- The precondition at the ideal instance gives the tables' range. -/
theorem range_ideal {m : (ℓ : Loc Cert.KernelIdeal.nD Cert.KernelIdeal.τ Cert.KernelIdeal.sig) → Buf (Elt Ideal) ℓ}
    (h : Cert.Pre_KernelIdeal (hPre_in_range := Cert.Pre_in_range.Gen.facts) m) : InRange m where
  expert y := (Cert.Range.of_pre _ _ _ _ _ _ (h 0) y).1
  rows y := (Cert.Range.of_pre _ _ _ _ _ _ (h 0) y).2

/-- The reference's result is the kernel's, from memories that agree on the arguments. -/
theorem result_eq_out {m : (ℓ : Loc Cert.KernelIdeal.nD Cert.KernelIdeal.τ Cert.KernelIdeal.sig) → Buf (Elt Ideal) ℓ}
    (hr : InRange m) (c : Dev Cert.KernelIdeal.nD) :
    Cert.ReferenceIdeal.Experts.result (tileE m) (tileR m)
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      = out hr c := by
  funext i
  have hi : i = ix2 (i 0) (i 1) := by
    funext a
    match a with
    | ⟨0, _⟩ => rfl
    | ⟨1, _⟩ => rfl
  rw [hi]
  exact Cert.ReferenceIdeal.Experts.result_eq _ _ _ _ _ _ hr.expert hr.rows (i 0) (i 1)

theorem algebraic : Cert.algebraic_KernelIdeal_ReferenceIdeal (hKernelIdeal := Cert.KernelIdeal.Gen.facts)
    (hReferenceIdeal := Cert.ReferenceIdeal.Gen.facts) (hPre_in_range := Cert.Pre_in_range.Gen.facts) := by
  intro m g m' g' hpre hagree
  have hr : InRange m := range_ideal hpre
  refine ⟨fun c => out hr c, ?_, ?_⟩
  · exact (θ_run Cert.KernelIdeal.defs _ _).mono (fun _ h c => ⟨(h.1 c).1.trans (final4 hr g c), (h.1 c).2⟩) (run_result hr g)
  · refine (θ_run Cert.ReferenceIdeal.defs _ _).mono (fun _ h c => ⟨(h c).1.trans ?_, (h c).2⟩)
      (Cert.ReferenceIdeal.Value.run (F := Ideal) m' g')
    obtain ⟨e0, e1, e2, e3, e4, e5⟩ := hagree c
    rw [e0, e1, e2, e3, e4, e5]
    obtain rfl : c = 0 := Subsingleton.elim _ _
    exact result_eq_out hr 0

end Cert.Equation

end
-- ==== Proof.ProjMoba.Array.lean ====
/- The projection onto the block attention's columns: what the weights' scratch holds while a column block is worked
   on, what one point computes, and the whole result array. -/
module

public import proofs.«01_k».proof.Proof.Gen.KernelMobaIdeal.Value
public import Idealize.ShloMosaic.Lib.Pointwise
public import Idealize.ShloMosaic.Lib.Pipeline.Covers
public import Idealize.ShloMosaic.Lib.Pipeline.ValueKit
public import Idealize.ShloMosaic.Lib.Pipeline.ReadBack

@[expose] public section

set_option maxRecDepth 16384
set_option Elab.async false

noncomputable section

namespace Cert.KernelMobaIdeal.Proj

open Cert.KernelMobaIdeal Cert.KernelMobaIdeal.Gen
open Idealize.ShloMosaic Idealize.ShloMosaic.TcCoe Idealize.SL.Sem
open Idealize.ShloMosaic.Pipeline (Dat Cfg Window)

variable (m : (ℓ : Loc nD τ sig) → Buf (Elt Ideal) ℓ) (c : Dev nD)

/-- The rows as the call finds them. -/
abbrev rows : S16384x2048.Idx → Elt Ideal .f32 := V m c (Pipeline.arrRef spec0 0)
/-- The weights as the call finds them. -/
abbrev weights : S2048x3072.Idx → Elt Ideal .f32 := V m c (Pipeline.arrRef spec0 1)

/-- Column `l` of column block `j`, among the weights' columns and among the result's. -/
def wcol (j : Fin 3) (l : Fin 1024) : Fin 3072 := ⟨j.val * 1024 + l.val, by omega⟩

/-- The column block of a point. -/
def blockOf (t : Fin grid0.N) : Fin 3 := ⟨t.val / 32, by have : t.val < 96 := t.isLt; omega⟩
/-- Row `r` of a point's row block. -/
def rowOf (t : Fin grid0.N) (r : Fin 512) : Fin 16384 := ⟨t.val % 32 * 512 + r.val, by omega⟩

theorem index0 (t : Fin grid0.N) : cc0_transform_0 (grid0.coords t) = ![t.val % 32, 0] := by revert t; decide +kernel
theorem index1 (t : Fin grid0.N) : cc0_transform_1 (grid0.coords t) = ![0, t.val / 32] := by revert t; decide +kernel
theorem index2 (t : Fin grid0.N) : cc0_transform_2 (grid0.coords t) = ![t.val % 32, t.val / 32] := by revert t; decide +kernel

/-- A point's row block. -/
theorem rows_block (t : Fin cfg0.N) (r : Fin 512) (k : Fin 2048) :
    iblk m c 0 t (ix2 r k) = rows m c (ix2 (rowOf t r) k) := by
  unfold iblk
  rw [View.read_apply]
  show V m c (Pipeline.arrRef spec0 0) _ = V m c (Pipeline.arrRef spec0 0) _
  congr 1
  funext a
  apply Fin.ext
  match a with
  | ⟨0, _⟩ =>
    refine (Window.rect_emb_val (cfg0.win (0 : Fin 3)) t (ix2 r k) (0 : Fin 2)).trans ?_
    show cc0_transform_0 (grid0.coords t) 0 * 512 + r.val = t.val % 32 * 512 + r.val
    rw [index0]; rfl
  | ⟨1, _⟩ =>
    refine (Window.rect_emb_val (cfg0.win (0 : Fin 3)) t (ix2 r k) (1 : Fin 2)).trans ?_
    show cc0_transform_0 (grid0.coords t) 1 * 2048 + k.val = k.val
    rw [index0]; show 0 * 2048 + k.val = k.val; omega

/-- A point's column block of the weights. -/
theorem weights_block (t : Fin cfg0.N) (k : Fin 2048) (l : Fin 1024) :
    iblk m c 1 t (ix2 k l) = weights m c (ix2 k (wcol (blockOf t) l)) := by
  unfold iblk
  rw [View.read_apply]
  show V m c (Pipeline.arrRef spec0 1) _ = V m c (Pipeline.arrRef spec0 1) _
  congr 1
  funext a
  apply Fin.ext
  match a with
  | ⟨0, _⟩ =>
    refine (Window.rect_emb_val (cfg0.win (1 : Fin 3)) t _ (0 : Fin 2)).trans ?_
    show cc0_transform_1 (grid0.coords t) 0 * 2048 + k.val = k.val
    rw [index1]; show 0 * 2048 + k.val = k.val; omega
  | ⟨1, _⟩ =>
    refine (Window.rect_emb_val (cfg0.win (1 : Fin 3)) t _ (1 : Fin 2)).trans ?_
    show cc0_transform_1 (grid0.coords t) 1 * 1024 + l.val = t.val / 32 * 1024 + l.val
    rw [index1]; rfl

/-- Points of one column block find the same block of the weights. -/
theorem same_block (t t' : Fin cfg0.N) (h : blockOf t = blockOf t') : iblk m c 1 t = iblk m c 1 t' := by
  have key : ∀ (k : Fin 2048) (l : Fin 1024), iblk m c 1 t (ix2 k l) = iblk m c 1 t' (ix2 k l) := fun k l => by
    rw [weights_block m c t k l, weights_block m c t' k l, h]
  funext y
  have hy : y = ix2 (y (0 : Fin 2)) (y (1 : Fin 2)) := by
    funext a
    match a with
    | ⟨0, _⟩ => rfl
    | ⟨1, _⟩ => rfl
  rw [hy]
  exact key _ _

/-- The narrowed weights are the weights. -/
theorem narrowed (x : S2048x1024.Idx → Elt Ideal .f32) : k0_pay1 (F := Ideal) x = x := by
  funext y
  have hy : y = ix2 (y 0) (y 1) := by
    funext a
    match a with
    | ⟨0, _⟩ => rfl
    | ⟨1, _⟩ => rfl
  rw [hy]
  pointwise [k0_pay1]

/-- One block's product. -/
theorem product (x : S512x2048.Idx → Elt Ideal .f32) (w : S2048x1024.Idx → Elt Ideal .bf16) (r : Fin 512) (l : Fin 1024) :
    k0_pay2 (F := Ideal) x w (ix2 r l) = ∑ k : Fin 2048, x (ix2 r k) * w (ix2 k l) := by
  pointwise [k0_pay2]

/-- After every point the scratch holds the point's column block of the weights. -/
theorem scratch (n : ℕ) (hn : n < cfg0.N) : (outsAt0 m c n hn).2 = iblk m c 1 ⟨n, hn⟩ := by
  induction n with
  | zero =>
    rw [outsAt0_A m c ⟨0, hn⟩ rfl]
    frame_out
    exact narrowed _
  | succ n ih =>
    by_cases h0 : (n + 1) % 32 = 0
    · rw [outsAt0_A m c ⟨n + 1, hn⟩ h0]
      frame_out
      exact narrowed _
    · have prev : ∀ k (hk : k < cfg0.N), k = n → (outsAt0 m c k hk).2 = iblk m c 1 ⟨n, Nat.lt_of_succ_lt hn⟩ := by
        rintro k hk rfl
        exact ih hk
      rw [outsAt0_B m c ⟨n + 1, hn⟩ h0]
      unfold sout0_B_0
      dsimp only
      rw [prev (n + 1 - 1) _ (Nat.add_sub_cancel n 1)]
      exact same_block m c _ _ (Fin.ext (show n / 32 = (n + 1) / 32 by omega))

/-- What a point leaves in its block of the result. -/
theorem left (t : Fin cfg0.N) (r : Fin 512) (l : Fin 1024) :
    (outsAt0 m c t.val t.isLt).1 (ix2 r l)
      = ∑ k : Fin 2048, rows m c (ix2 (rowOf t r) k) * weights m c (ix2 k (wcol (blockOf t) l)) := by
  have key : (outsAt0 m c t.val t.isLt).1 = k0_pay2 (F := Ideal) (iblk m c 0 t) (iblk m c 1 t) := by
    by_cases h0 : t.val % 32 = 0
    · rw [outsAt0_A m c t h0]
      frame_out
      rw [narrowed]
    · have hs : (outsAt0 m c (t.val - 1) (Nat.lt_of_le_of_lt (Nat.sub_le _ _) t.isLt)).2 = iblk m c 1 t := by
        have h := congrArg Prod.snd (outsAt0_B m c t h0)
        exact h.symm.trans (scratch m c t.val t.isLt)
      rw [outsAt0_B m c t h0, hs]
      frame_out
      simp only [read_unread_whole]
  rw [key, product]
  refine Finset.sum_congr rfl fun k _ => ?_
  rw [rows_block m c t r k, weights_block m c t k l]

/-- Element (i, j) of the rows times the weights that the call finds. -/
def outAt (i : Fin 16384) (j : Fin 3072) : EReal :=
  ∑ k : Fin 2048, rows m c (ix2 i k) * weights m c (ix2 k j)

/-- The result. -/
def out : Buf (Elt Ideal) ((c : Thread nD τ).loc main_v1) := fun i => outAt m c (i 0) (i 1)

theorem final : (dats m 0 c).arrAt 2 cfg0.N = out m c := by
  refine (dats m 0 c).arrAt_eq_of_covers (2 : Fin 3) _ (by decide +kernel) (fun t _ y => ?_) (Memref.isWhole_whole _)
  refine (cast_eq _ _).trans ?_
  rw [after0_2]
  refine (congrArg (outsAt0 m c t.val t.isLt).1 (show _ = ix2 (y (0 : Fin 2)) (y (1 : Fin 2)) from ?_)).trans
    ((left m c t (y (0 : Fin 2)) (y (1 : Fin 2))).trans ?_)
  · funext a
    match a with
    | ⟨0, _⟩ => rfl
    | ⟨1, _⟩ => rfl
  · have e0 : (((cfg0.win 2).blk t).view.emb y 0).val = t.val % 32 * 512 + (y (0 : Fin 2)).val := by
      refine (Window.rect_emb_val (cfg0.win (2 : Fin 3)) t y (0 : Fin 2)).trans ?_
      show cc0_transform_2 (grid0.coords t) 0 * 512 + (y (0 : Fin 2)).val = _
      rw [index2]; rfl
    have e1 : (((cfg0.win 2).blk t).view.emb y 1).val = t.val / 32 * 1024 + (y (1 : Fin 2)).val := by
      refine (Window.rect_emb_val (cfg0.win (2 : Fin 3)) t y (1 : Fin 2)).trans ?_
      show cc0_transform_2 (grid0.coords t) 1 * 1024 + (y (1 : Fin 2)).val = _
      rw [index2]; rfl
    have h0 : rowOf t (y (0 : Fin 2)) = ((cfg0.win 2).blk t).view.emb y 0 := Fin.ext e0.symm
    have h1 : wcol (blockOf t) (y (1 : Fin 2)) = (⟨(((cfg0.win 2).blk t).view.emb y 1).val, by rw [e1]; exact (wcol (blockOf t) (y (1 : Fin 2))).isLt⟩ : Fin 3072) := Fin.ext e1.symm
    rw [h0, h1]
    rfl

end Cert.KernelMobaIdeal.Proj

end
-- ==== Proof.ProjMoba.Equation.lean ====
/- The projection onto the block attention's columns: the kernel's array is the reference's product. -/
module

public import proofs.«01_k».proof.Defs
public import proofs.«01_k».proof.Proof.ProjMoba.Array
public import proofs.«01_k».proof.Proof.Gen.ReferenceMobaIdeal.Run

@[expose] public section

set_option Elab.async false

noncomputable section

namespace Cert.ProjMoba

open Idealize.ShloMosaic Idealize.ShloMosaic.TcCoe Idealize.SL.Sem

section
open Cert.ReferenceMobaIdeal Cert.ReferenceMobaIdeal.Gen

/-- The reference's product, element by element. -/
theorem reference_apply (x : S16384x2048.Idx → Elt Ideal .f32) (w : S2048x6160.Idx → Elt Ideal .f32)
    (i : Fin 16384) (j : Fin 3072) :
    Host.dotGeneral (F := Ideal) (φ₁ := .f32) (φ₂ := .f32) dot_S16384x2048_S2048x3072_S16384x3072_1_0_0_1_n_n none x
      (extractStridedSlice S2048x3072 ![0, 3088] w slices_S2048x6160_S2048x3072_0_3088) (ix2 i j)
      = ∑ k : Fin 2048, x (ix2 i k) * w (ix2 k (⟨3088 + j.val, by omega⟩ : Fin 6160)) := by
  pointwise []

end

section
open Cert.KernelMobaIdeal Cert.KernelMobaIdeal.Gen

/-- The rows that the call finds are the first argument. -/
theorem rows_eq (m : (ℓ : Loc nD τ sig) → Buf (Elt Ideal) ℓ) (c : Dev nD) :
    Cert.KernelMobaIdeal.Proj.rows m c = m ((c : Thread nD τ).loc main_arg0) := V_main_arg0 m c

/-- The weights that the call finds are the second argument's last 3072 columns. -/
theorem weights_eq (m : (ℓ : Loc nD τ sig) → Buf (Elt Ideal) ℓ) (c : Dev nD) :
    Cert.KernelMobaIdeal.Proj.weights m c
      = extractStridedSlice S2048x3072 ![0, 3088] (m ((c : Thread nD τ).loc main_arg1)) slices_S2048x6160_S2048x3072_0_3088 := by
  show StableHlo.after hostOps0 (fun b => m (c, b)) main_v0 = _
  after_results

/-- One weight that the call finds. -/
theorem slice_apply (w : S2048x6160.Idx → Elt Ideal .f32) (k : Fin 2048) (j : Fin 3072) :
    extractStridedSlice S2048x3072 ![0, 3088] w slices_S2048x6160_S2048x3072_0_3088 (ix2 k j)
      = w (ix2 k (⟨3088 + j.val, by omega⟩ : Fin 6160)) := by
  pointwise []

end

/-- The kernel's array and the reference's are the same extended reals, and both programs run. -/
theorem algebraic : Cert.algebraic_KernelMobaIdeal_ReferenceMobaIdeal (hKernelMobaIdeal := Cert.KernelMobaIdeal.Gen.facts)
    (hReferenceMobaIdeal := Cert.ReferenceMobaIdeal.Gen.facts) := by
  intro m g m' g' _ hagree
  refine ⟨fun c => Cert.KernelMobaIdeal.Proj.out m c, ?_, ?_⟩
  · exact (θ_run Cert.KernelMobaIdeal.defs _ _).mono
      (fun _ h c => ⟨(h c).1.trans (Cert.KernelMobaIdeal.Proj.final m c), (h c).2⟩) (Cert.KernelMobaIdeal.Value.run_blocks m g)
  · refine (θ_run Cert.ReferenceMobaIdeal.defs _ _).mono (fun _ h c => ⟨(h c).1.trans ?_, (h c).2⟩)
      (Cert.ReferenceMobaIdeal.Value.run (F := Ideal) m' g')
    obtain ⟨e0, e1⟩ := hagree c
    rw [e0, e1]
    funext i
    have hi : i = ix2 (i 0) (i 1) := by
      funext a
      match a with
      | ⟨0, _⟩ => rfl
      | ⟨1, _⟩ => rfl
    rw [hi]
    refine (reference_apply _ _ (i 0) (i 1)).trans ?_
    show _ = Cert.KernelMobaIdeal.Proj.outAt m c (i 0) (i 1)
    unfold Cert.KernelMobaIdeal.Proj.outAt
    rw [rows_eq, weights_eq]
    exact Finset.sum_congr rfl fun k _ => congrArg _ (slice_apply _ k (i 1)).symm

end Cert.ProjMoba

end
-- ==== Proof.ProjGla.Array.lean ====
/- The projection onto the linear attention's columns: what the weights' scratch holds while a column block is worked
   on, what one point computes, and the whole result array. -/
module

public import proofs.«01_k».proof.Proof.Gen.KernelGlaIdeal.Value
public import Idealize.ShloMosaic.Lib.Pointwise
public import Idealize.ShloMosaic.Lib.Pipeline.Covers
public import Idealize.ShloMosaic.Lib.Pipeline.ValueKit
public import Idealize.ShloMosaic.Lib.Pipeline.ReadBack

@[expose] public section

set_option maxRecDepth 16384
set_option Elab.async false

noncomputable section

namespace Cert.KernelGlaIdeal.Proj

open Cert.KernelGlaIdeal Cert.KernelGlaIdeal.Gen
open Idealize.ShloMosaic Idealize.ShloMosaic.TcCoe Idealize.SL.Sem
open Idealize.ShloMosaic.Pipeline (Dat Cfg Window)

variable (m : (ℓ : Loc nD τ sig) → Buf (Elt Ideal) ℓ) (c : Dev nD)

/-- The rows as the call finds them. -/
abbrev rows : S16384x2048.Idx → Elt Ideal .f32 := V m c (Pipeline.arrRef spec0 0)
/-- The weights as the call finds them. -/
abbrev weights : S2048x6160.Idx → Elt Ideal .f32 := V m c (Pipeline.arrRef spec0 1)

/-- Column `l` of column block `j`, among the weights' columns and among the result's. -/
def wcol (j : Fin 3) (l : Fin 1024) : Fin 6160 := ⟨j.val * 1024 + l.val, by omega⟩

/-- The column block of a point. -/
def blockOf (t : Fin grid0.N) : Fin 3 := ⟨t.val / 32, by have : t.val < 96 := t.isLt; omega⟩
/-- Row `r` of a point's row block. -/
def rowOf (t : Fin grid0.N) (r : Fin 512) : Fin 16384 := ⟨t.val % 32 * 512 + r.val, by omega⟩

theorem index0 (t : Fin grid0.N) : cc0_transform_0 (grid0.coords t) = ![t.val % 32, 0] := by revert t; decide +kernel
theorem index1 (t : Fin grid0.N) : cc0_transform_1 (grid0.coords t) = ![0, t.val / 32] := by revert t; decide +kernel
theorem index2 (t : Fin grid0.N) : cc0_transform_2 (grid0.coords t) = ![t.val % 32, t.val / 32] := by revert t; decide +kernel

/-- A point's row block. -/
theorem rows_block (t : Fin cfg0.N) (r : Fin 512) (k : Fin 2048) :
    iblk m c 0 t (ix2 r k) = rows m c (ix2 (rowOf t r) k) := by
  unfold iblk
  rw [View.read_apply]
  show V m c (Pipeline.arrRef spec0 0) _ = V m c (Pipeline.arrRef spec0 0) _
  congr 1
  funext a
  apply Fin.ext
  match a with
  | ⟨0, _⟩ =>
    refine (Window.rect_emb_val (cfg0.win (0 : Fin 3)) t (ix2 r k) (0 : Fin 2)).trans ?_
    show cc0_transform_0 (grid0.coords t) 0 * 512 + r.val = t.val % 32 * 512 + r.val
    rw [index0]; rfl
  | ⟨1, _⟩ =>
    refine (Window.rect_emb_val (cfg0.win (0 : Fin 3)) t (ix2 r k) (1 : Fin 2)).trans ?_
    show cc0_transform_0 (grid0.coords t) 1 * 2048 + k.val = k.val
    rw [index0]; show 0 * 2048 + k.val = k.val; omega

/-- A point's column block of the weights. -/
theorem weights_block (t : Fin cfg0.N) (k : Fin 2048) (l : Fin 1024) :
    X0_1 m c t (ix2 k l) = weights m c (ix2 k (wcol (blockOf t) l)) := by
  unfold X0_1 Window.fill
  rw [dif_pos (moved0_1 t (ix2 k l))]
  unfold iblk
  rw [View.read_apply]
  show V m c (Pipeline.arrRef spec0 1) _ = V m c (Pipeline.arrRef spec0 1) _
  congr 1
  funext a
  apply Fin.ext
  match a with
  | ⟨0, _⟩ =>
    refine (Window.rect_emb_val (cfg0.win (1 : Fin 3)) t _ (0 : Fin 2)).trans ?_
    show cc0_transform_1 (grid0.coords t) 0 * 2048 + k.val = k.val
    rw [index1]; show 0 * 2048 + k.val = k.val; omega
  | ⟨1, _⟩ =>
    refine (Window.rect_emb_val (cfg0.win (1 : Fin 3)) t _ (1 : Fin 2)).trans ?_
    show cc0_transform_1 (grid0.coords t) 1 * 1024 + l.val = t.val / 32 * 1024 + l.val
    rw [index1]; rfl

/-- Points of one column block find the same block of the weights. -/
theorem same_block (t t' : Fin cfg0.N) (h : blockOf t = blockOf t') : X0_1 m c t = X0_1 m c t' := by
  have key : ∀ (k : Fin 2048) (l : Fin 1024), X0_1 m c t (ix2 k l) = X0_1 m c t' (ix2 k l) := fun k l => by
    rw [weights_block m c t k l, weights_block m c t' k l, h]
  funext y
  have hy : y = ix2 (y (0 : Fin 2)) (y (1 : Fin 2)) := by
    funext a
    match a with
    | ⟨0, _⟩ => rfl
    | ⟨1, _⟩ => rfl
  rw [hy]
  exact key _ _

/-- The narrowed weights are the weights. -/
theorem narrowed (x : S2048x1024.Idx → Elt Ideal .f32) : k0_pay1 (F := Ideal) x = x := by
  funext y
  have hy : y = ix2 (y 0) (y 1) := by
    funext a
    match a with
    | ⟨0, _⟩ => rfl
    | ⟨1, _⟩ => rfl
  rw [hy]
  pointwise [k0_pay1]

/-- One block's product. -/
theorem product (x : S512x2048.Idx → Elt Ideal .f32) (w : S2048x1024.Idx → Elt Ideal .bf16) (r : Fin 512) (l : Fin 1024) :
    k0_pay2 (F := Ideal) x w (ix2 r l) = ∑ k : Fin 2048, x (ix2 r k) * w (ix2 k l) := by
  pointwise [k0_pay2]

/-- After every point the scratch holds the point's column block of the weights. -/
theorem scratch (n : ℕ) (hn : n < cfg0.N) : (outsAt0 m c n hn).2 = X0_1 m c ⟨n, hn⟩ := by
  induction n with
  | zero =>
    rw [outsAt0_A m c ⟨0, hn⟩ rfl]
    frame_out
    exact narrowed _
  | succ n ih =>
    by_cases h0 : (n + 1) % 32 = 0
    · rw [outsAt0_A m c ⟨n + 1, hn⟩ h0]
      frame_out
      exact narrowed _
    · have prev : ∀ k (hk : k < cfg0.N), k = n → (outsAt0 m c k hk).2 = X0_1 m c ⟨n, Nat.lt_of_succ_lt hn⟩ := by
        rintro k hk rfl
        exact ih hk
      rw [outsAt0_B m c ⟨n + 1, hn⟩ h0]
      unfold sout0_B_0
      dsimp only
      rw [prev (n + 1 - 1) _ (Nat.add_sub_cancel n 1)]
      exact same_block m c _ _ (Fin.ext (show n / 32 = (n + 1) / 32 by omega))

/-- What a point leaves in its block of the result. -/
theorem left (t : Fin cfg0.N) (r : Fin 512) (l : Fin 1024) :
    (outsAt0 m c t.val t.isLt).1 (ix2 r l)
      = ∑ k : Fin 2048, rows m c (ix2 (rowOf t r) k) * weights m c (ix2 k (wcol (blockOf t) l)) := by
  have key : (outsAt0 m c t.val t.isLt).1 = k0_pay2 (F := Ideal) (iblk m c 0 t) (X0_1 m c t) := by
    by_cases h0 : t.val % 32 = 0
    · rw [outsAt0_A m c t h0]
      frame_out
      rw [narrowed]
    · have hs : (outsAt0 m c (t.val - 1) (Nat.lt_of_le_of_lt (Nat.sub_le _ _) t.isLt)).2 = X0_1 m c t := by
        have h := congrArg Prod.snd (outsAt0_B m c t h0)
        exact h.symm.trans (scratch m c t.val t.isLt)
      rw [outsAt0_B m c t h0, hs]
      frame_out
      simp only [read_unread_whole]
  rw [key, product]
  refine Finset.sum_congr rfl fun k _ => ?_
  rw [rows_block m c t r k, weights_block m c t k l]

/-- Element (i, j) of the rows times the weights' first 3072 columns. -/
def outAt (i : Fin 16384) (j : Fin 3072) : EReal :=
  ∑ k : Fin 2048, rows m c (ix2 i k) * weights m c (ix2 k (⟨j.val, by omega⟩ : Fin 6160))

/-- The result. -/
def out : Buf (Elt Ideal) ((c : Thread nD τ).loc main_v0) := fun i => outAt m c (i 0) (i 1)

theorem final : (dats m 0 c).arrAt 2 cfg0.N = out m c := by
  refine (dats m 0 c).arrAt_eq_of_covers (2 : Fin 3) _ (by decide +kernel) (fun t _ y => ?_) (Memref.isWhole_whole _)
  refine (cast_eq _ _).trans ?_
  rw [after0_2]
  refine (congrArg (outsAt0 m c t.val t.isLt).1 (show _ = ix2 (y (0 : Fin 2)) (y (1 : Fin 2)) from ?_)).trans
    ((left m c t (y (0 : Fin 2)) (y (1 : Fin 2))).trans ?_)
  · funext a
    match a with
    | ⟨0, _⟩ => rfl
    | ⟨1, _⟩ => rfl
  · have e0 : (((cfg0.win 2).blk t).view.emb y 0).val = t.val % 32 * 512 + (y (0 : Fin 2)).val := by
      refine (Window.rect_emb_val (cfg0.win (2 : Fin 3)) t y (0 : Fin 2)).trans ?_
      show cc0_transform_2 (grid0.coords t) 0 * 512 + (y (0 : Fin 2)).val = _
      rw [index2]; rfl
    have e1 : (((cfg0.win 2).blk t).view.emb y 1).val = t.val / 32 * 1024 + (y (1 : Fin 2)).val := by
      refine (Window.rect_emb_val (cfg0.win (2 : Fin 3)) t y (1 : Fin 2)).trans ?_
      show cc0_transform_2 (grid0.coords t) 1 * 1024 + (y (1 : Fin 2)).val = _
      rw [index2]; rfl
    have h0 : rowOf t (y (0 : Fin 2)) = ((cfg0.win 2).blk t).view.emb y 0 := Fin.ext e0.symm
    have h1 : wcol (blockOf t) (y (1 : Fin 2)) = (⟨(((cfg0.win 2).blk t).view.emb y 1).val, by rw [e1]; exact (wcol (blockOf t) (y (1 : Fin 2))).isLt⟩ : Fin 6160) := Fin.ext e1.symm
    rw [h0, h1]
    rfl

end Cert.KernelGlaIdeal.Proj

end
-- ==== Proof.ProjGla.Equation.lean ====
/- The projection onto the linear attention's columns: the kernel's array is the reference's product. -/
module

public import proofs.«01_k».proof.Defs
public import proofs.«01_k».proof.Proof.ProjGla.Array
public import proofs.«01_k».proof.Proof.Gen.ReferenceGlaIdeal.Run

@[expose] public section

set_option Elab.async false

noncomputable section

namespace Cert.ProjGla

open Idealize.ShloMosaic Idealize.ShloMosaic.TcCoe Idealize.SL.Sem

section
open Cert.ReferenceGlaIdeal Cert.ReferenceGlaIdeal.Gen

/-- The reference's product, element by element. -/
theorem reference_apply (x : S16384x2048.Idx → Elt Ideal .f32) (w : S2048x6160.Idx → Elt Ideal .f32)
    (i : Fin 16384) (j : Fin 3072) :
    Host.dotGeneral (F := Ideal) (φ₁ := .f32) (φ₂ := .f32) dot_S16384x2048_S2048x3072_S16384x3072_1_0_0_1_n_n none x
      (extractStridedSlice S2048x3072 ![0, 0] w slices_S2048x6160_S2048x3072_0_0) (ix2 i j)
      = ∑ k : Fin 2048, x (ix2 i k) * w (ix2 k (⟨j.val, by omega⟩ : Fin 6160)) := by
  pointwise []

end

/-- The kernel's array and the reference's are the same extended reals, and both programs run. -/
theorem algebraic : Cert.algebraic_KernelGlaIdeal_ReferenceGlaIdeal (hKernelGlaIdeal := Cert.KernelGlaIdeal.Gen.facts)
    (hReferenceGlaIdeal := Cert.ReferenceGlaIdeal.Gen.facts) := by
  intro m g m' g' _ hagree
  refine ⟨fun c => Cert.KernelGlaIdeal.Proj.out m c, ?_, ?_⟩
  · exact (θ_run Cert.KernelGlaIdeal.defs _ _).mono
      (fun _ h c => ⟨(h c).1.trans (Cert.KernelGlaIdeal.Proj.final m c), (h c).2⟩) (Cert.KernelGlaIdeal.Value.run_blocks m g)
  · refine (θ_run Cert.ReferenceGlaIdeal.defs _ _).mono (fun _ h c => ⟨(h c).1.trans ?_, (h c).2⟩)
      (Cert.ReferenceGlaIdeal.Value.run (F := Ideal) m' g')
    obtain ⟨e0, e1⟩ := hagree c
    rw [e0, e1]
    funext i
    have hi : i = ix2 (i 0) (i 1) := by
      funext a
      match a with
      | ⟨0, _⟩ => rfl
      | ⟨1, _⟩ => rfl
    rw [hi]
    exact reference_apply _ _ (i 0) (i 1)

end Cert.ProjGla

end
-- ==== Proof.OutProj.Choice.lean ====
/- Choosing the greatest elements of a row, over the extended reals: what a stable descending sort puts in its first two
   places, and what repeated maxima with the least position of each find, are the same two positions. -/
module

public import Idealize.ShloMosaic.Lib.SortFacts
public import Mathlib.Data.EReal.Basic
public import Mathlib.Data.Finset.Fold

@[expose] public section

set_option Elab.async false

noncomputable section

namespace Cert.OutProj

open Idealize.ShloMosaic

/-- Position `i` comes before position `j`: its value is greater, or the same and it stands first. -/
def Beats {n : ℕ} (a : Fin n → EReal) (i j : Fin n) : Prop := a j < a i ∨ (a j = a i ∧ i < j)

/-- Position `i` comes before every other. -/
def IsTop {n : ℕ} (a : Fin n → EReal) (i : Fin n) : Prop := ∀ j, j ≠ i → Beats a i j

/-- Position `k` comes before every other but `i`. -/
def IsSecond {n : ℕ} (a : Fin n → EReal) (i k : Fin n) : Prop := k ≠ i ∧ ∀ j, j ≠ i → j ≠ k → Beats a k j

theorem Beats.le {n : ℕ} {a : Fin n → EReal} {i j : Fin n} (h : Beats a i j) : a j ≤ a i :=
  h.elim le_of_lt fun h => h.1.le

theorem IsTop.le {n : ℕ} {a : Fin n → EReal} {i : Fin n} (h : IsTop a i) (j : Fin n) : a j ≤ a i := by
  by_cases hj : j = i
  · rw [hj]
  · exact (h j hj).le

/-! ## The stable sort -/

/-- The comparison of the sort: by value alone. -/
def byValue {n : ℕ} (a : Fin n → EReal) (k k' : Fin n) : Bool := decide (a k' < a k)

/-- The same, with equal values told apart by their positions. -/
def byPlace {n : ℕ} (a : Fin n → EReal) (k k' : Fin n) : Bool := decide (a k' < a k ∨ (a k' = a k ∧ k < k'))

/-- Sorting by value keeps equal values in the order in which they stand. -/
theorem sort_byValue {n : ℕ} (a : Fin n → EReal) (l : List (Fin n)) (hl : l.Pairwise (· < ·)) :
    stableSort (byValue a) l = stableSort (byPlace a) l := by
  induction l with
  | nil => rfl
  | cons x l ih =>
    rw [List.pairwise_cons] at hl
    unfold stableSort
    rw [ih hl.2]
    refine insertBefore_congr _ _ x _ fun b hb => ?_
    have hxb : x < b := hl.1 b ((perm_stableSort (byPlace a) l).mem_iff.mp hb)
    unfold byValue byPlace
    refine decide_eq_decide.mpr ⟨Or.inl, fun h => h.elim id fun h => absurd h.2 (not_lt.mpr hxb.le)⟩

theorem sortedFrom_byValue {n : ℕ} (a : Fin n → EReal) : sortedFrom (byValue a) = sortedFrom (byPlace a) := by
  funext k
  unfold sortedFrom
  rw [List.get_of_eq (show sortPositions n (byValue a) = sortPositions n (byPlace a) from
    sort_byValue a _ (List.pairwise_lt_finRange n))]
  rfl

/-- A later place of the sorted row does not come before an earlier one. -/
theorem sorted_beats {n : ℕ} (a : Fin n → EReal) (i j : Fin n) (hij : i < j) :
    Beats a (sortedFrom (byValue a) i) (sortedFrom (byValue a) j) := by
  rw [sortedFrom_byValue]
  have hne : sortedFrom (byPlace a) i ≠ sortedFrom (byPlace a) j := fun h => hij.ne (sortedFrom_injective _ h)
  have h := sortedFrom_noInversion (byPlace a) (byPlace a)
    (fun x y h => by
      unfold byPlace at h ⊢
      simp only [decide_eq_true_eq, decide_eq_false_iff_not] at h ⊢
      rintro (h' | h') <;> rcases h with h | h
      · exact lt_asymm h h'
      · exact h'.ne h.1.symm
      · exact h.ne h'.1.symm
      · exact lt_asymm h.2 h'.2)
    (fun _ _ h => h)
    (fun x y z hxy hyz => by
      unfold byPlace at hxy hyz ⊢
      simp only [decide_eq_false_iff_not, not_or, not_and, not_lt] at hxy hyz ⊢
      refine ⟨hxy.1.trans hyz.1, fun e => ?_⟩
      have e1 : a y = a x := le_antisymm (e ▸ hyz.1) hxy.1
      have e2 : a z = a y := e.trans e1.symm
      exact (hyz.2 e2).trans (hxy.2 e1))
    i j hij
  have h : decide (a (sortedFrom (byPlace a) i) < a (sortedFrom (byPlace a) j)
      ∨ (a (sortedFrom (byPlace a) i) = a (sortedFrom (byPlace a) j)
        ∧ sortedFrom (byPlace a) j < sortedFrom (byPlace a) i)) = false := h
  simp only [decide_eq_false_iff_not, not_or, not_and, not_lt] at h
  rcases lt_or_eq_of_le h.1 with h' | h'
  · exact Or.inl h'
  · exact Or.inr ⟨h', lt_of_le_of_ne (h.2 h'.symm) hne⟩

/-- The first place of the sorted row holds the position that comes before every other. -/
theorem sorted_isTop {n : ℕ} (a : Fin n → EReal) (z : Fin n) (hz : z.val = 0) : IsTop a (sortedFrom (byValue a) z) := by
  intro j hj
  obtain ⟨k, rfl⟩ := sortedFrom_surjective (byValue a) j
  refine sorted_beats a z k (Fin.lt_def.mpr ?_)
  have : k.val ≠ z.val := fun h => hj (congrArg _ (Fin.ext h))
  omega

/-- The second place holds the position that comes before every other but the first. -/
theorem sorted_isSecond {n : ℕ} (a : Fin n → EReal) (z o : Fin n) (hz : z.val = 0) (ho : o.val = 1) :
    IsSecond a (sortedFrom (byValue a) z) (sortedFrom (byValue a) o) := by
  refine ⟨fun h => ?_, fun j hj hj' => ?_⟩
  · have h := Fin.val_eq_of_eq (sortedFrom_injective (byValue a) h)
    omega
  · obtain ⟨k, rfl⟩ := sortedFrom_surjective (byValue a) j
    refine sorted_beats a o k (Fin.lt_def.mpr ?_)
    have h1 : k.val ≠ z.val := fun h => hj (congrArg _ (Fin.ext h))
    have h2 : k.val ≠ o.val := fun h => hj' (congrArg _ (Fin.ext h))
    omega

/-! ## Maxima in rounds, over the lanes of a row -/

/-- A lane's number, as an extended real. -/
def lane {n : ℕ} (l : Fin n) : EReal := ((l.val : ℝ) : EReal)

theorem lane_lt {n : ℕ} {l l' : Fin n} : lane l < lane l' ↔ l < l' := by
  unfold lane
  rw [EReal.coe_lt_coe_iff, Nat.cast_lt, Fin.lt_def]

theorem lane_inj {n : ℕ} {l l' : Fin n} : lane l = lane l' ↔ l = l' := by
  unfold lane
  rw [EReal.coe_eq_coe_iff, Nat.cast_inj, Fin.ext_iff]

/-- The greatest value of a row. -/
def topVal {n : ℕ} (v : Fin n → EReal) : EReal := Finset.univ.fold max ⊥ v

/-- The number of the first lane that holds the greatest value. -/
def firstPos (v : Fin 128 → EReal) : EReal :=
  Finset.univ.fold min ⊤ fun l => if v l = topVal v then lane l else ((128 : ℝ) : EReal)

/-- The row without that lane. -/
def dropped (v : Fin 128 → EReal) : Fin 128 → EReal := fun l => if lane l = firstPos v then ⊥ else v l

theorem topVal_eq {n : ℕ} {v : Fin n → EReal} {i : Fin n} (h : IsTop v i) : topVal v = v i :=
  le_antisymm (Finset.fold_max_le _ |>.mpr ⟨bot_le, fun j _ => h.le j⟩)
    (Finset.le_fold_max _ |>.mpr (Or.inr ⟨i, Finset.mem_univ _, le_rfl⟩))

theorem firstPos_eq {v : Fin 128 → EReal} {i : Fin 128} (h : IsTop v i) : firstPos v = lane i := by
  unfold firstPos
  rw [topVal_eq h]
  refine le_antisymm (Finset.fold_min_le _ |>.mpr (Or.inr ⟨i, Finset.mem_univ _, ?_⟩))
    (Finset.le_fold_min _ |>.mpr ⟨le_top, fun j _ => ?_⟩)
  · rw [if_pos rfl]
  · by_cases hj : v j = v i
    · rw [if_pos hj]
      by_cases e : j = i
      · rw [e]
      · rcases h j e with h | h
        · exact absurd hj h.ne
        · exact (lane_lt.mpr h.2).le
    · rw [if_neg hj]
      unfold lane
      rw [EReal.coe_le_coe_iff]
      exact_mod_cast i.isLt.le

theorem dropped_apply {v : Fin 128 → EReal} {i : Fin 128} (h : IsTop v i) (l : Fin 128) :
    dropped v l = if l = i then ⊥ else v l := by
  unfold dropped
  rw [firstPos_eq h]
  simp only [lane_inj]

/-- Without its first choice, the row's second choice is its first. -/
theorem dropped_isTop {v : Fin 128 → EReal} {i k : Fin 128} (h : IsTop v i) (h2 : IsSecond v i k) (hk : v k ≠ ⊥) :
    IsTop (dropped v) k := by
  intro j hj
  unfold Beats
  rw [dropped_apply h, dropped_apply h, if_neg h2.1]
  by_cases e : j = i
  · rw [if_pos e]
    exact Or.inl (bot_lt_iff_ne_bot.mpr hk)
  · rw [if_neg e]
    exact h2.2 j e hj

theorem topVal_dropped {v : Fin 128 → EReal} {i k : Fin 128} (h : IsTop v i) (h2 : IsSecond v i k) (hk : v k ≠ ⊥) :
    topVal (dropped v) = v k := by
  rw [topVal_eq (dropped_isTop h h2 hk), dropped_apply h, if_neg h2.1]

theorem firstPos_dropped {v : Fin 128 → EReal} {i k : Fin 128} (h : IsTop v i) (h2 : IsSecond v i k) (hk : v k ≠ ⊥) :
    firstPos (dropped v) = lane k := firstPos_eq (dropped_isTop h h2 hk)

/-! ## A short row spread over a longer one -/

/-- A first choice among the lanes that hold a row is a first choice among all, when the others hold −∞. -/
theorem spread_isTop {n p : ℕ} {a : Fin n → EReal} {v : Fin p → EReal} (emb : Fin n → Fin p) (hmono : StrictMono emb)
    (hin : ∀ e, v (emb e) = a e) (hout : ∀ l, (∀ e, emb e ≠ l) → v l = ⊥) {i : Fin n} (hi : a i ≠ ⊥) (h : IsTop a i) :
    IsTop v (emb i) := by
  intro l hl
  unfold Beats
  by_cases he : ∃ e, emb e = l
  · obtain ⟨e, rfl⟩ := he
    rw [hin, hin]
    refine (h e fun e' => hl (congrArg emb e')).imp id fun h => ⟨h.1, hmono h.2⟩
  · rw [hout l fun e e' => he ⟨e, e'⟩, hin]
    exact Or.inl (bot_lt_iff_ne_bot.mpr hi)

/-- So is a second choice. -/
theorem spread_isSecond {n p : ℕ} {a : Fin n → EReal} {v : Fin p → EReal} (emb : Fin n → Fin p) (hmono : StrictMono emb)
    (hin : ∀ e, v (emb e) = a e) (hout : ∀ l, (∀ e, emb e ≠ l) → v l = ⊥) {i k : Fin n} (hk : a k ≠ ⊥)
    (h : IsSecond a i k) : IsSecond v (emb i) (emb k) := by
  refine ⟨fun e => h.1 (hmono.injective e), fun l hl hl' => ?_⟩
  unfold Beats
  by_cases he : ∃ e, emb e = l
  · obtain ⟨e, rfl⟩ := he
    rw [hin, hin]
    refine (h.2 e (fun e' => hl (congrArg emb e')) fun e' => hl' (congrArg emb e')).imp id fun h => ⟨h.1, hmono h.2⟩
  · rw [hout l fun e e' => he ⟨e, e'⟩, hin]
    exact Or.inl (bot_lt_iff_ne_bot.mpr hk)

/-- A first choice is above −∞ when some element is. -/
theorem IsTop.ne_bot {n : ℕ} {a : Fin n → EReal} {i : Fin n} (h : IsTop a i) {e : Fin n} (he : a e ≠ ⊥) : a i ≠ ⊥ :=
  fun hi => he (le_bot_iff.mp (hi ▸ h.le e))

/-- A second choice is above −∞ when two elements are. -/
theorem IsSecond.ne_bot {n : ℕ} {a : Fin n → EReal} {i k : Fin n} (h : IsSecond a i k) {e e' : Fin n} (hne : e ≠ e')
    (he : a e ≠ ⊥) (he' : a e' ≠ ⊥) : a k ≠ ⊥ := by
  have key : ∀ x, x ≠ i → a x ≠ ⊥ → a k ≠ ⊥ := fun x hx hb hk => by
    by_cases e : x = k
    · exact hb (e ▸ hk)
    · exact hb (le_bot_iff.mp (hk ▸ (h.2 x hx e).le))
  by_cases e0 : e = i
  · exact key e' (fun e1 => hne (e0.trans e1.symm)) he'
  · exact key e e0 he

end Cert.OutProj

end
-- ==== Proof.OutProj.Row.lean ====
/- One row of the output projection's results, as functions of the row: the layer norm, the router's affinities, and the
   two experts that the router chooses, over the extended reals. -/
module

public import proofs.«01_k».proof.Proof.OutProj.Choice
public import Idealize.ShloMosaic.PureOps
public import Idealize.ShloMosaic.Lib.IdealHost

@[expose] public section

set_option Elab.async false

noncomputable section

namespace Cert.OutProj

open Idealize.ShloMosaic

/-- The residual's factor. -/
def alpha : EReal := ((Real.sqrt 2 : ℝ) : EReal)
/-- What the layer norm adds to the variance. -/
def eps : EReal := ((1 / 100000 : ℝ) : EReal)
/-- The row's length. -/
def width : EReal := ((2048 : ℝ) : EReal)

/-- A row's mean. -/
def mean (y : Fin 2048 → EReal) : EReal := Ideal.div (∑ x, y x) width

/-- A row's variance. -/
def variance (y : Fin 2048 → EReal) : EReal := Ideal.div (∑ x, (y x - mean y) * (y x - mean y)) width

/-- A row, normalised. -/
def normed (y g b : Fin 2048 → EReal) (j : Fin 2048) : EReal :=
  (y j - mean y) * Ideal.rsqrt (variance y + eps) * g j + b j

/-- The residual stream's row before the layer norm. -/
def stream (og om : Fin 1024 → EReal) (w : Fin 2048 → Fin 2048 → EReal) (h : Fin 2048 → EReal) (x : Fin 2048) : EReal :=
  alpha * h x + (∑ k : Fin 1024, og k * w ⟨k.val, by omega⟩ x + ∑ k : Fin 1024, om k * w ⟨1024 + k.val, by omega⟩ x)

/-- The router's scores of a row. -/
def logits (x : Fin 2048 → EReal) (w : Fin 2048 → Fin 16 → EReal) (e : Fin 16) : EReal := ∑ k, x k * w k e

/-- The scores' softmax. -/
def softmax (z : Fin 16 → EReal) (e : Fin 16) : EReal :=
  Ideal.div (Ideal.exp (z e - topVal z)) (∑ x, Ideal.exp (z x - topVal z))

/-- Expert `e` of group `g`. -/
def member (g e : Fin 4) : Fin 16 := ⟨4 * g.val + e.val, by omega⟩

/-- A group's scores. -/
def group (bs : Fin 16 → EReal) (g : Fin 4) : Fin 4 → EReal := fun e => bs (member g e)

/-- The scores with every other group's struck out. -/
def within (bs : Fin 16 → EReal) (g : Fin 4) : Fin 16 → EReal := fun e => if e.val / 4 = g.val then bs e else ⊥

/-- The two experts that scores `bs` choose: the group whose two best scores have the greatest sum, then its two best. -/
def Chosen (bs : Fin 16 → EReal) (i k : Fin 16) : Prop :=
  ∃ (s : Fin 4 → EReal) (g : Fin 4),
    (∀ g', ∃ p q, IsTop (group bs g') p ∧ IsSecond (group bs g') p q ∧ s g' = group bs g' p + group bs g' q)
    ∧ IsTop s g ∧ IsTop (within bs g) i ∧ IsSecond (within bs g) i k

/-- What the router leaves of a row: the two experts' numbers, their weights, zeros. -/
def record (af : Fin 16 → EReal) (i k : Fin 16) (l : Fin 128) : EReal :=
  if l.val = 0 then lane i else if l.val = 1 then lane k
  else if l.val = 2 then Ideal.div (af i) (af i + af k)
  else if l.val = 3 then Ideal.div (af k) (af i + af k) else 0

/-! ## Real numbers among the extended reals -/

/-- An extended real that is a real number. -/
def IsReal (x : EReal) : Prop := ∃ r : ℝ, x = (r : EReal)

theorem IsReal.ne_bot {x : EReal} (h : IsReal x) : x ≠ ⊥ := by
  obtain ⟨r, rfl⟩ := h
  exact EReal.coe_ne_bot r

theorem IsReal.sub_self {x : EReal} (h : IsReal x) : x - x = 0 := by
  obtain ⟨r, rfl⟩ := h
  rw [← EReal.coe_sub, _root_.sub_self, EReal.coe_zero]

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.sub {x y : EReal} (hx : IsReal x) (hy : IsReal y) : IsReal (x - y) := by
  obtain ⟨r, rfl⟩ := hx
  obtain ⟨s, rfl⟩ := hy
  exact ⟨r - s, (EReal.coe_sub r s).symm⟩

theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem sum_coe {n : ℕ} (f : Fin n → ℝ) : ∑ x, ((f x : ℝ) : EReal) = ((∑ x, f x : ℝ) : EReal) := by
  induction n with
  | zero => simp
  | succ n ih => rw [Fin.sum_univ_succ, Fin.sum_univ_succ, ih, EReal.coe_add]

theorem IsReal.sum {n : ℕ} {f : Fin n → EReal} (h : ∀ x, IsReal (f x)) : IsReal (∑ x, f x) := by
  choose r hr using h
  exact ⟨∑ x, r x, by rw [← sum_coe]; exact Finset.sum_congr rfl fun x _ => hr x⟩

theorem div_coe (r s : ℝ) (hs : s ≠ 0) : Ideal.div (r : EReal) (s : EReal) = ((r / s : ℝ) : EReal) := by
  unfold Ideal.div
  rw [if_neg (by exact_mod_cast hs), div_eq_mul_inv, EReal.coe_mul, EReal.coe_inv]

theorem IsReal.div {x : EReal} (hx : IsReal x) {s : ℝ} (hs : s ≠ 0) : IsReal (Ideal.div x (s : EReal)) := by
  obtain ⟨r, rfl⟩ := hx
  exact ⟨r / s, div_coe r s hs⟩

theorem isReal_mean {y : Fin 2048 → EReal} (hy : ∀ x, IsReal (y x)) : IsReal (mean y) :=
  (IsReal.sum hy).div (by norm_num)

/-- A real row's normalised row is real: its variance is not negative. -/
theorem isReal_normed {y g b : Fin 2048 → EReal} (hy : ∀ x, IsReal (y x)) (hg : ∀ x, IsReal (g x)) (hb : ∀ x, IsReal (b x))
    (j : Fin 2048) : IsReal (normed y g b j) := by
  refine ((((hy j).sub (isReal_mean hy)).mul ?_).mul (hg j)).add (hb j)
  choose d hd using fun x => (hy x).sub (isReal_mean hy)
  have hv : variance y = ((∑ x, d x * d x) / 2048 : ℝ) := by
    unfold variance width
    rw [← div_coe _ _ (by norm_num), ← sum_coe]
    refine congrArg (fun s => Ideal.div s _) (Finset.sum_congr rfl fun x _ => ?_)
    rw [hd x, EReal.coe_mul]
  have hpos : (0 : ℝ) < (∑ x, d x * d x) / 2048 + 1 / 100000 := by
    have : (0 : ℝ) ≤ ∑ x, d x * d x := Finset.sum_nonneg fun x _ => mul_self_nonneg _
    positivity
  unfold eps
  rw [hv, ← EReal.coe_add, Ideal.rsqrt_coe, if_neg (not_lt.mpr hpos.le), if_neg hpos.ne']
  exact ⟨_, rfl⟩

theorem isReal_topVal {n : ℕ} {z : Fin n → EReal} (hz : ∀ e, IsReal (z e)) (e : Fin n) : IsReal (topVal z) := by
  have hb : topVal z ≠ ⊥ := fun h => (hz e).ne_bot
    (le_bot_iff.mp (h ▸ (Finset.le_fold_max _ |>.mpr (Or.inr ⟨e, Finset.mem_univ _, le_rfl⟩) : z e ≤ topVal z)))
  have ht : topVal z ≠ ⊤ := ne_of_lt (Finset.fold_max_lt _ |>.mpr ⟨bot_lt_top, fun x _ => by
    obtain ⟨r, hr⟩ := hz x
    rw [hr]
    exact EReal.coe_lt_top r⟩)
  exact ⟨(topVal z).toReal, (EReal.coe_toReal ht hb).symm⟩

/-- The affinities of real scores are real. -/
theorem isReal_softmax {z : Fin 16 → EReal} (hz : ∀ e, IsReal (z e)) (e : Fin 16) : IsReal (softmax z e) := by
  choose d hd using fun x => (hz x).sub (isReal_topVal hz e)
  unfold softmax
  simp only [hd, Ideal.exp_coe, sum_coe]
  refine IsReal.div ⟨_, rfl⟩ (ne_of_gt ?_)
  exact Finset.sum_pos (fun x _ => Real.exp_pos _) ⟨e, Finset.mem_univ _⟩

end Cert.OutProj

end
-- ==== Proof.OutProj.Wide.lean ====
/- A row of sixteen experts spread over 128 lanes, the rest of them at −∞: the maxima, the softmax and the choices over the
   lanes are those over the experts. -/
module

public import proofs.«01_k».proof.Proof.OutProj.Row

@[expose] public section

set_option Elab.async false

noncomputable section

namespace Cert.OutProj

open Idealize.ShloMosaic

/-- Sixteen experts' values in the first lanes, −∞ in the others. -/
def wide (z : Fin 16 → EReal) (l : Fin 128) : EReal := if h : l.val < 16 then z ⟨l.val, h⟩ else ⊥

/-- An expert's lane. -/
def laneOf (e : Fin 16) : Fin 128 := ⟨e.val, by omega⟩

theorem wide_laneOf (z : Fin 16 → EReal) (e : Fin 16) : wide z (laneOf e) = z e := by
  unfold wide laneOf
  rw [dif_pos e.isLt]

theorem wide_out (z : Fin 16 → EReal) (l : Fin 128) (h : ∀ e, laneOf e ≠ l) : wide z l = ⊥ := by
  unfold wide
  rw [dif_neg fun hl => h ⟨l.val, hl⟩ rfl]

theorem laneOf_mono : StrictMono laneOf := fun _ _ h => h

theorem lane_laneOf (e : Fin 16) : lane (laneOf e) = lane e := rfl

theorem topVal_wide (z : Fin 16 → EReal) : topVal (wide z) = topVal z := by
  refine le_antisymm (Finset.fold_max_le _ |>.mpr ⟨bot_le, fun l _ => ?_⟩) (Finset.fold_max_le _ |>.mpr ⟨bot_le, fun e _ => ?_⟩)
  · by_cases h : l.val < 16
    · exact Finset.le_fold_max _ |>.mpr (Or.inr ⟨⟨l.val, h⟩, Finset.mem_univ _, by unfold wide; rw [dif_pos h]⟩)
    · unfold wide
      rw [dif_neg h]
      exact bot_le
  · exact Finset.le_fold_max _ |>.mpr (Or.inr ⟨laneOf e, Finset.mem_univ _, (wide_laneOf z e).ge⟩)

/-- A sum over the lanes that vanishes off the experts is the sum over the experts. -/
theorem sum_lanes (f : Fin 128 → EReal) (h : ∀ l : Fin 128, ¬ l.val < 16 → f l = 0) : ∑ l, f l = ∑ e, f (laneOf e) := by
  refine (Finset.sum_of_injOn laneOf (fun _ _ _ _ h => laneOf_mono.injective h) (fun _ _ => Finset.mem_univ _)
    (fun l _ hl => h l fun hl' => hl ⟨⟨l.val, hl'⟩, Finset.mem_univ _, rfl⟩) (fun _ _ => rfl)).symm

/-- The exponentials over the lanes have the experts' sum. -/
theorem sum_exp_wide {z : Fin 16 → EReal} {M : EReal} (hM : IsReal M) :
    ∑ l, Ideal.exp (wide z l - M) = ∑ e, Ideal.exp (z e - M) := by
  rw [sum_lanes _ fun l hl => ?_]
  · exact Finset.sum_congr rfl fun e _ => by rw [wide_laneOf]
  · obtain ⟨r, rfl⟩ := hM
    unfold wide
    rw [dif_neg hl, EReal.bot_sub, Ideal.exp_bot]

/-- The softmax over the lanes. -/
def wideSoftmax (v : Fin 128 → EReal) (l : Fin 128) : EReal := Ideal.div (Ideal.exp (v l - topVal v)) (∑ x, Ideal.exp (v x - topVal v))

theorem wideSoftmax_wide {z : Fin 16 → EReal} (hz : ∀ e, IsReal (z e)) (e : Fin 16) :
    wideSoftmax (wide z) (laneOf e) = softmax z e := by
  unfold wideSoftmax softmax
  rw [topVal_wide, sum_exp_wide (isReal_topVal hz e), wide_laneOf]

/-! ## The groups -/

/-- The sum of a row's two greatest values. -/
def score (v : Fin 128 → EReal) : EReal := topVal v + topVal (dropped v)

theorem member_group (bs : Fin 16 → EReal) (g e : Fin 4) : within bs g (member g e) = group bs g e := by
  unfold within group
  exact if_pos (show (4 * g.val + e.val) / 4 = g.val by omega)

theorem member_mono (g : Fin 4) : StrictMono fun e => laneOf (member g e) := fun e e' h =>
  Fin.lt_def.mpr (show 4 * g.val + e.val < 4 * g.val + e'.val from Nat.add_lt_add_left h _)

theorem within_out (bs : Fin 16 → EReal) (g : Fin 4) (l : Fin 128) (h : ∀ e, laneOf (member g e) ≠ l) :
    wide (within bs g) l = ⊥ := by
  unfold wide within
  by_cases hl : l.val < 16
  · rw [dif_pos hl, if_neg fun hg => h ⟨l.val % 4, by omega⟩ (Fin.ext (show 4 * g.val + l.val % 4 = l.val by
      have : l.val / 4 = g.val := hg
      omega))]
  · rw [dif_neg hl]

/-- Two rounds of maxima over a group's lanes sum the group's two best. -/
theorem score_within {bs : Fin 16 → EReal} (hb : ∀ e, IsReal (bs e)) {g p q : Fin 4} (hp : IsTop (group bs g) p)
    (hq : IsSecond (group bs g) p q) : score (wide (within bs g)) = group bs g p + group bs g q := by
  have hin : ∀ e, wide (within bs g) (laneOf (member g e)) = group bs g e := fun e => by rw [wide_laneOf, member_group]
  have h1 := spread_isTop _ (member_mono g) hin (within_out bs g) (hb _).ne_bot hp
  have h2 := spread_isSecond _ (member_mono g) hin (within_out bs g) (hb _).ne_bot hq
  unfold score
  rw [topVal_eq h1, topVal_dropped h1 h2 (by rw [hin]; exact (hb _).ne_bot), hin, hin]

/-- The two chosen experts' values are above −∞. -/
theorem chosen_ne_bot {bs : Fin 16 → EReal} (hb : ∀ e, IsReal (bs e)) {g : Fin 4} {i k : Fin 16}
    (hi : IsTop (within bs g) i) (hk : IsSecond (within bs g) i k) : within bs g i ≠ ⊥ ∧ within bs g k ≠ ⊥ := by
  have h : ∀ e, within bs g (member g e) ≠ ⊥ := fun e => by rw [member_group]; exact (hb _).ne_bot
  exact ⟨hi.ne_bot (h 0), hk.ne_bot (e := member g 0) (e' := member g 1)
    (fun e => by have := Fin.val_eq_of_eq e; simp [member] at this) (h 0) (h 1)⟩

/-- The rounds over the lanes find the two chosen experts. -/
theorem firstPos_within {bs : Fin 16 → EReal} (hb : ∀ e, IsReal (bs e)) {g : Fin 4} {i k : Fin 16}
    (hi : IsTop (within bs g) i) (hk : IsSecond (within bs g) i k) :
    firstPos (wide (within bs g)) = lane i ∧ firstPos (dropped (wide (within bs g))) = lane k := by
  obtain ⟨b1, b2⟩ := chosen_ne_bot hb hi hk
  have h1 := spread_isTop laneOf laneOf_mono (wide_laneOf _) (wide_out _) b1 hi
  have h2 := spread_isSecond laneOf laneOf_mono (wide_laneOf _) (wide_out _) b2 hk
  exact ⟨firstPos_eq h1, firstPos_dropped h1 h2 (by rw [wide_laneOf]; exact b2)⟩

/-! ## The best group, by comparing one after another -/

/-- The running best score after two groups, and after three. -/
def best1 (s : Fin 4 → EReal) : EReal := if s 0 < s 1 then s 1 else s 0
/-- See `best1`. -/
def best2 (s : Fin 4 → EReal) : EReal := if best1 s < s 2 then s 2 else best1 s
/-- The group that the comparisons leave. -/
def bestGroup (s : Fin 4 → EReal) : BitVec 32 :=
  if best2 s < s 3 then 3#32 else if best1 s < s 2 then 2#32 else if s 0 < s 1 then 1#32 else 0#32

theorem ite_lt {p : Prop} [Decidable p] {a b c : EReal} (ha : a < c) (hb : b < c) : (if p then a else b) < c := by
  by_cases h : p
  · rw [if_pos h]; exact ha
  · rw [if_neg h]; exact hb

theorem bestGroup_eq {s : Fin 4 → EReal} {g : Fin 4} (h : IsTop s g) : bestGroup s = BitVec.ofNat 32 g.val := by
  have key : ∀ j, (j < g → s j < s g) ∧ s j ≤ s g := fun j => ⟨fun hj => by
    rcases h j hj.ne with h | h
    · exact h
    · exact absurd h.2 (not_lt.mpr hj.le), h.le j⟩
  have k0 := key 0
  have k1 := key 1
  have k2 := key 2
  have k3 := key 3
  unfold bestGroup best2 best1
  match g, h with
  | ⟨0, _⟩, _ =>
    have a1 : ¬ s 0 < s 1 := not_lt.mpr k1.2
    have a2 : ¬ s 0 < s 2 := not_lt.mpr k2.2
    have a3 : ¬ s 0 < s 3 := not_lt.mpr k3.2
    simp only [if_neg a1, if_neg a2, if_neg a3]
  | ⟨1, _⟩, _ =>
    have a1 : s 0 < s 1 := k0.1 (Fin.lt_def.mpr (by norm_num))
    have a2 : ¬ s 1 < s 2 := not_lt.mpr k2.2
    have a3 : ¬ s 1 < s 3 := not_lt.mpr k3.2
    simp only [if_pos a1, if_neg a2, if_neg a3]
  | ⟨2, _⟩, _ =>
    have a1 : (if s 0 < s 1 then s 1 else s 0) < s 2 := by
      exact ite_lt (k1.1 (Fin.lt_def.mpr (by norm_num))) (k0.1 (Fin.lt_def.mpr (by norm_num)))
    have a3 : ¬ s 2 < s 3 := not_lt.mpr k3.2
    simp only [if_pos a1, if_neg a3]
  | ⟨3, _⟩, _ =>
    have a1 : (if s 0 < s 1 then s 1 else s 0) < s 3 := by
      exact ite_lt (k1.1 (Fin.lt_def.mpr (by norm_num))) (k0.1 (Fin.lt_def.mpr (by norm_num)))
    have a2 : (if (if s 0 < s 1 then s 1 else s 0) < s 2 then s 2 else (if s 0 < s 1 then s 1 else s 0)) < s 3 := by
      exact ite_lt (k2.1 (Fin.lt_def.mpr (by norm_num))) a1
    simp only [if_pos a2]

/-! ## Picking a lane out of a row -/

/-- Summing a row with every lane but one at zero gives that lane. -/
theorem sum_pick (v : Fin 128 → EReal) (i : Fin 128) : ∑ l, (if lane l = lane i then v l else 0) = v i := by
  simp only [lane_inj]
  rw [Finset.sum_ite_eq' Finset.univ i v, if_pos (Finset.mem_univ _)]

end Cert.OutProj

end
-- ==== Proof.OutProj.Block.lean ====
/- What the output projection's kernel computes of one block of rows, lane by lane, is the rows' layer norm and the router's
   record of them. -/
module

public import proofs.«01_k».proof.Proof.Gen.KernelOutIdeal.Value
public import proofs.«01_k».proof.Proof.OutProj.Wide
public import Idealize.ShloMosaic.Lib.Pointwise

@[expose] public section

set_option maxRecDepth 16384
set_option Elab.async false

noncomputable section

namespace Cert.KernelOutIdeal.Out

open Cert.KernelOutIdeal Cert.KernelOutIdeal.Gen Cert.OutProj
open Idealize.ShloMosaic Idealize.ShloMosaic.TcCoe Idealize.SL.Sem

/-! ## The constants -/

theorem alpha_eq : (Named.named (F := Ideal) (φ := .f32) κ "alpha" 0x3FB504F3#32 : EReal) = alpha := rfl
theorem eps_eq : (Named.named (F := Ideal) (φ := .f32) κ "ln_eps" 0x3727C5AC#32 : EReal) = eps := rfl
theorem width_eq : Ideal.ofBits .f32 0x45000000#32 = width := by
  unfold width
  simp [Ideal.ofBits, Ideal.ieee, -EReal.coe_mul]; norm_num
theorem bot_eq : Ideal.ofBits .f32 0xFF800000#32 = (⊥ : EReal) := by simp [Ideal.ofBits, Ideal.ieee]
theorem top_eq : Ideal.ofBits .f32 0x7F800000#32 = (⊤ : EReal) := by simp [Ideal.ofBits, Ideal.ieee]
theorem lanes_eq : Ideal.ofBits .f32 0x43000000#32 = ((128 : ℝ) : EReal) := by
  simp [Ideal.ofBits, Ideal.ieee, -EReal.coe_mul]; norm_num

/-! ## The layer norm -/

/-- A block's rows, normalised. -/
theorem rows_normed (v0 v4 : S512x1024.Idx → Elt Ideal .bf16) (v1 v5 : S1024x2048.Idx → Elt Ideal .bf16)
    (v9 : S512x2048.Idx → Elt Ideal .f32) (v13 v15 : S1x2048.Idx → Elt Ideal .f32) (r : Fin 512) (l : Fin 2048) :
    k0_pay2 (F := Ideal) v0 v1 v4 v5 v9 v13 v15 (ix2 r l)
      = normed (fun x => alpha * v9 (ix2 r x)
          + (∑ k, v0 (ix2 r k) * v1 (ix2 k x) + ∑ k, v4 (ix2 r k) * v5 (ix2 k x)))
          (fun j => v13 (ix2 (0 : Fin 1) j)) (fun j => v15 (ix2 (0 : Fin 1) j)) l := by
  pointwise [k0_pay2]
  rw [alpha_eq, eps_eq, width_eq]
  rfl

/-! ## Lanes -/

/-- A lane's number, converted. -/
theorem lane_number (r : Fin 512) (l : Fin 128) : k0_pay3 (F := Ideal) (ix2 r l) = lane l := by
  pointwise [k0_pay3]
  have h : ∀ l : Fin 128, (BitVec.ofNat 32 l.val).toInt = (l.val : ℤ) := by decide +kernel
  show (((BitVec.ofNat 32 l.val).toInt : ℝ) : EReal) = _
  rw [h]
  rfl

theorem first_lanes (r : Fin 512) (l : Fin 128) : k0_pay4 (ix2 r l) = if l.val < 16 then 1#1 else 0#1 := by
  pointwise [k0_pay4]
  revert l
  decide +kernel

theorem group_lanes (g : Fin 4) (r : Fin 512) (l : Fin 128) :
    IntOp.cmpi .eq (k0_pay7 (ix2 r l)) (BitVec.ofNat 32 g.val) = if l.val / 4 = g.val then 1#1 else 0#1 := by
  pointwise [k0_pay7]
  revert l g
  decide +kernel

/-! ## The affinities -/

section
variable (x : S512x2048.Idx → Elt Ideal .f32) (w2 : S2048x256.Idx → Elt Ideal .bf16) (w1 : S2048x128.Idx → Elt Ideal .bf16)
  (b : S1x128.Idx → Elt Ideal .f32) (w : Fin 2048 → Fin 16 → EReal) (bs : Fin 16 → EReal)

/-- The masked scores over the lanes. -/
def scores (r : Fin 512) (l : Fin 128) : EReal :=
  Scalar.select (k0_pay4 (ix2 r l))
    (∑ k, x (ix2 r k) * w2 (ix2 k (⟨l.val, by omega⟩ : Fin 256)) + ∑ k, x (ix2 r k) * w2 (ix2 k (⟨128 + l.val, by omega⟩ : Fin 256))
      + ∑ k, (x (ix2 r k) - x (ix2 r k)) * w1 (ix2 k l)) (⊥ : EReal)

theorem affinities (r : Fin 512) (l : Fin 128) : k0_pay5 (F := Ideal) x w2 w1 (ix2 r l) = wideSoftmax (scores x w2 w1 r) l := by
  pointwise [k0_pay5]
  rw [bot_eq]
  rfl

theorem scores_eq (r : Fin 512) (hx : ∀ k, IsReal (x (ix2 r k))) (hw : ∀ k (e : Fin 16), w2 (ix2 k (⟨e.val, by omega⟩ : Fin 256)) = w k e)
    (h0 : ∀ k (e : Fin 16), w2 (ix2 k (⟨128 + e.val, by omega⟩ : Fin 256)) = 0) :
    scores x w2 w1 r = wide (logits (fun k => x (ix2 r k)) w) := by
  funext l
  unfold scores wide
  rw [first_lanes]
  by_cases hl : l.val < 16
  · rw [if_pos hl, dif_pos hl]
    show _ + _ + _ = logits _ _ _
    unfold logits
    rw [Finset.sum_congr rfl fun k _ => congrArg (x (ix2 r k) * ·) (hw k ⟨l.val, hl⟩),
      Finset.sum_eq_zero fun k _ => (congrArg (x (ix2 r k) * ·) (h0 k ⟨l.val, hl⟩)).trans (mul_zero _),
      Finset.sum_eq_zero fun k _ => (congrArg (· * w1 (ix2 k l)) (hx k).sub_self).trans (zero_mul _), add_zero, add_zero]
  · rw [if_neg hl, dif_neg hl]
    rfl

theorem biased (r : Fin 512) (l : Fin 128) :
    k0_pay6 (F := Ideal) x w2 w1 b (ix2 r l)
      = Scalar.select (k0_pay4 (ix2 r l)) (k0_pay5 (F := Ideal) x w2 w1 (ix2 r l) + b (ix2 (0 : Fin 1) l)) (⊥ : EReal) := by
  pointwise [k0_pay6]
  rw [bot_eq]

end

/-! ## The choices -/

theorem e17 (v53 v166 : S512x128.Idx → Elt Ideal .f32) (r : Fin 512) (h53 : ∀ l, v53 (ix2 r l) = lane l) :
    k0_pay17 (F := Ideal) v53 v166 (ix2 r (0 : Fin 1)) = firstPos (fun l => v166 (ix2 r l)) := by
  pointwise [k0_pay17]
  simp only [h53, bot_eq, top_eq, lanes_eq]
  rfl

theorem e18 (v53 v166 : S512x128.Idx → Elt Ideal .f32) (r : Fin 512) (h53 : ∀ l, v53 (ix2 r l) = lane l) :
    k0_pay18 (F := Ideal) v53 v166 (ix2 r (0 : Fin 1)) = firstPos (dropped fun l => v166 (ix2 r l)) := by
  pointwise [k0_pay18]
  simp only [h53, bot_eq, top_eq, lanes_eq, e17 v53 v166 r h53]
  rfl

/-- A row's values with every lane outside group `g` struck out. -/
def struck (v72 : S512x128.Idx → Elt Ideal .f32) (v74 : IVec S512x128 32) (r : Fin 512) (g : BitVec 32) (l : Fin 128) : EReal :=
  Scalar.select (IntOp.cmpi .eq (v74 (ix2 r l)) g) (v72 (ix2 r l)) (⊥ : EReal)

section
variable (v53 v72 : S512x128.Idx → Elt Ideal .f32) (v74 : IVec S512x128 32) (r : Fin 512) (h53 : ∀ l, v53 (ix2 r l) = lane l)
  (h74 : v74 = k0_pay7)
include h53

theorem e11 : k0_pay11 (F := Ideal) v53 v72 v74 (ix2 r (0 : Fin 1)) = score (struck v72 v74 r 1#32) := by
  pointwise [k0_pay11]
  simp only [h53, bot_eq, top_eq, lanes_eq]
  rfl

include h74

theorem e10 : k0_pay10 (F := Ideal) v53 v72 k0_pay8 (k0_pay9 (F := Ideal)) (ix2 r (0 : Fin 1)) = score (struck v72 v74 r 0#32) := by
  subst h74
  have h8 : ∀ l, k0_pay8 (ix2 r l) = IntOp.cmpi .eq (k0_pay7 (ix2 r l)) 0#32 := fun l => by pointwise [k0_pay8]
  have h9 : ∀ l, k0_pay9 (F := Ideal) (ix2 r l) = (⊥ : EReal) := fun l => by
    pointwise [k0_pay9]
    exact bot_eq
  pointwise [k0_pay10]
  simp only [h53, h8, h9, bot_eq, top_eq, lanes_eq]
  rfl

/-- The four groups' scores. -/
def groupScores (v72 : S512x128.Idx → Elt Ideal .f32) (v74 : IVec S512x128 32) (r : Fin 512) (g : Fin 4) : EReal :=
  score (struck v72 v74 r (BitVec.ofNat 32 g.val))

theorem e14 : k0_pay14 (F := Ideal) v53 v72 v74 k0_pay8 (k0_pay9 (F := Ideal)) (ix2 r (0 : Fin 1)) = best1 (groupScores v72 v74 r) := by
  pointwise [k0_pay14, k0_pay12]
  rw [e10 v53 v72 v74 r h53 h74, e11 v53 v72 v74 r h53]
  rfl

theorem e13 : k0_pay13 (F := Ideal) v53 v72 v74 k0_pay8 (k0_pay9 (F := Ideal)) (ix2 r (0 : Fin 1))
    = if groupScores v72 v74 r 0 < groupScores v72 v74 r 1 then 1#32 else 0#32 := by
  pointwise [k0_pay13, k0_pay12]
  rw [e10 v53 v72 v74 r h53 h74, e11 v53 v72 v74 r h53]
  rfl

/-- What is left of the row is the best group. -/
theorem e16 (l : Fin 128) :
    k0_pay16 (F := Ideal) v53 v72 v74 (k0_pay13 (F := Ideal) v53 v72 v74 k0_pay8 (k0_pay9 (F := Ideal)))
        (k0_pay14 (F := Ideal) v53 v72 v74 k0_pay8 (k0_pay9 (F := Ideal))) (k0_pay15 (F := Ideal) v72 v74) (ix2 r l)
      = struck v72 v74 r (bestGroup (groupScores v72 v74 r)) l := by
  have h15 : ∀ l, k0_pay15 (F := Ideal) v72 v74 (ix2 r l) = struck v72 v74 r 2#32 l := fun l => by
    pointwise [k0_pay15]
    rw [bot_eq]
    rfl
  pointwise [k0_pay16]
  simp only [h53, bot_eq, top_eq, lanes_eq, h15, e13 v53 v72 v74 r h53 h74, e14 v53 v72 v74 r h53 h74]
  rfl

end

/-- With its values spread over the lanes, striking out leaves the group's. -/
theorem struck_eq (v72 : S512x128.Idx → Elt Ideal .f32) (r : Fin 512) (bs : Fin 16 → EReal) (h : ∀ l, v72 (ix2 r l) = wide bs l) (g : Fin 4) :
    struck v72 k0_pay7 r (BitVec.ofNat 32 g.val) = wide (within bs g) := by
  funext l
  unfold struck
  rw [group_lanes, h]
  unfold wide within
  by_cases hg : l.val / 4 = g.val
  · rw [if_pos hg]
    show (if h : l.val < 16 then bs ⟨l.val, h⟩ else ⊥) = _
    by_cases hl : l.val < 16
    · rw [dif_pos hl, dif_pos hl, if_pos hg]
    · rw [dif_neg hl, dif_neg hl]
  · rw [if_neg hg]
    show (⊥ : EReal) = _
    by_cases hl : l.val < 16
    · rw [dif_pos hl, if_neg hg]
    · rw [dif_neg hl]

end Cert.KernelOutIdeal.Out

end
-- ==== Proof.OutProj.Record.lean ====
/- What the output projection's kernel leaves of one row for the router is the record of the two experts chosen. -/
module

public import proofs.«01_k».proof.Proof.OutProj.Block

@[expose] public section

set_option maxRecDepth 16384
set_option Elab.async false

noncomputable section

namespace Cert.KernelOutIdeal.Out

open Cert.KernelOutIdeal Cert.KernelOutIdeal.Gen Cert.OutProj
open Idealize.ShloMosaic Idealize.ShloMosaic.TcCoe Idealize.SL.Sem

/-- The sum of a row with every lane but one at zero. -/
theorem e19 (v53 v66 v166 : S512x128.Idx → Elt Ideal .f32) (r : Fin 512) (h53 : ∀ l, v53 (ix2 r l) = lane l) (i : Fin 16)
    (hi : k0_pay17 (F := Ideal) v53 v166 (ix2 r (0 : Fin 1)) = lane i) :
    k0_pay19 (F := Ideal) v53 v66 v166 (ix2 r (0 : Fin 1)) = v66 (ix2 r (laneOf i)) := by
  pointwise [k0_pay19]
  simp only [h53, hi]
  exact sum_pick (fun l => v66 (ix2 r l)) (laneOf i)

theorem e20 (v53 v66 v166 : S512x128.Idx → Elt Ideal .f32) (r : Fin 512) (h53 : ∀ l, v53 (ix2 r l) = lane l) (i : Fin 16)
    (hi : k0_pay18 (F := Ideal) v53 v166 (ix2 r (0 : Fin 1)) = lane i) :
    k0_pay20 (F := Ideal) v53 v66 v166 (ix2 r (0 : Fin 1)) = v66 (ix2 r (laneOf i)) := by
  pointwise [k0_pay20]
  simp only [h53, hi]
  exact sum_pick (fun l => v66 (ix2 r l)) (laneOf i)

/-- Which of the first four lanes a lane is. -/
theorem lane_is (n : Fin 4) (l : Fin 128) :
    IntOp.cmpi .eq (BitVec.ofNat 32 l.val) (BitVec.ofNat 32 n.val) = if l.val = n.val then 1#1 else 0#1 := by
  revert l n
  decide +kernel

theorem select_if {α : Type} {p : Prop} [Decidable p] (a b : α) : Scalar.select (if p then 1#1 else 0#1) a b = if p then a else b := by
  by_cases h : p
  · simp only [if_pos h]; rfl
  · simp only [if_neg h]; rfl

/-- The lanes of the record, from the numbers and the weights. -/
theorem e1 (v53 v66 v166 : S512x128.Idx → Elt Ideal .f32) (r : Fin 512) (l : Fin 128) (h53 : ∀ l, v53 (ix2 r l) = lane l) (af : Fin 16 → EReal)
    (haf : ∀ e, v66 (ix2 r (laneOf e)) = af e) (i k : Fin 16)
    (hi : k0_pay17 (F := Ideal) v53 v166 (ix2 r (0 : Fin 1)) = lane i)
    (hk : k0_pay18 (F := Ideal) v53 v166 (ix2 r (0 : Fin 1)) = lane k)
    (v52 : IVec S512x128 32) (h52 : ∀ l, v52 (ix2 r l) = BitVec.ofNat 32 l.val) :
    k0_pay1 (F := Ideal) (k0_pay17 (F := Ideal) v53 v166) (k0_pay18 (F := Ideal) v53 v166) (k0_pay22 v52) (k0_pay23 v52) (k0_pay24 v52)
        (k0_pay25 (F := Ideal) v53 v66 v166) (k0_pay26 v52) (Scalar.ofBits .f32 0x00000000#32) (k0_pay27 (F := Ideal) v53 v66 v166) (ix2 r l)
      = record af i k l := by
  have a1 := (e19 v53 v66 v166 r h53 i hi).trans (haf i)
  have a2 := (e20 v53 v66 v166 r h53 k hk).trans (haf k)
  have c0 : k0_pay22 v52 (ix2 r l) = if l.val = 0 then 1#1 else 0#1 := by
    pointwise [k0_pay22]
    rw [h52]
    exact lane_is 0 l
  have c1 : k0_pay23 v52 (ix2 r l) = if l.val = 1 then 1#1 else 0#1 := by
    pointwise [k0_pay23]
    rw [h52]
    exact lane_is 1 l
  have c2 : k0_pay24 v52 (ix2 r l) = if l.val = 2 then 1#1 else 0#1 := by
    pointwise [k0_pay24]
    rw [h52]
    exact lane_is 2 l
  have c3 : k0_pay26 v52 (ix2 r l) = if l.val = 3 then 1#1 else 0#1 := by
    pointwise [k0_pay26]
    rw [h52]
    exact lane_is 3 l
  have t : k0_pay21 (F := Ideal) v53 v66 v166 (ix2 r (0 : Fin 1)) = af i + af k := by
    pointwise [k0_pay21]
    rw [a1, a2]
  have w1 : k0_pay25 (F := Ideal) v53 v66 v166 (ix2 r (0 : Fin 1)) = Ideal.div (af i) (af i + af k) := by
    pointwise [k0_pay25]
    rw [a1, t]
  have w2 : k0_pay27 (F := Ideal) v53 v66 v166 (ix2 r (0 : Fin 1)) = Ideal.div (af k) (af i + af k) := by
    pointwise [k0_pay27]
    rw [a2, t]
  pointwise [k0_pay1]
  simp only [c0, c1, c2, c3, hi, hk, w1, w2, select_if]
  unfold record
  rfl

section
variable (x : S512x2048.Idx → Elt Ideal .f32) (w2 : S2048x256.Idx → Elt Ideal .bf16) (w1 : S2048x128.Idx → Elt Ideal .bf16)
  (b : S1x128.Idx → Elt Ideal .f32)

/-- The biased affinities over the lanes. -/
abbrev lanesBiased : S512x128.Idx → Elt Ideal .f32 := k0_pay6 (F := Ideal) x w2 w1 b

/-- What the choice of the group leaves of the biased affinities. -/
abbrev lanesKept : S512x128.Idx → Elt Ideal .f32 :=
  k0_pay16 (F := Ideal) (k0_pay3 (F := Ideal)) (lanesBiased x w2 w1 b) k0_pay7
    (k0_pay13 (F := Ideal) (k0_pay3 (F := Ideal)) (lanesBiased x w2 w1 b) k0_pay7 k0_pay8 (k0_pay9 (F := Ideal)))
    (k0_pay14 (F := Ideal) (k0_pay3 (F := Ideal)) (lanesBiased x w2 w1 b) k0_pay7 k0_pay8 (k0_pay9 (F := Ideal)))
    (k0_pay15 (F := Ideal) (lanesBiased x w2 w1 b) k0_pay7)

/-- The record of a row. -/
theorem row_record (r : Fin 512) (w : Fin 2048 → Fin 16 → EReal) (br : Fin 16 → EReal)
    (hx : ∀ k, IsReal (x (ix2 r k))) (hw : ∀ k e, IsReal (w k e)) (hb : ∀ e, IsReal (br e))
    (hw2 : ∀ k (e : Fin 16), w2 (ix2 k (⟨e.val, by omega⟩ : Fin 256)) = w k e)
    (h0 : ∀ k (e : Fin 16), w2 (ix2 k (⟨128 + e.val, by omega⟩ : Fin 256)) = 0)
    (hbr : ∀ e, b (ix2 (0 : Fin 1) (laneOf e)) = br e) (i k : Fin 16)
    (hc : Chosen (fun e => softmax (logits (fun k => x (ix2 r k)) w) e + br e) i k) (v52 : IVec S512x128 32)
    (h52 : ∀ l, v52 (ix2 r l) = BitVec.ofNat 32 l.val) (l : Fin 128) :
    k0_pay1 (F := Ideal) (k0_pay17 (F := Ideal) (k0_pay3 (F := Ideal)) (lanesKept x w2 w1 b))
        (k0_pay18 (F := Ideal) (k0_pay3 (F := Ideal)) (lanesKept x w2 w1 b)) (k0_pay22 v52) (k0_pay23 v52) (k0_pay24 v52)
        (k0_pay25 (F := Ideal) (k0_pay3 (F := Ideal)) (k0_pay5 (F := Ideal) x w2 w1) (lanesKept x w2 w1 b)) (k0_pay26 v52)
        (Scalar.ofBits .f32 0x00000000#32)
        (k0_pay27 (F := Ideal) (k0_pay3 (F := Ideal)) (k0_pay5 (F := Ideal) x w2 w1) (lanesKept x w2 w1 b)) (ix2 r l)
      = record (softmax (logits (fun k => x (ix2 r k)) w)) i k l := by
  have hz : ∀ e, IsReal (logits (fun k => x (ix2 r k)) w e) := fun e => IsReal.sum fun k => (hx k).mul (hw k e)
  have haf : ∀ e, k0_pay5 (F := Ideal) x w2 w1 (ix2 r (laneOf e)) = softmax (logits (fun k => x (ix2 r k)) w) e := fun e => by
    rw [affinities, scores_eq x w2 w1 w r hx hw2 h0, wideSoftmax_wide hz]
  have hbs : ∀ e, IsReal (softmax (logits (fun k => x (ix2 r k)) w) e + br e) := fun e => (isReal_softmax hz e).add (hb e)
  have h72 : ∀ l, lanesBiased x w2 w1 b (ix2 r l) = wide (fun e => softmax (logits (fun k => x (ix2 r k)) w) e + br e) l := fun l => by
    show k0_pay6 (F := Ideal) x w2 w1 b (ix2 r l) = _
    rw [biased, first_lanes, select_if]
    by_cases hl : l.val < 16
    · rw [if_pos hl]
      unfold wide
      rw [dif_pos hl]
      exact congrArg₂ (· + ·) (haf ⟨l.val, hl⟩) (hbr ⟨l.val, hl⟩)
    · rw [if_neg hl]
      unfold wide
      rw [dif_neg hl]
  obtain ⟨s, g, hs, hg, hi, hk⟩ := hc
  have hscores : groupScores (lanesBiased x w2 w1 b) k0_pay7 r = s := by
    funext g'
    obtain ⟨p, q, hp, hq, e⟩ := hs g'
    unfold groupScores
    rw [struck_eq _ r _ h72, score_within hbs hp hq, e]
  have h166 : (fun l => lanesKept x w2 w1 b (ix2 r l)) = wide (within (fun e => softmax (logits (fun k => x (ix2 r k)) w) e + br e) g) := by
    funext l
    refine (e16 (k0_pay3 (F := Ideal)) (lanesBiased x w2 w1 b) k0_pay7 r (lane_number r) rfl l).trans ?_
    rw [hscores, bestGroup_eq hg, struck_eq _ r _ h72]
  obtain ⟨f1, f2⟩ := firstPos_within hbs hi hk
  exact e1 _ _ _ r l (lane_number r) _ haf i k
    ((e17 _ _ r (lane_number r)).trans (by rw [h166]; exact f1)) ((e18 _ _ r (lane_number r)).trans (by rw [h166]; exact f2)) v52 h52

end

end Cert.KernelOutIdeal.Out

end
-- ==== Proof.OutProj.Rows.lean ====
/- The output projection's results of every row, as functions of the arguments. -/
module

public import proofs.«01_k».proof.Proof.OutProj.Wide
public import Idealize.ShloMosaic.Lib.Pointwise

@[expose] public section

set_option Elab.async false

noncomputable section

namespace Cert.OutProj

open Idealize.ShloMosaic

/-! ## The choice exists and is the only one -/

theorem Beats.asymm {n : ℕ} {a : Fin n → EReal} {i j : Fin n} (h : Beats a i j) : ¬Beats a j i := by
  rintro (h' | ⟨h', h''⟩)
  · exact absurd (h.le) (not_le.mpr h')
  · rcases h with h | ⟨_, h⟩
    · exact absurd h' (ne_of_gt h)
    · exact absurd h (not_lt.mpr h''.le)

theorem IsTop.unique {n : ℕ} {a : Fin n → EReal} {i j : Fin n} (h : IsTop a i) (h' : IsTop a j) : i = j := by
  by_contra hne
  exact (h j (Ne.symm hne)).asymm (h' i hne)

theorem IsSecond.unique {n : ℕ} {a : Fin n → EReal} {i k l : Fin n} (h : IsSecond a i k) (h' : IsSecond a i l) : k = l := by
  by_contra hne
  exact (h.2 l h'.1 (Ne.symm hne)).asymm (h'.2 k h.1 hne)

theorem exists_best {n : ℕ} (a : Fin n → EReal) (z o : Fin n) (hz : z.val = 0) (ho : o.val = 1) : ∃ p q, IsTop a p ∧ IsSecond a p q :=
  ⟨_, _, sorted_isTop a z hz, sorted_isSecond a z o hz ho⟩

theorem exists_chosen (bs : Fin 16 → EReal) : ∃ p : Fin 16 × Fin 16, Chosen bs p.1 p.2 := by
  choose p q hp hq using fun g' => exists_best (group bs g') 0 1 rfl rfl
  obtain ⟨g, _, hg, _⟩ := exists_best (fun g' => group bs g' (p g') + group bs g' (q g')) 0 1 rfl rfl
  obtain ⟨i, k, hi, hk⟩ := exists_best (within bs g) 0 1 rfl rfl
  exact ⟨(i, k), _, g, fun g' => ⟨p g', q g', hp g', hq g', rfl⟩, hg, hi, hk⟩

theorem Chosen.unique {bs : Fin 16 → EReal} {i k i' k' : Fin 16} (h : Chosen bs i k) (h' : Chosen bs i' k') : i = i' ∧ k = k' := by
  obtain ⟨s, g, hs, hg, hi, hk⟩ := h
  obtain ⟨s', g', hs', hg', hi', hk'⟩ := h'
  have e : s = s' := by
    funext x
    obtain ⟨p, q, hp, hq, e⟩ := hs x
    obtain ⟨p', q', hp', hq', e'⟩ := hs' x
    obtain rfl := hp.unique hp'
    obtain rfl := hq.unique hq'
    rw [e, e']
  subst e
  obtain rfl := hg.unique hg'
  obtain rfl := hi.unique hi'
  exact ⟨rfl, hk.unique hk'⟩

/-! ## The rows -/

section
variable (a0 a1 : (⟨2, ![16384, 1024]⟩ : Shape).Idx → EReal) (a2 : (⟨2, ![16384, 2048]⟩ : Shape).Idx → EReal)
  (a3 : (⟨2, ![2048, 2048]⟩ : Shape).Idx → EReal) (a4 a5 : (⟨1, ![2048]⟩ : Shape).Idx → EReal)
  (a6 : (⟨2, ![2048, 16]⟩ : Shape).Idx → EReal) (a7 : (⟨1, ![16]⟩ : Shape).Idx → EReal) (i : Fin 16384)

/-- A row of the residual stream before the layer norm. -/
def streamRow : Fin 2048 → EReal :=
  stream (fun k => a0 (ix2 i k)) (fun k => a1 (ix2 i k)) (fun k x => a3 (ix2 k x)) (fun x => a2 (ix2 i x))

/-- A row after the layer norm. -/
def hidden : Fin 2048 → EReal := normed (streamRow a0 a1 a2 a3 i) (fun j => a4 (ix1 j)) (fun j => a5 (ix1 j))

/-- A row's affinities to the experts. -/
def affinity : Fin 16 → EReal := softmax (logits (hidden a0 a1 a2 a3 a4 a5 i) fun k e => a6 (ix2 k e))

/-- A row's affinities with the bias that the choice is made by. -/
def scored (e : Fin 16) : EReal := affinity a0 a1 a2 a3 a4 a5 a6 i e + a7 (ix1 e)

/-- A row's record. -/
def info (l : Fin 128) : EReal :=
  record (affinity a0 a1 a2 a3 a4 a5 a6 i) (Classical.choose (exists_chosen (scored a0 a1 a2 a3 a4 a5 a6 a7 i))).1
    (Classical.choose (exists_chosen (scored a0 a1 a2 a3 a4 a5 a6 a7 i))).2 l

theorem info_eq {p q : Fin 16} (h : Chosen (scored a0 a1 a2 a3 a4 a5 a6 a7 i) p q) (l : Fin 128) :
    info a0 a1 a2 a3 a4 a5 a6 a7 i l = record (affinity a0 a1 a2 a3 a4 a5 a6 i) p q l := by
  obtain ⟨e, e'⟩ := (Classical.choose_spec (exists_chosen (scored a0 a1 a2 a3 a4 a5 a6 a7 i))).unique h
  unfold info
  rw [e, e']

theorem isReal_hidden (h0 : ∀ y, IsReal (a0 y)) (h1 : ∀ y, IsReal (a1 y)) (h2 : ∀ y, IsReal (a2 y)) (h3 : ∀ y, IsReal (a3 y))
    (h4 : ∀ y, IsReal (a4 y)) (h5 : ∀ y, IsReal (a5 y)) (j : Fin 2048) : IsReal (hidden a0 a1 a2 a3 a4 a5 i j) := by
  refine isReal_normed (fun x => ?_) (fun x => h4 _) (fun x => h5 _) j
  exact (IsReal.mul ⟨_, rfl⟩ (h2 _)).add ((IsReal.sum fun k => (h0 _).mul (h3 _)).add (IsReal.sum fun k => (h1 _).mul (h3 _)))

end

end Cert.OutProj

end
-- ==== Proof.OutProj.Array.lean ====
/- The output projection: what the call finds in each operand, what one point computes, and the two whole result arrays. -/
module

public import proofs.«01_k».proof.Proof.OutProj.Record
public import proofs.«01_k».proof.Proof.OutProj.Rows
public import proofs.«01_k».proof.Proof.Gen.KernelOutIdeal.Value
public import Idealize.ShloMosaic.Lib.Pipeline.Covers
public import Idealize.ShloMosaic.Lib.Pipeline.ValueKit
public import Idealize.ShloMosaic.Lib.Pipeline.ReadBack

@[expose] public section

set_option maxRecDepth 16384
set_option Elab.async false

noncomputable section

namespace Cert.KernelOutIdeal.Out

open Cert.KernelOutIdeal Cert.KernelOutIdeal.Gen Cert.OutProj
open Idealize.ShloMosaic Idealize.ShloMosaic.TcCoe Idealize.SL.Sem
open Idealize.ShloMosaic.Pipeline (Dat Cfg Window)

/-! ## The host's operands -/

/-- The router's weights, padded. -/
def padded (w : S2048x16.Idx → Elt Ideal .f32) : S2048x128.Idx → Elt Ideal .f32 :=
  pad S2048x128 ![0, 0] ![0, 112] ![0, 0] w (sitofp (F := Ideal) .f32 (constantI S_ 32 0#32)) pads_S2048x16_S2048x128_000_01120 h_S_

/-- The router's weights and what narrowing them lost, side by side. -/
def pair (w : S2048x16.Idx → Elt Ideal .f32) : S2048x256.Idx → Elt Ideal .bf16 :=
  concatenate S2048x256 1 [⟨S2048x128, truncf (F := Ideal) .bf16 (padded w) bitsLt_bf16_f32⟩,
    ⟨S2048x128, truncf (F := Ideal) .bf16 (subf (F := Ideal) (φ := .f32) (padded w)
      (extf (F := Ideal) .f32 (truncf (F := Ideal) .bf16 (padded w) bitsLt_bf16_f32) bitsLt_bf16_f32)) bitsLt_bf16_f32⟩]
    concatenates_S2048x128_S2048x128_S2048x256_d1

/-- The router's bias, padded to a row of lanes. -/
def biasRow (b : S16.Idx → Elt Ideal .f32) : S1x128.Idx → Elt Ideal .f32 :=
  shapeCast S1x128 (pad S128 ![0] ![112] ![0] b (sitofp (F := Ideal) .f32 (constantI S_ 32 0#32)) pads_S16_S128_01120 h_S_) shapeCasts_S128_S1x128

theorem padded_apply (w : S2048x16.Idx → Elt Ideal .f32) (k : Fin 2048) (e : Fin 16) :
    padded w (ix2 k (laneOf e)) = w (ix2 k e) := by
  pointwise [padded]
  rw [dif_pos (show (laneOf e).val < 16 from e.isLt)]
  rfl

theorem pair_low (w : S2048x16.Idx → Elt Ideal .f32) (k : Fin 2048) (e : Fin 16) :
    pair w (ix2 k (⟨e.val, by omega⟩ : Fin 256)) = w (ix2 k e) := by
  rw [← padded_apply w k e]
  pointwise [pair]
  rw [dif_pos (show e.val < 128 by omega)]
  rfl

theorem pair_high (w : S2048x16.Idx → Elt Ideal .f32) (hw : ∀ k e, IsReal (w (ix2 k e))) (k : Fin 2048) (e : Fin 16) :
    pair w (ix2 k (⟨128 + e.val, by omega⟩ : Fin 256)) = 0 := by
  pointwise [pair]
  have h : IsReal (padded w (ix2 k (laneOf e))) := by
    rw [padded_apply]
    exact hw k e
  exact h.sub_self

theorem biasRow_apply (b : S16.Idx → Elt Ideal .f32) (e : Fin 16) :
    biasRow b (ix2 (0 : Fin 1) (laneOf e)) = b (ix1 e) := by
  pointwise [biasRow]
  rw [dif_pos (show (laneOf e).val < 16 from e.isLt)]
  rfl

theorem row_apply (g : S2048.Idx → Elt Ideal .f32) (j : Fin 2048) :
    shapeCast S1x2048 g shapeCasts_S2048_S1x2048 (ix2 (0 : Fin 1) j) = g (ix1 j) := by
  pointwise []

variable (m : (ℓ : Loc nD τ sig) → Buf (Elt Ideal) ℓ) (c : Dev nD)

theorem wo_eq : V m c (Pipeline.arrRef spec0 3) = m ((c : Thread nD τ).loc main_arg3) := by
  show StableHlo.after (List.flatten [hostOps0, hostOps0_1, hostOps0_2, hostOps0_3, hostOps0_4]) (fun b => m (c, b)) main_v8 = _
  simp only [hostOps0, hostOps0_1, hostOps0_2, hostOps0_3, hostOps0_4, List.flatten_cons, List.flatten_nil, List.append_nil, List.cons_append, List.nil_append]
  after_results
  rfl

theorem gain_eq : V m c (Pipeline.arrRef spec0 4) = shapeCast S1x2048 (m ((c : Thread nD τ).loc main_arg4)) shapeCasts_S2048_S1x2048 := by
  show StableHlo.after (List.flatten [hostOps0, hostOps0_1, hostOps0_2, hostOps0_3, hostOps0_4]) (fun b => m (c, b)) main_v9 = _
  simp only [hostOps0, hostOps0_1, hostOps0_2, hostOps0_3, hostOps0_4, List.flatten_cons, List.flatten_nil, List.append_nil, List.cons_append, List.nil_append]
  after_results
  rfl

theorem shift_eq : V m c (Pipeline.arrRef spec0 5) = shapeCast S1x2048 (m ((c : Thread nD τ).loc main_arg5)) shapeCasts_S2048_S1x2048 := by
  show StableHlo.after (List.flatten [hostOps0, hostOps0_1, hostOps0_2, hostOps0_3, hostOps0_4]) (fun b => m (c, b)) main_v10 = _
  simp only [hostOps0, hostOps0_1, hostOps0_2, hostOps0_3, hostOps0_4, List.flatten_cons, List.flatten_nil, List.append_nil, List.cons_append, List.nil_append]
  after_results
  rfl

theorem router_eq : V m c (Pipeline.arrRef spec0 6) = pair (m ((c : Thread nD τ).loc main_arg6)) := by
  show StableHlo.after (List.flatten [hostOps0, hostOps0_1, hostOps0_2, hostOps0_3, hostOps0_4]) (fun b => m (c, b)) main_v5 = _
  simp only [hostOps0, hostOps0_1, hostOps0_2, hostOps0_3, hostOps0_4, List.flatten_cons, List.flatten_nil, List.append_nil, List.cons_append, List.nil_append]
  after_results
  rfl

theorem bias_eq : V m c (Pipeline.arrRef spec0 7) = biasRow (m ((c : Thread nD τ).loc main_arg7)) := by
  show StableHlo.after (List.flatten [hostOps0, hostOps0_1, hostOps0_2, hostOps0_3, hostOps0_4]) (fun b => m (c, b)) main_v7 = _
  simp only [hostOps0, hostOps0_1, hostOps0_2, hostOps0_3, hostOps0_4, List.flatten_cons, List.flatten_nil, List.append_nil, List.cons_append, List.nil_append]
  after_results
  rfl

/-! ## The blocks -/

/-- Row `r` of a point's row block. -/
def rowOf (t : Fin grid0.N) (r : Fin 512) : Fin 16384 := ⟨t.val * 512 + r.val, by have : t.val < 32 := t.isLt; omega⟩

theorem index0 (t : Fin grid0.N) : cc0_transform_0 (grid0.coords t) = ![t.val, 0] := by revert t; decide +kernel
theorem index1 (t : Fin grid0.N) : cc0_transform_1 (grid0.coords t) = ![t.val, 0] := by revert t; decide +kernel
theorem index2 (t : Fin grid0.N) : cc0_transform_2 (grid0.coords t) = ![t.val, 0] := by revert t; decide +kernel
theorem index8 (t : Fin grid0.N) : cc0_transform_8 (grid0.coords t) = ![t.val, 0] := by revert t; decide +kernel
theorem index9 (t : Fin grid0.N) : cc0_transform_9 (grid0.coords t) = ![t.val, 0] := by revert t; decide +kernel

theorem first_block (t : Fin cfg0.N) (r : Fin 512) (k : Fin 1024) :
    iblk m c 0 t (ix2 r k) = m ((c : Thread nD τ).loc main_arg0) (ix2 (rowOf t r) k) := by
  rw [← V_main_arg0 m c]
  unfold iblk
  rw [View.read_apply]
  show V m c (Pipeline.arrRef spec0 0) _ = V m c (Pipeline.arrRef spec0 0) _
  congr 1
  funext a
  apply Fin.ext
  match a with
  | ⟨0, _⟩ =>
    refine (Window.rect_emb_val (cfg0.win (0 : Fin 10)) t (ix2 r k) (0 : Fin 2)).trans ?_
    show cc0_transform_0 (grid0.coords t) 0 * 512 + r.val = t.val * 512 + r.val
    rw [index0]; rfl
  | ⟨1, _⟩ =>
    refine (Window.rect_emb_val (cfg0.win (0 : Fin 10)) t (ix2 r k) (1 : Fin 2)).trans ?_
    show cc0_transform_0 (grid0.coords t) 1 * 1024 + k.val = k.val
    rw [index0]; show 0 * 1024 + k.val = k.val; omega

theorem second_block (t : Fin cfg0.N) (r : Fin 512) (k : Fin 1024) :
    iblk m c 1 t (ix2 r k) = m ((c : Thread nD τ).loc main_arg1) (ix2 (rowOf t r) k) := by
  rw [← V_main_arg1 m c]
  unfold iblk
  rw [View.read_apply]
  show V m c (Pipeline.arrRef spec0 1) _ = V m c (Pipeline.arrRef spec0 1) _
  congr 1
  funext a
  apply Fin.ext
  match a with
  | ⟨0, _⟩ =>
    refine (Window.rect_emb_val (cfg0.win (1 : Fin 10)) t (ix2 r k) (0 : Fin 2)).trans ?_
    show cc0_transform_1 (grid0.coords t) 0 * 512 + r.val = t.val * 512 + r.val
    rw [index1]; rfl
  | ⟨1, _⟩ =>
    refine (Window.rect_emb_val (cfg0.win (1 : Fin 10)) t (ix2 r k) (1 : Fin 2)).trans ?_
    show cc0_transform_1 (grid0.coords t) 1 * 1024 + k.val = k.val
    rw [index1]; show 0 * 1024 + k.val = k.val; omega

theorem residual_block (t : Fin cfg0.N) (r : Fin 512) (k : Fin 2048) :
    iblk m c 2 t (ix2 r k) = m ((c : Thread nD τ).loc main_arg2) (ix2 (rowOf t r) k) := by
  rw [← V_main_arg2 m c]
  unfold iblk
  rw [View.read_apply]
  show V m c (Pipeline.arrRef spec0 2) _ = V m c (Pipeline.arrRef spec0 2) _
  congr 1
  funext a
  apply Fin.ext
  match a with
  | ⟨0, _⟩ =>
    refine (Window.rect_emb_val (cfg0.win (2 : Fin 10)) t (ix2 r k) (0 : Fin 2)).trans ?_
    show cc0_transform_2 (grid0.coords t) 0 * 512 + r.val = t.val * 512 + r.val
    rw [index2]; rfl
  | ⟨1, _⟩ =>
    refine (Window.rect_emb_val (cfg0.win (2 : Fin 10)) t (ix2 r k) (1 : Fin 2)).trans ?_
    show cc0_transform_2 (grid0.coords t) 1 * 2048 + k.val = k.val
    rw [index2]; show 0 * 2048 + k.val = k.val; omega

theorem wo_block (t : Fin cfg0.N) (k : Fin 2048) (l : Fin 2048) :
    iblk m c 3 t (ix2 k l) = V m c (Pipeline.arrRef spec0 3) (ix2 k l) := by
  unfold iblk
  rw [View.read_apply]
  show V m c (Pipeline.arrRef spec0 3) _ = V m c (Pipeline.arrRef spec0 3) _
  congr 1
  funext a
  apply Fin.ext
  match a with
  | ⟨0, _⟩ =>
    refine (Window.rect_emb_val (cfg0.win (3 : Fin 10)) t (ix2 k l) (0 : Fin 2)).trans ?_
    show 0 * 2048 + k.val = k.val; omega
  | ⟨1, _⟩ =>
    refine (Window.rect_emb_val (cfg0.win (3 : Fin 10)) t (ix2 k l) (1 : Fin 2)).trans ?_
    show 0 * 2048 + l.val = l.val; omega

theorem gain_block (t : Fin cfg0.N) (k : Fin 1) (l : Fin 2048) :
    iblk m c 4 t (ix2 k l) = V m c (Pipeline.arrRef spec0 4) (ix2 k l) := by
  unfold iblk
  rw [View.read_apply]
  show V m c (Pipeline.arrRef spec0 4) _ = V m c (Pipeline.arrRef spec0 4) _
  congr 1
  funext a
  apply Fin.ext
  match a with
  | ⟨0, _⟩ =>
    refine (Window.rect_emb_val (cfg0.win (4 : Fin 10)) t (ix2 k l) (0 : Fin 2)).trans ?_
    show 0 * 1 + k.val = k.val; omega
  | ⟨1, _⟩ =>
    refine (Window.rect_emb_val (cfg0.win (4 : Fin 10)) t (ix2 k l) (1 : Fin 2)).trans ?_
    show 0 * 2048 + l.val = l.val; omega

theorem shift_block (t : Fin cfg0.N) (k : Fin 1) (l : Fin 2048) :
    iblk m c 5 t (ix2 k l) = V m c (Pipeline.arrRef spec0 5) (ix2 k l) := by
  unfold iblk
  rw [View.read_apply]
  show V m c (Pipeline.arrRef spec0 5) _ = V m c (Pipeline.arrRef spec0 5) _
  congr 1
  funext a
  apply Fin.ext
  match a with
  | ⟨0, _⟩ =>
    refine (Window.rect_emb_val (cfg0.win (5 : Fin 10)) t (ix2 k l) (0 : Fin 2)).trans ?_
    show 0 * 1 + k.val = k.val; omega
  | ⟨1, _⟩ =>
    refine (Window.rect_emb_val (cfg0.win (5 : Fin 10)) t (ix2 k l) (1 : Fin 2)).trans ?_
    show 0 * 2048 + l.val = l.val; omega

theorem router_block (t : Fin cfg0.N) (k : Fin 2048) (l : Fin 256) :
    iblk m c 6 t (ix2 k l) = V m c (Pipeline.arrRef spec0 6) (ix2 k l) := by
  unfold iblk
  rw [View.read_apply]
  show V m c (Pipeline.arrRef spec0 6) _ = V m c (Pipeline.arrRef spec0 6) _
  congr 1
  funext a
  apply Fin.ext
  match a with
  | ⟨0, _⟩ =>
    refine (Window.rect_emb_val (cfg0.win (6 : Fin 10)) t (ix2 k l) (0 : Fin 2)).trans ?_
    show 0 * 2048 + k.val = k.val; omega
  | ⟨1, _⟩ =>
    refine (Window.rect_emb_val (cfg0.win (6 : Fin 10)) t (ix2 k l) (1 : Fin 2)).trans ?_
    show 0 * 256 + l.val = l.val; omega

theorem bias_block (t : Fin cfg0.N) (k : Fin 1) (l : Fin 128) :
    iblk m c 7 t (ix2 k l) = V m c (Pipeline.arrRef spec0 7) (ix2 k l) := by
  unfold iblk
  rw [View.read_apply]
  show V m c (Pipeline.arrRef spec0 7) _ = V m c (Pipeline.arrRef spec0 7) _
  congr 1
  funext a
  apply Fin.ext
  match a with
  | ⟨0, _⟩ =>
    refine (Window.rect_emb_val (cfg0.win (7 : Fin 10)) t (ix2 k l) (0 : Fin 2)).trans ?_
    show 0 * 1 + k.val = k.val; omega
  | ⟨1, _⟩ =>
    refine (Window.rect_emb_val (cfg0.win (7 : Fin 10)) t (ix2 k l) (1 : Fin 2)).trans ?_
    show 0 * 128 + l.val = l.val; omega

/-! ## The first result -/

/-- The arguments' row after the layer norm. -/
def hiddenAt (i : Fin 16384) : Fin 2048 → EReal :=
  hidden (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) i

/-- A point's rows after the layer norm. -/
abbrev block8 (t : Fin cfg0.N) : S512x2048.Idx → Elt Ideal .f32 :=
  k0_pay28 (F := Ideal) (iblk m c 0 t) (iblk m c 1 t) (iblk m c 2 t) (iblk m c 3 t) (iblk m c 4 t) (iblk m c 5 t) (iblk m c 6 t) (iblk m c 7 t)

section
variable (x0 x1 : S512x1024.Idx → Elt Ideal .bf16) (x2 : S512x2048.Idx → Elt Ideal .f32) (x3 : S2048x2048.Idx → Elt Ideal .bf16)
  (x4 x5 : S1x2048.Idx → Elt Ideal .f32) (x6 : S2048x256.Idx → Elt Ideal .bf16) (x7 : S1x128.Idx → Elt Ideal .f32)

theorem upper_rows (k : Fin 1024) (x : Fin 2048) :
    View.ld x3 r0_1 (ix2 k x) = x3 (ix2 (⟨k.val, by omega⟩ : Fin 2048) x) := by
  refine View.ld_unit_apply_of _ _ _ _ _ _ fun a => ?_
  match a with
  | ⟨0, _⟩ => exact (Nat.zero_add _).symm
  | ⟨1, _⟩ => exact (Nat.zero_add _).symm

theorem lower_rows (k : Fin 1024) (x : Fin 2048) :
    View.ld x3 r0_2 (ix2 k x) = x3 (ix2 (⟨1024 + k.val, by omega⟩ : Fin 2048) x) := by
  refine View.ld_unit_apply_of _ _ _ _ _ _ fun a => ?_
  match a with
  | ⟨0, _⟩ => rfl
  | ⟨1, _⟩ => exact (Nat.zero_add _).symm

/-- A block's rows after the layer norm. -/
theorem rows_of (r : Fin 512) (l : Fin 2048) :
    k0_pay28 (F := Ideal) x0 x1 x2 x3 x4 x5 x6 x7 (ix2 r l)
      = normed (stream (fun k => x0 (ix2 r k)) (fun k => x1 (ix2 r k)) (fun k x => x3 (ix2 k x)) (fun x => x2 (ix2 r x)))
          (fun j => x4 (ix2 (0 : Fin 1) j)) (fun j => x5 (ix2 (0 : Fin 1) j)) l := by
  unfold k0_pay28
  rw [View.ld_unit_lit _ x0 (by decide), View.ld_unit_lit _ x1 (by decide), View.ld_unit_lit _ x2 (by decide),
    View.ld_unit_lit _ x4 (by decide), View.ld_unit_lit _ x5 (by decide)]
  refine (rows_normed _ _ _ _ _ _ _ r l).trans ?_
  have hs : (fun x => alpha * x2 (ix2 r x) + (∑ k, x0 (ix2 r k) * View.ld x3 r0_1 (ix2 k x) + ∑ k, x1 (ix2 r k) * View.ld x3 r0_2 (ix2 k x)))
      = stream (fun k => x0 (ix2 r k)) (fun k => x1 (ix2 r k)) (fun k x => x3 (ix2 k x)) (fun x => x2 (ix2 r x)) := by
    funext x
    exact congrArg (fun y => alpha * x2 (ix2 r x) + y) (congrArg₂ (fun y z : EReal => y + z)
      (Finset.sum_congr rfl fun k _ => congrArg (fun y => x0 (ix2 r k) * y) (upper_rows x3 k x))
      (Finset.sum_congr rfl fun k _ => congrArg (fun y => x1 (ix2 r k) * y) (lower_rows x3 k x)))
  exact congrArg (fun y => normed y (fun j => x4 (ix2 (0 : Fin 1) j)) (fun j => x5 (ix2 (0 : Fin 1) j)) l) hs

/-- A block's records. -/
theorem records_of (r : Fin 512) (l : Fin 128) (w : Fin 2048 → Fin 16 → EReal) (br : Fin 16 → EReal)
    (hx : ∀ k, IsReal (k0_pay28 (F := Ideal) x0 x1 x2 x3 x4 x5 x6 x7 (ix2 r k))) (hw : ∀ k e, IsReal (w k e)) (hb : ∀ e, IsReal (br e))
    (hw2 : ∀ k (e : Fin 16), x6 (ix2 k (⟨e.val, by omega⟩ : Fin 256)) = w k e)
    (h0 : ∀ k (e : Fin 16), x6 (ix2 k (⟨128 + e.val, by omega⟩ : Fin 256)) = 0)
    (hbr : ∀ e, x7 (ix2 (0 : Fin 1) (laneOf e)) = br e) (i k : Fin 16)
    (hc : Chosen (fun e => softmax (logits (fun k => k0_pay28 (F := Ideal) x0 x1 x2 x3 x4 x5 x6 x7 (ix2 r k)) w) e + br e) i k) :
    out0_9 (F := Ideal) x0 x1 x2 x3 x4 x5 x6 x7 (ix2 r l)
      = record (softmax (logits (fun k => k0_pay28 (F := Ideal) x0 x1 x2 x3 x4 x5 x6 x7 (ix2 r k)) w)) i k l := by
  have f5 : View.ld x6 r0_5 = x6 := View.ld_unit_lit _ x6 (by decide)
  have f7 : View.ld x7 r0_7 = x7 := View.ld_unit_lit _ x7 (by decide)
  have key := row_record (k0_pay28 (F := Ideal) x0 x1 x2 x3 x4 x5 x6 x7) (View.ld x6 r0_5) (View.ld x6 r0_6) (View.ld x7 r0_7) r w br
    hx hw hb (by rw [f5]; exact hw2) (by rw [f5]; exact h0) (by rw [f7]; exact hbr) i k hc
    (iota .tc S512x128 32 [1] iota_S512x128_d1_w32) (fun l => by pointwise []) l
  refine Eq.trans ?_ key
  unfold out0_9
  exact congrFun (View.canon_cons_unit_lit _ _ _ (by decide)) (ix2 r l)

end

theorem block8_apply (t : Fin cfg0.N) (r : Fin 512) (l : Fin 2048) : block8 m c t (ix2 r l) = hiddenAt m c (rowOf t r) l := by
  refine (rows_of (iblk m c 0 t) (iblk m c 1 t) (iblk m c 2 t) (iblk m c 3 t) (iblk m c 4 t) (iblk m c 5 t) (iblk m c 6 t) (iblk m c 7 t) r l).trans ?_
  have hs : stream (fun k => iblk m c 0 t (ix2 r k)) (fun k => iblk m c 1 t (ix2 r k)) (fun k x => iblk m c 3 t (ix2 k x)) (fun x => iblk m c 2 t (ix2 r x))
      = streamRow (m ((c : Thread nD τ).loc main_arg0)) (m ((c : Thread nD τ).loc main_arg1)) (m ((c : Thread nD τ).loc main_arg2))
          (m ((c : Thread nD τ).loc main_arg3)) (rowOf t r) := by
    unfold streamRow
    rw [show (fun k => iblk m c 0 t (ix2 r k)) = _ from funext fun k => first_block m c t r k,
      show (fun k => iblk m c 1 t (ix2 r k)) = _ from funext fun k => second_block m c t r k,
      show (fun x => iblk m c 2 t (ix2 r x)) = _ from funext fun k => residual_block m c t r k,
      show (fun k x => iblk m c 3 t (ix2 k x)) = _ from funext fun k => funext fun x => (wo_block m c t k x).trans (congrFun (wo_eq m c) _)]
  have hg : (fun j => iblk m c 4 t (ix2 (0 : Fin 1) j)) = fun j => m ((c : Thread nD τ).loc main_arg4) (ix1 j) :=
    funext fun j => (gain_block m c t 0 j).trans ((congrFun (gain_eq m c) _).trans (row_apply _ j))
  have hb : (fun j => iblk m c 5 t (ix2 (0 : Fin 1) j)) = fun j => m ((c : Thread nD τ).loc main_arg5) (ix1 j) :=
    funext fun j => (shift_block m c t 0 j).trans ((congrFun (shift_eq m c) _).trans (row_apply _ j))
  refine (congrArg (fun y => normed y _ _ l) hs).trans ((congrArg (fun y => normed _ y _ l) hg).trans (congrArg (fun y => normed _ _ y l) hb))

/-- The first result. -/
def out8 : Buf (Elt Ideal) ((c : Thread nD τ).loc main_v11_0) := fun i => hiddenAt m c (i 0) (i 1)

theorem final8 : (dats m 0 c).arrAt 8 cfg0.N = out8 m c := by
  refine (dats m 0 c).arrAt_eq_of_covers (8 : Fin 10) _ (by decide +kernel) (fun t _ y => ?_) (Memref.isWhole_whole _)
  refine (cast_eq _ _).trans ?_
  rw [after0_8]
  have hb : out0_8 (iblk m c 0 t) (iblk m c 1 t) (iblk m c 2 t) (iblk m c 3 t) (iblk m c 4 t) (iblk m c 5 t) (iblk m c 6 t) (iblk m c 7 t)
      = block8 m c t := by
    unfold out0_8
    exact View.canon_cons_unit_lit _ _ _ (by decide)
  rw [hb]
  refine (congrArg (block8 m c t) (show _ = ix2 (y (0 : Fin 2)) (y (1 : Fin 2)) from ?_)).trans
    ((block8_apply m c t (y (0 : Fin 2)) (y (1 : Fin 2))).trans ?_)
  · funext a
    match a with
    | ⟨0, _⟩ => rfl
    | ⟨1, _⟩ => rfl
  · have e0 : (((cfg0.win 8).blk t).view.emb y 0).val = t.val * 512 + (y (0 : Fin 2)).val := by
      refine (Window.rect_emb_val (cfg0.win (8 : Fin 10)) t y (0 : Fin 2)).trans ?_
      show cc0_transform_8 (grid0.coords t) 0 * 512 + (y (0 : Fin 2)).val = _
      rw [index8]; rfl
    have e1 : (((cfg0.win 8).blk t).view.emb y 1).val = (y (1 : Fin 2)).val := by
      refine (Window.rect_emb_val (cfg0.win (8 : Fin 10)) t y (1 : Fin 2)).trans ?_
      show cc0_transform_8 (grid0.coords t) 1 * 2048 + (y (1 : Fin 2)).val = _
      rw [index8]; show 0 * 2048 + (y (1 : Fin 2)).val = _; omega
    have h0 : rowOf t (y (0 : Fin 2)) = ((cfg0.win 8).blk t).view.emb y 0 := Fin.ext e0.symm
    have h1 : (y (1 : Fin 2) : Fin 2048) = ((cfg0.win 8).blk t).view.emb y 1 := Fin.ext e1.symm
    rw [h0, h1]
    rfl

/-! ## The second result -/

/-- Every argument's entries are real numbers. -/
structure Real8 : Prop where
  r0 : ∀ y, IsReal (m ((c : Thread nD τ).loc main_arg0) y)
  r1 : ∀ y, IsReal (m ((c : Thread nD τ).loc main_arg1) y)
  r2 : ∀ y, IsReal (m ((c : Thread nD τ).loc main_arg2) y)
  r3 : ∀ y, IsReal (m ((c : Thread nD τ).loc main_arg3) y)
  r4 : ∀ y, IsReal (m ((c : Thread nD τ).loc main_arg4) y)
  r5 : ∀ y, IsReal (m ((c : Thread nD τ).loc main_arg5) y)
  r6 : ∀ y, IsReal (m ((c : Thread nD τ).loc main_arg6) y)
  r7 : ∀ y, IsReal (m ((c : Thread nD τ).loc main_arg7) y)

/-- The arguments' record of a row. -/
def infoAt (i : Fin 16384) : Fin 128 → EReal :=
  info (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) i

variable {m c} in
theorem block9_apply (hr : Real8 m c) (t : Fin cfg0.N) (r : Fin 512) (l : Fin 128) :
    out0_9 (iblk m c 0 t) (iblk m c 1 t) (iblk m c 2 t) (iblk m c 3 t) (iblk m c 4 t) (iblk m c 5 t) (iblk m c 6 t) (iblk m c 7 t) (ix2 r l)
      = infoAt m c (rowOf t r) l := by
  have hx : (fun k => k0_pay28 (F := Ideal) (iblk m c 0 t) (iblk m c 1 t) (iblk m c 2 t) (iblk m c 3 t) (iblk m c 4 t) (iblk m c 5 t) (iblk m c 6 t) (iblk m c 7 t) (ix2 r k))
      = hiddenAt m c (rowOf t r) := funext fun k => block8_apply m c t r k
  obtain ⟨⟨p, q⟩, hc⟩ := exists_chosen (scored (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (rowOf t r))
  have hreal : ∀ k, IsReal (k0_pay28 (F := Ideal) (iblk m c 0 t) (iblk m c 1 t) (iblk m c 2 t) (iblk m c 3 t) (iblk m c 4 t) (iblk m c 5 t) (iblk m c 6 t) (iblk m c 7 t) (ix2 r k)) := fun k => by
    have h : IsReal (hiddenAt m c (rowOf t r) k) := isReal_hidden _ _ _ _ _ _ _ hr.r0 hr.r1 hr.r2 hr.r3 hr.r4 hr.r5 k
    rw [← hx] at h
    exact h
  have hw2 : ∀ k (e : Fin 16), iblk m c 6 t (ix2 k (⟨e.val, by omega⟩ : Fin 256)) = m ((c : Thread nD τ).loc main_arg6) (ix2 k e) :=
    fun k e => (router_block m c t k _).trans ((congrFun (router_eq m c) _).trans (pair_low _ k e))
  have h0 : ∀ k (e : Fin 16), iblk m c 6 t (ix2 k (⟨128 + e.val, by omega⟩ : Fin 256)) = (0 : EReal) :=
    fun k e => (router_block m c t k _).trans ((congrFun (router_eq m c) _).trans (pair_high _ (fun k e => hr.r6 _) k e))
  have hbr : ∀ e : Fin 16, iblk m c 7 t (ix2 (0 : Fin 1) (laneOf e)) = m ((c : Thread nD τ).loc main_arg7) (ix1 e) :=
    fun e => (bias_block m c t 0 _).trans ((congrFun (bias_eq m c) _).trans (biasRow_apply _ e))
  have key := records_of (iblk m c 0 t) (iblk m c 1 t) (iblk m c 2 t) (iblk m c 3 t) (iblk m c 4 t) (iblk m c 5 t) (iblk m c 6 t) (iblk m c 7 t) r l
    (fun k e => m ((c : Thread nD τ).loc main_arg6) (ix2 k e)) (fun e => m ((c : Thread nD τ).loc main_arg7) (ix1 e)) hreal
    (fun k e => hr.r6 _) (fun e => hr.r7 _) hw2 h0 hbr p q
  rw [hx] at key
  exact (key hc).trans (info_eq _ _ _ _ _ _ _ _ _ hc l).symm

/-- The second result. -/
def out9 : Buf (Elt Ideal) ((c : Thread nD τ).loc main_v11_1) := fun i => infoAt m c (i 0) (i 1)

variable {m c} in
theorem final9 (hr : Real8 m c) : (dats m 0 c).arrAt 9 cfg0.N = out9 m c := by
  refine (dats m 0 c).arrAt_eq_of_covers (9 : Fin 10) _ (by decide +kernel) (fun t _ y => ?_) (Memref.isWhole_whole _)
  refine (cast_eq _ _).trans ?_
  rw [after0_9]
  refine (congrArg (out0_9 (iblk m c 0 t) (iblk m c 1 t) (iblk m c 2 t) (iblk m c 3 t) (iblk m c 4 t) (iblk m c 5 t) (iblk m c 6 t) (iblk m c 7 t))
    (show _ = ix2 (y (0 : Fin 2)) (y (1 : Fin 2)) from ?_)).trans ((block9_apply hr t (y (0 : Fin 2)) (y (1 : Fin 2))).trans ?_)
  · funext a
    match a with
    | ⟨0, _⟩ => rfl
    | ⟨1, _⟩ => rfl
  · have e0 : (((cfg0.win 9).blk t).view.emb y 0).val = t.val * 512 + (y (0 : Fin 2)).val := by
      refine (Window.rect_emb_val (cfg0.win (9 : Fin 10)) t y (0 : Fin 2)).trans ?_
      show cc0_transform_9 (grid0.coords t) 0 * 512 + (y (0 : Fin 2)).val = _
      rw [index9]; rfl
    have e1 : (((cfg0.win 9).blk t).view.emb y 1).val = (y (1 : Fin 2)).val := by
      refine (Window.rect_emb_val (cfg0.win (9 : Fin 10)) t y (1 : Fin 2)).trans ?_
      show cc0_transform_9 (grid0.coords t) 1 * 128 + (y (1 : Fin 2)).val = _
      rw [index9]; show 0 * 128 + (y (1 : Fin 2)).val = _; omega
    have h0 : rowOf t (y (0 : Fin 2)) = ((cfg0.win 9).blk t).view.emb y 0 := Fin.ext e0.symm
    have h1 : (y (1 : Fin 2) : Fin 128) = ((cfg0.win 9).blk t).view.emb y 1 := Fin.ext e1.symm
    rw [h0, h1]
    rfl

end Cert.KernelOutIdeal.Out

end
-- ==== Proof.OutProj.TopK.lean ====
/- The host's top-k along the last axis, at an index, and the host's maximum over a row. -/
module

public import proofs.«01_k».proof.Proof.OutProj.Rows
public import proofs.«01_k».proof.Proof.Gen.ReferenceOutIdeal

@[expose] public section

set_option maxRecDepth 16384
set_option Elab.async false

noncomputable section

namespace Cert.ReferenceOutIdeal.Out

open Cert.ReferenceOutIdeal Cert.ReferenceOutIdeal.Gen Cert.OutProj
open Idealize.ShloMosaic Idealize.ShloMosaic.TcCoe Idealize.SL.Sem

/-- The order that the top-k sorts by is the values' order. -/
theorem before_eq {n : ℕ} (a : Fin n → EReal) :
    (fun k k' => (FloatOps.cmpfTotal (F := Ideal) (φ := .f32) .gt (a k) (a k') == 1#1)) = byValue a := by
  funext k k'
  show (BitVec.ofBool (decide (a k' < a k)) == 1#1) = decide (a k' < a k)
  by_cases h : a k' < a k
  · rw [decide_eq_true h]; rfl
  · rw [decide_eq_false h]; rfl

theorem along2 {R n : ℕ} (i : Fin R) (j k : Fin n) : Shape.Idx.along (s := ⟨2, ![R, n]⟩) (ix2 i j) (1 : Fin 2) k = ix2 i k := by
  funext a
  match a with
  | ⟨0, _⟩ => rfl
  | ⟨1, _⟩ => rfl

theorem along3 {R G n : ℕ} (i : Fin R) (g : Fin G) (j k : Fin n) :
    Shape.Idx.along (s := ⟨3, ![R, G, n]⟩) (ix3 i g j) (2 : Fin 3) k = ix3 i g k := by
  funext a
  match a with
  | ⟨0, _⟩ => rfl
  | ⟨1, _⟩ => rfl
  | ⟨2, _⟩ => rfl

theorem slice2 {α : Type} {R n p : ℕ} (x : (⟨2, ![R, n]⟩ : Shape).Idx → α) (h : (⟨2, ![R, n]⟩ : Shape).Slices (fun _ => 0) ⟨2, ![R, p]⟩)
    (i : Fin R) (j : Fin p) (hj : j.val < n) :
    extractStridedSlice (⟨2, ![R, p]⟩ : Shape) (fun _ => 0) x h (ix2 i j) = x (ix2 i ⟨j.val, hj⟩) := by
  unfold extractStridedSlice
  refine congrArg x (funext fun a => ?_)
  match a with
  | ⟨0, _⟩ => exact Fin.ext (Nat.zero_add _)
  | ⟨1, _⟩ => exact Fin.ext (Nat.zero_add _)

theorem slice3 {α : Type} {R G n p : ℕ} (x : (⟨3, ![R, G, n]⟩ : Shape).Idx → α)
    (h : (⟨3, ![R, G, n]⟩ : Shape).Slices (fun _ => 0) ⟨3, ![R, G, p]⟩) (i : Fin R) (g : Fin G) (j : Fin p) (hj : j.val < n) :
    extractStridedSlice (⟨3, ![R, G, p]⟩ : Shape) (fun _ => 0) x h (ix3 i g j) = x (ix3 i g ⟨j.val, hj⟩) := by
  unfold extractStridedSlice
  refine congrArg x (funext fun a => ?_)
  match a with
  | ⟨0, _⟩ => exact Fin.ext (Nat.zero_add _)
  | ⟨1, _⟩ => exact Fin.ext (Nat.zero_add _)
  | ⟨2, _⟩ => exact Fin.ext (Nat.zero_add _)

/-- A row's top-k: the position at rank `j`. -/
theorem topK2 {R n p : ℕ} (x : (⟨2, ![R, n]⟩ : Shape).Idx → EReal) (h : (⟨2, ![R, n]⟩ : Shape).Slices (fun _ => 0) ⟨2, ![R, p]⟩)
    (i : Fin R) (j : Fin p) (hj : j.val < n) :
    (Host.topK (⟨2, ![R, p]⟩ : Shape) 1 (FloatOps.cmpfTotal (F := Ideal) (φ := .f32) .gt) x h).2 (ix2 i j)
      = BitVec.ofNat 32 (sortedFrom (byValue fun k => x (ix2 i k)) ⟨j.val, hj⟩).val := by
  unfold Host.topK
  dsimp only
  rw [slice2 _ h i j hj]
  have s : ∀ idx : IVec ⟨2, ![R, n]⟩ 32,
      (Host.sort2 ⟨2, ![R, n]⟩ 1 (fun l r => FloatOps.cmpfTotal (F := Ideal) (φ := .f32) .gt l.1 r.1) x idx).2 (ix2 i ⟨j.val, hj⟩)
        = idx (Shape.Idx.along (s := ⟨2, ![R, n]⟩) (ix2 i ⟨j.val, hj⟩) (1 : Fin 2) (sortedFrom (fun k k' =>
            FloatOps.cmpfTotal (F := Ideal) (φ := .f32) .gt (x (Shape.Idx.along (s := ⟨2, ![R, n]⟩) (ix2 i ⟨j.val, hj⟩) (1 : Fin 2) k))
              (x (Shape.Idx.along (s := ⟨2, ![R, n]⟩) (ix2 i ⟨j.val, hj⟩) (1 : Fin 2) k')) == 1#1) ⟨j.val, hj⟩)) := fun idx => rfl
  have b := before_eq fun k : Fin n => x (Shape.Idx.along (s := ⟨2, ![R, n]⟩) (ix2 i ⟨j.val, hj⟩) (1 : Fin 2) k)
  have b' : (fun k : Fin n => x (Shape.Idx.along (s := ⟨2, ![R, n]⟩) (ix2 i ⟨j.val, hj⟩) (1 : Fin 2) k)) = fun k => x (ix2 i k) :=
    funext fun k => congrArg x (along2 i _ k)
  rw [b'] at b
  have s' : ∀ idx : IVec ⟨2, ![R, n]⟩ 32,
      (Host.sort2 ⟨2, ![R, n]⟩ 1 (fun l r => FloatOps.cmpfTotal (F := Ideal) (φ := .f32) .gt l.1 r.1) x idx).2 (ix2 i ⟨j.val, hj⟩)
        = idx (ix2 i (sortedFrom (byValue fun k => x (ix2 i k)) ⟨j.val, hj⟩)) := fun idx =>
    (s idx).trans ((congrArg (fun f : Fin n → Fin n → Bool => idx (Shape.Idx.along (s := ⟨2, ![R, n]⟩) (ix2 i ⟨j.val, hj⟩) (1 : Fin 2)
      (sortedFrom f ⟨j.val, hj⟩))) b).trans (congrArg idx (along2 i _ _)))
  exact (s' _).trans rfl

/-- A row's top-k: the value at rank `j`. -/
theorem topK3 {R G n p : ℕ} (x : (⟨3, ![R, G, n]⟩ : Shape).Idx → EReal)
    (h : (⟨3, ![R, G, n]⟩ : Shape).Slices (fun _ => 0) ⟨3, ![R, G, p]⟩) (i : Fin R) (g : Fin G) (j : Fin p) (hj : j.val < n) :
    (Host.topK (⟨3, ![R, G, p]⟩ : Shape) 2 (FloatOps.cmpfTotal (F := Ideal) (φ := .f32) .gt) x h).1 (ix3 i g j)
      = x (ix3 i g (sortedFrom (byValue fun k => x (ix3 i g k)) ⟨j.val, hj⟩)) := by
  unfold Host.topK
  dsimp only
  rw [slice3 _ h i g j hj]
  have s : ∀ idx : IVec ⟨3, ![R, G, n]⟩ 32,
      (Host.sort2 ⟨3, ![R, G, n]⟩ 2 (fun l r => FloatOps.cmpfTotal (F := Ideal) (φ := .f32) .gt l.1 r.1) x idx).1 (ix3 i g ⟨j.val, hj⟩)
        = x (Shape.Idx.along (s := ⟨3, ![R, G, n]⟩) (ix3 i g ⟨j.val, hj⟩) (2 : Fin 3) (sortedFrom (fun k k' =>
            FloatOps.cmpfTotal (F := Ideal) (φ := .f32) .gt (x (Shape.Idx.along (s := ⟨3, ![R, G, n]⟩) (ix3 i g ⟨j.val, hj⟩) (2 : Fin 3) k))
              (x (Shape.Idx.along (s := ⟨3, ![R, G, n]⟩) (ix3 i g ⟨j.val, hj⟩) (2 : Fin 3) k')) == 1#1) ⟨j.val, hj⟩)) := fun idx => rfl
  have b := before_eq fun k : Fin n => x (Shape.Idx.along (s := ⟨3, ![R, G, n]⟩) (ix3 i g ⟨j.val, hj⟩) (2 : Fin 3) k)
  have b' : (fun k : Fin n => x (Shape.Idx.along (s := ⟨3, ![R, G, n]⟩) (ix3 i g ⟨j.val, hj⟩) (2 : Fin 3) k)) = fun k => x (ix3 i g k) :=
    funext fun k => congrArg x (along3 i g _ k)
  rw [b'] at b
  refine (s _).trans ((congrArg (fun f : Fin n → Fin n → Bool => x (Shape.Idx.along (s := ⟨3, ![R, G, n]⟩) (ix3 i g ⟨j.val, hj⟩) (2 : Fin 3)
    (sortedFrom f ⟨j.val, hj⟩))) b).trans (congrArg x (along3 i g _ _)))

/-- The maximum over a row, as the host takes it. -/
theorem row_fold (x : S16384x16.Idx → EReal) (i : Fin 16384) :
    (Finset.univ.filter fun y => reducesTo_S16384x16_S16384_d1.drop y = ix1 i).fold max ⊥ x = topVal fun e : Fin 16 => x (ix2 i e) := by
  have hd : ∀ y : S16384x16.Idx, reducesTo_S16384x16_S16384_d1.drop y = ix1 (y 0) := fun y => by
    funext a
    match a with
    | ⟨0, _⟩ => rfl
  apply le_antisymm
  · refine (Finset.fold_max_le _).mpr ⟨bot_le, fun y hy => ?_⟩
    have h := (Finset.mem_filter.mp hy).2
    have h0 : y 0 = i := congrFun ((hd y).symm.trans h) 0
    have e : y = ix2 i (y 1) := by
      funext a
      match a with
      | ⟨0, _⟩ => exact h0
      | ⟨1, _⟩ => rfl
    exact (Finset.le_fold_max _).mpr (Or.inr ⟨y 1, Finset.mem_univ _, (congrArg x e).le⟩)
  · refine (Finset.fold_max_le _).mpr ⟨bot_le, fun e _ => ?_⟩
    exact (Finset.le_fold_max _).mpr (Or.inr ⟨ix2 i e, Finset.mem_filter.mpr ⟨Finset.mem_univ _, hd _⟩, le_rfl⟩)

end Cert.ReferenceOutIdeal.Out

end
-- ==== Proof.OutProj.Reference.lean ====
/- The reference's output projection, element by element. -/
module

public import proofs.«01_k».proof.Proof.OutProj.TopK
public import proofs.«01_k».proof.Proof.Gen.ReferenceOutIdeal.Run

@[expose] public section

set_option maxRecDepth 16384
set_option Elab.async false

noncomputable section

namespace Cert.ReferenceOutIdeal.Out

open Cert.ReferenceOutIdeal Cert.ReferenceOutIdeal.Gen Cert.ReferenceOutIdeal.Value Cert.OutProj
open Idealize.ShloMosaic Idealize.ShloMosaic.TcCoe Idealize.SL.Sem Idealize.ShloMosaic.StableHlo

variable (V0 : Valuation τ sig (Elt Ideal))

/-- The arguments and the named results, as arrays of extended reals. -/
abbrev A0 : S16384x1024.Idx → EReal := V0 (Proc.devRef .tc main_arg0)
abbrev A1 : S16384x1024.Idx → EReal := V0 (Proc.devRef .tc main_arg1)
abbrev A2 : S16384x2048.Idx → EReal := V0 (Proc.devRef .tc main_arg2)
abbrev A3 : S2048x2048.Idx → EReal := V0 (Proc.devRef .tc main_arg3)
abbrev A4 : S2048.Idx → EReal := V0 (Proc.devRef .tc main_arg4)
abbrev A5 : S2048.Idx → EReal := V0 (Proc.devRef .tc main_arg5)
abbrev A6 : S2048x16.Idx → EReal := V0 (Proc.devRef .tc main_arg6)
abbrev A7 : S16.Idx → EReal := V0 (Proc.devRef .tc main_arg7)
abbrev r7 : S16384x2048.Idx → EReal := res_main_v7 (F := Ideal) V0
abbrev r11 : S16384x1.Idx → EReal := res_main_v11 (F := Ideal) V0
abbrev r13 : S16384x2048.Idx → EReal := res_main_v13 (F := Ideal) V0
abbrev r33 : S16384x16.Idx → EReal := res_main_v33 (F := Ideal) V0
abbrev r40 : S16384x16.Idx → EReal := res_main_v40 (F := Ideal) V0
abbrev r44 : S16384x16.Idx → EReal := res_main_v44 (F := Ideal) V0
abbrev r48 : S16384x4x4.Idx → EReal := res_main_v48 (F := Ideal) V0
abbrev r49 : S16384x4.Idx → EReal := res_main_v49 (F := Ideal) V0
abbrev r57 : S16384x16.Idx → EReal := res_main_v57 (F := Ideal) V0
abbrev r62 : S16384x2.Idx → EReal := res_main_v62 (F := Ideal) V0

/-! ## The constants -/

theorem two_eq : Ideal.ofBits .f32 0x40000000#32 = ((2 : ℝ) : EReal) := by
  simp [Ideal.ofBits, Ideal.ieee, -EReal.coe_mul]; norm_num
theorem width_eq : Ideal.ofBits .f32 0x45000000#32 = width := by
  unfold width
  simp [Ideal.ofBits, Ideal.ieee, -EReal.coe_mul]; norm_num
theorem bot_eq : Ideal.ofBits .f32 0xFF800000#32 = (⊥ : EReal) := by simp [Ideal.ofBits, Ideal.ieee]
theorem sqrt_two : Ideal.sqrt ((2 : ℝ) : EReal) = alpha := by
  rw [Ideal.sqrt_coe, if_neg (by norm_num)]
  rfl
theorem hundred_thousand : Ideal.div 1 (Ideal.ofBits .f32 0x47C35000#32) = eps := by
  have h : Ideal.ofBits .f32 0x47C35000#32 = ((100000 : ℝ) : EReal) := by
    simp [Ideal.ofBits, Ideal.ieee, -EReal.coe_mul]; norm_num
  rw [h, ← EReal.coe_one, div_coe _ _ (by norm_num)]
  rfl

/-! ## The stages -/

theorem v7_apply (i : Fin 16384) (x : Fin 2048) :
    r7 V0 (ix2 i x) = streamRow (A0 V0) (A1 V0) (A2 V0) (A3 V0) i x := by
  unfold r7
  pointwise [res_main_v7]
  rw [two_eq, sqrt_two]
  rfl

theorem v11_apply (i : Fin 16384) :
    r11 V0 (ix2 i (0 : Fin 1)) = mean (fun x => r7 V0 (ix2 i x)) := by
  unfold r11
  pointwise [res_main_v11]
  rw [width_eq]
  rfl

theorem v13_apply (i : Fin 16384) (x : Fin 2048) :
    r13 V0 (ix2 i x) = r7 V0 (ix2 i x) - mean (fun x => r7 V0 (ix2 i x)) := by
  unfold r13
  pointwise [res_main_v13]
  exact congrArg (fun y => r7 V0 (ix2 i x) - y) (v11_apply V0 i)

/-- The reference's rows after the layer norm. -/
def h1 : S16384x2048.Idx → Elt Ideal .f32 :=
  addf (F := Ideal) (φ := .f32) (mulf (F := Ideal) (φ := .f32) (mulf (F := Ideal) (φ := .f32) (subf (F := Ideal) (φ := .f32) (res_main_v7 V0) (broadcastInDim S16384x2048 ![0, 1] bcast_S16384x1_S16384x2048_0_1 (res_main_v11 V0)))
    (broadcastInDim S16384x2048 ![0, 1] bcast_S16384x1_S16384x2048_0_1 (Host.rsqrt (F := Ideal) (φ := .f32) (addf (Host.divf (F := Ideal) (φ := .f32) (broadcastInDim S16384x1 ![0] bcast_S16384_S16384x1_0
      (Host.reduceAdd (F := Ideal) (φ := .f32) (mulf (F := Ideal) (φ := .f32) (res_main_v13 V0) (res_main_v13 V0)) (constant S_ .f32 0x00000000#32) reducesTo_S16384x2048_S16384_d1 h_S_))
      (broadcastInDim S16384x1 ![] bcast_S_S16384x1 (constant S_ .f32 0x45000000#32)))
      (broadcastInDim S16384x1 ![] bcast_S_S16384x1 (Host.divf (constant S_ .f32 0x3F800000#32) (constant S_ .f32 0x47C35000#32)))))))
    (broadcastInDim S16384x2048 ![0, 1] bcast_S1x2048_S16384x2048_0_1 (broadcastInDim S1x2048 ![1] bcast_S2048_S1x2048_1 (V0 (Proc.devRef .tc main_arg4)))))
    (broadcastInDim S16384x2048 ![0, 1] bcast_S1x2048_S16384x2048_0_1 (broadcastInDim S1x2048 ![1] bcast_S2048_S1x2048_1 (V0 (Proc.devRef .tc main_arg5))))

theorem h1_apply (i : Fin 16384) (x : Fin 2048) :
    h1 V0 (ix2 i x) = normed (fun x => r7 V0 (ix2 i x)) (fun j => A4 V0 (ix1 j)) (fun j => A5 V0 (ix1 j)) x := by
  pointwise [h1]
  rw [width_eq, hundred_thousand]
  have e11 : res_main_v11 V0 (ix2 i (0 : Fin 1)) = mean (fun x => r7 V0 (ix2 i x)) := v11_apply V0 i
  have e13 : ∀ x, res_main_v13 V0 (ix2 i x) = r7 V0 (ix2 i x) - mean (fun x => r7 V0 (ix2 i x)) := fun x => v13_apply V0 i x
  simp only [e11, e13]
  rfl

theorem v33_apply (i : Fin 16384) (e : Fin 16) :
    r33 V0 (ix2 i e) = logits (fun k => h1 V0 (ix2 i k)) (fun k e => A6 V0 (ix2 k e)) e := by
  have h : r33 V0 = Host.dotGeneral (F := Ideal) (φ₁ := .f32) (φ₂ := .f32) dot_S16384x2048_S2048x16_S16384x16_1_0_0_1_n_n none (h1 V0) (A6 V0) := rfl
  rw [h]
  pointwise []
  rfl

theorem v40_apply (i : Fin 16384) (e : Fin 16) :
    r40 V0 (ix2 i e) = Ideal.exp (r33 V0 (ix2 i e) - topVal fun e => r33 V0 (ix2 i e)) := by
  unfold r40
  pointwise [res_main_v40]
  rw [bot_eq]
  exact congrArg (fun y => Ideal.exp (r33 V0 (ix2 i e) - y)) ((bot_sup_eq _).trans (row_fold (r33 V0) i))

theorem v44_apply (i : Fin 16384) (e : Fin 16) :
    r44 V0 (ix2 i e) = softmax (fun e => r33 V0 (ix2 i e)) e := by
  unfold r44
  pointwise [res_main_v44]
  have e40 : ∀ e, res_main_v40 V0 (ix2 i e) = Ideal.exp (r33 V0 (ix2 i e) - topVal fun e => r33 V0 (ix2 i e)) := fun e => v40_apply V0 i e
  simp only [e40]
  rfl

theorem v48_apply (i : Fin 16384) (g e : Fin 4) :
    r48 V0 (ix3 i g e) = r44 V0 (ix2 i (member g e)) + A7 V0 (ix1 (member g e)) := by
  unfold r48
  pointwise [res_main_v48]
  exact congrArg (fun e : Fin 16 => r44 V0 (ix2 i e) + A7 V0 (ix1 e)) (Fin.ext (by show g.val * 4 + e.val = 4 * g.val + e.val; omega))

/-! ## The choice -/

/-- A row's biased affinities. -/
def bs (i : Fin 16384) (e : Fin 16) : EReal := r44 V0 (ix2 i e) + A7 V0 (ix1 e)

theorem v48_group (i : Fin 16384) (g : Fin 4) : (fun e => r48 V0 (ix3 i g e)) = group (bs V0 i) g := funext fun e => v48_apply V0 i g e

theorem v49_apply (i : Fin 16384) (g : Fin 4) :
    r49 V0 (ix2 i g) = group (bs V0 i) g (sortedFrom (byValue (group (bs V0 i) g)) 0)
      + group (bs V0 i) g (sortedFrom (byValue (group (bs V0 i) g)) 1) := by
  unfold r49
  pointwise [res_main_v49]
  rw [Fin.sum_univ_two]
  have h : ∀ (j : Fin 2) (hj : j.val < 4), (Host.topK S16384x4x2 2 (FloatOps.cmpfTotal (F := Ideal) (φ := .f32) .gt) (res_main_v48 V0) sliceFits_S16384x4x4_S16384x4x2).1 (ix3 i g j)
      = group (bs V0 i) g (sortedFrom (byValue (group (bs V0 i) g)) ⟨j.val, hj⟩) := fun j hj => by
    refine (topK3 (r48 V0) sliceFits_S16384x4x4_S16384x4x2 i g j hj).trans ?_
    rw [v48_group]
    exact congrFun (v48_group V0 i g) _
  exact congrArg₂ (fun y z : EReal => y + z) (h 0 (by decide)) (h 1 (by decide))

/-- The group that a row chooses. -/
def best (i : Fin 16384) : Fin 4 := sortedFrom (byValue fun g => r49 V0 (ix2 i g)) 0

theorem in_group (e : Fin 16) (g : Fin 4) :
    IntOp.cmpi .eq (BitVec.ofNat 32 (e.val / 4)) (BitVec.ofNat 32 g.val) = if e.val / 4 = g.val then 1#1 else 0#1 := by
  revert e g
  decide +kernel

theorem v57_apply (i : Fin 16384) (e : Fin 16) : r57 V0 (ix2 i e) = within (bs V0 i) (best V0 i) e := by
  unfold r57
  pointwise [res_main_v57]
  have hg : (Host.topK S16384x1 1 (FloatOps.cmpfTotal (F := Ideal) (φ := .f32) .gt) (res_main_v49 V0) sliceFits_S16384x4_S16384x1).2 (ix2 i (0 : Fin 1))
      = BitVec.ofNat 32 (best V0 i).val := topK2 (r49 V0) sliceFits_S16384x4_S16384x1 i 0 (by decide)
  have hb : res_main_v48 V0 (ix3 i (⟨e.val / 4, by omega⟩ : Fin 4) (⟨e.val % 4, by omega⟩ : Fin 4)) = bs V0 i e :=
    (v48_apply V0 i _ _).trans (congrArg (bs V0 i) (Fin.ext (Nat.div_add_mod e.val 4)))
  rw [hg, hb, in_group]
  unfold within
  by_cases he : e.val / 4 = (best V0 i).val
  · rw [if_pos he, if_pos he]
    rfl
  · rw [if_neg he, if_neg he]
    exact bot_eq

/-- The two experts that a row chooses. -/
def taken (i : Fin 16384) (j : Fin 2) : Fin 16 := sortedFrom (byValue (within (bs V0 i) (best V0 i))) ⟨j.val, by omega⟩

theorem indices_apply (i : Fin 16384) (j : Fin 2) : res_main_indices_14 (F := Ideal) V0 (ix2 i j) = BitVec.ofNat 32 (taken V0 i j).val := by
  have h : (fun e => r57 V0 (ix2 i e)) = within (bs V0 i) (best V0 i) := funext fun e => v57_apply V0 i e
  unfold res_main_indices_14 taken
  rw [← h]
  exact topK2 (r57 V0) sliceFits_S16384x16_S16384x2 i j _

theorem chosen (i : Fin 16384) : Chosen (bs V0 i) (taken V0 i 0) (taken V0 i 1) :=
  ⟨fun g => r49 V0 (ix2 i g), best V0 i, fun g => ⟨_, _, sorted_isTop _ _ rfl, sorted_isSecond _ _ _ rfl rfl, v49_apply V0 i g⟩,
    sorted_isTop _ _ rfl, sorted_isTop _ _ rfl, sorted_isSecond _ _ _ rfl rfl⟩

theorem same_number (p x : Fin 16) :
    IntOp.cmpi .eq (BitVec.ofNat 32 p.val) (BitVec.ofNat 32 x.val) = if x = p then 1#1 else 0#1 := by
  revert p x
  decide +kernel

theorem one_hot : FloatOps.uitofp (F := Ideal) .f32 (1#1) = (1 : EReal) := by
  show ((((1#1 : BitVec 1).toNat : ℝ)) : EReal) = 1
  simp

theorem no_hot : FloatOps.uitofp (F := Ideal) .f32 (0#1) = (0 : EReal) := by
  show ((((0#1 : BitVec 1).toNat : ℝ)) : EReal) = 0
  simp

theorem v62_apply (i : Fin 16384) (j : Fin 2) : r62 V0 (ix2 i j) = r44 V0 (ix2 i (taken V0 i j)) := by
  unfold r62
  pointwise [res_main_v62]
  simp only [indices_apply, same_number]
  rw [Finset.sum_eq_single (taken V0 i j)]
  · rw [if_pos rfl, one_hot, one_mul]
  · intro x _ hx
    rw [if_neg hx, no_hot, zero_mul]
  · intro h
    exact absurd (Finset.mem_univ _) h

/-- The reference's records. -/
def records : S16384x128.Idx → Elt Ideal .f32 :=
  concatenate S16384x128 1 [⟨S16384x2, ((sitofp (F := Ideal) .f32 (res_main_indices_14 (F := Ideal) V0)) : (⟨S16384x2, .f32⟩ : BufTy).Contents (Elt Ideal))⟩,
    ⟨S16384x2, ((Host.divf (F := Ideal) (φ := .f32) (res_main_v62 (F := Ideal) V0) (broadcastInDim S16384x2 ![0, 1] bcast_S16384x1_S16384x2_0_1 (broadcastInDim S16384x1 ![0] bcast_S16384_S16384x1_0
      (Host.reduceAdd (F := Ideal) (φ := .f32) (res_main_v62 (F := Ideal) V0) (constant (F := Ideal) S_ .f32 0x00000000#32) reducesTo_S16384x2_S16384_d1 h_S_)))) : (⟨S16384x2, .f32⟩ : BufTy).Contents (Elt Ideal))⟩,
    ⟨S16384x124, ((broadcastInDim S16384x124 ![] bcast_S_S16384x124 (constant (F := Ideal) S_ .f32 0x00000000#32)) : (⟨S16384x124, .f32⟩ : BufTy).Contents (Elt Ideal))⟩]
    concatenates_S16384x2_S16384x2_S16384x124_S16384x128_d1

theorem expert_number (e : Fin 16) : FloatOps.sitofp (F := Ideal) .f32 (BitVec.ofNat 32 e.val) = lane e := by
  have h : ∀ e : Fin 16, (BitVec.ofNat 32 e.val).toInt = (e.val : ℤ) := by decide +kernel
  show (((BitVec.ofNat 32 e.val).toInt : ℝ) : EReal) = _
  rw [h]
  rfl

/-- Two numbers, two weights over their sum and zeros side by side, element by element. -/
theorem pieces (n : IVec S16384x2 32) (w : FVec Ideal S16384x2 .f32) (i : Fin 16384) (l : Fin 128) :
    concatenate S16384x128 1 [⟨S16384x2, ((sitofp (F := Ideal) .f32 n) : (⟨S16384x2, .f32⟩ : BufTy).Contents (Elt Ideal))⟩,
      ⟨S16384x2, ((Host.divf (F := Ideal) (φ := .f32) w (broadcastInDim S16384x2 ![0, 1] bcast_S16384x1_S16384x2_0_1 (broadcastInDim S16384x1 ![0] bcast_S16384_S16384x1_0
        (Host.reduceAdd (F := Ideal) (φ := .f32) w (constant (F := Ideal) S_ .f32 0x00000000#32) reducesTo_S16384x2_S16384_d1 h_S_)))) : (⟨S16384x2, .f32⟩ : BufTy).Contents (Elt Ideal))⟩,
      ⟨S16384x124, ((broadcastInDim S16384x124 ![] bcast_S_S16384x124 (constant (F := Ideal) S_ .f32 0x00000000#32)) : (⟨S16384x124, .f32⟩ : BufTy).Contents (Elt Ideal))⟩]
      concatenates_S16384x2_S16384x2_S16384x124_S16384x128_d1 (ix2 i l)
    = if l.val = 0 then FloatOps.sitofp (F := Ideal) .f32 (n (ix2 i (0 : Fin 2)))
      else if l.val = 1 then FloatOps.sitofp (F := Ideal) .f32 (n (ix2 i (1 : Fin 2)))
      else if l.val = 2 then Ideal.div (w (ix2 i (0 : Fin 2))) (w (ix2 i (0 : Fin 2)) + w (ix2 i (1 : Fin 2)))
      else if l.val = 3 then Ideal.div (w (ix2 i (1 : Fin 2))) (w (ix2 i (0 : Fin 2)) + w (ix2 i (1 : Fin 2))) else (0 : EReal) := by
  pointwise []
  simp only [Fin.sum_univ_two]
  by_cases h0 : l.val = 0
  · have e : (⟨l.val, by omega⟩ : Fin 2) = 0 := Fin.ext h0
    rw [dif_pos (by omega), if_pos h0, e]
  · by_cases h1 : l.val = 1
    · have e : (⟨l.val, by omega⟩ : Fin 2) = 1 := Fin.ext h1
      rw [dif_pos (by omega), if_neg h0, if_pos h1, e]
    · by_cases h2 : l.val = 2
      · have e : (⟨l.val - 2, by omega⟩ : Fin 2) = 0 := Fin.ext (by show l.val - 2 = 0; omega)
        rw [dif_neg (by omega), dif_pos (by omega), if_neg h0, if_neg h1, if_pos h2, e]
      · by_cases h3 : l.val = 3
        · have e : (⟨l.val - 2, by omega⟩ : Fin 2) = 1 := Fin.ext (by show l.val - 2 = 1; omega)
          rw [dif_neg (by omega), dif_pos (by omega), if_neg h0, if_neg h1, if_neg h2, if_pos h3, e]
        · rw [dif_neg (by omega), dif_neg (by omega), if_neg h0, if_neg h1, if_neg h2, if_neg h3]

theorem records_apply (i : Fin 16384) (l : Fin 128) :
    records V0 (ix2 i l) = record (fun e => r44 V0 (ix2 i e)) (taken V0 i 0) (taken V0 i 1) l := by
  have hn : ∀ j : Fin 2, FloatOps.sitofp (F := Ideal) .f32 (res_main_indices_14 (F := Ideal) V0 (ix2 i j)) = lane (taken V0 i j) :=
    fun j => (congrArg _ (indices_apply V0 i j)).trans (expert_number _)
  refine (pieces (res_main_indices_14 (F := Ideal) V0) (r62 V0) i l).trans ?_
  rw [v62_apply, v62_apply, hn, hn]
  rfl

/-! ## The two results, as functions of the arguments -/

theorem h1_eq (i : Fin 16384) (j : Fin 2048) :
    h1 V0 (ix2 i j) = Cert.OutProj.hidden (A0 V0) (A1 V0) (A2 V0) (A3 V0) (A4 V0) (A5 V0) i j := by
  rw [h1_apply]
  unfold Cert.OutProj.hidden
  exact congrArg (fun f => normed f _ _ j) (funext fun x => v7_apply V0 i x)

theorem affinity_eq (i : Fin 16384) (e : Fin 16) :
    r44 V0 (ix2 i e) = affinity (A0 V0) (A1 V0) (A2 V0) (A3 V0) (A4 V0) (A5 V0) (A6 V0) i e := by
  rw [v44_apply]
  unfold affinity
  refine congrArg (fun f => softmax f e) (funext fun e' => (v33_apply V0 i e').trans ?_)
  exact congrArg (fun f => logits f _ e') (funext fun k => h1_eq V0 i k)

theorem scored_eq (i : Fin 16384) :
    bs V0 i = scored (A0 V0) (A1 V0) (A2 V0) (A3 V0) (A4 V0) (A5 V0) (A6 V0) (A7 V0) i := by
  funext e
  unfold scored
  rw [← affinity_eq]
  rfl

theorem records_eq (i : Fin 16384) (l : Fin 128) :
    records V0 (ix2 i l) = info (A0 V0) (A1 V0) (A2 V0) (A3 V0) (A4 V0) (A5 V0) (A6 V0) (A7 V0) i l := by
  rw [records_apply, info_eq _ _ _ _ _ _ _ _ i ((scored_eq V0 i) ▸ chosen V0 i) l]
  have h : (fun e => r44 V0 (ix2 i e)) = affinity (A0 V0) (A1 V0) (A2 V0) (A3 V0) (A4 V0) (A5 V0) (A6 V0) i :=
    funext fun e => affinity_eq V0 i e
  rw [h]

end Cert.ReferenceOutIdeal.Out

end
-- ==== Proof.OutProj.Finite.lean ====
/- The precondition of the output projection, decoded: where it is all ones, every entry of every argument is a real
   number. -/
module

public import proofs.«01_k».proof.Pre_finite
public import proofs.«01_k».proof.Proof.Gen.Pre_finite
public import proofs.«01_k».proof.Proof.OutProj.Row
public import Idealize.ShloMosaic.Lib.Pointwise

@[expose] public section

set_option Elab.async false

noncomputable section

namespace Cert.Finite

open Idealize.ShloMosaic Cert.Pre_finite Cert.Pre_finite.Gen Cert.OutProj

theorem andi_one {a b : BitVec 1} : IntOp.andi a b = 1#1 ↔ a = 1#1 ∧ b = 1#1 := by
  revert a b
  decide

/-- A fold of conjunctions that comes to one has met nothing but ones. -/
theorem foldl_one {ι : Type} (x : ι → BitVec 1) : ∀ (l : List ι) (a : BitVec 1),
    l.foldl (fun r i => IntOp.andi r (x i)) a = 1#1 → a = 1#1 ∧ ∀ i ∈ l, x i = 1#1
  | [], _, h => ⟨h, fun _ hi => absurd hi List.not_mem_nil⟩
  | i :: l, _, h => by
    obtain ⟨h1, h2⟩ := foldl_one x l _ h
    obtain ⟨h3, h4⟩ := andi_one.mp h1
    refine ⟨h3, fun k hk => ?_⟩
    rcases List.mem_cons.mp hk with rfl | hk
    · exact h4
    · exact h2 k hk

/-- A conjunction over a whole array that is one is one at each element. -/
theorem all_one {s u : Shape} {axes : List (Fin s.rank)} (x : s.Idx → BitVec 1) (v : u.Idx → BitVec 1) (h : s.ReducesTo axes S_)
    (hu : 0 < u.numel) (j : S_.Idx) (e : Host.reduce IntOp.andi x v h hu j = 1#1) (y : s.Idx) : x y = 1#1 := by
  rw [Host.reduce_eq_foldl] at e
  refine (foldl_one x _ _ e).2 y (List.mem_filter.mpr ⟨?_, ?_⟩)
  · exact List.mem_map.mpr ⟨s.rowMajor y, List.mem_finRange _, Equiv.symm_apply_apply _ _⟩
  · refine decide_eq_true (funext fun a => ?_)
    exact a.elim0

theorem infinity : (Ideal.ofBits .f32 0x7F800000#32 : EReal) = ⊤ := by
  simp [Ideal.ofBits, Ideal.ieee]

/-- An extended real whose absolute value is below infinity is a real number. -/
theorem real_of_abs (x : EReal) (h : Ideal.cmp .olt (max x (-x)) (Ideal.ofBits .f32 0x7F800000#32) = 1#1) : IsReal x := by
  rw [infinity] at h
  have h' : max x (-x) < ⊤ := by
    by_contra hc
    simp [Ideal.cmp, hc] at h
  induction x with
  | bot => simp at h'
  | top => simp at h'
  | coe r => exact ⟨r, rfl⟩

theorem of_pre (a0 a1 : FVec Ideal S16384x1024 .bf16) (a2 : FVec Ideal S16384x2048 .f32) (a3 : FVec Ideal S2048x2048 .f32)
    (a4 a5 : FVec Ideal S2048 .f32) (a6 : FVec Ideal S2048x16 .f32) (a7 : FVec Ideal S16 .f32)
    (h : fn (F := Ideal) a0 a1 a2 a3 a4 a5 a6 a7 = fun _ => 1#1) :
    (∀ y, IsReal (a0 y)) ∧ (∀ y, IsReal (a1 y)) ∧ (∀ y, IsReal (a2 y)) ∧ (∀ y, IsReal (a3 y)) ∧ (∀ y, IsReal (a4 y))
      ∧ (∀ y, IsReal (a5 y)) ∧ (∀ y, IsReal (a6 y)) ∧ (∀ y, IsReal (a7 y)) := by
  have e := congrFun h (fun a => a.elim0)
  simp only [fn, fn_part1, fn_part2, andi] at e
  obtain ⟨e, e7⟩ := andi_one.mp e
  obtain ⟨e, e6⟩ := andi_one.mp e
  obtain ⟨e, e5⟩ := andi_one.mp e
  obtain ⟨e, e4⟩ := andi_one.mp e
  obtain ⟨e, e3⟩ := andi_one.mp e
  obtain ⟨e, e2⟩ := andi_one.mp e
  obtain ⟨e0, e1⟩ := andi_one.mp e
  exact ⟨fun y => real_of_abs _ (all_one _ _ _ _ _ e0 y), fun y => real_of_abs _ (all_one _ _ _ _ _ e1 y),
    fun y => real_of_abs _ (all_one _ _ _ _ _ e2 y), fun y => real_of_abs _ (all_one _ _ _ _ _ e3 y),
    fun y => real_of_abs _ (all_one _ _ _ _ _ e4 y), fun y => real_of_abs _ (all_one _ _ _ _ _ e5 y),
    fun y => real_of_abs _ (all_one _ _ _ _ _ e6 y), fun y => real_of_abs _ (all_one _ _ _ _ _ e7 y)⟩

end Cert.Finite

end
-- ==== Proof.OutProj.Equation.lean ====
/- The output projection, the layer norm and the router: the kernel's two arrays are the reference's. -/
module

public import proofs.«01_k».proof.Defs
public import proofs.«01_k».proof.Proof.OutProj.Array
public import proofs.«01_k».proof.Proof.OutProj.Reference
public import proofs.«01_k».proof.Proof.OutProj.Finite
public import Idealize.ShloMosaic.Lib.Quiescent

@[expose] public section

set_option Elab.async false

noncomputable section

namespace Cert.OutProj

open Idealize.ShloMosaic Idealize.ShloMosaic.TcCoe Idealize.SL.Sem

theorem ix2_self {n k : ℕ} (i : (⟨2, ![n, k]⟩ : Shape).Idx) : i = ix2 (i 0) (i 1) := by
  funext a
  match a with
  | ⟨0, _⟩ => rfl
  | ⟨1, _⟩ => rfl

/-- Under the precondition every argument entry is a real number. -/
theorem real_of_pre {m : (ℓ : Loc Cert.KernelOutIdeal.nD Cert.KernelOutIdeal.τ Cert.KernelOutIdeal.sig) → Buf (Elt Ideal) ℓ}
    (h : Cert.Pre_KernelOutIdeal_finite (hPre_finite := Cert.Pre_finite.Gen.facts) m) (c : Dev Cert.KernelOutIdeal.nD) :
    Cert.KernelOutIdeal.Out.Real8 m c := by
  obtain ⟨h0, h1, h2, h3, h4, h5, h6, h7⟩ := Cert.Finite.of_pre _ _ _ _ _ _ _ _ (h c)
  exact ⟨h0, h1, h2, h3, h4, h5, h6, h7⟩

/-- The two constants that stand for a square root and a fraction are printed where the table names them. -/
theorem preserves : Cert.preserves_KernelOut_KernelOutIdeal :=
  ⟨IdealRules.named_const.statement Cert.KernelOutIdeal.κ "alpha" .f32 0x3FB504F3#32 ((Real.sqrt 2 : ℝ) : EReal) rfl,
    IdealRules.named_const.statement Cert.KernelOutIdeal.κ "ln_eps" .f32 0x3727C5AC#32 ((1 / 100000 : ℝ) : EReal) rfl⟩

/-- The kernel's arrays and the reference's are the same extended reals, and both programs run. -/
theorem algebraic : Cert.algebraic_KernelOutIdeal_ReferenceOutIdeal_pre_finite (hKernelOutIdeal := Cert.KernelOutIdeal.Gen.facts)
    (hReferenceOutIdeal := Cert.ReferenceOutIdeal.Gen.facts) (hPre_finite := Cert.Pre_finite.Gen.facts) := by
  intro m g m' g' hpre hagree
  refine ⟨fun c => Cert.KernelOutIdeal.Out.out8 m c, fun c => Cert.KernelOutIdeal.Out.out9 m c, ?_, ?_⟩
  · exact (θ_run Cert.KernelOutIdeal.defs _ _).mono
      (fun _ h c => ⟨(h c).1.trans (Cert.KernelOutIdeal.Out.final8 m c),
        (h c).2.1.trans (Cert.KernelOutIdeal.Out.final9 (real_of_pre hpre c)), (h c).2.2⟩) (Cert.KernelOutIdeal.Value.run_blocks m g)
  · refine (θ_run Cert.ReferenceOutIdeal.defs _ _).mono (fun _ h c => ⟨(h c).1.trans ?_, (h c).2.1.trans ?_, (h c).2.2⟩)
      (Cert.ReferenceOutIdeal.Value.run (F := Ideal) m' g')
    · obtain ⟨e0, e1, e2, e3, e4, e5, -, -⟩ := hagree c
      funext i
      refine (congrArg (Cert.ReferenceOutIdeal.Out.h1 (StableHlo.launchContents m' c)) (ix2_self i)).trans ?_
      refine (Cert.ReferenceOutIdeal.Out.h1_eq (StableHlo.launchContents m' c) (i 0) (i 1)).trans ?_
      show _ = Cert.KernelOutIdeal.Out.hiddenAt m c (i 0) (i 1)
      unfold Cert.KernelOutIdeal.Out.hiddenAt
      rw [← e0, ← e1, ← e2, ← e3, ← e4, ← e5]
    · obtain ⟨e0, e1, e2, e3, e4, e5, e6, e7⟩ := hagree c
      funext i
      refine (congrArg (Cert.ReferenceOutIdeal.Out.records (StableHlo.launchContents m' c)) (ix2_self i)).trans ?_
      refine (Cert.ReferenceOutIdeal.Out.records_eq (StableHlo.launchContents m' c) (i 0) (i 1)).trans ?_
      show _ = Cert.KernelOutIdeal.Out.infoAt m c (i 0) (i 1)
      unfold Cert.KernelOutIdeal.Out.infoAt
      rw [← e0, ← e1, ← e2, ← e3, ← e4, ← e5, ← e6, ← e7]

/-- The reference's output projection runs; it declares no semaphore. -/
theorem frame_reference : Cert.quiescent_ReferenceOutIdeal (hReferenceOutIdeal := Cert.ReferenceOutIdeal.Gen.facts) :=
  fun m g _ =>
    (θ_run Cert.ReferenceOutIdeal.defs _ _).mono (fun r h => ⟨fun c => (h c).2.2, sem_eq_zero_of_no_sems (by decide) r.2⟩)
      (Cert.ReferenceOutIdeal.Value.run (F := Ideal) m g)

end Cert.OutProj

end
-- ==== Proof.ProjLow.Array.lean ====
/- The projection onto the decay's columns: what the weights' scratch holds while a column block is worked
   on, what one point computes, and the whole result array. -/
module

public import proofs.«01_k».proof.Proof.Gen.KernelLowIdeal.Value
public import Idealize.ShloMosaic.Lib.Pointwise
public import Idealize.ShloMosaic.Lib.Pipeline.Covers
public import Idealize.ShloMosaic.Lib.Pipeline.ValueKit
public import Idealize.ShloMosaic.Lib.Pipeline.ReadBack

@[expose] public section

set_option maxRecDepth 16384
set_option Elab.async false

noncomputable section

namespace Cert.KernelLowIdeal.Proj

open Cert.KernelLowIdeal Cert.KernelLowIdeal.Gen
open Idealize.ShloMosaic Idealize.ShloMosaic.TcCoe Idealize.SL.Sem
open Idealize.ShloMosaic.Pipeline (Dat Cfg Window)

variable (m : (ℓ : Loc nD τ sig) → Buf (Elt Ideal) ℓ) (c : Dev nD)

/-- The rows as the call finds them. -/
abbrev rows : S16384x2048.Idx → Elt Ideal .f32 := V m c (Pipeline.arrRef spec0 0)
/-- The weights as the call finds them. -/
abbrev weights : S2048x128.Idx → Elt Ideal .f32 := V m c (Pipeline.arrRef spec0 1)

/-- Column `l` of column block `j`, among the weights' columns and among the result's. -/
def wcol (j : Fin 1) (l : Fin 128) : Fin 128 := ⟨j.val * 128 + l.val, by omega⟩

/-- The column block of a point. -/
def blockOf (t : Fin grid0.N) : Fin 1 := ⟨t.val / 32, by have : t.val < 32 := t.isLt; omega⟩
/-- Row `r` of a point's row block. -/
def rowOf (t : Fin grid0.N) (r : Fin 512) : Fin 16384 := ⟨t.val % 32 * 512 + r.val, by omega⟩

theorem index0 (t : Fin grid0.N) : cc0_transform_0 (grid0.coords t) = ![t.val % 32, 0] := by revert t; decide +kernel
theorem index1 (t : Fin grid0.N) : cc0_transform_1 (grid0.coords t) = ![0, t.val / 32] := by revert t; decide +kernel
theorem index2 (t : Fin grid0.N) : cc0_transform_2 (grid0.coords t) = ![t.val % 32, t.val / 32] := by revert t; decide +kernel

/-- A point's row block. -/
theorem rows_block (t : Fin cfg0.N) (r : Fin 512) (k : Fin 2048) :
    iblk m c 0 t (ix2 r k) = rows m c (ix2 (rowOf t r) k) := by
  unfold iblk
  rw [View.read_apply]
  show V m c (Pipeline.arrRef spec0 0) _ = V m c (Pipeline.arrRef spec0 0) _
  congr 1
  funext a
  apply Fin.ext
  match a with
  | ⟨0, _⟩ =>
    refine (Window.rect_emb_val (cfg0.win (0 : Fin 3)) t (ix2 r k) (0 : Fin 2)).trans ?_
    show cc0_transform_0 (grid0.coords t) 0 * 512 + r.val = t.val % 32 * 512 + r.val
    rw [index0]; rfl
  | ⟨1, _⟩ =>
    refine (Window.rect_emb_val (cfg0.win (0 : Fin 3)) t (ix2 r k) (1 : Fin 2)).trans ?_
    show cc0_transform_0 (grid0.coords t) 1 * 2048 + k.val = k.val
    rw [index0]; show 0 * 2048 + k.val = k.val; omega

/-- A point's column block of the weights. -/
theorem weights_block (t : Fin cfg0.N) (k : Fin 2048) (l : Fin 128) :
    iblk m c 1 t (ix2 k l) = weights m c (ix2 k (wcol (blockOf t) l)) := by
  unfold iblk
  rw [View.read_apply]
  show V m c (Pipeline.arrRef spec0 1) _ = V m c (Pipeline.arrRef spec0 1) _
  congr 1
  funext a
  apply Fin.ext
  match a with
  | ⟨0, _⟩ =>
    refine (Window.rect_emb_val (cfg0.win (1 : Fin 3)) t _ (0 : Fin 2)).trans ?_
    show cc0_transform_1 (grid0.coords t) 0 * 2048 + k.val = k.val
    rw [index1]; show 0 * 2048 + k.val = k.val; omega
  | ⟨1, _⟩ =>
    refine (Window.rect_emb_val (cfg0.win (1 : Fin 3)) t _ (1 : Fin 2)).trans ?_
    show cc0_transform_1 (grid0.coords t) 1 * 128 + l.val = t.val / 32 * 128 + l.val
    rw [index1]; rfl

/-- Points of one column block find the same block of the weights. -/
theorem same_block (t t' : Fin cfg0.N) (h : blockOf t = blockOf t') : iblk m c 1 t = iblk m c 1 t' := by
  have key : ∀ (k : Fin 2048) (l : Fin 128), iblk m c 1 t (ix2 k l) = iblk m c 1 t' (ix2 k l) := fun k l => by
    rw [weights_block m c t k l, weights_block m c t' k l, h]
  funext y
  have hy : y = ix2 (y (0 : Fin 2)) (y (1 : Fin 2)) := by
    funext a
    match a with
    | ⟨0, _⟩ => rfl
    | ⟨1, _⟩ => rfl
  rw [hy]
  exact key _ _

/-- The narrowed weights are the weights. -/
theorem narrowed (x : S2048x128.Idx → Elt Ideal .f32) : k0_pay1 (F := Ideal) x = x := by
  funext y
  have hy : y = ix2 (y 0) (y 1) := by
    funext a
    match a with
    | ⟨0, _⟩ => rfl
    | ⟨1, _⟩ => rfl
  rw [hy]
  pointwise [k0_pay1]

/-- One block's product. -/
theorem product (x : S512x2048.Idx → Elt Ideal .f32) (w : S2048x128.Idx → Elt Ideal .bf16) (r : Fin 512) (l : Fin 128) :
    k0_pay2 (F := Ideal) x w (ix2 r l) = ∑ k : Fin 2048, x (ix2 r k) * w (ix2 k l) := by
  pointwise [k0_pay2]

/-- After every point the scratch holds the point's column block of the weights. -/
theorem scratch (n : ℕ) (hn : n < cfg0.N) : (outsAt0 m c n hn).2 = iblk m c 1 ⟨n, hn⟩ := by
  induction n with
  | zero =>
    rw [outsAt0_A m c ⟨0, hn⟩ rfl]
    frame_out
    exact narrowed _
  | succ n ih =>
    by_cases h0 : (n + 1) % 32 = 0
    · rw [outsAt0_A m c ⟨n + 1, hn⟩ h0]
      frame_out
      exact narrowed _
    · have prev : ∀ k (hk : k < cfg0.N), k = n → (outsAt0 m c k hk).2 = iblk m c 1 ⟨n, Nat.lt_of_succ_lt hn⟩ := by
        rintro k hk rfl
        exact ih hk
      rw [outsAt0_B m c ⟨n + 1, hn⟩ h0]
      unfold sout0_B_0
      dsimp only
      rw [prev (n + 1 - 1) _ (Nat.add_sub_cancel n 1)]
      exact same_block m c _ _ (Fin.ext (show n / 32 = (n + 1) / 32 by omega))

/-- What a point leaves in its block of the result. -/
theorem left (t : Fin cfg0.N) (r : Fin 512) (l : Fin 128) :
    (outsAt0 m c t.val t.isLt).1 (ix2 r l)
      = ∑ k : Fin 2048, rows m c (ix2 (rowOf t r) k) * weights m c (ix2 k (wcol (blockOf t) l)) := by
  have key : (outsAt0 m c t.val t.isLt).1 = k0_pay2 (F := Ideal) (iblk m c 0 t) (iblk m c 1 t) := by
    by_cases h0 : t.val % 32 = 0
    · rw [outsAt0_A m c t h0]
      frame_out
      rw [narrowed]
    · have hs : (outsAt0 m c (t.val - 1) (Nat.lt_of_le_of_lt (Nat.sub_le _ _) t.isLt)).2 = iblk m c 1 t := by
        have h := congrArg Prod.snd (outsAt0_B m c t h0)
        exact h.symm.trans (scratch m c t.val t.isLt)
      rw [outsAt0_B m c t h0, hs]
      frame_out
      simp only [read_unread_whole]
  rw [key, product]
  refine Finset.sum_congr rfl fun k _ => ?_
  rw [rows_block m c t r k, weights_block m c t k l]

/-- Element (i, j) of the rows times the weights that the call finds. -/
def outAt (i : Fin 16384) (j : Fin 128) : EReal :=
  ∑ k : Fin 2048, rows m c (ix2 i k) * weights m c (ix2 k j)

/-- The result. -/
def out : Buf (Elt Ideal) ((c : Thread nD τ).loc main_v2) := fun i => outAt m c (i 0) (i 1)

theorem final : (dats m 0 c).arrAt 2 cfg0.N = out m c := by
  refine (dats m 0 c).arrAt_eq_of_covers (2 : Fin 3) _ (by decide +kernel) (fun t _ y => ?_) (Memref.isWhole_whole _)
  refine (cast_eq _ _).trans ?_
  rw [after0_2]
  refine (congrArg (outsAt0 m c t.val t.isLt).1 (show _ = ix2 (y (0 : Fin 2)) (y (1 : Fin 2)) from ?_)).trans
    ((left m c t (y (0 : Fin 2)) (y (1 : Fin 2))).trans ?_)
  · funext a
    match a with
    | ⟨0, _⟩ => rfl
    | ⟨1, _⟩ => rfl
  · have e0 : (((cfg0.win 2).blk t).view.emb y 0).val = t.val % 32 * 512 + (y (0 : Fin 2)).val := by
      refine (Window.rect_emb_val (cfg0.win (2 : Fin 3)) t y (0 : Fin 2)).trans ?_
      show cc0_transform_2 (grid0.coords t) 0 * 512 + (y (0 : Fin 2)).val = _
      rw [index2]; rfl
    have e1 : (((cfg0.win 2).blk t).view.emb y 1).val = t.val / 32 * 128 + (y (1 : Fin 2)).val := by
      refine (Window.rect_emb_val (cfg0.win (2 : Fin 3)) t y (1 : Fin 2)).trans ?_
      show cc0_transform_2 (grid0.coords t) 1 * 128 + (y (1 : Fin 2)).val = _
      rw [index2]; rfl
    have h0 : rowOf t (y (0 : Fin 2)) = ((cfg0.win 2).blk t).view.emb y 0 := Fin.ext e0.symm
    have h1 : wcol (blockOf t) (y (1 : Fin 2)) = (⟨(((cfg0.win 2).blk t).view.emb y 1).val, by rw [e1]; exact (wcol (blockOf t) (y (1 : Fin 2))).isLt⟩ : Fin 128) := Fin.ext e1.symm
    rw [h0, h1]
    rfl

end Cert.KernelLowIdeal.Proj

end
-- ==== Proof.ProjLow.Equation.lean ====
/- The projection onto the decay's columns: the kernel's array is the reference's product. -/
module

public import proofs.«01_k».proof.Defs
public import proofs.«01_k».proof.Proof.ProjLow.Array
public import proofs.«01_k».proof.Proof.Gen.ReferenceLowIdeal.Run

@[expose] public section

set_option maxRecDepth 16384
set_option Elab.async false

noncomputable section

namespace Cert.ProjLow

open Idealize.ShloMosaic Idealize.ShloMosaic.TcCoe Idealize.SL.Sem

section
open Cert.ReferenceLowIdeal Cert.ReferenceLowIdeal.Gen

/-- The reference's columns: sixteen of the product, and zeros. -/
def columns (x : S16384x2048.Idx → Elt Ideal .f32) (w : S2048x6160.Idx → Elt Ideal .f32) : S16384x128.Idx → Elt Ideal .f32 :=
  concatenate S16384x128 1
    [⟨S16384x16, Host.dotGeneral (F := Ideal) (φ₁ := .f32) (φ₂ := .f32) dot_S16384x2048_S2048x16_S16384x16_1_0_0_1_n_n none x
        (extractStridedSlice S2048x16 ![0, 3072] w slices_S2048x6160_S2048x16_0_3072)⟩,
      ⟨S16384x112, broadcastInDim S16384x112 ![] bcast_S_S16384x112 (constant (F := Ideal) S_ .f32 0x00000000#32)⟩]
    concatenates_S16384x16_S16384x112_S16384x128_d1

theorem reference_left (x : S16384x2048.Idx → Elt Ideal .f32) (w : S2048x6160.Idx → Elt Ideal .f32)
    (i : Fin 16384) (j : Fin 128) (h : j.val < 16) :
    columns x w (ix2 i j) = ∑ k : Fin 2048, x (ix2 i k) * w (ix2 k (⟨3072 + j.val, by omega⟩ : Fin 6160)) := by
  pointwise [columns]
  rw [dif_pos h]

theorem reference_right (x : S16384x2048.Idx → Elt Ideal .f32) (w : S2048x6160.Idx → Elt Ideal .f32)
    (i : Fin 16384) (j : Fin 128) (h : ¬ j.val < 16) : columns x w (ix2 i j) = 0 := by
  pointwise [columns]
  rw [dif_neg h]

end

section
open Cert.KernelLowIdeal Cert.KernelLowIdeal.Gen

/-- The rows that the call finds are the first argument. -/
theorem rows_eq (m : (ℓ : Loc nD τ sig) → Buf (Elt Ideal) ℓ) (c : Dev nD) :
    Cert.KernelLowIdeal.Proj.rows m c = m ((c : Thread nD τ).loc main_arg0) := V_main_arg0 m c

/-- Sixteen of the weights' columns, and zeros. -/
def padded (w : S2048x6160.Idx → Elt Ideal .f32) : S2048x128.Idx → Elt Ideal .f32 :=
  pad S2048x128 ![0, 0] ![0, 112] ![0, 0] (extractStridedSlice S2048x16 ![0, 3072] w slices_S2048x6160_S2048x16_0_3072)
    (sitofp (F := Ideal) .f32 (constantI S_ 32 0#32)) pads_S2048x16_S2048x128_000_01120 h_S_

/-- The weights that the call finds. -/
theorem weights_eq (m : (ℓ : Loc nD τ sig) → Buf (Elt Ideal) ℓ) (c : Dev nD) :
    Cert.KernelLowIdeal.Proj.weights m c = padded (m ((c : Thread nD τ).loc main_arg1)) := by
  show StableHlo.after (List.flatten [hostOps0, hostOps0_1]) (fun b => m (c, b)) main_v1 = _
  simp only [hostOps0, hostOps0_1, List.flatten_cons, List.flatten_nil, List.append_nil, List.cons_append, List.nil_append]
  after_results
  rfl

theorem padded_left (w : S2048x6160.Idx → Elt Ideal .f32) (k : Fin 2048) (j : Fin 128) (h : j.val < 16) :
    padded w (ix2 k j) = w (ix2 k (⟨3072 + j.val, by omega⟩ : Fin 6160)) := by
  pointwise [padded]
  rw [dif_pos h]

theorem padded_right (w : S2048x6160.Idx → Elt Ideal .f32) (k : Fin 2048) (j : Fin 128) (h : ¬ j.val < 16) :
    padded w (ix2 k j) = 0 := by
  pointwise [padded]
  rw [dif_neg h]
  show (((0#32 : BitVec 32).toInt : ℝ) : EReal) = 0
  simp

end

/-- The kernel's array and the reference's are the same extended reals, and both programs run. -/
theorem algebraic : Cert.algebraic_KernelLowIdeal_ReferenceLowIdeal (hKernelLowIdeal := Cert.KernelLowIdeal.Gen.facts)
    (hReferenceLowIdeal := Cert.ReferenceLowIdeal.Gen.facts) := by
  intro m g m' g' _ hagree
  refine ⟨fun c => Cert.KernelLowIdeal.Proj.out m c, ?_, ?_⟩
  · exact (θ_run Cert.KernelLowIdeal.defs _ _).mono
      (fun _ h c => ⟨(h c).1.trans (Cert.KernelLowIdeal.Proj.final m c), (h c).2⟩) (Cert.KernelLowIdeal.Value.run_blocks m g)
  · refine (θ_run Cert.ReferenceLowIdeal.defs _ _).mono (fun _ h c => ⟨(h c).1.trans ?_, (h c).2⟩)
      (Cert.ReferenceLowIdeal.Value.run (F := Ideal) m' g')
    obtain ⟨e0, e1⟩ := hagree c
    rw [e0, e1]
    funext i
    have hi : i = ix2 (i 0) (i 1) := by
      funext a
      match a with
      | ⟨0, _⟩ => rfl
      | ⟨1, _⟩ => rfl
    rw [hi]
    show columns _ _ (ix2 (i 0) (i 1)) = Cert.KernelLowIdeal.Proj.outAt m c (i 0) (i 1)
    unfold Cert.KernelLowIdeal.Proj.outAt
    rw [rows_eq, weights_eq]
    by_cases h : (i 1).val < 16
    · refine (reference_left _ _ (i 0) (i 1) h).trans ?_
      exact Finset.sum_congr rfl fun k _ => congrArg _ (padded_left _ k (i 1) h).symm
    · refine (reference_right _ _ (i 0) (i 1) h).trans ?_
      refine (Finset.sum_eq_zero fun k _ => ?_).symm
      exact (congrArg _ (padded_right _ k (i 1) h)).trans (mul_zero _)

end Cert.ProjLow

end
-- ==== Proof.Rope.Array.lean ====
/- The rotary tables: what the call finds in its three arrays, and the two arrays it leaves. -/
module

public import proofs.«01_k».proof.Proof.Gen.KernelRopeIdeal.Value
public import Idealize.ShloMosaic.Lib.Pipeline.Covers
public import Idealize.ShloMosaic.Lib.Pipeline.ValueKit
public import Idealize.ShloMosaic.Lib.Pipeline.ReadBack
public import Idealize.ShloMosaic.Lib.Pointwise

@[expose] public section

set_option maxRecDepth 16384
set_option Elab.async false

noncomputable section

namespace Cert.KernelRopeIdeal.Tables

open Cert.KernelRopeIdeal Cert.KernelRopeIdeal.Gen
open Idealize.ShloMosaic Idealize.ShloMosaic.TcCoe Idealize.SL.Sem

/-! ## The arrays the call finds -/

/-- The sixty-four rotation frequencies. -/
def freqs : S64.Idx → Elt Ideal .f32 :=
  Host.divf (F := Ideal) (φ := .f32) (broadcastInDim S64 ![] bcast_S_S64 (constant (F := Ideal) S_ .f32 0x3F800000#32))
    (Host.powf (F := Ideal) (φ := .f32) (broadcastInDim S64 ![] bcast_S_S64 (constant (F := Ideal) S_ .f32 0x461C4000#32))
      (Host.divf (F := Ideal) (φ := .f32)
        (addf (F := Ideal) (φ := .f32) (broadcastInDim S64 ![] bcast_S_S64 (constant (F := Ideal) S_ .f32 0x00000000#32))
          (mulf (F := Ideal) (φ := .f32) (broadcastInDim S64 ![] bcast_S_S64 (constant (F := Ideal) S_ .f32 0x40000000#32))
            (sitofp (F := Ideal) .f32 (iotaInDim S64 32 0))))
        (broadcastInDim S64 ![] bcast_S_S64 (constant (F := Ideal) S_ .f32 0x43000000#32))))

/-- Two halves of sixty-four columns, laid side by side in one row. -/
def halves (x y : S64.Idx → Elt Ideal .f32) : S1x128.Idx → Elt Ideal .f32 :=
  shapeCast S1x128 (concatenate S128 0 [⟨S64, x⟩, ⟨S64, y⟩] concatenates_S64_S64_S128_d0) shapeCasts_S128_S1x128

theorem halves_left (x y : S64.Idx → Elt Ideal .f32) (j : Fin 128) (h : j.val < 64) :
    halves x y (ix2 (0 : Fin 1) j) = x (ix1 (⟨j.val, h⟩ : Fin 64)) := by
  pointwise [halves]
  rw [dif_pos h]

theorem halves_right (x y : S64.Idx → Elt Ideal .f32) (j : Fin 128) (h : ¬ j.val < 64) :
    halves x y (ix2 (0 : Fin 1) j) = y (ix1 (⟨j.val - 64, by omega⟩ : Fin 64)) := by
  pointwise [halves]
  rw [dif_neg h]

/-- Sixty-four ones. -/
def ones : S64.Idx → Elt Ideal .f32 := broadcastInDim S64 ![] bcast_S_S64 (constant (F := Ideal) S_ .f32 0x3F800000#32)

theorem ones_apply (j : Fin 64) : ones (ix1 j) = 1 := by
  pointwise [ones]

theorem minus_apply (j : Fin 64) : Host.negf (F := Ideal) (φ := .f32) ones (ix1 j) = -1 :=
  congrArg (fun y : EReal => -y) (ones_apply j)

variable (m : (ℓ : Loc nD τ sig) → Buf (Elt Ideal) ℓ) (c : Dev nD)

theorem positions_eq : V m c (Pipeline.arrRef spec0 0)
    = sitofp (F := Ideal) .f32 (shapeCast S16384x1 (m ((c : Thread nD τ).loc main_arg0)) shapeCasts_S1x16384_S16384x1) := by
  show StableHlo.after hostOps0 (fun b => m (c, b)) main_v1 = _
  simp only [hostOps0]
  after_results
  rfl

theorem freqs_eq : V m c (Pipeline.arrRef spec0 1) = halves freqs freqs := by
  show StableHlo.after hostOps0 (fun b => m (c, b)) main_v14 = _
  simp only [hostOps0]
  after_results
  rfl

theorem signs_eq : V m c (Pipeline.arrRef spec0 2) = halves (Host.negf (F := Ideal) (φ := .f32) ones) ones := by
  show StableHlo.after hostOps0 (fun b => m (c, b)) main_v19 = _
  simp only [hostOps0]
  after_results
  rfl

/-- A token's position. -/
def position (p : S1x16384.Idx → BitVec 32) (i : Fin 16384) : EReal := FloatOps.sitofp (F := Ideal) .f32 (p (ix2 (0 : Fin 1) i))

theorem position_apply (p : S1x16384.Idx → BitVec 32) (i : Fin 16384) :
    sitofp (F := Ideal) .f32 (shapeCast S16384x1 p shapeCasts_S1x16384_S16384x1) (ix2 i (0 : Fin 1)) = position p i := by
  pointwise [position]

/-! ## The blocks -/

/-- Row `r` of a point's row block. -/
def rowOf (t : Fin grid0.N) (r : Fin 512) : Fin 16384 := ⟨t.val * 512 + r.val, by have : t.val < 32 := t.isLt; omega⟩

theorem index0 (t : Fin grid0.N) : cc0_transform_0 (grid0.coords t) = ![t.val, 0] := by revert t; decide +kernel
theorem index3 (t : Fin grid0.N) : cc0_transform_3 (grid0.coords t) = ![t.val, 0] := by revert t; decide +kernel
theorem index4 (t : Fin grid0.N) : cc0_transform_4 (grid0.coords t) = ![t.val, 0] := by revert t; decide +kernel

theorem position_block (t : Fin cfg0.N) (r : Fin 512) :
    iblk m c 0 t (ix2 r (0 : Fin 1)) = position (m ((c : Thread nD τ).loc main_arg0)) (rowOf t r) := by
  refine Eq.trans ?_ ((congrFun (positions_eq m c) (ix2 (rowOf t r) (0 : Fin 1))).trans (position_apply _ _))
  unfold iblk
  rw [View.read_apply]
  show V m c (Pipeline.arrRef spec0 0) _ = V m c (Pipeline.arrRef spec0 0) _
  congr 1
  funext a
  apply Fin.ext
  match a with
  | ⟨0, _⟩ =>
    refine (Pipeline.Window.rect_emb_val (cfg0.win (0 : Fin 5)) t (ix2 r (0 : Fin 1)) (0 : Fin 2)).trans ?_
    show cc0_transform_0 (grid0.coords t) 0 * 512 + r.val = t.val * 512 + r.val
    rw [index0]; rfl
  | ⟨1, _⟩ =>
    refine (Pipeline.Window.rect_emb_val (cfg0.win (0 : Fin 5)) t (ix2 r (0 : Fin 1)) (1 : Fin 2)).trans ?_
    show cc0_transform_0 (grid0.coords t) 1 * 1 + 0 = 0
    rw [index0]; rfl

theorem freqs_block (t : Fin cfg0.N) (l : Fin 128) :
    iblk m c 1 t (ix2 (0 : Fin 1) l) = halves freqs freqs (ix2 (0 : Fin 1) l) := by
  refine Eq.trans ?_ (congrFun (freqs_eq m c) _)
  unfold iblk
  rw [View.read_apply]
  show V m c (Pipeline.arrRef spec0 1) _ = V m c (Pipeline.arrRef spec0 1) _
  congr 1
  funext a
  apply Fin.ext
  match a with
  | ⟨0, _⟩ =>
    refine (Pipeline.Window.rect_emb_val (cfg0.win (1 : Fin 5)) t (ix2 (0 : Fin 1) l) (0 : Fin 2)).trans ?_
    show 0 * 1 + 0 = 0; omega
  | ⟨1, _⟩ =>
    refine (Pipeline.Window.rect_emb_val (cfg0.win (1 : Fin 5)) t (ix2 (0 : Fin 1) l) (1 : Fin 2)).trans ?_
    show 0 * 128 + l.val = l.val; omega

theorem signs_block (t : Fin cfg0.N) (l : Fin 128) :
    iblk m c 2 t (ix2 (0 : Fin 1) l) = halves (Host.negf (F := Ideal) (φ := .f32) ones) ones (ix2 (0 : Fin 1) l) := by
  refine Eq.trans ?_ (congrFun (signs_eq m c) _)
  unfold iblk
  rw [View.read_apply]
  show V m c (Pipeline.arrRef spec0 2) _ = V m c (Pipeline.arrRef spec0 2) _
  congr 1
  funext a
  apply Fin.ext
  match a with
  | ⟨0, _⟩ =>
    refine (Pipeline.Window.rect_emb_val (cfg0.win (2 : Fin 5)) t (ix2 (0 : Fin 1) l) (0 : Fin 2)).trans ?_
    show 0 * 1 + 0 = 0; omega
  | ⟨1, _⟩ =>
    refine (Pipeline.Window.rect_emb_val (cfg0.win (2 : Fin 5)) t (ix2 (0 : Fin 1) l) (1 : Fin 2)).trans ?_
    show 0 * 128 + l.val = l.val; omega

section
variable (x0 : S512x1.Idx → Elt Ideal .f32) (x1 x2 : S1x128.Idx → Elt Ideal .f32)

theorem cosines_of (r : Fin 512) (l : Fin 128) :
    out0_3 (F := Ideal) x0 x1 x2 (ix2 r l) = FloatOps.cos (F := Ideal) (φ := .f32) (x0 (ix2 r (0 : Fin 1)) * x1 (ix2 (0 : Fin 1) l) : EReal) := by
  have f0 : View.ld x0 r0_0 = x0 := View.ld_unit_lit _ x0 (by decide)
  have f1 : View.ld x1 r0_1 = x1 := View.ld_unit_lit _ x1 (by decide)
  unfold out0_3
  rw [f0, f1]
  refine (congrFun (View.canon_cons_unit_lit _ _ _ (by decide)) (ix2 r l)).trans ?_
  pointwise [k0_pay1, k0_pay2]

theorem sines_of (r : Fin 512) (l : Fin 128) :
    out0_4 (F := Ideal) x0 x1 x2 (ix2 r l)
      = FloatOps.sin (F := Ideal) (φ := .f32) (x0 (ix2 r (0 : Fin 1)) * x1 (ix2 (0 : Fin 1) l) : EReal) * x2 (ix2 (0 : Fin 1) l) := by
  have f0 : View.ld x0 r0_0 = x0 := View.ld_unit_lit _ x0 (by decide)
  have f1 : View.ld x1 r0_1 = x1 := View.ld_unit_lit _ x1 (by decide)
  have f2 : View.ld x2 r0_1 = x2 := View.ld_unit_lit _ x2 (by decide)
  unfold out0_4
  rw [f0, f1, f2]
  refine (congrFun (View.canon_cons_unit_lit _ _ _ (by decide)) (ix2 r l)).trans ?_
  pointwise [k0_pay1, k0_pay3]

end

/-! ## The two results -/

/-- The angle of a token in a column. -/
def angle (i : Fin 16384) (j : Fin 128) : EReal :=
  position (m ((c : Thread nD τ).loc main_arg0)) i * halves freqs freqs (ix2 (0 : Fin 1) j)

/-- One cosine. -/
def cosAt (i : Fin 16384) (j : Fin 128) : EReal := FloatOps.cos (F := Ideal) (φ := .f32) (angle m c i j)

/-- One signed sine. -/
def sinAt (i : Fin 16384) (j : Fin 128) : EReal :=
  FloatOps.sin (F := Ideal) (φ := .f32) (angle m c i j) * halves (Host.negf (F := Ideal) (φ := .f32) ones) ones (ix2 (0 : Fin 1) j)

theorem cos_block (t : Fin cfg0.N) (r : Fin 512) (l : Fin 128) :
    out0_3 (iblk m c 0 t) (iblk m c 1 t) (iblk m c 2 t) (ix2 r l) = cosAt m c (rowOf t r) l := by
  refine (cosines_of (iblk m c 0 t) (iblk m c 1 t) (iblk m c 2 t) r l).trans ?_
  exact congrArg (FloatOps.cos (F := Ideal) (φ := .f32))
    (congrArg₂ (fun y z : EReal => y * z) (position_block m c t r) (freqs_block m c t l))

theorem sin_block (t : Fin cfg0.N) (r : Fin 512) (l : Fin 128) :
    out0_4 (iblk m c 0 t) (iblk m c 1 t) (iblk m c 2 t) (ix2 r l) = sinAt m c (rowOf t r) l := by
  refine (sines_of (iblk m c 0 t) (iblk m c 1 t) (iblk m c 2 t) r l).trans ?_
  exact congrArg₂ (fun y z : EReal => y * z) (congrArg (FloatOps.sin (F := Ideal) (φ := .f32))
    (congrArg₂ (fun y z : EReal => y * z) (position_block m c t r) (freqs_block m c t l))) (signs_block m c t l)

/-- The first result. -/
def cosines : Buf (Elt Ideal) ((c : Thread nD τ).loc main_v20_0) := fun i => cosAt m c (i 0) (i 1)

/-- The second result. -/
def sines : Buf (Elt Ideal) ((c : Thread nD τ).loc main_v20_1) := fun i => sinAt m c (i 0) (i 1)

theorem final3 : (dats m 0 c).arrAt 3 cfg0.N = cosines m c := by
  refine (dats m 0 c).arrAt_eq_of_covers (3 : Fin 5) _ (by decide +kernel) (fun t _ y => ?_) (Memref.isWhole_whole _)
  refine (cast_eq _ _).trans ?_
  rw [after0_3]
  refine (congrArg (out0_3 (iblk m c 0 t) (iblk m c 1 t) (iblk m c 2 t)) (show _ = ix2 (y (0 : Fin 2)) (y (1 : Fin 2)) from ?_)).trans
    ((cos_block m c t (y (0 : Fin 2)) (y (1 : Fin 2))).trans ?_)
  · funext a
    match a with
    | ⟨0, _⟩ => rfl
    | ⟨1, _⟩ => rfl
  · have e0 : (((cfg0.win 3).blk t).view.emb y 0).val = t.val * 512 + (y (0 : Fin 2)).val := by
      refine (Pipeline.Window.rect_emb_val (cfg0.win (3 : Fin 5)) t y (0 : Fin 2)).trans ?_
      show cc0_transform_3 (grid0.coords t) 0 * 512 + (y (0 : Fin 2)).val = _
      rw [index3]; rfl
    have e1 : (((cfg0.win 3).blk t).view.emb y 1).val = (y (1 : Fin 2)).val := by
      refine (Pipeline.Window.rect_emb_val (cfg0.win (3 : Fin 5)) t y (1 : Fin 2)).trans ?_
      show cc0_transform_3 (grid0.coords t) 1 * 128 + (y (1 : Fin 2)).val = _
      rw [index3]; show 0 * 128 + (y (1 : Fin 2)).val = _; omega
    have h0 : rowOf t (y (0 : Fin 2)) = ((cfg0.win 3).blk t).view.emb y 0 := Fin.ext e0.symm
    have h1 : (y (1 : Fin 2) : Fin 128) = ((cfg0.win 3).blk t).view.emb y 1 := Fin.ext e1.symm
    rw [h0, h1]
    rfl

theorem final4 : (dats m 0 c).arrAt 4 cfg0.N = sines m c := by
  refine (dats m 0 c).arrAt_eq_of_covers (4 : Fin 5) _ (by decide +kernel) (fun t _ y => ?_) (Memref.isWhole_whole _)
  refine (cast_eq _ _).trans ?_
  rw [after0_4]
  refine (congrArg (out0_4 (iblk m c 0 t) (iblk m c 1 t) (iblk m c 2 t)) (show _ = ix2 (y (0 : Fin 2)) (y (1 : Fin 2)) from ?_)).trans
    ((sin_block m c t (y (0 : Fin 2)) (y (1 : Fin 2))).trans ?_)
  · funext a
    match a with
    | ⟨0, _⟩ => rfl
    | ⟨1, _⟩ => rfl
  · have e0 : (((cfg0.win 4).blk t).view.emb y 0).val = t.val * 512 + (y (0 : Fin 2)).val := by
      refine (Pipeline.Window.rect_emb_val (cfg0.win (4 : Fin 5)) t y (0 : Fin 2)).trans ?_
      show cc0_transform_4 (grid0.coords t) 0 * 512 + (y (0 : Fin 2)).val = _
      rw [index4]; rfl
    have e1 : (((cfg0.win 4).blk t).view.emb y 1).val = (y (1 : Fin 2)).val := by
      refine (Pipeline.Window.rect_emb_val (cfg0.win (4 : Fin 5)) t y (1 : Fin 2)).trans ?_
      show cc0_transform_4 (grid0.coords t) 1 * 128 + (y (1 : Fin 2)).val = _
      rw [index4]; show 0 * 128 + (y (1 : Fin 2)).val = _; omega
    have h0 : rowOf t (y (0 : Fin 2)) = ((cfg0.win 4).blk t).view.emb y 0 := Fin.ext e0.symm
    have h1 : (y (1 : Fin 2) : Fin 128) = ((cfg0.win 4).blk t).view.emb y 1 := Fin.ext e1.symm
    rw [h0, h1]
    rfl

end Cert.KernelRopeIdeal.Tables

end
-- ==== Proof.Rope.Equation.lean ====
/- The rotary tables: the kernel's two arrays are the reference's cosines and signed sines. -/
module

public import proofs.«01_k».proof.Defs
public import proofs.«01_k».proof.Proof.Rope.Array
public import proofs.«01_k».proof.Proof.Gen.ReferenceRopeIdeal.Run

@[expose] public section

set_option maxRecDepth 16384
set_option Elab.async false

noncomputable section

namespace Cert.Rope

open Idealize.ShloMosaic Idealize.ShloMosaic.TcCoe Idealize.SL.Sem

section
open Cert.ReferenceRopeIdeal Cert.ReferenceRopeIdeal.Gen

/-- The reference's angles: every position times every frequency. -/
def angles (p : S1x16384.Idx → BitVec 32) (f : S64.Idx → Elt Ideal .f32) : S16384x64.Idx → Elt Ideal .f32 :=
  mulf (F := Ideal) (φ := .f32)
    (broadcastInDim S16384x64 ![0, 1] bcast_S16384x1_S16384x64_0_1
      (broadcastInDim S16384x1 ![0] bcast_S16384_S16384x1_0 (sitofp (F := Ideal) .f32 (shapeCast S16384 p shapeCasts_S1x16384_S16384))))
    (broadcastInDim S16384x64 ![0, 1] bcast_S1x64_S16384x64_0_1 (broadcastInDim S1x64 ![1] bcast_S64_S1x64_1 f))

theorem angles_apply (p : S1x16384.Idx → BitVec 32) (f : S64.Idx → Elt Ideal .f32) (i : Fin 16384) (j : Fin 64) :
    angles p f (ix2 i j) = (Cert.KernelRopeIdeal.Tables.position p i * f (ix1 j) : EReal) := by
  pointwise [angles, Cert.KernelRopeIdeal.Tables.position]

/-- Two tables of sixty-four columns, side by side. -/
def beside (x y : S16384x64.Idx → Elt Ideal .f32) : S16384x128.Idx → Elt Ideal .f32 :=
  concatenate S16384x128 1 [⟨S16384x64, x⟩, ⟨S16384x64, y⟩] concatenates_S16384x64_S16384x64_S16384x128_d1

theorem beside_left (x y : S16384x64.Idx → Elt Ideal .f32) (i : Fin 16384) (j : Fin 128) (h : j.val < 64) :
    beside x y (ix2 i j) = x (ix2 i (⟨j.val, h⟩ : Fin 64)) := by
  pointwise [beside]
  rw [dif_pos h]

theorem beside_right (x y : S16384x64.Idx → Elt Ideal .f32) (i : Fin 16384) (j : Fin 128) (h : ¬ j.val < 64) :
    beside x y (ix2 i j) = y (ix2 i (⟨j.val - 64, by omega⟩ : Fin 64)) := by
  pointwise [beside]
  rw [dif_neg h]

end

section
open Cert.KernelRopeIdeal Cert.KernelRopeIdeal.Gen Cert.KernelRopeIdeal.Tables

variable (m : (ℓ : Loc nD τ sig) → Buf (Elt Ideal) ℓ) (c : Dev nD)

/-- The argument. -/
abbrev places : S1x16384.Idx → BitVec 32 := m ((c : Thread nD τ).loc main_arg0)

theorem cos_eq (i : Fin 16384) (j : Fin 128) :
    beside (Host.cos (F := Ideal) (φ := .f32) (angles (places m c) freqs)) (Host.cos (F := Ideal) (φ := .f32) (angles (places m c) freqs)) (ix2 i j)
      = cosAt m c i j := by
  by_cases h : j.val < 64
  · refine (beside_left _ _ i j h).trans ?_
    exact congrArg (FloatOps.cos (F := Ideal) (φ := .f32)) ((angles_apply (places m c) freqs i ⟨j.val, h⟩).trans
      (congrArg (fun y : EReal => position (places m c) i * y) (halves_left freqs freqs j h).symm))
  · refine (beside_right _ _ i j h).trans ?_
    exact congrArg (FloatOps.cos (F := Ideal) (φ := .f32)) ((angles_apply (places m c) freqs i ⟨j.val - 64, by omega⟩).trans
      (congrArg (fun y : EReal => position (places m c) i * y) (halves_right freqs freqs j h).symm))

theorem sin_eq (i : Fin 16384) (j : Fin 128) :
    beside (Host.negf (F := Ideal) (φ := .f32) (Host.sin (F := Ideal) (φ := .f32) (angles (places m c) freqs)))
        (Host.sin (F := Ideal) (φ := .f32) (angles (places m c) freqs)) (ix2 i j)
      = sinAt m c i j := by
  by_cases h : j.val < 64
  · have ha : angles (places m c) freqs (ix2 i (⟨j.val, h⟩ : Fin 64)) = angle m c i j :=
      (angles_apply (places m c) freqs i ⟨j.val, h⟩).trans
        (congrArg (fun y : EReal => position (places m c) i * y) (halves_left freqs freqs j h).symm)
    have hs : halves (Host.negf (F := Ideal) (φ := .f32) ones) ones (ix2 (0 : Fin 1) j) = -1 :=
      (halves_left _ _ j h).trans (minus_apply _)
    refine (beside_left _ _ i j h).trans ?_
    refine (congrArg (fun y => (-(FloatOps.sin (F := Ideal) (φ := .f32) y : EReal) : EReal)) ha).trans ?_
    unfold sinAt
    rw [hs]
    exact ((mul_neg _ _).trans (congrArg _ (mul_one _))).symm
  · have ha : angles (places m c) freqs (ix2 i (⟨j.val - 64, by omega⟩ : Fin 64)) = angle m c i j :=
      (angles_apply (places m c) freqs i ⟨j.val - 64, by omega⟩).trans
        (congrArg (fun y : EReal => position (places m c) i * y) (halves_right freqs freqs j h).symm)
    have hs : halves (Host.negf (F := Ideal) (φ := .f32) ones) ones (ix2 (0 : Fin 1) j) = 1 :=
      (halves_right _ _ j h).trans (ones_apply _)
    refine (beside_right _ _ i j h).trans ?_
    refine (congrArg (FloatOps.sin (F := Ideal) (φ := .f32)) ha).trans ?_
    unfold sinAt
    rw [hs]
    exact (mul_one _).symm

theorem cosines_eq :
    beside (Host.cos (F := Ideal) (φ := .f32) (angles (places m c) freqs)) (Host.cos (F := Ideal) (φ := .f32) (angles (places m c) freqs))
      = cosines m c := by
  funext i
  refine (congrArg _ (show i = ix2 (i 0) (i 1) from ?_)).trans (cos_eq m c (i 0) (i 1))
  funext a
  match a with
  | ⟨0, _⟩ => rfl
  | ⟨1, _⟩ => rfl

theorem sines_eq :
    beside (Host.negf (F := Ideal) (φ := .f32) (Host.sin (F := Ideal) (φ := .f32) (angles (places m c) freqs)))
        (Host.sin (F := Ideal) (φ := .f32) (angles (places m c) freqs))
      = sines m c := by
  funext i
  refine (congrArg _ (show i = ix2 (i 0) (i 1) from ?_)).trans (sin_eq m c (i 0) (i 1))
  funext a
  match a with
  | ⟨0, _⟩ => rfl
  | ⟨1, _⟩ => rfl

end

/-- The kernel's two arrays and the reference's are the same extended reals, and both programs run. -/
theorem algebraic : Cert.algebraic_KernelRopeIdeal_ReferenceRopeIdeal (hKernelRopeIdeal := Cert.KernelRopeIdeal.Gen.facts)
    (hReferenceRopeIdeal := Cert.ReferenceRopeIdeal.Gen.facts) := by
  intro m g m' g' _ hagree
  refine ⟨fun c => Cert.KernelRopeIdeal.Tables.cosines m c, fun c => Cert.KernelRopeIdeal.Tables.sines m c, ?_, ?_⟩
  · exact (θ_run Cert.KernelRopeIdeal.defs _ _).mono
      (fun _ h c => ⟨(h c).1.trans (Cert.KernelRopeIdeal.Tables.final3 m c),
        (h c).2.1.trans (Cert.KernelRopeIdeal.Tables.final4 m c), (h c).2.2⟩) (Cert.KernelRopeIdeal.Value.run_blocks m g)
  · refine (θ_run Cert.ReferenceRopeIdeal.defs _ _).mono (fun _ h c => ⟨(h c).1.trans ?_, (h c).2.1.trans ?_, (h c).2.2⟩)
      (Cert.ReferenceRopeIdeal.Value.run (F := Ideal) m' g')
    · rw [hagree c]
      exact cosines_eq m c
    · rw [hagree c]
      exact sines_eq m c

end Cert.Rope

end
-- ==== Proof.Prep.Parts.lean ====
/- The preparation of the block attention, one point at a time: the stores of one point, head by head, and what they
   leave in the blocks of the three results and in the scratch of mean keys. -/
module

public import proofs.«01_k».proof.Proof.Gen.KernelPrepIdeal.Value
public import Idealize.ShloMosaic.Lib.Pipeline.Covers
public import Idealize.ShloMosaic.Lib.Pipeline.ValueKit
public import Idealize.ShloMosaic.Lib.Pipeline.ReadBack

@[expose] public section

set_option maxRecDepth 65536
set_option Elab.async false

noncomputable section

namespace Cert.KernelPrepIdeal.Prep

open Cert.KernelPrepIdeal Cert.KernelPrepIdeal.Gen
open Idealize.ShloMosaic Idealize.ShloMosaic.TcCoe Idealize.SL.Sem
open Idealize.ShloMosaic.Pipeline (Dat Cfg Window)

/-- The heads, last first: the order in which the stores of a point are listed. -/
def heads : List (Fin 8) := [7, 6, 5, 4, 3, 2, 1, 0]

theorem mem_heads (h : Fin 8) : h ∈ heads := by revert h; decide

/-! ## One head's values at one point -/

/-- The lanes' numbers of the scratch's rows. -/
abbrev rowNumbers : IVec S64x128 32 := iota .tc S64x128 32 [0] iota_S64x128_d0_w32

/-- The mean keys of a head after a point: the point's row is the mean of its turned keys. -/
def meansOf (i : grid0.Coords) (cc ss k : Vec Ideal S256x128 .f32) (old : Vec Ideal S64x128 .f32) : FVec Ideal S64x128 .f32 :=
  k0_pay13 (F := Ideal) (BitVec.ofNat 32 (i 0).val) rowNumbers (k0_pay9 cc ss k) old

/-- The mask over the blocks of a head at a point. -/
def maskOf (i : grid0.Coords) (cc ss q : Vec Ideal S256x128 .f32) (km : Vec Ideal S64x128 .f32) : FVec Ideal S1x64x256 .bf16 :=
  let n := k0_pay4 (F := Ideal)
  let qr := k0_pay8 (F := Ideal) cc ss q
  k0_pay24 (F := Ideal) (k0_pay23 n (k0_pay19 (BitVec.ofNat 32 (i 0).val) (iota .tc S64x256 32 [0] iota_S64x256_d0_w32) n (k0_pay5 i) qr km)
    (k0_pay20 n (k0_pay5 i) qr km) (k0_pay21 n (k0_pay5 i) qr km) (k0_pay22 n (k0_pay5 i) qr km))

/-! ## The stores of a point -/

section
variable (i : grid0.Coords) (cc ss : Vec Ideal S256x128 .f32)

/-- The stores into the block of scaled queries. -/
def stores5 (q : Fin 8 → Vec Ideal S256x128 .f32) (km : Fin 8 → Vec Ideal S64x128 .f32) : List (View.Piece (Elt Ideal) S8x256x256 .bf16) :=
  heads.flatMap fun h =>
    [⟨Rect.unit ![h.val, 192, 0] ![1, 64, 256] (by revert h; decide), k0_pay25 (F := Ideal)⟩,
     ⟨Rect.unit ![h.val, 128, 0] ![1, 64, 256] (by revert h; decide), maskOf i cc ss (q h) (km h)⟩,
     ⟨Rect.unit ![h.val, 0, 0] ![1, 128, 256] (by revert h; decide), k0_pay14 (F := Ideal) (k0_pay8 cc ss (q h))⟩]

/-- The stores into the block of turned keys. -/
def stores6 (k : Fin 8 → Vec Ideal S256x128 .f32) : List (View.Piece (Elt Ideal) S1x8x256x256 .bf16) :=
  heads.flatMap fun h =>
    [⟨Rect.unit ![0, h.val, 0, 128] ![1, 1, 256, 128] (by revert h; decide), k0_pay12 (F := Ideal) (k0_pay6 i)⟩,
     ⟨Rect.unit ![0, h.val, 0, 0] ![1, 1, 256, 128] (by revert h; decide), k0_pay11 (F := Ideal) (k0_pay10 cc ss (k h))⟩]

/-- The stores into the block of values. -/
def stores7 (v : Fin 8 → Vec Ideal S256x128 .f32) : List (View.Piece (Elt Ideal) S1x8x144x256 .bf16) :=
  heads.flatMap fun h =>
    [⟨Rect.unit ![0, h.val, 128, 0] ![1, 1, 16, 256] (by revert h; decide), k0_pay16 (F := Ideal) k0_pay7⟩,
     ⟨Rect.unit ![0, h.val, 0, 0] ![1, 1, 128, 256] (by revert h; decide), k0_pay15 (F := Ideal) (v h)⟩]

/-- The stores into the scratch. -/
def storesKm (k : Fin 8 → Vec Ideal S256x128 .f32) (old : Fin 8 → Vec Ideal S64x128 .f32) : List (View.Piece (Elt Ideal) S64x1024 .f32) :=
  heads.map fun h => ⟨Rect.unit ![0, 128 * h.val] ![64, 128] (by revert h; decide), meansOf i cc ss (k h) (old h)⟩

end

section
variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S8x256x256 .bf16) (harg6 : arg6.IsWhole) (arg7 : Memref sig .tc .vmem S1x8x256x256 .bf16) (harg7 : arg7.IsWhole) (arg8 : Memref sig .tc .vmem S1x8x144x256 .bf16) (harg8 : arg8.IsWhole) (arg9 : Memref sig .tc .vmem S64x1024 .f32) (harg9 : arg9.IsWhole)
  (x0 x1 x2 : Vec Ideal S256x1024 .f32) (x3 x4 : Vec Ideal S256x128 .f32) (xs0 : Vec Ideal S64x1024 .f32)

/-- Where a head's columns lie in a block of rows. -/
abbrev colsOf (h : Fin 8) : Rect S256x1024 := Rect.unit ![0, 128 * h.val] ![256, 128] (by revert h; decide)
/-- Where a head's columns lie in the scratch. -/
abbrev kmColsOf (h : Fin 8) : Rect S64x1024 := Rect.unit ![0, 128 * h.val] ![64, 128] (by revert h; decide)
/-- The whole block of a table. -/
abbrev tableAll : Rect S256x128 := Rect.unit ![0, 0] ![256, 128] (by decide)

/-- A head's columns of a block of rows, as the point loads them. -/
def load (a : Memref sig .tc .vmem S256x1024 .f32) (ha : a.IsWhole) (x : Vec Ideal S256x1024 .f32) (h : Fin 8) : Vec Ideal S256x128 .f32 :=
  View.readAt (Elt Ideal) a.view (colsOf h).toLoadRect (ha.unread x)
/-- A head's columns of the scratch, as the point loads them before it stores them. -/
def loadKm (a : Memref sig .tc .vmem S64x1024 .f32) (ha : a.IsWhole) (x : Vec Ideal S64x1024 .f32) (h : Fin 8) : Vec Ideal S64x128 .f32 :=
  View.readAt (Elt Ideal) a.view (kmColsOf h).toLoadRect (ha.unread x)
/-- A table's block, as the point loads it. -/
def loadTable (a : Memref sig .tc .vmem S256x128 .f32) (ha : a.IsWhole) (x : Vec Ideal S256x128 .f32) : Vec Ideal S256x128 .f32 :=
  View.readAt (Elt Ideal) a.view tableAll.toLoadRect (ha.unread x)

/-- The whole scratch. -/
abbrev kmAll : Rect S64x1024 := Rect.unit ![0, 0] ![64, 1024] (by decide)

/-- A head's columns of the scratch, as the point loads them after it stored them: of a list of stores, last first, the
    ones up to the head's. -/
def loadAfter (a : Memref sig .tc .vmem S64x1024 .f32) (L : List (View.Piece (Elt Ideal) S64x1024 .f32)) (h : Fin 8) : Vec Ideal S64x128 .f32 :=
  a.view.readCov (L.drop (7 - h.val)) (kmColsOf h).toLoadRect

theorem valB (hc0 : ¬cond0_0 i) :
    (kernelRun0_B (F := Ideal) c i arg1 harg1 arg2 harg2 arg3 harg3 arg4 harg4 arg5 harg5 arg6 harg6 arg7 harg7 arg8 harg8 arg9 harg9 hc0 x0 x1 x2 x3 x4 xs0).2.2.1 = stores7 (load arg3 harg3 x2) := by
  unfold kernelRun0_B
  rfl

theorem keysB (hc0 : ¬cond0_0 i) :
    (kernelRun0_B (F := Ideal) c i arg1 harg1 arg2 harg2 arg3 harg3 arg4 harg4 arg5 harg5 arg6 harg6 arg7 harg7 arg8 harg8 arg9 harg9 hc0 x0 x1 x2 x3 x4 xs0).2.1 = stores6 i (loadTable arg4 harg4 x3) (loadTable arg5 harg5 x4) (load arg2 harg2 x1) := by
  unfold kernelRun0_B
  rfl

theorem kmB (hc0 : ¬cond0_0 i) :
    (kernelRun0_B (F := Ideal) c i arg1 harg1 arg2 harg2 arg3 harg3 arg4 harg4 arg5 harg5 arg6 harg6 arg7 harg7 arg8 harg8 arg9 harg9 hc0 x0 x1 x2 x3 x4 xs0).2.2.2.1 = storesKm i (loadTable arg4 harg4 x3) (loadTable arg5 harg5 x4) (load arg2 harg2 x1) (loadKm arg9 harg9 xs0) := by
  unfold kernelRun0_B
  rfl

theorem queriesB (hc0 : ¬cond0_0 i) :
    (kernelRun0_B (F := Ideal) c i arg1 harg1 arg2 harg2 arg3 harg3 arg4 harg4 arg5 harg5 arg6 harg6 arg7 harg7 arg8 harg8 arg9 harg9 hc0 x0 x1 x2 x3 x4 xs0).1 = stores5 i (loadTable arg4 harg4 x3) (loadTable arg5 harg5 x4) (load arg1 harg1 x0)
      (loadAfter arg9 (storesKm i (loadTable arg4 harg4 x3) (loadTable arg5 harg5 x4) (load arg2 harg2 x1) (loadKm arg9 harg9 xs0))) := by
  unfold kernelRun0_B
  rfl

theorem valA (hc0 : cond0_0 i) :
    (kernelRun0_A (F := Ideal) c i arg1 harg1 arg2 harg2 arg3 harg3 arg4 harg4 arg5 harg5 arg6 harg6 arg7 harg7 arg8 harg8 arg9 harg9 hc0 x0 x1 x2 x3 x4).2.2.1 = stores7 (load arg3 harg3 x2) := by
  unfold kernelRun0_A
  rfl

theorem keysA (hc0 : cond0_0 i) :
    (kernelRun0_A (F := Ideal) c i arg1 harg1 arg2 harg2 arg3 harg3 arg4 harg4 arg5 harg5 arg6 harg6 arg7 harg7 arg8 harg8 arg9 harg9 hc0 x0 x1 x2 x3 x4).2.1 = stores6 i (loadTable arg4 harg4 x3) (loadTable arg5 harg5 x4) (load arg2 harg2 x1) := by
  unfold kernelRun0_A
  rfl

theorem queriesA (hc0 : cond0_0 i) : ∃ old : Fin 8 → Vec Ideal S64x128 .f32,
    (kernelRun0_A (F := Ideal) c i arg1 harg1 arg2 harg2 arg3 harg3 arg4 harg4 arg5 harg5 arg6 harg6 arg7 harg7 arg8 harg8 arg9 harg9 hc0 x0 x1 x2 x3 x4).2.2.2.1 = storesKm i (loadTable arg4 harg4 x3) (loadTable arg5 harg5 x4) (load arg2 harg2 x1) old ++ [⟨kmAll, k0_pay3 (F := Ideal)⟩]
    ∧ (kernelRun0_A (F := Ideal) c i arg1 harg1 arg2 harg2 arg3 harg3 arg4 harg4 arg5 harg5 arg6 harg6 arg7 harg7 arg8 harg8 arg9 harg9 hc0 x0 x1 x2 x3 x4).1 = stores5 i (loadTable arg4 harg4 x3) (loadTable arg5 harg5 x4) (load arg1 harg1 x0)
      (loadAfter arg9 (storesKm i (loadTable arg4 harg4 x3) (loadTable arg5 harg5 x4) (load arg2 harg2 x1) old ++ [⟨kmAll, k0_pay3 (F := Ideal)⟩])) := by
  unfold kernelRun0_A
  exact ⟨![_, _, _, _, _, _, _, _], rfl, rfl⟩

end

end Cert.KernelPrepIdeal.Prep

end
-- ==== Proof.Prep.Rounds.lean ====
/- Three rounds of maxima over a row of 64, each with the least position that holds it, name the positions that a stable
   descending sort puts first, as long as there are elements above −∞. -/
module

public import proofs.«01_k».proof.Proof.OutProj.Choice

@[expose] public section

set_option Elab.async false

noncomputable section

namespace Cert.Prep

open Idealize.ShloMosaic Cert.OutProj

/-- The number of the first position that holds the greatest value. -/
def first (v : Fin 64 → EReal) : EReal :=
  Finset.univ.fold min ⊤ fun l => if v l = topVal v then lane l else ((64 : ℝ) : EReal)

/-- What a round adds: one at the position it names, if the greatest value is above −∞. -/
def pick (v : Fin 64 → EReal) (l : Fin 64) : EReal := if ⊥ < topVal v then (if lane l = first v then 1 else 0) else 0

/-- The row without the position a round names. -/
def rest (v : Fin 64 → EReal) (l : Fin 64) : EReal := if 0 < pick v l then ⊥ else v l

theorem first_eq {v : Fin 64 → EReal} {i : Fin 64} (h : IsTop v i) : first v = lane i := by
  unfold first
  rw [topVal_eq h]
  refine le_antisymm (Finset.fold_min_le _ |>.mpr (Or.inr ⟨i, Finset.mem_univ _, ?_⟩))
    (Finset.le_fold_min _ |>.mpr ⟨le_top, fun j _ => ?_⟩)
  · rw [if_pos rfl]
  · by_cases hj : v j = v i
    · rw [if_pos hj]
      by_cases e : j = i
      · rw [e]
      · rcases h j e with h | h
        · exact absurd hj h.ne
        · exact (lane_lt.mpr h.2).le
    · rw [if_neg hj]
      unfold lane
      rw [EReal.coe_le_coe_iff]
      exact_mod_cast i.isLt.le

/-- A row whose elements before position `i` are above −∞ and whose other elements are −∞. -/
def UpTo (v : Fin 64 → EReal) (i : Fin 64) : Prop := ∀ l, v l ≠ ⊥ ↔ l < i

/-- The position at a place of the sorted row. -/
abbrev place (v : Fin 64 → EReal) (j : Fin 64) : Fin 64 := sortedFrom (byValue v) j

/-- The first places of the sorted row hold the elements above −∞. -/
theorem place_lt {v : Fin 64 → EReal} {i : Fin 64} (hv : UpTo v i) (k : Fin 64) : place v k < i ↔ k < i := by
  have inj : Function.Injective (place v) := sortedFrom_injective _
  have mono : ∀ a b : Fin 64, a < b → v (place v b) ≤ v (place v a) := fun a b h => (sorted_beats v a b h).le
  constructor
  · intro h
    by_contra hk
    have hk : i ≤ k := not_lt.mp hk
    have sub : (Finset.univ.filter fun j : Fin 64 => j ≤ k).image (place v) ⊆ Finset.univ.filter fun l : Fin 64 => l < i := by
      intro l hl
      obtain ⟨j, hj, rfl⟩ := Finset.mem_image.mp hl
      have hj := (Finset.mem_filter.mp hj).2
      refine Finset.mem_filter.mpr ⟨Finset.mem_univ _, (hv _).mp fun hb => ?_⟩
      have hk' := (hv _).mpr h
      rcases lt_or_eq_of_le hj with hj | rfl
      · exact hk' (le_bot_iff.mp (hb ▸ mono _ _ hj))
      · exact hk' hb
    have hc := Finset.card_le_card sub
    rw [Finset.card_image_of_injective _ inj, Finset.filter_ge_eq_Iic, Finset.filter_gt_eq_Iio, Fin.card_Iic, Fin.card_Iio] at hc
    have : i.val ≤ k.val := hk
    omega
  · intro hk
    by_contra h
    have hb : v (place v k) = ⊥ := by
      by_contra hb
      exact h ((hv _).mp hb)
    have sub : (Finset.univ.filter fun l : Fin 64 => l < i) ⊆ (Finset.univ.filter fun j : Fin 64 => j < k).image (place v) := by
      intro l hl
      have hl := (Finset.mem_filter.mp hl).2
      obtain ⟨j, rfl⟩ := sortedFrom_surjective (byValue v) l
      refine Finset.mem_image.mpr ⟨j, Finset.mem_filter.mpr ⟨Finset.mem_univ _, ?_⟩, rfl⟩
      by_contra hj
      have hne := (hv _).mpr hl
      rcases lt_or_eq_of_le (not_lt.mp hj) with hj | rfl
      · exact hne (le_bot_iff.mp (hb ▸ mono _ _ hj))
      · exact hne hb
    have hc := Finset.card_le_card sub
    rw [Finset.card_image_of_injective _ inj, Finset.filter_gt_eq_Iio, Finset.filter_gt_eq_Iio, Fin.card_Iio, Fin.card_Iio] at hc
    have : k.val < i.val := hk
    omega

/-- The row without the positions at its first `k` places. -/
def without (v : Fin 64 → EReal) (k : ℕ) (l : Fin 64) : EReal := if ∃ j : Fin 64, j.val < k ∧ place v j = l then ⊥ else v l

theorem without_zero (v : Fin 64 → EReal) : without v 0 = v := by
  funext l
  exact if_neg fun ⟨j, hj, _⟩ => absurd hj (Nat.not_lt_zero _)

theorem without_place (v : Fin 64 → EReal) (k : ℕ) (j : Fin 64) :
    without v k (place v j) = if j.val < k then ⊥ else v (place v j) := by
  unfold without
  by_cases h : j.val < k
  · rw [if_pos ⟨j, h, rfl⟩, if_pos h]
  · rw [if_neg h, if_neg]
    rintro ⟨j', hj', e⟩
    exact h (sortedFrom_injective _ e ▸ hj')

/-- A round while there are elements above −∞: it names the next place. -/
theorem round_some {v : Fin 64 → EReal} {i : Fin 64} (hv : UpTo v i) (k : Fin 64) (hk : k < i) :
    pick (without v k) = (fun l => if l = place v k then 1 else 0) ∧ rest (without v k) = without v (k.val + 1) := by
  have hb : v (place v k) ≠ ⊥ := (hv _).mpr ((place_lt hv k).mpr hk)
  have hw : without v k (place v k) = v (place v k) := by rw [without_place, if_neg (lt_irrefl _)]
  have top : IsTop (without v k) (place v k) := by
    intro l hl
    obtain ⟨j, rfl⟩ := sortedFrom_surjective (byValue v) l
    unfold Beats
    rw [hw, without_place]
    by_cases hj : j.val < k.val
    · rw [if_pos hj]
      exact Or.inl (bot_lt_iff_ne_bot.mpr hb)
    · rw [if_neg hj]
      refine sorted_beats v k j (Fin.lt_def.mpr ?_)
      have : j.val ≠ k.val := fun e => hl (congrArg _ (Fin.ext e))
      omega
  have hp : pick (without v k) = fun l => if l = place v k then 1 else 0 := by
    funext l
    unfold pick
    rw [topVal_eq top, first_eq top, hw, if_pos (bot_lt_iff_ne_bot.mpr hb)]
    simp only [lane_inj]
  refine ⟨hp, ?_⟩
  funext l
  unfold rest
  obtain ⟨j, rfl⟩ := sortedFrom_surjective (byValue v) l
  by_cases e : j = k
  · have h1 : pick (without v k) (place v k) = 1 := by rw [hp]; exact if_pos rfl
    have h2 : (0 : EReal) < pick (without v k) (place v k) := by rw [h1]; exact zero_lt_one
    rw [e, if_pos h2, without_place]
    exact (if_pos (Nat.lt_succ_self k.val)).symm
  · have e' : place v j ≠ place v k := fun h => e (sortedFrom_injective _ h)
    have h1 : pick (without v k) (place v j) = 0 := by rw [hp]; exact if_neg e'
    have h2 : ¬(0 : EReal) < pick (without v k) (place v j) := by rw [h1]; exact lt_irrefl _
    have : j.val ≠ k.val := fun h => e (Fin.ext h)
    refine (if_neg h2).trans ?_
    rw [show sortedFrom (byValue v) j = place v j from rfl, without_place, without_place]
    by_cases hj : j.val < k.val
    · have hj' : j.val < k.val + 1 := by omega
      exact (if_pos hj).trans (if_pos hj').symm
    · have hj' : ¬j.val < k.val + 1 := by omega
      exact (if_neg hj).trans (if_neg hj').symm

theorem without_bot {v : Fin 64 → EReal} {i : Fin 64} (hv : UpTo v i) (k : ℕ) (hk : i.val ≤ k) : without v k = fun _ => ⊥ := by
  funext l
  obtain ⟨j, rfl⟩ := sortedFrom_surjective (byValue v) l
  rw [show sortedFrom (byValue v) j = place v j from rfl, without_place]
  by_cases hj : j.val < k
  · rw [if_pos hj]
  · rw [if_neg hj]
    by_contra hb
    have := (place_lt hv j).mp ((hv _).mp hb)
    have : j.val < i.val := this
    omega

/-- A round when there is none left: it names nothing. -/
theorem round_none {v : Fin 64 → EReal} {i : Fin 64} (hv : UpTo v i) (k : ℕ) (hk : i.val ≤ k) :
    pick (without v k) = (fun _ => 0) ∧ rest (without v k) = without v (k + 1) := by
  rw [without_bot hv k hk, without_bot hv (k + 1) (by omega)]
  have ht : topVal (fun _ : Fin 64 => (⊥ : EReal)) = ⊥ :=
    le_bot_iff.mp (Finset.fold_max_le _ |>.mpr ⟨le_rfl, fun _ _ => le_rfl⟩)
  have hp : pick (fun _ => ⊥) = fun _ => 0 := by
    funext l
    unfold pick
    rw [ht, if_neg (lt_irrefl _)]
  refine ⟨hp, ?_⟩
  funext l
  unfold rest
  rw [hp, if_neg (lt_irrefl _)]

theorem round {v : Fin 64 → EReal} {i : Fin 64} (hv : UpTo v i) (k : Fin 64) :
    pick (without v k) = (fun l => if k < i ∧ place v k = l then 1 else 0) ∧ rest (without v k) = without v (k.val + 1) := by
  by_cases hk : k < i
  · refine ⟨(round_some hv k hk).1.trans (funext fun l => ?_), (round_some hv k hk).2⟩
    by_cases e : place v k = l
    · rw [if_pos e.symm, if_pos ⟨hk, e⟩]
    · rw [if_neg fun h => e h.symm, if_neg fun h => e h.2]
  · refine ⟨(round_none hv k.val (not_lt.mp hk)).1.trans (funext fun l => ?_), (round_none hv k.val (not_lt.mp hk)).2⟩
    rw [if_neg fun h => hk h.1]

/-- Block `l` is one that a row of block `i` attends to: its own, or one at the first three places among those before it. -/
def Attends (v : Fin 64 → EReal) (i l : Fin 64) : Prop :=
  ((l = i ∨ ((0 : Fin 64) < i ∧ place v 0 = l)) ∨ ((1 : Fin 64) < i ∧ place v 1 = l)) ∨ ((2 : Fin 64) < i ∧ place v 2 = l)

/-- The rounds' sum is above zero at just these blocks. -/
theorem rounds {v : Fin 64 → EReal} {i : Fin 64} (hv : UpTo v i) (l : Fin 64) :
    0 < (if l = i then (1 : EReal) else 0) + pick v l + pick (rest v) l + pick (rest (rest v)) l ↔ Attends v i l := by
  have e0 := round hv 0
  have e1 := round hv 1
  have e2 := round hv 2
  have z : without v (0 : Fin 64).val = v := without_zero v
  rw [z] at e0
  have z1 : without v (1 : Fin 64).val = rest v := e0.2.symm
  rw [z1] at e1
  have z2 : without v (2 : Fin 64).val = rest (rest v) := e1.2.symm
  rw [z2] at e2
  rw [e0.1, e1.1, e2.1]
  unfold Attends
  have ind : ∀ (p q : Prop) [Decidable p] [Decidable q] (x : EReal), 0 ≤ x → (0 < x ↔ p) →
      (0 ≤ x + (if q then 1 else 0) ∧ (0 < x + (if q then 1 else 0) ↔ p ∨ q)) := by
    intro p q _ _ x hx hp
    by_cases hq : q
    · rw [if_pos hq]
      have : (0 : EReal) < x + 1 := lt_of_lt_of_le zero_lt_one (le_add_of_nonneg_left hx)
      exact ⟨this.le, ⟨fun _ => Or.inr hq, fun _ => this⟩⟩
    · rw [if_neg hq, add_zero]
      exact ⟨hx, hp.trans ⟨Or.inl, fun h => h.resolve_right hq⟩⟩
  have h0 : (0 : EReal) ≤ (if l = i then (1 : EReal) else 0) ∧ (0 < (if l = i then (1 : EReal) else 0) ↔ l = i) := by
    by_cases h : l = i
    · rw [if_pos h]; exact ⟨zero_le_one, ⟨fun _ => h, fun _ => zero_lt_one⟩⟩
    · rw [if_neg h]; exact ⟨le_rfl, ⟨fun h' => absurd h' (lt_irrefl _), fun h' => absurd h' h⟩⟩
  have h1 := ind _ ((0 : Fin 64) < i ∧ place v 0 = l) _ h0.1 h0.2
  have h2 := ind _ ((1 : Fin 64) < i ∧ place v 1 = l) _ h1.1 h1.2
  exact (ind _ ((2 : Fin 64) < i ∧ place v 2 = l) _ h2.1 h2.2).2

end Cert.Prep

end
-- ==== Proof.Prep.Turn.lean ====
/- A head's row under the rotary tables, and what the queries are scaled by. -/
module

public import Idealize.ShloMosaic.Lib.Pointwise

@[expose] public section

set_option Elab.async false

noncomputable section

namespace Cert.Prep

open Idealize.ShloMosaic

/-- The lane that a half turn of a head's lanes brings to a lane. -/
def flip (d : Fin 128) : Fin 128 := ⟨(d.val + 128 - 64) % 128, Nat.mod_lt _ (by decide)⟩

/-- A head's row, rotated by a row of each table. -/
def turned (x c s : Fin 128 → EReal) (d : Fin 128) : EReal := x d * c d + x (flip d) * s d

/-- What the queries are scaled by: the power of two that the softmax's exponential is taken to, over the root of the
    head's width. -/
def scale : EReal := (((Real.sqrt 128)⁻¹ * (Real.log 2)⁻¹ : ℝ) : EReal)

/-- Comparing two small numbers as words. -/
theorem eq_word {a b : ℕ} (ha : a < 4294967296) (hb : b < 4294967296) :
    (IntOp.cmpi .eq (BitVec.ofNat 32 a) (BitVec.ofNat 32 b) = 1#1) ↔ a = b := by
  rw [show IntOp.cmpi .eq (BitVec.ofNat 32 a) (BitVec.ofNat 32 b) = BitVec.ofBool (BitVec.ofNat 32 a == BitVec.ofNat 32 b) from rfl]
  have h1 := BitVec.toNat_ofNat a 32
  have h2 := BitVec.toNat_ofNat b 32
  rw [Nat.mod_eq_of_lt ha] at h1
  rw [Nat.mod_eq_of_lt hb] at h2
  by_cases h : a = b
  · subst h; simp
  · have : BitVec.ofNat 32 a ≠ BitVec.ofNat 32 b := fun e => h (by rw [← h1, ← h2, e])
    rw [beq_false_of_ne this]
    simp [h]

/-- The integer of a small number's word. -/
theorem word_int {a : ℕ} (ha : a < 2147483648) : (BitVec.ofNat 32 a).toInt = a := by
  have h : (BitVec.ofNat 32 a).toNat = a := by rw [BitVec.toNat_ofNat]; exact Nat.mod_eq_of_lt (by omega)
  rw [BitVec.toInt_eq_toNat_of_lt (by rw [h]; omega), h]

theorem lt_word {a b : ℕ} (ha : a < 2147483648) (hb : b < 2147483648) :
    (IntOp.cmpi .slt (BitVec.ofNat 32 a) (BitVec.ofNat 32 b) = 1#1) ↔ a < b := by
  rw [show IntOp.cmpi .slt (BitVec.ofNat 32 a) (BitVec.ofNat 32 b) = BitVec.ofBool ((BitVec.ofNat 32 a).slt (BitVec.ofNat 32 b)) from rfl]
  have h1 := word_int ha
  have h2 := word_int hb
  unfold BitVec.slt
  rw [h1, h2]
  by_cases h : a < b <;> simp [h]

/-- Choosing by a comparison of two small numbers' words. -/
theorem select_eq {a b : ℕ} (ha : a < 4294967296) (hb : b < 4294967296) (x y : EReal) :
    Scalar.select (IntOp.cmpi .eq (BitVec.ofNat 32 a) (BitVec.ofNat 32 b)) x y = if a = b then x else y := by
  unfold Scalar.select
  by_cases h : a = b
  · rw [if_pos h]; exact if_pos ((eq_word ha hb).mpr h)
  · rw [if_neg h]; exact if_neg fun h' => h ((eq_word ha hb).mp h')

theorem select_lt {a b : ℕ} (ha : a < 2147483648) (hb : b < 2147483648) (x y : EReal) :
    Scalar.select (IntOp.cmpi .slt (BitVec.ofNat 32 a) (BitVec.ofNat 32 b)) x y = if a < b then x else y := by
  unfold Scalar.select
  by_cases h : a < b
  · rw [if_pos h]; exact if_pos ((lt_word ha hb).mpr h)
  · rw [if_neg h]; exact if_neg fun h' => h ((lt_word ha hb).mp h')

end Cert.Prep

end
-- ==== Proof.Prep.Entry.lean ====
/- The values that one point computes for one head, entry by entry. -/
module

public import proofs.«01_k».proof.Proof.Prep.Parts
public import proofs.«01_k».proof.Proof.Prep.Rounds
public import proofs.«01_k».proof.Proof.Prep.Turn
public import Idealize.ShloMosaic.Lib.Pointwise

@[expose] public section

set_option maxRecDepth 65536
set_option Elab.async false

noncomputable section

namespace Cert.KernelPrepIdeal.Prep

open Cert.KernelPrepIdeal Cert.KernelPrepIdeal.Gen Cert.Prep
open Idealize.ShloMosaic Idealize.ShloMosaic.TcCoe Idealize.SL.Sem
open Cert.OutProj (lane topVal)

theorem neg_eq : (Named.named (F := Ideal) (φ := .f32) κ "neg" 0xF149F2CA#32 : EReal) = ⊥ := rfl
theorem scale_eq : (Named.named (F := Ideal) (φ := .f32) κ "q_scale" 0x3E0293EE#32 : EReal) = scale := rfl
theorem inf_eq : (Ideal.ofBits .f32 0x7F800000#32 : EReal) = ⊤ := by simp [Ideal.ofBits, Ideal.ieee]
theorem ninf_eq : (Ideal.ofBits .f32 0xFF800000#32 : EReal) = ⊥ := by simp [Ideal.ofBits, Ideal.ieee]
theorem c64_eq : (Ideal.ofBits .f32 0x42800000#32 : EReal) = ((64 : ℝ) : EReal) := by
  simp [Ideal.ofBits, Ideal.ieee]
  rw [← EReal.coe_mul]
  norm_num
theorem c256_eq : (Ideal.ofBits .f32 0x43800000#32 : EReal) = ((256 : ℝ) : EReal) := by
  simp [Ideal.ofBits, Ideal.ieee]
  rw [← EReal.coe_mul]
  norm_num

theorem turned_q (cc ss q : Vec Ideal S256x128 .f32) (r : Fin 256) (d : Fin 128) :
    k0_pay8 (F := Ideal) cc ss q (ix2 r d) = turned (fun d => q (ix2 r d)) (fun d => cc (ix2 r d)) (fun d => ss (ix2 r d)) d := by
  pointwise [k0_pay8]
  rfl

theorem turned_k (cc ss k : Vec Ideal S256x128 .f32) (r : Fin 256) (d : Fin 128) :
    k0_pay9 (F := Ideal) cc ss k (ix2 r d) = turned (fun d => k (ix2 r d)) (fun d => cc (ix2 r d)) (fun d => ss (ix2 r d)) d := by
  pointwise [k0_pay9]
  rfl

theorem keys_at (cc ss k : Vec Ideal S256x128 .f32) (r : Fin 256) (d : Fin 128) :
    k0_pay11 (F := Ideal) (k0_pay10 cc ss k) (ix4 (0 : Fin 1) (0 : Fin 1) r d) = turned (fun d => k (ix2 r d)) (fun d => cc (ix2 r d)) (fun d => ss (ix2 r d)) d := by
  pointwise [k0_pay11, k0_pay10, k0_pay9]
  rfl

theorem number_at (i : grid0.Coords) (r : Fin 256) (d : Fin 128) :
    k0_pay12 (F := Ideal) (k0_pay6 i) (ix4 (0 : Fin 1) (0 : Fin 1) r d) = if d.val = (i 0).val then 1 else 0 := by
  have hi : (i 0).val < 64 := (i 0).isLt
  pointwise [k0_pay12, k0_pay6]
  exact select_eq (by omega) (by omega) _ _

theorem val_at (v : Vec Ideal S256x128 .f32) (r : Fin 256) (d : Fin 128) :
    k0_pay15 (F := Ideal) v (ix4 (0 : Fin 1) (0 : Fin 1) d r) = v (ix2 r d) := by
  pointwise [k0_pay15]

theorem ones_at (r : Fin 256) (d : Fin 16) :
    k0_pay16 (F := Ideal) k0_pay7 (ix4 (0 : Fin 1) (0 : Fin 1) d r) = if d.val = 0 then 1 else 0 := by
  pointwise [k0_pay16, k0_pay7]
  exact select_eq (by omega) (by omega) _ _

theorem zeros_at (b : Fin 64) (r : Fin 256) : k0_pay25 (F := Ideal) (ix3 (0 : Fin 1) b r) = 0 := by
  pointwise [k0_pay25]

theorem scaled_at (cc ss q : Vec Ideal S256x128 .f32) (r : Fin 256) (d : Fin 128) :
    k0_pay14 (F := Ideal) (k0_pay8 cc ss q) (ix3 (0 : Fin 1) d r)
      = turned (fun d => q (ix2 r d)) (fun d => cc (ix2 r d)) (fun d => ss (ix2 r d)) d * scale := by
  rw [← turned_q, ← scale_eq]
  generalize k0_pay8 (F := Ideal) cc ss q = x
  pointwise [k0_pay14]

/-- The mean of a head's turned keys at a point. -/
def meanRow (cc ss k : Vec Ideal S256x128 .f32) (d : Fin 128) : EReal :=
  Ideal.div (∑ r : Fin 256, turned (fun d => k (ix2 r d)) (fun d => cc (ix2 r d)) (fun d => ss (ix2 r d)) d) ((256 : ℝ) : EReal)

theorem means_at (i : grid0.Coords) (cc ss k : Vec Ideal S256x128 .f32) (old : Vec Ideal S64x128 .f32) (b : Fin 64) (d : Fin 128) :
    meansOf i cc ss k old (ix2 b d) = if b.val = (i 0).val then meanRow cc ss k d else old (ix2 b d) := by
  have hi : (i 0).val < 64 := (i 0).isLt
  unfold meansOf meanRow
  simp only [← turned_k]
  generalize k0_pay9 (F := Ideal) cc ss k = kr
  pointwise [k0_pay13]
  rw [c256_eq]
  exact select_eq (by omega) (by omega) _ _

/-! ## The mask -/

theorem numbers_at (b : Fin 64) (s : Fin 256) : k0_pay4 (F := Ideal) (ix2 b s) = lane b := by
  pointwise [k0_pay4]
  show (((BitVec.ofNat 32 b.val).toInt : ℝ) : EReal) = ((b.val : ℝ) : EReal)
  have h1 := word_int (a := b.val) (by omega)
  rw [h1]
  simp

/-- The gate of a head's row over the blocks: the products of the row with the mean keys of the blocks before its own. -/
def gateOf (i : grid0.Coords) (km : Vec Ideal S64x128 .f32) (q : Fin 128 → EReal) (b : Fin 64) : EReal :=
  if b.val < (i 0).val then ∑ d : Fin 128, km (ix2 b d) * q d else ⊥

theorem gate_at (i : grid0.Coords) (qr : FVec Ideal S256x128 .f32) (km : Vec Ideal S64x128 .f32) (b : Fin 64) (s : Fin 256) :
    k0_pay17 (F := Ideal) (k0_pay5 i) qr km (ix2 b s) = gateOf i km (fun d => qr (ix2 s d)) b := by
  have hi : (i 0).val < 64 := (i 0).isLt
  unfold gateOf
  pointwise [k0_pay17, k0_pay5]
  rw [neg_eq]
  exact select_lt (by omega) (by omega) _ _

theorem pick_at (p : IVec S64x256 1) (qr : FVec Ideal S256x128 .f32) (km : Vec Ideal S64x128 .f32) (b : Fin 64) (s : Fin 256) :
    k0_pay18 (F := Ideal) k0_pay4 p qr km (ix2 b s) = pick (fun l => k0_pay17 (F := Ideal) p qr km (ix2 l s)) b := by
  unfold k0_pay18
  generalize k0_pay17 (F := Ideal) p qr km = g
  have hn : (k0_pay4 (F := Ideal)) = fun y => lane (y 0) := funext fun y => by
    obtain ⟨b, s, rfl⟩ : ∃ (b : Fin 64) (s : Fin 256), y = ix2 b s := ⟨y 0, y 1, by
      funext a
      match a with
      | ⟨0, _⟩ => rfl
      | ⟨1, _⟩ => rfl⟩
    exact numbers_at b s
  generalize k0_pay4 (F := Ideal) = n at hn
  pointwise
  simp only [neg_eq, inf_eq, ninf_eq, c64_eq]
  subst hn
  rfl

theorem numbers_eq : (k0_pay4 (F := Ideal)) = fun y => lane (y 0) := funext fun y => by
  obtain ⟨b, s, rfl⟩ : ∃ (b : Fin 64) (s : Fin 256), y = ix2 b s := ⟨y 0, y 1, by
    funext a
    match a with
    | ⟨0, _⟩ => rfl
    | ⟨1, _⟩ => rfl⟩
  exact numbers_at b s

theorem rest_at (p : IVec S64x256 1) (qr : FVec Ideal S256x128 .f32) (km : Vec Ideal S64x128 .f32) (b : Fin 64) (s : Fin 256) :
    k0_pay20 (F := Ideal) k0_pay4 p qr km (ix2 b s) = rest (fun l => k0_pay17 (F := Ideal) p qr km (ix2 l s)) b := by
  unfold rest
  rw [← pick_at]
  unfold k0_pay20
  generalize k0_pay17 (F := Ideal) p qr km = g
  generalize k0_pay18 (F := Ideal) k0_pay4 p qr km = f
  pointwise
  rw [neg_eq]

theorem own_at (i : grid0.Coords) (p : IVec S64x256 1) (qr : FVec Ideal S256x128 .f32) (km : Vec Ideal S64x128 .f32) (b : Fin 64) (s : Fin 256) :
    k0_pay19 (F := Ideal) (BitVec.ofNat 32 (i 0).val) (iota .tc S64x256 32 [0] iota_S64x256_d0_w32) k0_pay4 p qr km (ix2 b s)
      = (if b.val = (i 0).val then 1 else 0) + pick (fun l => k0_pay17 (F := Ideal) p qr km (ix2 l s)) b := by
  have hi : (i 0).val < 64 := (i 0).isLt
  rw [← pick_at]
  unfold k0_pay19
  generalize k0_pay18 (F := Ideal) k0_pay4 p qr km = f
  pointwise
  rw [select_eq (by omega) (by omega)]

/-- The rounds after the first, on a row of the gate. -/
theorem tail_at (w : Fin 64 → EReal) (n c g : FVec Ideal S64x256 .f32) (m : FVec Ideal S1x256 .f32) (f : FVec Ideal S64x256 .f32)
    (b : Fin 64) (s : Fin 256) (hn : n = fun y => lane (y 0)) (hg : ∀ l, g (ix2 l s) = w l) (hm : m (ix2 (0 : Fin 1) s) = topVal w)
    (hf : ∀ l, f (ix2 l s) = if w l = topVal w then lane l else ((64 : ℝ) : EReal)) :
    k0_pay23 (F := Ideal) n c g m f (ix2 b s) = if 0 < c (ix2 b s) + pick w b + pick (rest w) b then 0 else ⊥ := by
  pointwise [k0_pay23]
  simp only [neg_eq, inf_eq, ninf_eq, c64_eq, hg, hm, hf]
  subst hn
  rfl

theorem mask_at (i : grid0.Coords) (cc ss q : Vec Ideal S256x128 .f32) (km : Vec Ideal S64x128 .f32) (b : Fin 64) (s : Fin 256) :
    maskOf i cc ss q km (ix3 (0 : Fin 1) b s)
      = let v := gateOf i km (turned (fun d => q (ix2 s d)) (fun d => cc (ix2 s d)) (fun d => ss (ix2 s d)))
        if 0 < (if b.val = (i 0).val then 1 else 0) + pick v b + pick (rest v) b + pick (rest (rest v)) b then 0 else ⊥ := by
  have hv : ∀ l, k0_pay17 (F := Ideal) (k0_pay5 i) (k0_pay8 cc ss q) km (ix2 l s)
      = gateOf i km (turned (fun d => q (ix2 s d)) (fun d => cc (ix2 s d)) (fun d => ss (ix2 s d))) l := fun l => by
    rw [gate_at]
    exact congrFun (congrArg (gateOf i km) (funext fun d => turned_q cc ss q s d)) l
  dsimp only
  rw [← funext hv]
  unfold maskOf
  dsimp only
  generalize k0_pay8 (F := Ideal) cc ss q = qr
  generalize k0_pay5 i = p
  have hg : ∀ l, k0_pay20 (F := Ideal) k0_pay4 p qr km (ix2 l s) = rest (fun l => k0_pay17 (F := Ideal) p qr km (ix2 l s)) l :=
    fun l => rest_at p qr km l s
  have hm : k0_pay21 (F := Ideal) k0_pay4 p qr km (ix2 (0 : Fin 1) s) = topVal (rest (fun l => k0_pay17 (F := Ideal) p qr km (ix2 l s))) := by
    unfold topVal
    rw [← funext hg]
    unfold k0_pay21
    generalize k0_pay20 (F := Ideal) k0_pay4 p qr km = g
    pointwise
    rw [ninf_eq]
  have hf : ∀ l, k0_pay22 (F := Ideal) k0_pay4 p qr km (ix2 l s)
      = if rest (fun l => k0_pay17 (F := Ideal) p qr km (ix2 l s)) l = topVal (rest (fun l => k0_pay17 (F := Ideal) p qr km (ix2 l s)))
        then lane l else ((64 : ℝ) : EReal) := fun l => by
    rw [← hm, ← hg l, ← numbers_at l s]
    unfold k0_pay22
    generalize k0_pay20 (F := Ideal) k0_pay4 p qr km = g
    generalize k0_pay21 (F := Ideal) k0_pay4 p qr km = m
    generalize k0_pay4 (F := Ideal) = n
    pointwise
    rw [c64_eq]
  have h := tail_at _ k0_pay4 (k0_pay19 (F := Ideal) (BitVec.ofNat 32 (i 0).val) (iota .tc S64x256 32 [0] iota_S64x256_d0_w32) k0_pay4 p qr km)
    _ _ _ b s numbers_eq hg hm hf
  rw [own_at] at h
  rw [← h]
  generalize k0_pay23 (F := Ideal) _ _ _ _ _ = z
  pointwise [k0_pay24]

end Cert.KernelPrepIdeal.Prep

end
-- ==== Proof.Prep.Blocks.lean ====
/- What the stores of one point leave: the blocks of the three results and the scratch, entry by entry. -/
module

public import proofs.«01_k».proof.Proof.Prep.Entry

@[expose] public section

set_option maxRecDepth 65536
set_option Elab.async false

noncomputable section

namespace Cert.KernelPrepIdeal.Prep

open Cert.KernelPrepIdeal Cert.KernelPrepIdeal.Gen Cert.Prep
open Idealize.ShloMosaic Idealize.ShloMosaic.TcCoe Idealize.SL.Sem

theorem inb_ones : ∀ (h : Fin 8) (a : Fin 4), (![0, h.val, 128, 0] : Fin 4 → ℕ) a + (![1, 1, 16, 256] : Fin 4 → ℕ) a ≤ S1x8x144x256.size a := by decide
theorem inb_value : ∀ (h : Fin 8) (a : Fin 4), (![0, h.val, 0, 0] : Fin 4 → ℕ) a + (![1, 1, 128, 256] : Fin 4 → ℕ) a ≤ S1x8x144x256.size a := by decide
theorem inb_number : ∀ (h : Fin 8) (a : Fin 4), (![0, h.val, 0, 128] : Fin 4 → ℕ) a + (![1, 1, 256, 128] : Fin 4 → ℕ) a ≤ S1x8x256x256.size a := by decide
theorem inb_key : ∀ (h : Fin 8) (a : Fin 4), (![0, h.val, 0, 0] : Fin 4 → ℕ) a + (![1, 1, 256, 128] : Fin 4 → ℕ) a ≤ S1x8x256x256.size a := by decide
theorem inb_zeros : ∀ (h : Fin 8) (a : Fin 3), (![h.val, 192, 0] : Fin 3 → ℕ) a + (![1, 64, 256] : Fin 3 → ℕ) a ≤ S8x256x256.size a := by decide
theorem inb_mask : ∀ (h : Fin 8) (a : Fin 3), (![h.val, 128, 0] : Fin 3 → ℕ) a + (![1, 64, 256] : Fin 3 → ℕ) a ≤ S8x256x256.size a := by decide
theorem inb_query : ∀ (h : Fin 8) (a : Fin 3), (![h.val, 0, 0] : Fin 3 → ℕ) a + (![1, 128, 256] : Fin 3 → ℕ) a ≤ S8x256x256.size a := by decide
theorem inb_km : ∀ (h : Fin 8) (a : Fin 2), (![0, 128 * h.val] : Fin 2 → ℕ) a + (![64, 128] : Fin 2 → ℕ) a ≤ S64x1024.size a := by decide

/-! ## Values -/

/-- The block of values: a head's columns on its rows, then a row of ones and fifteen of zeros. -/
def valueAt (v : Fin 8 → Vec Ideal S256x128 .f32) (h : Fin 8) (r : Fin 144) (s : Fin 256) : EReal :=
  if hr : r.val < 128 then v h (ix2 s ⟨r.val, hr⟩) else if r.val = 128 then 1 else 0

theorem value_ones (v : Fin 8 → Vec Ideal S256x128 .f32) (h : Fin 8) (inb) (x : S1x1x16x256.Idx) :
    k0_pay16 (F := Ideal) k0_pay7 x
      = (fun y : S1x8x144x256.Idx => valueAt v (y 1) (y 2) (y 3)) ((Rect.unit (s := S1x8x144x256) ![0, h.val, 128, 0] ![1, 1, 16, 256] inb).emb x) := by
  have e1 : ((Rect.unit (s := S1x8x144x256) ![0, h.val, 128, 0] ![1, 1, 16, 256] inb).emb x 1).val = h.val + (x 1).val := Rect.idx_unit_val _ _ inb x 1
  have e2 : ((Rect.unit (s := S1x8x144x256) ![0, h.val, 128, 0] ![1, 1, 16, 256] inb).emb x 2).val = 128 + (x 2).val := Rect.idx_unit_val _ _ inb x 2
  have e := ones_at (x 3) (x 2)
  have h0 : @Eq (Fin 1) (x 0) 0 := Subsingleton.elim (α := Fin 1) _ _
  have h1 : @Eq (Fin 1) (x 1) 0 := Subsingleton.elim (α := Fin 1) _ _
  have ex : x = ix4 (0 : Fin 1) (0 : Fin 1) (x 2 : Fin 16) (x 3 : Fin 256) := by
    funext a
    match a with
    | ⟨0, _⟩ => exact h0
    | ⟨1, _⟩ => exact h1
    | ⟨2, _⟩ => rfl
    | ⟨3, _⟩ => rfl
  refine (congrArg (k0_pay16 (F := Ideal) k0_pay7) ex).trans (e.trans ?_)
  dsimp only
  unfold valueAt
  rw [dif_neg (by omega)]
  by_cases hx : (x 2).val = 0
  · rw [if_pos hx, if_pos (by omega)]
  · rw [if_neg hx, if_neg (by omega)]

theorem value_rows (v : Fin 8 → Vec Ideal S256x128 .f32) (h : Fin 8) (inb) (x : S1x1x128x256.Idx) :
    k0_pay15 (F := Ideal) (v h) x
      = (fun y : S1x8x144x256.Idx => valueAt v (y 1) (y 2) (y 3)) ((Rect.unit (s := S1x8x144x256) ![0, h.val, 0, 0] ![1, 1, 128, 256] inb).emb x) := by
  have e1 : ((Rect.unit (s := S1x8x144x256) ![0, h.val, 0, 0] ![1, 1, 128, 256] inb).emb x 1).val = h.val + (x 1).val := Rect.idx_unit_val _ _ inb x 1
  have e2 : ((Rect.unit (s := S1x8x144x256) ![0, h.val, 0, 0] ![1, 1, 128, 256] inb).emb x 2).val = 0 + (x 2).val := Rect.idx_unit_val _ _ inb x 2
  have e3 : ((Rect.unit (s := S1x8x144x256) ![0, h.val, 0, 0] ![1, 1, 128, 256] inb).emb x 3).val = 0 + (x 3).val := Rect.idx_unit_val _ _ inb x 3
  have e := val_at (v h) (x 3) (x 2)
  have h0 : @Eq (Fin 1) (x 0) 0 := Subsingleton.elim (α := Fin 1) _ _
  have h1 : @Eq (Fin 1) (x 1) 0 := Subsingleton.elim (α := Fin 1) _ _
  have l2 : (x 2 : Fin 128).val < 128 := (x 2).isLt
  have ex : x = ix4 (0 : Fin 1) (0 : Fin 1) (x 2 : Fin 128) (x 3 : Fin 256) := by
    funext a
    match a with
    | ⟨0, _⟩ => exact h0
    | ⟨1, _⟩ => exact h1
    | ⟨2, _⟩ => rfl
    | ⟨3, _⟩ => rfl
  have z1 : (x 1).val = 0 := congrArg Fin.val h1
  refine (congrArg (k0_pay15 (F := Ideal) (v h)) ex).trans (e.trans ?_)
  dsimp only
  unfold valueAt
  rw [dif_pos (by omega)]
  have f1 : ((Rect.unit (s := S1x8x144x256) ![0, h.val, 0, 0] ![1, 1, 128, 256] inb).emb x 1 : Fin 8) = h := Fin.ext (by omega)
  have f3 : ((Rect.unit (s := S1x8x144x256) ![0, h.val, 0, 0] ![1, 1, 128, 256] inb).emb x 3 : Fin 256) = x 3 := Fin.ext (by omega)
  rw [f1, f3]
  refine congrArg (v h) ?_
  funext a
  match a with
  | ⟨0, _⟩ => rfl
  | ⟨1, _⟩ => exact Fin.ext (e2.trans (Nat.zero_add _)).symm

theorem canon7 (v : Fin 8 → Vec Ideal S256x128 .f32) (y : S1x8x144x256.Idx) (hc : ∃ p ∈ stores7 v, y ∈ p.1.set) :
    View.canon (stores7 v) y = valueAt v (y 1) (y 2) (y 3) := by
  refine View.canon_apply_of_pieces (fun y : S1x8x144x256.Idx => valueAt v (y 1) (y 2) (y 3)) (stores7 v) (fun p hp x => ?_) y hc
  obtain ⟨h, _, hp⟩ := List.mem_flatMap.mp hp
  rcases List.mem_cons.mp hp with rfl | hp
  · exact value_ones v h (inb_ones h) x
  · obtain rfl := List.mem_singleton.mp hp
    exact value_rows v h (inb_value h) x

/-! ## Keys -/

section
variable (i : grid0.Coords) (cc ss : Vec Ideal S256x128 .f32)

/-- The block of keys: a head's turned keys, then the block's number among the lanes. -/
def keyAt (k : Fin 8 → Vec Ideal S256x128 .f32) (h : Fin 8) (s : Fin 256) (r : Fin 256) : EReal :=
  if hr : r.val < 128 then turned (fun d => k h (ix2 s d)) (fun d => cc (ix2 s d)) (fun d => ss (ix2 s d)) ⟨r.val, hr⟩
  else if r.val - 128 = (i 0).val then 1 else 0

theorem key_number (k : Fin 8 → Vec Ideal S256x128 .f32) (h : Fin 8) (inb) (x : S1x1x256x128.Idx) :
    k0_pay12 (F := Ideal) (k0_pay6 i) x
      = (fun y : S1x8x256x256.Idx => keyAt i cc ss k (y 1) (y 2) (y 3)) ((Rect.unit (s := S1x8x256x256) ![0, h.val, 0, 128] ![1, 1, 256, 128] inb).emb x) := by
  have e3 : ((Rect.unit (s := S1x8x256x256) ![0, h.val, 0, 128] ![1, 1, 256, 128] inb).emb x 3).val = 128 + (x 3).val := Rect.idx_unit_val _ _ inb x 3
  have e := number_at i (x 2) (x 3)
  have h0 : @Eq (Fin 1) (x 0) 0 := Subsingleton.elim (α := Fin 1) _ _
  have h1 : @Eq (Fin 1) (x 1) 0 := Subsingleton.elim (α := Fin 1) _ _
  have ex : x = ix4 (0 : Fin 1) (0 : Fin 1) (x 2 : Fin 256) (x 3 : Fin 128) := by
    funext a
    match a with
    | ⟨0, _⟩ => exact h0
    | ⟨1, _⟩ => exact h1
    | ⟨2, _⟩ => rfl
    | ⟨3, _⟩ => rfl
  refine (congrArg (k0_pay12 (F := Ideal) (k0_pay6 i)) ex).trans (e.trans ?_)
  dsimp only
  unfold keyAt
  rw [dif_neg (by omega)]
  by_cases hx : (x 3).val = (i 0).val
  · rw [if_pos hx, if_pos (by omega)]
  · rw [if_neg hx, if_neg (by omega)]

theorem key_rows (k : Fin 8 → Vec Ideal S256x128 .f32) (h : Fin 8) (inb) (x : S1x1x256x128.Idx) :
    k0_pay11 (F := Ideal) (k0_pay10 cc ss (k h)) x
      = (fun y : S1x8x256x256.Idx => keyAt i cc ss k (y 1) (y 2) (y 3)) ((Rect.unit (s := S1x8x256x256) ![0, h.val, 0, 0] ![1, 1, 256, 128] inb).emb x) := by
  have e1 : ((Rect.unit (s := S1x8x256x256) ![0, h.val, 0, 0] ![1, 1, 256, 128] inb).emb x 1).val = h.val + (x 1).val := Rect.idx_unit_val _ _ inb x 1
  have e2 : ((Rect.unit (s := S1x8x256x256) ![0, h.val, 0, 0] ![1, 1, 256, 128] inb).emb x 2).val = 0 + (x 2).val := Rect.idx_unit_val _ _ inb x 2
  have e3 : ((Rect.unit (s := S1x8x256x256) ![0, h.val, 0, 0] ![1, 1, 256, 128] inb).emb x 3).val = 0 + (x 3).val := Rect.idx_unit_val _ _ inb x 3
  have e := keys_at cc ss (k h) (x 2) (x 3)
  have h0 : @Eq (Fin 1) (x 0) 0 := Subsingleton.elim (α := Fin 1) _ _
  have h1 : @Eq (Fin 1) (x 1) 0 := Subsingleton.elim (α := Fin 1) _ _
  have l3 : (x 3 : Fin 128).val < 128 := (x 3).isLt
  have ex : x = ix4 (0 : Fin 1) (0 : Fin 1) (x 2 : Fin 256) (x 3 : Fin 128) := by
    funext a
    match a with
    | ⟨0, _⟩ => exact h0
    | ⟨1, _⟩ => exact h1
    | ⟨2, _⟩ => rfl
    | ⟨3, _⟩ => rfl
  have z1 : (x 1).val = 0 := congrArg Fin.val h1
  refine (congrArg (k0_pay11 (F := Ideal) (k0_pay10 cc ss (k h))) ex).trans (e.trans ?_)
  dsimp only
  unfold keyAt
  rw [dif_pos (by omega)]
  have f1 : ((Rect.unit (s := S1x8x256x256) ![0, h.val, 0, 0] ![1, 1, 256, 128] inb).emb x 1 : Fin 8) = h := Fin.ext (by omega)
  have f2 : ((Rect.unit (s := S1x8x256x256) ![0, h.val, 0, 0] ![1, 1, 256, 128] inb).emb x 2 : Fin 256) = x 2 := Fin.ext (by omega)
  rw [f1, f2]
  exact congrArg _ (Fin.ext (by dsimp only; omega))

theorem canon6 (k : Fin 8 → Vec Ideal S256x128 .f32) (y : S1x8x256x256.Idx) (hc : ∃ p ∈ stores6 i cc ss k, y ∈ p.1.set) :
    View.canon (stores6 i cc ss k) y = keyAt i cc ss k (y 1) (y 2) (y 3) := by
  refine View.canon_apply_of_pieces (fun y : S1x8x256x256.Idx => keyAt i cc ss k (y 1) (y 2) (y 3)) (stores6 i cc ss k) (fun p hp x => ?_) y hc
  obtain ⟨h, _, hp⟩ := List.mem_flatMap.mp hp
  rcases List.mem_cons.mp hp with rfl | hp
  · exact key_number i cc ss k h (inb_number h) x
  · obtain rfl := List.mem_singleton.mp hp
    exact key_rows i cc ss k h (inb_key h) x

/-! ## Queries -/

/-- The mask of a head's row over the blocks. -/
def maskAt (q : Vec Ideal S256x128 .f32) (km : Vec Ideal S64x128 .f32) (b : Fin 64) (s : Fin 256) : EReal :=
  let v := gateOf i km (turned (fun d => q (ix2 s d)) (fun d => cc (ix2 s d)) (fun d => ss (ix2 s d)))
  if 0 < (if b.val = (i 0).val then 1 else 0) + pick v b + pick (rest v) b + pick (rest (rest v)) b then 0 else ⊥

/-- The block of queries: a head's turned and scaled queries, then its mask, then zeros. -/
def queryAt (q : Fin 8 → Vec Ideal S256x128 .f32) (km : Fin 8 → Vec Ideal S64x128 .f32) (h : Fin 8) (r : Fin 256) (s : Fin 256) : EReal :=
  if hr : r.val < 128 then turned (fun d => q h (ix2 s d)) (fun d => cc (ix2 s d)) (fun d => ss (ix2 s d)) ⟨r.val, hr⟩ * scale
  else if hr' : r.val - 128 < 64 then maskAt i cc ss (q h) (km h) ⟨r.val - 128, hr'⟩ s else 0

theorem query_zeros (q : Fin 8 → Vec Ideal S256x128 .f32) (km : Fin 8 → Vec Ideal S64x128 .f32) (h : Fin 8) (inb) (x : S1x64x256.Idx) :
    k0_pay25 (F := Ideal) x
      = (fun y : S8x256x256.Idx => queryAt i cc ss q km (y 0) (y 1) (y 2)) ((Rect.unit (s := S8x256x256) ![h.val, 192, 0] ![1, 64, 256] inb).emb x) := by
  have e1 : ((Rect.unit (s := S8x256x256) ![h.val, 192, 0] ![1, 64, 256] inb).emb x 1).val = 192 + (x 1).val := Rect.idx_unit_val _ _ inb x 1
  have e := zeros_at (x 1) (x 2)
  have h0 : @Eq (Fin 1) (x 0) 0 := Subsingleton.elim (α := Fin 1) _ _
  have ex : x = ix3 (0 : Fin 1) (x 1 : Fin 64) (x 2 : Fin 256) := by
    funext a
    match a with
    | ⟨0, _⟩ => exact h0
    | ⟨1, _⟩ => rfl
    | ⟨2, _⟩ => rfl
  refine (congrArg (k0_pay25 (F := Ideal)) ex).trans (e.trans ?_)
  dsimp only
  unfold queryAt
  rw [dif_neg (by omega), dif_neg (by omega)]

theorem query_mask (q : Fin 8 → Vec Ideal S256x128 .f32) (km : Fin 8 → Vec Ideal S64x128 .f32) (h : Fin 8) (inb) (x : S1x64x256.Idx) :
    maskOf i cc ss (q h) (km h) x
      = (fun y : S8x256x256.Idx => queryAt i cc ss q km (y 0) (y 1) (y 2)) ((Rect.unit (s := S8x256x256) ![h.val, 128, 0] ![1, 64, 256] inb).emb x) := by
  have e0 : ((Rect.unit (s := S8x256x256) ![h.val, 128, 0] ![1, 64, 256] inb).emb x 0).val = h.val + (x 0).val := Rect.idx_unit_val _ _ inb x 0
  have e1 : ((Rect.unit (s := S8x256x256) ![h.val, 128, 0] ![1, 64, 256] inb).emb x 1).val = 128 + (x 1).val := Rect.idx_unit_val _ _ inb x 1
  have e2 : ((Rect.unit (s := S8x256x256) ![h.val, 128, 0] ![1, 64, 256] inb).emb x 2).val = 0 + (x 2).val := Rect.idx_unit_val _ _ inb x 2
  have e := mask_at i cc ss (q h) (km h) (x 1) (x 2)
  have h0 : @Eq (Fin 1) (x 0) 0 := Subsingleton.elim (α := Fin 1) _ _
  have l1 : (x 1 : Fin 64).val < 64 := (x 1).isLt
  have ex : x = ix3 (0 : Fin 1) (x 1 : Fin 64) (x 2 : Fin 256) := by
    funext a
    match a with
    | ⟨0, _⟩ => exact h0
    | ⟨1, _⟩ => rfl
    | ⟨2, _⟩ => rfl
  have z0 : (x 0).val = 0 := congrArg Fin.val h0
  refine (congrArg (maskOf i cc ss (q h) (km h)) ex).trans (e.trans ?_)
  dsimp only
  unfold queryAt
  rw [dif_neg (by omega), dif_pos (by omega)]
  have f0 : ((Rect.unit (s := S8x256x256) ![h.val, 128, 0] ![1, 64, 256] inb).emb x 0 : Fin 8) = h := Fin.ext (by omega)
  have f2 : ((Rect.unit (s := S8x256x256) ![h.val, 128, 0] ![1, 64, 256] inb).emb x 2 : Fin 256) = x 2 := Fin.ext (by omega)
  rw [f0, f2]
  exact congrArg (fun b => maskAt i cc ss (q h) (km h) b (x 2)) (Fin.ext (by dsimp only; omega))

theorem query_rows (q : Fin 8 → Vec Ideal S256x128 .f32) (km : Fin 8 → Vec Ideal S64x128 .f32) (h : Fin 8) (inb) (x : S1x128x256.Idx) :
    k0_pay14 (F := Ideal) (k0_pay8 cc ss (q h)) x
      = (fun y : S8x256x256.Idx => queryAt i cc ss q km (y 0) (y 1) (y 2)) ((Rect.unit (s := S8x256x256) ![h.val, 0, 0] ![1, 128, 256] inb).emb x) := by
  have e0 : ((Rect.unit (s := S8x256x256) ![h.val, 0, 0] ![1, 128, 256] inb).emb x 0).val = h.val + (x 0).val := Rect.idx_unit_val _ _ inb x 0
  have e1 : ((Rect.unit (s := S8x256x256) ![h.val, 0, 0] ![1, 128, 256] inb).emb x 1).val = 0 + (x 1).val := Rect.idx_unit_val _ _ inb x 1
  have e2 : ((Rect.unit (s := S8x256x256) ![h.val, 0, 0] ![1, 128, 256] inb).emb x 2).val = 0 + (x 2).val := Rect.idx_unit_val _ _ inb x 2
  have e := scaled_at cc ss (q h) (x 2) (x 1)
  have h0 : @Eq (Fin 1) (x 0) 0 := Subsingleton.elim (α := Fin 1) _ _
  have l1 : (x 1 : Fin 128).val < 128 := (x 1).isLt
  have ex : x = ix3 (0 : Fin 1) (x 1 : Fin 128) (x 2 : Fin 256) := by
    funext a
    match a with
    | ⟨0, _⟩ => exact h0
    | ⟨1, _⟩ => rfl
    | ⟨2, _⟩ => rfl
  have z0 : (x 0).val = 0 := congrArg Fin.val h0
  refine (congrArg (k0_pay14 (F := Ideal) (k0_pay8 cc ss (q h))) ex).trans (e.trans ?_)
  dsimp only
  unfold queryAt
  rw [dif_pos (by omega)]
  have f0 : ((Rect.unit (s := S8x256x256) ![h.val, 0, 0] ![1, 128, 256] inb).emb x 0 : Fin 8) = h := Fin.ext (by omega)
  have f2 : ((Rect.unit (s := S8x256x256) ![h.val, 0, 0] ![1, 128, 256] inb).emb x 2 : Fin 256) = x 2 := Fin.ext (by omega)
  rw [f0, f2]
  exact congrArg (fun d => turned (fun d => q h (ix2 (x 2) d)) (fun d => cc (ix2 (x 2) d)) (fun d => ss (ix2 (x 2) d)) d * scale)
    (Fin.ext (by dsimp only; omega))

theorem canon5 (q : Fin 8 → Vec Ideal S256x128 .f32) (km : Fin 8 → Vec Ideal S64x128 .f32) (y : S8x256x256.Idx)
    (hc : ∃ p ∈ stores5 i cc ss q km, y ∈ p.1.set) :
    View.canon (stores5 i cc ss q km) y = queryAt i cc ss q km (y 0) (y 1) (y 2) := by
  refine View.canon_apply_of_pieces (fun y : S8x256x256.Idx => queryAt i cc ss q km (y 0) (y 1) (y 2)) (stores5 i cc ss q km) (fun p hp x => ?_) y hc
  obtain ⟨h, _, hp⟩ := List.mem_flatMap.mp hp
  rcases List.mem_cons.mp hp with rfl | hp
  · exact query_zeros i cc ss q km h (inb_zeros h) x
  · rcases List.mem_cons.mp hp with rfl | hp
    · exact query_mask i cc ss q km h (inb_mask h) x
    · obtain rfl := List.mem_singleton.mp hp
      exact query_rows i cc ss q km h (inb_query h) x

/-! ## The scratch -/

/-- The column of a head's lane among all of them. -/
def column (h : Fin 8) (d : Fin 128) : Fin 1024 := ⟨128 * h.val + d.val, by omega⟩

/-- What a list of stores leaves at a head's lane does not depend on the stores into other heads. -/
theorem canon_km (k : Fin 8 → Vec Ideal S256x128 .f32) (old : Fin 8 → Vec Ideal S64x128 .f32) (tl : List (View.Piece (Elt Ideal) S64x1024 .f32))
    (h : Fin 8) (b : Fin 64) (d : Fin 128) : ∀ l : List (Fin 8), h ∈ l →
      View.canon (l.map (fun h => (⟨kmColsOf h, meansOf i cc ss (k h) (old h)⟩ : View.Piece (Elt Ideal) S64x1024 .f32)) ++ tl) (ix2 b (column h d))
        = meansOf i cc ss (k h) (old h) (ix2 b d)
  | [], hh => absurd hh List.not_mem_nil
  | g :: l, hh => by
    by_cases e : g = h
    · subst e
      have ex : (ix2 b (column g d) : S64x1024.Idx) = (kmColsOf g).emb (ix2 b d : S64x128.Idx) := by
        have e0 : ((kmColsOf g).emb (ix2 b d : S64x128.Idx) (0 : Fin 2)).val = 0 + b.val :=
          Rect.idx_unit_val (s := S64x1024) ![0, 128 * g.val] ![64, 128] (inb_km g) (ix2 b d : S64x128.Idx) (0 : Fin 2)
        have e1 : ((kmColsOf g).emb (ix2 b d : S64x128.Idx) (1 : Fin 2)).val = 128 * g.val + d.val :=
          Rect.idx_unit_val (s := S64x1024) ![0, 128 * g.val] ![64, 128] (inb_km g) (ix2 b d : S64x128.Idx) (1 : Fin 2)
        funext a
        match a with
        | ⟨0, _⟩ => exact Fin.ext (e0.trans (Nat.zero_add _)).symm
        | ⟨1, _⟩ => exact Fin.ext e1.symm
      rw [ex]
      exact View.canon_cons_emb _ _ _ _
    · rw [List.map_cons, List.cons_append, View.canon_cons_of_not_mem]
      · exact canon_km k old tl h b d l ((List.mem_cons.mp hh).resolve_left fun h' => e h'.symm)
      · intro hm
        have hm := (Rect.mem_set_unit (s := S64x1024) (off := ![0, 128 * g.val]) (size := ![64, 128]) (inb := inb_km g)).mp hm (1 : Fin 2)
        have h1 : 128 * g.val ≤ 128 * h.val + d.val := hm.1
        have h2 : 128 * h.val + d.val < 128 * g.val + 128 := hm.2
        exact e (Fin.ext (by omega))

end

end Cert.KernelPrepIdeal.Prep

end
-- ==== Proof.Prep.Points.lean ====
/- One point of the preparation: what it leaves, from what its blocks hold and what the point before left in the scratch. -/
module

public import proofs.«01_k».proof.Proof.Prep.Blocks

@[expose] public section

set_option maxRecDepth 65536
set_option Elab.async false

noncomputable section

namespace Cert.KernelPrepIdeal.Prep

open Cert.KernelPrepIdeal Cert.KernelPrepIdeal.Gen Cert.KernelPrepIdeal.Value Cert.Prep
open Idealize.ShloMosaic Idealize.ShloMosaic.TcCoe Idealize.SL.Sem
open Idealize.ShloMosaic.Pipeline (Dat Cfg Window)

/-! ## The loads -/

/-- A head's columns of a block of rows. -/
def cols (x : Vec Ideal S256x1024 .f32) (h : Fin 8) : Vec Ideal S256x128 .f32 := fun y => x (ix2 (y 0 : Fin 256) (column h (y 1 : Fin 128)))
/-- A head's columns of the scratch. -/
def kmCols (x : Vec Ideal S64x1024 .f32) (h : Fin 8) : Vec Ideal S64x128 .f32 := fun y => x (ix2 (y 0 : Fin 64) (column h (y 1 : Fin 128)))

theorem inb_cols : ∀ (h : Fin 8) (a : Fin 2), (![0, 128 * h.val] : Fin 2 → ℕ) a + (![256, 128] : Fin 2 → ℕ) a ≤ S256x1024.size a := by decide
theorem inb_table : ∀ (a : Fin 2), (![0, 0] : Fin 2 → ℕ) a + (![256, 128] : Fin 2 → ℕ) a ≤ S256x128.size a := by decide

theorem load_eq (a : Memref sig .tc .vmem S256x1024 .f32) (ha : a.IsWhole) (x : Vec Ideal S256x1024 .f32) : load a ha x = cols x := by
  funext h y
  unfold load
  rw [View.readAt_eq_ld, ha.read_unread]
  refine View.ld_unit_apply_of x ![0, 128 * h.val] ![256, 128] (inb_cols h) y (ix2 (y 0 : Fin 256) (column h (y 1 : Fin 128))) fun a => ?_
  match a with
  | ⟨0, _⟩ => exact (Nat.zero_add _).symm
  | ⟨1, _⟩ => rfl

theorem loadKm_eq (a : Memref sig .tc .vmem S64x1024 .f32) (ha : a.IsWhole) (x : Vec Ideal S64x1024 .f32) : loadKm a ha x = kmCols x := by
  funext h y
  unfold loadKm
  rw [View.readAt_eq_ld, ha.read_unread]
  refine View.ld_unit_apply_of x ![0, 128 * h.val] ![64, 128] (inb_km h) y (ix2 (y 0 : Fin 64) (column h (y 1 : Fin 128))) fun a => ?_
  match a with
  | ⟨0, _⟩ => exact (Nat.zero_add _).symm
  | ⟨1, _⟩ => rfl

theorem loadTable_eq (a : Memref sig .tc .vmem S256x128 .f32) (ha : a.IsWhole) (x : Vec Ideal S256x128 .f32) : loadTable a ha x = x := by
  funext y
  unfold loadTable
  rw [View.readAt_eq_ld, ha.read_unread]
  refine View.ld_unit_apply_of x ![0, 0] ![256, 128] inb_table y y fun a => ?_
  match a with
  | ⟨0, _⟩ => exact (Nat.zero_add _).symm
  | ⟨1, _⟩ => exact (Nat.zero_add _).symm

theorem mem_drop : ∀ h : Fin 8, h ∈ heads.drop (7 - h.val) := by decide

theorem loadAfter_eq (i : grid0.Coords) (cc ss : Vec Ideal S256x128 .f32) (a : Memref sig .tc .vmem S64x1024 .f32)
    (k : Fin 8 → Vec Ideal S256x128 .f32) (old : Fin 8 → Vec Ideal S64x128 .f32) (tl : List (View.Piece (Elt Ideal) S64x1024 .f32)) :
    loadAfter a (storesKm i cc ss k old ++ tl) = fun h => meansOf i cc ss (k h) (old h) := by
  funext h y
  unfold loadAfter
  rw [View.readCov_eq_canon']
  have e : ((kmColsOf h).toLoadRect.idx y : S64x1024.Idx) = ix2 (y 0 : Fin 64) (column h (y 1 : Fin 128)) := by
    have e0 : ((kmColsOf h).idx y (0 : Fin 2)).val = 0 + (y 0).val :=
      Rect.idx_unit_val (s := S64x1024) ![0, 128 * h.val] ![64, 128] (inb_km h) y (0 : Fin 2)
    have e1 : ((kmColsOf h).idx y (1 : Fin 2)).val = 128 * h.val + (y 1).val :=
      Rect.idx_unit_val (s := S64x1024) ![0, 128 * h.val] ![64, 128] (inb_km h) y (1 : Fin 2)
    funext a
    match a with
    | ⟨0, _⟩ => exact Fin.ext (e0.trans (Nat.zero_add _))
    | ⟨1, _⟩ => exact Fin.ext e1
  have d : (storesKm i cc ss k old ++ tl).drop (7 - h.val)
      = (heads.drop (7 - h.val)).map (fun h => (⟨kmColsOf h, meansOf i cc ss (k h) (old h)⟩ : View.Piece (Elt Ideal) S64x1024 .f32)) ++ tl := by
    unfold storesKm
    rw [List.drop_append_of_le_length (by rw [List.length_map]; show 7 - h.val ≤ 8; omega), ← List.map_drop]
  dsimp only
  rw [d, e]
  refine (canon_km i cc ss k old tl h (y 0) (y 1) _ (mem_drop h)).trans ?_
  refine congrArg (meansOf i cc ss (k h) (old h)) ?_
  funext a
  match a with
  | ⟨0, _⟩ => rfl
  | ⟨1, _⟩ => rfl

/-! ## The two cases -/

section
variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S8x256x256 .bf16) (harg6 : arg6.IsWhole) (arg7 : Memref sig .tc .vmem S1x8x256x256 .bf16) (harg7 : arg7.IsWhole) (arg8 : Memref sig .tc .vmem S1x8x144x256 .bf16) (harg8 : arg8.IsWhole) (arg9 : Memref sig .tc .vmem S64x1024 .f32) (harg9 : arg9.IsWhole)
  (x0 x1 x2 : Vec Ideal S256x1024 .f32) (x3 x4 : Vec Ideal S256x128 .f32) (xs0 : Vec Ideal S64x1024 .f32)

/-- What a point leaves: the three blocks and the scratch, over what the scratch's columns held. -/
def Leaves (old : Fin 8 → Vec Ideal S64x128 .f32) (o5 : S8x256x256.Idx → EReal) (o6 : S1x8x256x256.Idx → EReal)
    (o7 : S1x8x144x256.Idx → EReal) (sc : S64x1024.Idx → EReal) : Prop :=
  (∀ y, o5 y = queryAt i x3 x4 (cols x0) (fun h => meansOf i x3 x4 (cols x1 h) (old h)) (y 0) (y 1) (y 2))
  ∧ (∀ y, o6 y = keyAt i x3 x4 (cols x1) (y 1) (y 2) (y 3))
  ∧ (∀ y, o7 y = valueAt (cols x2) (y 1) (y 2) (y 3))
  ∧ ∀ (b : Fin 64) (h : Fin 8) (d : Fin 128), sc (ix2 b (column h d)) = meansOf i x3 x4 (cols x1 h) (old h) (ix2 b d)

theorem leavesB (hc0 : ¬cond0_0 i) : Leaves i x0 x1 x2 x3 x4 (kmCols xs0)
    (out0_B_5 (F := Ideal) c i arg1 harg1 arg2 harg2 arg3 harg3 arg4 harg4 arg5 harg5 arg6 harg6 arg7 harg7 arg8 harg8 arg9 harg9 hc0 x0 x1 x2 x3 x4 xs0)
    (out0_B_6 (F := Ideal) c i arg1 harg1 arg2 harg2 arg3 harg3 arg4 harg4 arg5 harg5 arg6 harg6 arg7 harg7 arg8 harg8 arg9 harg9 hc0 x0 x1 x2 x3 x4 xs0)
    (out0_B_7 (F := Ideal) c i arg1 harg1 arg2 harg2 arg3 harg3 arg4 harg4 arg5 harg5 arg6 harg6 arg7 harg7 arg8 harg8 arg9 harg9 hc0 x0 x1 x2 x3 x4 xs0)
    (sout0_B_0 (F := Ideal) c i arg1 harg1 arg2 harg2 arg3 harg3 arg4 harg4 arg5 harg5 arg6 harg6 arg7 harg7 arg8 harg8 arg9 harg9 hc0 x0 x1 x2 x3 x4 xs0) := by
  have q := queriesB c i arg1 harg1 arg2 harg2 arg3 harg3 arg4 harg4 arg5 harg5 arg6 harg6 arg7 harg7 arg8 harg8 arg9 harg9 x0 x1 x2 x3 x4 xs0 hc0
  have k := keysB c i arg1 harg1 arg2 harg2 arg3 harg3 arg4 harg4 arg5 harg5 arg6 harg6 arg7 harg7 arg8 harg8 arg9 harg9 x0 x1 x2 x3 x4 xs0 hc0
  have v := valB c i arg1 harg1 arg2 harg2 arg3 harg3 arg4 harg4 arg5 harg5 arg6 harg6 arg7 harg7 arg8 harg8 arg9 harg9 x0 x1 x2 x3 x4 xs0 hc0
  have w := kmB c i arg1 harg1 arg2 harg2 arg3 harg3 arg4 harg4 arg5 harg5 arg6 harg6 arg7 harg7 arg8 harg8 arg9 harg9 x0 x1 x2 x3 x4 xs0 hc0
  rw [← List.append_nil (storesKm i (loadTable arg4 harg4 x3) (loadTable arg5 harg5 x4) (load arg2 harg2 x1) (loadKm arg9 harg9 xs0)),
    loadAfter_eq] at q
  simp only [load_eq, loadTable_eq, loadKm_eq] at q k v w
  have c5 := cover0_B_5 (F := Ideal) c i arg1 harg1 arg2 harg2 arg3 harg3 arg4 harg4 arg5 harg5 arg6 harg6 arg7 harg7 arg8 harg8 arg9 harg9 hc0 x0 x1 x2 x3 x4 xs0
  have c6 := cover0_B_6 (F := Ideal) c i arg1 harg1 arg2 harg2 arg3 harg3 arg4 harg4 arg5 harg5 arg6 harg6 arg7 harg7 arg8 harg8 arg9 harg9 hc0 x0 x1 x2 x3 x4 xs0
  have c7 := cover0_B_7 (F := Ideal) c i arg1 harg1 arg2 harg2 arg3 harg3 arg4 harg4 arg5 harg5 arg6 harg6 arg7 harg7 arg8 harg8 arg9 harg9 hc0 x0 x1 x2 x3 x4 xs0
  rw [q] at c5
  rw [k] at c6
  rw [v] at c7
  refine ⟨fun y => ?_, fun y => ?_, fun y => ?_, fun b h d => ?_⟩
  · unfold out0_B_5
    rw [View.read_writes_junk_eq_canon, q]
    exact canon5 i x3 x4 _ _ y (c5 y)
  · unfold out0_B_6
    rw [View.read_writes_junk_eq_canon, k]
    exact canon6 i x3 x4 _ y (c6 y)
  · unfold out0_B_7
    rw [View.read_writes_junk_eq_canon, v]
    exact canon7 _ y (c7 y)
  · unfold sout0_B_0
    rw [View.read_writes_junk_eq_canon, w, ← List.append_nil (storesKm _ _ _ _ _)]
    exact canon_km i x3 x4 (cols x1) (kmCols xs0) [] h b d heads (mem_heads h)

theorem leavesA (hc0 : cond0_0 i) : ∃ old, Leaves i x0 x1 x2 x3 x4 old
    (out0_A_5 (F := Ideal) c i arg1 harg1 arg2 harg2 arg3 harg3 arg4 harg4 arg5 harg5 arg6 harg6 arg7 harg7 arg8 harg8 arg9 harg9 hc0 x0 x1 x2 x3 x4)
    (out0_A_6 (F := Ideal) c i arg1 harg1 arg2 harg2 arg3 harg3 arg4 harg4 arg5 harg5 arg6 harg6 arg7 harg7 arg8 harg8 arg9 harg9 hc0 x0 x1 x2 x3 x4)
    (out0_A_7 (F := Ideal) c i arg1 harg1 arg2 harg2 arg3 harg3 arg4 harg4 arg5 harg5 arg6 harg6 arg7 harg7 arg8 harg8 arg9 harg9 hc0 x0 x1 x2 x3 x4)
    (sout0_A_0 (F := Ideal) c i arg1 harg1 arg2 harg2 arg3 harg3 arg4 harg4 arg5 harg5 arg6 harg6 arg7 harg7 arg8 harg8 arg9 harg9 hc0 x0 x1 x2 x3 x4) := by
  obtain ⟨old, w, q⟩ := queriesA c i arg1 harg1 arg2 harg2 arg3 harg3 arg4 harg4 arg5 harg5 arg6 harg6 arg7 harg7 arg8 harg8 arg9 harg9 x0 x1 x2 x3 x4 hc0
  have k := keysA c i arg1 harg1 arg2 harg2 arg3 harg3 arg4 harg4 arg5 harg5 arg6 harg6 arg7 harg7 arg8 harg8 arg9 harg9 x0 x1 x2 x3 x4 hc0
  have v := valA c i arg1 harg1 arg2 harg2 arg3 harg3 arg4 harg4 arg5 harg5 arg6 harg6 arg7 harg7 arg8 harg8 arg9 harg9 x0 x1 x2 x3 x4 hc0
  rw [loadAfter_eq] at q
  simp only [load_eq, loadTable_eq] at q k v w
  have c5 := cover0_A_5 (F := Ideal) c i arg1 harg1 arg2 harg2 arg3 harg3 arg4 harg4 arg5 harg5 arg6 harg6 arg7 harg7 arg8 harg8 arg9 harg9 hc0 x0 x1 x2 x3 x4
  have c6 := cover0_A_6 (F := Ideal) c i arg1 harg1 arg2 harg2 arg3 harg3 arg4 harg4 arg5 harg5 arg6 harg6 arg7 harg7 arg8 harg8 arg9 harg9 hc0 x0 x1 x2 x3 x4
  have c7 := cover0_A_7 (F := Ideal) c i arg1 harg1 arg2 harg2 arg3 harg3 arg4 harg4 arg5 harg5 arg6 harg6 arg7 harg7 arg8 harg8 arg9 harg9 hc0 x0 x1 x2 x3 x4
  rw [q] at c5
  rw [k] at c6
  rw [v] at c7
  refine ⟨old, fun y => ?_, fun y => ?_, fun y => ?_, fun b h d => ?_⟩
  · unfold out0_A_5
    rw [View.read_writes_junk_eq_canon, q]
    exact canon5 i x3 x4 _ _ y (c5 y)
  · unfold out0_A_6
    rw [View.read_writes_junk_eq_canon, k]
    exact canon6 i x3 x4 _ y (c6 y)
  · unfold out0_A_7
    rw [View.read_writes_junk_eq_canon, v]
    exact canon7 _ y (c7 y)
  · unfold sout0_A_0
    rw [View.read_writes_junk_eq_canon, w]
    exact canon_km i x3 x4 (cols x1) old _ h b d heads (mem_heads h)

end

end Cert.KernelPrepIdeal.Prep

end
-- ==== Proof.Prep.Spec.lean ====
/- The preparation of the block attention, entry by entry, from the projection and the two rotary tables. -/
module

public import proofs.«01_k».proof.Proof.Prep.Turn
public import proofs.«01_k».proof.Proof.Prep.Rounds
public import proofs.«01_k».proof.Proof.OutProj.Row
public import Idealize.ShloMosaic.Lib.Pointwise

@[expose] public section

set_option Elab.async false

noncomputable section

namespace Cert.Prep

open Idealize.ShloMosaic
open Cert.OutProj (IsReal)

/-- A row of a block among all rows. -/
def rowOf (n : Fin 64) (s : Fin 256) : Fin 16384 := ⟨n.val * 256 + s.val, by omega⟩
/-- A head's lane among the columns of the queries, of the keys and of the values. -/
def qCol (h : Fin 8) (d : Fin 128) : Fin 3072 := ⟨h.val * 128 + d.val, by omega⟩
def kCol (h : Fin 8) (d : Fin 128) : Fin 3072 := ⟨1024 + (h.val * 128 + d.val), by omega⟩
def vCol (h : Fin 8) (d : Fin 128) : Fin 3072 := ⟨2048 + (h.val * 128 + d.val), by omega⟩

section
variable (P : (⟨2, ![16384, 3072]⟩ : Shape).Idx → EReal) (C S : (⟨2, ![16384, 128]⟩ : Shape).Idx → EReal)

/-- A turned query. -/
def qAt (n : Fin 64) (s : Fin 256) (h : Fin 8) (d : Fin 128) : EReal :=
  turned (fun d => P (ix2 (rowOf n s) (qCol h d))) (fun d => C (ix2 (rowOf n s) d)) (fun d => S (ix2 (rowOf n s) d)) d
/-- A turned key. -/
def kAt (n : Fin 64) (s : Fin 256) (h : Fin 8) (d : Fin 128) : EReal :=
  turned (fun d => P (ix2 (rowOf n s) (kCol h d))) (fun d => C (ix2 (rowOf n s) d)) (fun d => S (ix2 (rowOf n s) d)) d
/-- A block's mean key. -/
def meanAt (n : Fin 64) (h : Fin 8) (d : Fin 128) : EReal := Ideal.div (∑ s : Fin 256, kAt P C S n s h d) ((256 : ℝ) : EReal)
/-- A query's gate over the blocks before its own. -/
def gateAt (n : Fin 64) (s : Fin 256) (h : Fin 8) (b : Fin 64) : EReal :=
  if b < n then ∑ d : Fin 128, meanAt P C S b h d * qAt P C S n s h d else ⊥

open Classical in
/-- The queries' result: scaled queries, the mask, zeros. -/
def qaAt (h : Fin 8) (r : Fin 256) (n : Fin 64) (s : Fin 256) : EReal :=
  if hr : r.val < 128 then qAt P C S n s h ⟨r.val, hr⟩ * scale
  else if hr' : r.val - 128 < 64 then (if Attends (gateAt P C S n s h) n ⟨r.val - 128, hr'⟩ then 0 else ⊥) else 0
/-- The keys' result: keys, the block's number among the lanes. -/
def kaAt (n : Fin 64) (h : Fin 8) (s r : Fin 256) : EReal :=
  if hr : r.val < 128 then kAt P C S n s h ⟨r.val, hr⟩ else if r.val - 128 = n.val then 1 else 0
/-- The values' result: values, a row of ones, rows of zeros. -/
def vaAt (n : Fin 64) (h : Fin 8) (r : Fin 144) (s : Fin 256) : EReal :=
  if hr : r.val < 128 then P (ix2 (rowOf n s) (vCol h ⟨r.val, hr⟩)) else if r.val = 128 then 1 else 0

/-- With real entries the gate is bottom at just the blocks that do not come before. -/
theorem gate_upTo (hP : ∀ y, IsReal (P y)) (hC : ∀ y, IsReal (C y)) (hS : ∀ y, IsReal (S y)) (n : Fin 64) (s : Fin 256) (h : Fin 8) :
    UpTo (gateAt P C S n s h) n := by
  have ht : ∀ x c t : Fin 128 → EReal, (∀ d, IsReal (x d)) → (∀ d, IsReal (c d)) → (∀ d, IsReal (t d)) → ∀ d, IsReal (turned x c t d) :=
    fun x c t hx hc ht d => ((hx d).mul (hc d)).add ((hx (flip d)).mul (ht d))
  have hq : ∀ d, IsReal (qAt P C S n s h d) := ht _ _ _ (fun _ => hP _) (fun _ => hC _) fun _ => hS _
  have hm : ∀ b d, IsReal (meanAt P C S b h d) := fun b d => by
    have hs : IsReal (∑ s : Fin 256, kAt P C S b s h d) := IsReal.sum fun s => ht _ _ _ (fun _ => hP _) (fun _ => hC _) (fun _ => hS _) d
    obtain ⟨x, hx⟩ := hs
    unfold meanAt
    rw [hx]
    exact ⟨x / 256, Cert.OutProj.div_coe _ _ (by norm_num)⟩
  intro b
  unfold gateAt
  by_cases hb : b < n
  · rw [if_pos hb]
    obtain ⟨x, hx⟩ := IsReal.sum (f := fun d : Fin 128 => meanAt P C S b h d * qAt P C S n s h d) fun d => (hm b d).mul (hq d)
    rw [hx]
    exact ⟨fun _ => hb, fun _ => EReal.coe_ne_bot x⟩
  · rw [if_neg hb]
    exact ⟨fun h => absurd rfl h, fun h => absurd h hb⟩

end

end Cert.Prep

end
-- ==== Proof.Prep.Sweep.lean ====
/- All points of the preparation: the scratch fills with mean keys, and each point's blocks follow. -/
module

public import proofs.«01_k».proof.Proof.Prep.Points
public import proofs.«01_k».proof.Proof.Prep.Spec

@[expose] public section

set_option maxRecDepth 65536
set_option Elab.async false

noncomputable section

namespace Cert.KernelPrepIdeal.Prep

open Cert.KernelPrepIdeal Cert.KernelPrepIdeal.Gen Cert.KernelPrepIdeal.Value Cert.Prep
open Idealize.ShloMosaic Idealize.ShloMosaic.TcCoe Idealize.SL.Sem
open Idealize.ShloMosaic.Pipeline (Dat Cfg Window)

/-! ## All points -/

theorem leaves_of_eq {i : grid0.Coords} {x0 x1 x2 : Vec Ideal S256x1024 .f32} {x3 x4 : Vec Ideal S256x128 .f32}
    {old : Fin 8 → Vec Ideal S64x128 .f32} {o5 : S8x256x256.Idx → EReal} {o6 : S1x8x256x256.Idx → EReal} {o7 : S1x8x144x256.Idx → EReal}
    {sc : S64x1024.Idx → EReal}
    {o : (S8x256x256.Idx → EReal) × (S1x8x256x256.Idx → EReal) × (S1x8x144x256.Idx → EReal) × (S64x1024.Idx → EReal)}
    (e : o = (o5, o6, o7, sc)) (h : Leaves i x0 x1 x2 x3 x4 old o5 o6 o7 sc) : Leaves i x0 x1 x2 x3 x4 old o.1 o.2.1 o.2.2.1 o.2.2.2 := by
  subst e
  exact h

variable (m : (ℓ : Loc nD τ sig) → Buf (Elt Ideal) ℓ) (c : Dev nD)

/-- What the point `t` leaves. -/
def LeavesAt (t : Fin cfg0.N) (old : Fin 8 → Vec Ideal S64x128 .f32) : Prop :=
  Leaves (grid0.coords t) (iblk m c 0 t) (iblk m c 1 t) (iblk m c 2 t) (iblk m c 3 t) (iblk m c 4 t) old
    (outsAt0 m c t.val t.isLt).1 (outsAt0 m c t.val t.isLt).2.1 (outsAt0 m c t.val t.isLt).2.2.1 (outsAt0 m c t.val t.isLt).2.2.2

theorem leaves_first (t : Fin cfg0.N) (h0 : t.val % 64 = 0) : ∃ old, LeavesAt m c t old := by
  unfold LeavesAt
  obtain ⟨old, h⟩ := leavesA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) ((hcond0_0 t).mpr h0)
  exact ⟨old, leaves_of_eq (outsAt0_A m c t h0) h⟩

theorem leaves_next (t : Fin cfg0.N) (h0 : ¬t.val % 64 = 0) :
    LeavesAt m c t (kmCols (outsAt0 m c (t.val - 1) (Nat.lt_of_le_of_lt (Nat.sub_le _ _) t.isLt)).2.2.2) := by
  unfold LeavesAt
  have h := leavesB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t)
    (outsAt0 m c (t.val - 1) (Nat.lt_of_le_of_lt (Nat.sub_le _ _) t.isLt)).2.2.2 (fun h => h0 ((hcond0_0 t).mp h))
  exact leaves_of_eq (outsAt0_B m c t h0) h

/-! ## The blocks -/

/-- The block of rows that a point works on. -/
def blockOf (t : Fin cfg0.N) : Fin 64 := ⟨t.val, t.isLt⟩

theorem index0 (t : Fin grid0.N) : cc0_transform_0 (grid0.coords t) = ![t.val, 0] := by revert t; decide +kernel
theorem index1 (t : Fin grid0.N) : cc0_transform_1 (grid0.coords t) = ![t.val, 1] := by revert t; decide +kernel
theorem index2 (t : Fin grid0.N) : cc0_transform_2 (grid0.coords t) = ![t.val, 2] := by revert t; decide +kernel
theorem index3 (t : Fin grid0.N) : cc0_transform_3 (grid0.coords t) = ![t.val, 0] := by revert t; decide +kernel
theorem index4 (t : Fin grid0.N) : cc0_transform_4 (grid0.coords t) = ![t.val, 0] := by revert t; decide +kernel
theorem coord (t : Fin grid0.N) : (grid0.coords t 0).val = t.val := by revert t; decide +kernel

theorem query_block (t : Fin cfg0.N) (r : Fin 256) (h : Fin 8) (d : Fin 128) :
    cols (iblk m c 0 t) h (ix2 r d) = m ((c : Thread nD τ).loc main_arg0) (ix2 (rowOf (blockOf t) r) (qCol h d)) := by
  show iblk m c 0 t (ix2 r (column h d)) = _
  rw [← V_main_arg0 m c]
  unfold iblk
  rw [View.read_apply]
  show V m c (Pipeline.arrRef spec0 0) _ = V m c (Pipeline.arrRef spec0 0) _
  congr 1
  funext a
  apply Fin.ext
  match a with
  | ⟨0, _⟩ =>
    refine (Window.rect_emb_val (cfg0.win (0 : Fin 8)) t (ix2 r (column h d)) (0 : Fin 2)).trans ?_
    show cc0_transform_0 (grid0.coords t) 0 * 256 + r.val = t.val * 256 + r.val
    rw [index0]; rfl
  | ⟨1, _⟩ =>
    refine (Window.rect_emb_val (cfg0.win (0 : Fin 8)) t (ix2 r (column h d)) (1 : Fin 2)).trans ?_
    show cc0_transform_0 (grid0.coords t) 1 * 1024 + (128 * h.val + d.val) = h.val * 128 + d.val
    rw [index0]; show 0 * 1024 + (128 * h.val + d.val) = h.val * 128 + d.val; omega

theorem key_block (t : Fin cfg0.N) (r : Fin 256) (h : Fin 8) (d : Fin 128) :
    cols (iblk m c 1 t) h (ix2 r d) = m ((c : Thread nD τ).loc main_arg0) (ix2 (rowOf (blockOf t) r) (kCol h d)) := by
  show iblk m c 1 t (ix2 r (column h d)) = _
  rw [← V_main_arg0 m c]
  unfold iblk
  rw [View.read_apply]
  show V m c (Pipeline.arrRef spec0 1) _ = V m c (Pipeline.arrRef spec0 1) _
  congr 1
  funext a
  apply Fin.ext
  match a with
  | ⟨0, _⟩ =>
    refine (Window.rect_emb_val (cfg0.win (1 : Fin 8)) t (ix2 r (column h d)) (0 : Fin 2)).trans ?_
    show cc0_transform_1 (grid0.coords t) 0 * 256 + r.val = t.val * 256 + r.val
    rw [index1]; rfl
  | ⟨1, _⟩ =>
    refine (Window.rect_emb_val (cfg0.win (1 : Fin 8)) t (ix2 r (column h d)) (1 : Fin 2)).trans ?_
    show cc0_transform_1 (grid0.coords t) 1 * 1024 + (128 * h.val + d.val) = 1024 + (h.val * 128 + d.val)
    rw [index1]; show 1 * 1024 + (128 * h.val + d.val) = 1024 + (h.val * 128 + d.val); omega

theorem value_block (t : Fin cfg0.N) (r : Fin 256) (h : Fin 8) (d : Fin 128) :
    cols (iblk m c 2 t) h (ix2 r d) = m ((c : Thread nD τ).loc main_arg0) (ix2 (rowOf (blockOf t) r) (vCol h d)) := by
  show iblk m c 2 t (ix2 r (column h d)) = _
  rw [← V_main_arg0 m c]
  unfold iblk
  rw [View.read_apply]
  show V m c (Pipeline.arrRef spec0 2) _ = V m c (Pipeline.arrRef spec0 2) _
  congr 1
  funext a
  apply Fin.ext
  match a with
  | ⟨0, _⟩ =>
    refine (Window.rect_emb_val (cfg0.win (2 : Fin 8)) t (ix2 r (column h d)) (0 : Fin 2)).trans ?_
    show cc0_transform_2 (grid0.coords t) 0 * 256 + r.val = t.val * 256 + r.val
    rw [index2]; rfl
  | ⟨1, _⟩ =>
    refine (Window.rect_emb_val (cfg0.win (2 : Fin 8)) t (ix2 r (column h d)) (1 : Fin 2)).trans ?_
    show cc0_transform_2 (grid0.coords t) 1 * 1024 + (128 * h.val + d.val) = 2048 + (h.val * 128 + d.val)
    rw [index2]; show 2 * 1024 + (128 * h.val + d.val) = 2048 + (h.val * 128 + d.val); omega

theorem cos_block (t : Fin cfg0.N) (r : Fin 256) (d : Fin 128) :
    iblk m c 3 t (ix2 r d) = m ((c : Thread nD τ).loc main_arg1) (ix2 (rowOf (blockOf t) r) d) := by
  rw [← V_main_arg1 m c]
  unfold iblk
  rw [View.read_apply]
  show V m c (Pipeline.arrRef spec0 3) _ = V m c (Pipeline.arrRef spec0 3) _
  congr 1
  funext a
  apply Fin.ext
  match a with
  | ⟨0, _⟩ =>
    refine (Window.rect_emb_val (cfg0.win (3 : Fin 8)) t (ix2 r d) (0 : Fin 2)).trans ?_
    show cc0_transform_3 (grid0.coords t) 0 * 256 + r.val = t.val * 256 + r.val
    rw [index3]; rfl
  | ⟨1, _⟩ =>
    refine (Window.rect_emb_val (cfg0.win (3 : Fin 8)) t (ix2 r d) (1 : Fin 2)).trans ?_
    show cc0_transform_3 (grid0.coords t) 1 * 128 + d.val = d.val
    rw [index3]; show 0 * 128 + d.val = d.val; omega

theorem sin_block (t : Fin cfg0.N) (r : Fin 256) (d : Fin 128) :
    iblk m c 4 t (ix2 r d) = m ((c : Thread nD τ).loc main_arg2) (ix2 (rowOf (blockOf t) r) d) := by
  rw [← V_main_arg2 m c]
  unfold iblk
  rw [View.read_apply]
  show V m c (Pipeline.arrRef spec0 4) _ = V m c (Pipeline.arrRef spec0 4) _
  congr 1
  funext a
  apply Fin.ext
  match a with
  | ⟨0, _⟩ =>
    refine (Window.rect_emb_val (cfg0.win (4 : Fin 8)) t (ix2 r d) (0 : Fin 2)).trans ?_
    show cc0_transform_4 (grid0.coords t) 0 * 256 + r.val = t.val * 256 + r.val
    rw [index4]; rfl
  | ⟨1, _⟩ =>
    refine (Window.rect_emb_val (cfg0.win (4 : Fin 8)) t (ix2 r d) (1 : Fin 2)).trans ?_
    show cc0_transform_4 (grid0.coords t) 1 * 128 + d.val = d.val
    rw [index4]; show 0 * 128 + d.val = d.val; omega

/-- The three arguments. -/
abbrev argP : S16384x3072.Idx → EReal := m ((c : Thread nD τ).loc main_arg0)
abbrev argC : S16384x128.Idx → EReal := m ((c : Thread nD τ).loc main_arg1)
abbrev argS : S16384x128.Idx → EReal := m ((c : Thread nD τ).loc main_arg2)

theorem query_turned (t : Fin cfg0.N) (r : Fin 256) (h : Fin 8) :
    turned (fun d => cols (iblk m c 0 t) h (ix2 r d)) (fun d => iblk m c 3 t (ix2 r d)) (fun d => iblk m c 4 t (ix2 r d))
      = qAt (argP m c) (argC m c) (argS m c) (blockOf t) r h := by
  funext d
  simp only [query_block, cos_block, sin_block]
  rfl

theorem key_turned (t : Fin cfg0.N) (r : Fin 256) (h : Fin 8) :
    turned (fun d => cols (iblk m c 1 t) h (ix2 r d)) (fun d => iblk m c 3 t (ix2 r d)) (fun d => iblk m c 4 t (ix2 r d))
      = kAt (argP m c) (argC m c) (argS m c) (blockOf t) r h := by
  funext d
  simp only [key_block, cos_block, sin_block]
  rfl

theorem key_mean (t : Fin cfg0.N) (h : Fin 8) (d : Fin 128) :
    meanRow (iblk m c 3 t) (iblk m c 4 t) (cols (iblk m c 1 t) h) d = meanAt (argP m c) (argC m c) (argS m c) (blockOf t) h d := by
  unfold meanRow meanAt
  exact congrArg (fun f : Fin 256 → EReal => Ideal.div (∑ s, f s) ((256 : ℝ) : EReal)) (funext fun s => congrFun (key_turned m c t s h) d)

/-! ## The scratch -/

/-- The mean keys after a point: its own row is new, the others are as they were. -/
theorem means_row (t : Fin cfg0.N) (old : Vec Ideal S64x128 .f32) (b : Fin 64) (h : Fin 8) (d : Fin 128) :
    meansOf (grid0.coords t) (iblk m c 3 t) (iblk m c 4 t) (cols (iblk m c 1 t) h) old (ix2 b d)
      = if b = blockOf t then meanAt (argP m c) (argC m c) (argS m c) b h d else old (ix2 b d) := by
  refine (means_at (grid0.coords t) (iblk m c 3 t) (iblk m c 4 t) (cols (iblk m c 1 t) h) old b d).trans ?_
  have hc := coord t
  by_cases hb : b = blockOf t
  · rw [if_pos hb, if_pos (by rw [hc, hb]; rfl), hb]
    exact key_mean m c t h d
  · rw [if_neg hb, if_neg fun h' => hb (Fin.ext (h'.trans hc))]

/-- After a point the scratch holds the mean keys of its block and of the blocks before. -/
theorem scratch (n : ℕ) (hn : n < cfg0.N) (b : Fin 64) (hb : b.val ≤ n) (h : Fin 8) (d : Fin 128) :
    (outsAt0 m c n hn).2.2.2 (ix2 b (column h d)) = meanAt (argP m c) (argC m c) (argS m c) b h d := by
  induction n with
  | zero =>
    obtain ⟨old, -, -, -, hs⟩ := leaves_first m c ⟨0, hn⟩ rfl
    refine (hs b h d).trans ((means_row m c ⟨0, hn⟩ (old h) b h d).trans (if_pos (Fin.ext ?_)))
    show b.val = 0
    omega
  | succ n ih =>
    have hN : n + 1 < 64 := hn
    have h0 : ¬(n + 1) % 64 = 0 := by omega
    obtain ⟨-, -, -, hs⟩ := leaves_next m c ⟨n + 1, hn⟩ h0
    refine (hs b h d).trans ((means_row m c ⟨n + 1, hn⟩ _ b h d).trans ?_)
    by_cases e : b = blockOf ⟨n + 1, hn⟩
    · exact if_pos e
    · have hb' : b.val ≤ n := by
        have : ¬b.val = n + 1 := fun h' => e (Fin.ext h')
        omega
      exact (if_neg e).trans (ih (Nat.lt_of_succ_lt hn) hb')

/-- What each point leaves, over mean keys of which only the rows before its own matter. -/
theorem leaves (t : Fin cfg0.N) : ∃ old : Fin 8 → Vec Ideal S64x128 .f32, LeavesAt m c t old
    ∧ ∀ (b : Fin 64) (h : Fin 8) (d : Fin 128), b < blockOf t → old h (ix2 b d) = meanAt (argP m c) (argC m c) (argS m c) b h d := by
  have hN : t.val < 64 := t.isLt
  by_cases h0 : t.val % 64 = 0
  · obtain ⟨old, hl⟩ := leaves_first m c t h0
    refine ⟨old, hl, fun b h d hb => ?_⟩
    have hb : b.val < t.val := hb
    omega
  · refine ⟨_, leaves_next m c t h0, fun b h d hb => ?_⟩
    have hb : b.val < t.val := hb
    exact scratch m c (t.val - 1) _ b (by omega) h d

end Cert.KernelPrepIdeal.Prep

end
-- ==== Proof.Prep.Array.lean ====
/- The three arrays that the preparation writes, entry by entry. -/
module

public import proofs.«01_k».proof.Proof.Prep.Sweep

@[expose] public section

set_option maxRecDepth 65536
set_option Elab.async false

noncomputable section

namespace Cert.KernelPrepIdeal.Prep

open Cert.KernelPrepIdeal Cert.KernelPrepIdeal.Gen Cert.KernelPrepIdeal.Value Cert.Prep
open Idealize.ShloMosaic Idealize.ShloMosaic.TcCoe Idealize.SL.Sem
open Cert.OutProj (IsReal)

variable (m : (ℓ : Loc nD τ sig) → Buf (Elt Ideal) ℓ) (c : Dev nD)

/-- The arguments' entries are real numbers. -/
def Real3 : Prop := (∀ y, IsReal (argP m c y)) ∧ (∀ y, IsReal (argC m c y)) ∧ ∀ y, IsReal (argS m c y)

/-! ## The entries of a point's blocks -/

/-- The mean keys that a point's gate reads. -/
abbrev kmOf (t : Fin cfg0.N) (old : Fin 8 → Vec Ideal S64x128 .f32) (h : Fin 8) : Vec Ideal S64x128 .f32 :=
  meansOf (grid0.coords t) (iblk m c 3 t) (iblk m c 4 t) (cols (iblk m c 1 t) h) (old h)

theorem gate_entry (t : Fin cfg0.N) (old : Fin 8 → Vec Ideal S64x128 .f32)
    (ho : ∀ (b : Fin 64) (h : Fin 8) (d : Fin 128), b < blockOf t → old h (ix2 b d) = meanAt (argP m c) (argC m c) (argS m c) b h d)
    (h : Fin 8) (s : Fin 256) :
    gateOf (grid0.coords t) (kmOf m c t old h) (qAt (argP m c) (argC m c) (argS m c) (blockOf t) s h)
      = gateAt (argP m c) (argC m c) (argS m c) (blockOf t) s h := by
  funext b
  unfold gateOf gateAt
  have hc := coord t
  by_cases hb : b < blockOf t
  · have hb' : b.val < (grid0.coords t 0).val := by rw [hc]; exact hb
    rw [if_pos hb, if_pos hb']
    refine Finset.sum_congr rfl fun d _ => ?_
    refine congrArg (fun z : EReal => z * qAt (argP m c) (argC m c) (argS m c) (blockOf t) s h d) ?_
    exact (means_row m c t (old h) b h d).trans ((if_neg (ne_of_lt hb)).trans (ho b h d hb))
  · have hb' : ¬b.val < (grid0.coords t 0).val := by rw [hc]; exact hb
    rw [if_neg hb, if_neg hb']

theorem query_entry (hr3 : Real3 m c) (t : Fin cfg0.N) (old : Fin 8 → Vec Ideal S64x128 .f32)
    (ho : ∀ (b : Fin 64) (h : Fin 8) (d : Fin 128), b < blockOf t → old h (ix2 b d) = meanAt (argP m c) (argC m c) (argS m c) b h d)
    (h : Fin 8) (r s : Fin 256) :
    queryAt (grid0.coords t) (iblk m c 3 t) (iblk m c 4 t) (cols (iblk m c 0 t)) (kmOf m c t old) h r s
      = qaAt (argP m c) (argC m c) (argS m c) h r (blockOf t) s := by
  have hq := query_turned m c t s h
  unfold queryAt qaAt
  by_cases hr : r.val < 128
  · rw [dif_pos hr, dif_pos hr]
    exact congrArg (· * scale) (congrFun hq _)
  · rw [dif_neg hr, dif_neg hr]
    by_cases hr' : r.val - 128 < 64
    · rw [dif_pos hr', dif_pos hr']
      unfold maskAt
      have hg : gateOf (grid0.coords t) (kmOf m c t old h) (turned (fun d => cols (iblk m c 0 t) h (ix2 s d))
          (fun d => iblk m c 3 t (ix2 s d)) (fun d => iblk m c 4 t (ix2 s d))) = gateAt (argP m c) (argC m c) (argS m c) (blockOf t) s h :=
        (congrArg (gateOf (grid0.coords t) (kmOf m c t old h)) hq).trans (gate_entry m c t old ho h s)
      have hv := rounds (gate_upTo (argP m c) (argC m c) (argS m c) hr3.1 hr3.2.1 hr3.2.2 (blockOf t) s h) ⟨r.val - 128, hr'⟩
      have ho : (if r.val - 128 = (grid0.coords t 0).val then (1 : EReal) else 0)
          = if (⟨r.val - 128, hr'⟩ : Fin 64) = blockOf t then 1 else 0 := by
        rw [coord t]
        by_cases e : r.val - 128 = t.val
        · rw [if_pos e, if_pos (Fin.ext e)]
        · rw [if_neg e, if_neg fun h' => e (congrArg Fin.val h')]
      dsimp only
      rw [hg, ho]
      by_cases ha : Attends (gateAt (argP m c) (argC m c) (argS m c) (blockOf t) s h) (blockOf t) ⟨r.val - 128, hr'⟩
      · rw [if_pos ha, if_pos (hv.mpr ha)]
      · rw [if_neg ha, if_neg fun h' => ha (hv.mp h')]
    · rw [dif_neg hr', dif_neg hr']

theorem key_entry (t : Fin cfg0.N) (h : Fin 8) (s r : Fin 256) :
    keyAt (grid0.coords t) (iblk m c 3 t) (iblk m c 4 t) (cols (iblk m c 1 t)) h s r
      = kaAt (argP m c) (argC m c) (argS m c) (blockOf t) h s r := by
  unfold keyAt kaAt
  by_cases hr : r.val < 128
  · rw [dif_pos hr, dif_pos hr]
    exact congrFun (key_turned m c t s h) _
  · rw [dif_neg hr, dif_neg hr, coord t]
    rfl

theorem value_entry (t : Fin cfg0.N) (h : Fin 8) (r : Fin 144) (s : Fin 256) :
    valueAt (cols (iblk m c 2 t)) h r s = vaAt (argP m c) (blockOf t) h r s := by
  unfold valueAt vaAt
  by_cases hr : r.val < 128
  · rw [dif_pos hr, dif_pos hr]
    exact value_block m c t s h _
  · rw [dif_neg hr, dif_neg hr]

/-! ## The arrays -/

theorem acc_eq (t : Fin cfg0.N) (n : ℕ) (hn : n < cfg0.N) (e : n = t.val) :
    Pipeline.accAt (fun n h => stAt0 m c n h junk0) (stAt0 m c) 0 n (by omega) = outsAt0 m c t.val t.isLt := by
  subst e
  exact (outsAt0_sweep m c t.val t.isLt).symm

theorem array5 (hr3 : Real3 m c) (h : Fin 8) (r : Fin 256) (w : Fin 16384) :
    G5 (F := Ideal) m c (ix3 h r w)
      = qaAt (argP m c) (argC m c) (argS m c) h r ⟨w.val / 256, by omega⟩ ⟨w.val % 256, by omega⟩ := by
  have hN : cfg0.N = 64 := N_0
  have hp : pt5Of (ix3 h r w) = w.val / 256 := by
    show 64 * (h.val / 8 - 0) + 64 * (r.val / 256 - 0) + 1 * (w.val / 256 - 0) = w.val / 256
    omega
  have hlt : pt5Of (ix3 h r w) < cfg0.N := by rw [hp, hN]; omega
  have ht : w.val / 256 < cfg0.N := by rw [hN]; omega
  obtain ⟨old, hl, ho⟩ := leaves m c ⟨w.val / 256, ht⟩
  have e := query_entry m c hr3 ⟨w.val / 256, ht⟩ old ho h r ⟨w.val % 256, by omega⟩
  have el : loc5Of (ix3 h r w) = ix3 h r (⟨w.val % 256, by omega⟩ : Fin 256) := by
    funext a
    match a with
    | ⟨0, _⟩ => exact Fin.ext (Nat.mod_eq_of_lt h.isLt)
    | ⟨1, _⟩ => exact Fin.ext (Nat.mod_eq_of_lt r.isLt)
    | ⟨2, _⟩ => rfl
  unfold G5
  refine (dif_pos hlt).trans ?_
  rw [acc_eq m c ⟨w.val / 256, ht⟩ _ hlt hp, el]
  exact (hl.1 _).trans e

theorem array6 (n : Fin 64) (h : Fin 8) (s r : Fin 256) :
    G6 (F := Ideal) m c (ix4 n h s r) = kaAt (argP m c) (argC m c) (argS m c) n h s r := by
  have hN : cfg0.N = 64 := N_0
  have hp : pt6Of (ix4 n h s r) = n.val := by
    show 1 * (n.val / 1 - 0) + 1 * (h.val / 8 - 0) + 1 * (s.val / 256 - 0) + 1 * (r.val / 256 - 0) = n.val
    omega
  have hlt : pt6Of (ix4 n h s r) < cfg0.N := by rw [hp, hN]; exact n.isLt
  have ht : n.val < cfg0.N := by rw [hN]; exact n.isLt
  obtain ⟨old, hl, -⟩ := leaves m c ⟨n.val, ht⟩
  have e := key_entry m c ⟨n.val, ht⟩ h s r
  have el : loc6Of (ix4 n h s r) = ix4 (0 : Fin 1) h s r := by
    funext a
    match a with
    | ⟨0, _⟩ => exact Fin.ext (Nat.mod_one _)
    | ⟨1, _⟩ => exact Fin.ext (Nat.mod_eq_of_lt h.isLt)
    | ⟨2, _⟩ => exact Fin.ext (Nat.mod_eq_of_lt s.isLt)
    | ⟨3, _⟩ => exact Fin.ext (Nat.mod_eq_of_lt r.isLt)
  unfold G6
  refine (dif_pos hlt).trans ?_
  rw [acc_eq m c ⟨n.val, ht⟩ _ hlt hp, el]
  exact (hl.2.1 _).trans e

theorem array7 (n : Fin 64) (h : Fin 8) (r : Fin 144) (s : Fin 256) :
    G7 (F := Ideal) m c (ix4 n h r s) = vaAt (argP m c) n h r s := by
  have hN : cfg0.N = 64 := N_0
  have hp : pt7Of (ix4 n h r s) = n.val := by
    show 1 * (n.val / 1 - 0) + 1 * (h.val / 8 - 0) + 1 * (r.val / 144 - 0) + 1 * (s.val / 256 - 0) = n.val
    omega
  have hlt : pt7Of (ix4 n h r s) < cfg0.N := by rw [hp, hN]; exact n.isLt
  have ht : n.val < cfg0.N := by rw [hN]; exact n.isLt
  obtain ⟨old, hl, -⟩ := leaves m c ⟨n.val, ht⟩
  have e := value_entry m c ⟨n.val, ht⟩ h r s
  have el : loc7Of (ix4 n h r s) = ix4 (0 : Fin 1) h r s := by
    funext a
    match a with
    | ⟨0, _⟩ => exact Fin.ext (Nat.mod_one _)
    | ⟨1, _⟩ => exact Fin.ext (Nat.mod_eq_of_lt h.isLt)
    | ⟨2, _⟩ => exact Fin.ext (Nat.mod_eq_of_lt r.isLt)
    | ⟨3, _⟩ => exact Fin.ext (Nat.mod_eq_of_lt s.isLt)
  unfold G7
  refine (dif_pos hlt).trans ?_
  rw [acc_eq m c ⟨n.val, ht⟩ _ hlt hp, el]
  exact (hl.2.2.1 _).trans e

end Cert.KernelPrepIdeal.Prep

end
-- ==== Proof.Prep.Pieces.lean ====
/- The pieces of the reference's preparation of the block attention: rows, keys, mean keys and gates. -/
module

public import proofs.«01_k».proof.Proof.Prep.Spec
public import proofs.«01_k».proof.Proof.OutProj.TopK
public import proofs.«01_k».proof.Proof.Gen.ReferencePrepIdeal.Run

@[expose] public section

set_option maxRecDepth 16384
set_option Elab.async false

noncomputable section

namespace Cert.ReferencePrepIdeal.Prep

open Cert.ReferencePrepIdeal Cert.ReferencePrepIdeal.Gen Cert.ReferencePrepIdeal.Value Cert.Prep
open Cert.OutProj (byValue)
open Idealize.ShloMosaic Idealize.ShloMosaic.TcCoe Idealize.SL.Sem Idealize.ShloMosaic.StableHlo

/-! ## Constants -/

theorem zero_eq : Ideal.ofBits .f32 0x00000000#32 = (0 : EReal) := by simp [Ideal.ofBits, Ideal.ieee]
theorem one_eq : Ideal.ofBits .f32 0x3F800000#32 = (1 : EReal) := by
  simp [Ideal.ofBits, Ideal.ieee, -EReal.coe_mul]; norm_num
theorem bot_eq : Ideal.ofBits .f32 0xFF800000#32 = (⊥ : EReal) := by simp [Ideal.ofBits, Ideal.ieee]
theorem c256_eq : Ideal.ofBits .f32 0x43800000#32 = ((256 : ℝ) : EReal) := by
  simp [Ideal.ofBits, Ideal.ieee, -EReal.coe_mul]; norm_num
theorem c128_eq : Ideal.ofBits .f32 0x43000000#32 = ((128 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num

/-! ## The pieces -/

variable (P : FVec Ideal S16384x3072 .f32) (C S : FVec Ideal S16384x128 .f32)

/-- Rows of heads, rotated by the tables. -/
def turn (x : FVec Ideal S64x256x8x128 .f32) : FVec Ideal S64x256x8x128 .f32 :=
  addf (mulf x (broadcastInDim S64x256x8x128 ![0, 1, 2, 3] bcast_S64x256x1x128_S64x256x8x128_0_1_2_3
      (shapeCast _ C shapeCasts_S16384x128_S64x256x1x128)))
    (mulf (concatenate S64x256x8x128 3
        [⟨S64x256x8x64, extractStridedSlice S64x256x8x64 ![0, 0, 0, 64] x slices_S64x256x8x128_S64x256x8x64_0_0_0_64⟩,
         ⟨S64x256x8x64, extractStridedSlice S64x256x8x64 ![0, 0, 0, 0] x slices_S64x256x8x128_S64x256x8x64_0_0_0_0⟩]
        concatenates_S64x256x8x64_S64x256x8x64_S64x256x8x128_d3)
      (broadcastInDim S64x256x8x128 ![0, 1, 2, 3] bcast_S64x256x1x128_S64x256x8x128_0_1_2_3
        (shapeCast _ S shapeCasts_S16384x128_S64x256x1x128)))

/-- The queries, the keys and the values by block, row and head. -/
def qRaw : FVec Ideal S64x256x8x128 .f32 :=
  shapeCast _ (extractStridedSlice S16384x1024 ![0, 0] P slices_S16384x3072_S16384x1024_0_0) shapeCasts_S16384x1024_S64x256x8x128
def kRaw : FVec Ideal S64x256x8x128 .f32 :=
  shapeCast _ (extractStridedSlice S16384x1024 ![0, 1024] P slices_S16384x3072_S16384x1024_0_1024) shapeCasts_S16384x1024_S64x256x8x128
def vRaw : FVec Ideal S64x256x8x128 .f32 :=
  shapeCast _ (extractStridedSlice S16384x1024 ![0, 2048] P slices_S16384x3072_S16384x1024_0_2048) shapeCasts_S16384x1024_S64x256x8x128

theorem qRaw_at (n : Fin 64) (s : Fin 256) (h : Fin 8) (d : Fin 128) : qRaw P (ix4 n s h d) = P (ix2 (rowOf n s) (qCol h d)) := by
  pointwise [qRaw]
  rfl
theorem kRaw_at (n : Fin 64) (s : Fin 256) (h : Fin 8) (d : Fin 128) : kRaw P (ix4 n s h d) = P (ix2 (rowOf n s) (kCol h d)) := by
  pointwise [kRaw]
  rfl
theorem vRaw_at (n : Fin 64) (s : Fin 256) (h : Fin 8) (d : Fin 128) : vRaw P (ix4 n s h d) = P (ix2 (rowOf n s) (vCol h d)) := by
  pointwise [vRaw]
  rfl

theorem turn_at (x : FVec Ideal S64x256x8x128 .f32) (n : Fin 64) (s : Fin 256) (h : Fin 8) (d : Fin 128) :
    turn C S x (ix4 n s h d)
      = turned (fun d => x (ix4 n s h d)) (fun d => C (ix2 (rowOf n s) d)) (fun d => S (ix2 (rowOf n s) d)) d := by
  pointwise [turn]
  unfold turned
  refine congrArg (fun y => x (ix4 n s h d) * C (ix2 (rowOf n s) d) + y * S (ix2 (rowOf n s) d)) ?_
  by_cases hd : d.val < 64
  · refine (dif_pos hd).trans (congrArg (fun e => x (ix4 n s h e)) (Fin.ext ?_))
    show 64 + d.val = (d.val + 128 - 64) % 128
    omega
  · refine (dif_neg hd).trans (congrArg (fun e => x (ix4 n s h e)) (Fin.ext ?_))
    show d.val - 64 = (d.val + 128 - 64) % 128
    omega

theorem q_at (n : Fin 64) (s : Fin 256) (h : Fin 8) (d : Fin 128) : turn C S (qRaw P) (ix4 n s h d) = qAt P C S n s h d := by
  rw [turn_at]
  simp only [qRaw_at]
  rfl
theorem k_at (n : Fin 64) (s : Fin 256) (h : Fin 8) (d : Fin 128) : turn C S (kRaw P) (ix4 n s h d) = kAt P C S n s h d := by
  rw [turn_at]
  simp only [kRaw_at]
  rfl

/-- The blocks' mean keys. -/
def means : FVec Ideal S64x8x128 .f32 :=
  Host.divf (Host.reduceAdd (turn C S (kRaw P)) (constant S_ .f32 0x00000000#32) reducesTo_S64x256x8x128_S64x8x128_d1 h_S_)
    (broadcastInDim S64x8x128 ![] bcast_S_S64x8x128 (constant S_ .f32 0x43800000#32))

theorem means_at (b : Fin 64) (h : Fin 8) (d : Fin 128) : means P C S (ix3 b h d) = meanAt P C S b h d := by
  pointwise [means]
  rw [c256_eq]
  simp only [k_at]
  rfl

/-- The gate of every query over the blocks. -/
def gates : FVec Ideal S64x256x8x64 .f32 :=
  select (broadcastInDim S64x256x8x64 ![0, 1, 2, 3] bcast_S64x1x1x64_S64x256x8x64_0_1_2_3
      (broadcastInDim S64x1x1x64 ![0, 3] bcast_S64x64_S64x1x1x64_0_3
        (cmpi .slt (broadcastInDim S64x64 ![0, 1] bcast_S1x64_S64x64_0_1 (broadcastInDim S1x64 ![1] bcast_S64_S1x64_1 (iotaInDim S64 32 0)))
          (broadcastInDim S64x64 ![0, 1] bcast_S64x1_S64x64_0_1 (broadcastInDim S64x1 ![0] bcast_S64_S64x1_0 (iotaInDim S64 32 0))))))
    (transpose S64x256x8x64 [2, 3, 0, 1]
      (Host.dotGeneral dot_S64x8x128_S64x256x8x128_S8x64x64x256_2_3_0_01_1_2 none (means P C S) (turn C S (qRaw P)))
      transposes_S8x64x64x256_S64x256x8x64_2_3_0_1)
    (broadcastInDim S64x256x8x64 ![] bcast_S_S64x256x8x64 (id (constant S_ .f32 0xFF800000#32)))

theorem gates_at (n : Fin 64) (s : Fin 256) (h : Fin 8) (b : Fin 64) : gates P C S (ix4 n s h b) = gateAt P C S n s h b := by
  pointwise [gates]
  simp only [means_at, q_at]
  exact (select_lt (by omega) (by omega) _ _).trans (congrArg (fun z => if b < n then _ else z) bot_eq)

/-- The rank-`j` block is this one, where the row's block is after the `w`-th. -/
def ranked (w : BitVec 32) (off : Fin 4 → ℕ) (hs : S64x256x8x3.Slices off S64x256x8x1) : IVec S64x256x8x64 1 :=
  andi (cmpi .eq (broadcastInDim S64x256x8x64 ![0, 1, 2, 3] bcast_S64x256x8x1_S64x256x8x64_0_1_2_3
        (extractStridedSlice S64x256x8x1 off
          ((Host.topK S64x256x8x3 3 (FloatOps.cmpfTotal .gt) (gates P C S) sliceFits_S64x256x8x64_S64x256x8x3).2) hs))
      (broadcastInDim S64x256x8x64 ![0, 1, 2, 3] bcast_S1x1x1x64_S64x256x8x64_0_1_2_3
        (broadcastInDim S1x1x1x64 ![3] bcast_S64_S1x1x1x64_3 (iotaInDim S64 32 0))))
    (broadcastInDim S64x256x8x64 ![0, 1, 2, 3] bcast_S64x1x1x1_S64x256x8x64_0_1_2_3
      (broadcastInDim S64x1x1x1 ![0] bcast_S64_S64x1x1x1_0
        (cmpi .sgt (iotaInDim S64 32 0) (broadcastInDim S64 ![] bcast_S_S64 (constantI S_ 32 w)))))

/-- A row's own block. -/
def own : IVec S64x256x8x64 1 :=
  broadcastInDim S64x256x8x64 ![0, 1, 2, 3] bcast_S64x1x1x64_S64x256x8x64_0_1_2_3
    (broadcastInDim S64x1x1x64 ![0, 3] bcast_S64x64_S64x1x1x64_0_3
      (cmpi .eq (broadcastInDim S64x64 ![0, 1] bcast_S1x64_S64x64_0_1 (broadcastInDim S1x64 ![1] bcast_S64_S1x64_1 (iotaInDim S64 32 0)))
        (broadcastInDim S64x64 ![0, 1] bcast_S64x1_S64x64_0_1 (broadcastInDim S64x1 ![0] bcast_S64_S64x1_0 (iotaInDim S64 32 0)))))

/-- The mask over the blocks. -/
def mask : FVec Ideal S64x256x8x64 .f32 :=
  id (select (ori (ori (ori own (ranked P C S 0#32 ![0, 0, 0, 0] slices_S64x256x8x3_S64x256x8x1_0_0_0_0))
        (ranked P C S 1#32 ![0, 0, 0, 1] slices_S64x256x8x3_S64x256x8x1_0_0_0_1))
      (ranked P C S 2#32 ![0, 0, 0, 2] slices_S64x256x8x3_S64x256x8x1_0_0_0_2))
    (broadcastInDim S64x256x8x64 ![] bcast_S_S64x256x8x64 (constant S_ .f32 0x00000000#32))
    (broadcastInDim S64x256x8x64 ![] bcast_S_S64x256x8x64 (constant S_ .f32 0xFF800000#32)))

/-- The whole queries' result. -/
def queries : FVec Ideal S8x256x16384 .bf16 :=
  truncf .bf16 (shapeCast _ (transpose S8x256x64x256 [2, 3, 0, 1]
    (concatenate S64x256x8x256 3
      [⟨S64x256x8x128, mulf (turn C S (qRaw P)) (broadcastInDim S64x256x8x128 ![] bcast_S_S64x256x8x128
          (Host.divf (constant S_ .f32 0x3F800000#32)
            (mulf (Host.sqrt (constant S_ .f32 0x43000000#32)) (Host.log (constant S_ .f32 0x40000000#32)))))⟩,
       ⟨S64x256x8x64, mask P C S⟩,
       ⟨S64x256x8x64, broadcastInDim S64x256x8x64 ![] bcast_S_S64x256x8x64 (constant S_ .f32 0x00000000#32)⟩]
      concatenates_S64x256x8x128_S64x256x8x64_S64x256x8x64_S64x256x8x256_d3)
    transposes_S64x256x8x256_S8x256x64x256_2_3_0_1) shapeCasts_S8x256x64x256_S8x256x16384) bitsLt_bf16_f32

theorem queries_eq (m : (ℓ : Loc nD τ sig) → Buf (Elt Ideal) ℓ) (c : Dev nD) :
    res_main_v102 (F := Ideal) m c = queries (m ((c.tc : Thread nD τ).loc main_arg0)) (m ((c.tc : Thread nD τ).loc main_arg1))
      (m ((c.tc : Thread nD τ).loc main_arg2)) := rfl

end Cert.ReferencePrepIdeal.Prep

end
-- ==== Proof.Prep.Reference.lean ====
/- The reference's preparation of the block attention, entry by entry. -/
module

public import proofs.«01_k».proof.Proof.Prep.Pieces
public import proofs.«01_k».proof.Proof.OutProj.TopK

@[expose] public section

set_option maxRecDepth 16384
set_option Elab.async false

noncomputable section

namespace Cert.ReferencePrepIdeal.Prep

open Cert.ReferencePrepIdeal Cert.ReferencePrepIdeal.Gen Cert.ReferencePrepIdeal.Value Cert.Prep
open Cert.OutProj (byValue)
open Idealize.ShloMosaic Idealize.ShloMosaic.TcCoe Idealize.SL.Sem Idealize.ShloMosaic.StableHlo

theorem and_one (a b : BitVec 1) : IntOp.andi a b = 1#1 ↔ a = 1#1 ∧ b = 1#1 := by
  revert a b
  decide
theorem or_one (a b : BitVec 1) : IntOp.ori a b = 1#1 ↔ a = 1#1 ∨ b = 1#1 := by
  revert a b
  decide

/-- The number of a comparison of two small numbers' words. -/
theorem word_number {a b : ℕ} (ha : a < 4294967296) (hb : b < 4294967296) :
    FloatOps.uitofp (F := Ideal) .f32 (IntOp.cmpi .eq (BitVec.ofNat 32 a) (BitVec.ofNat 32 b)) = if a = b then (1 : EReal) else 0 := by
  by_cases h : a = b
  · rw [if_pos h, (eq_word ha hb).mpr h]
    show (((1#1 : BitVec 1).toNat : ℝ) : EReal) = 1
    simp
  · have hz : IntOp.cmpi .eq (BitVec.ofNat 32 a) (BitVec.ofNat 32 b) = 0#1 := (by decide : ∀ c : BitVec 1, ¬c = 1#1 → c = 0#1) _
      fun h' => h ((eq_word ha hb).mp h')
    rw [if_neg h, hz]
    show (((0#1 : BitVec 1).toNat : ℝ) : EReal) = 0
    simp

theorem along4 {A B G n : ℕ} (i : Fin A) (k : Fin B) (g : Fin G) (j l : Fin n) :
    Shape.Idx.along (s := ⟨4, ![A, B, G, n]⟩) (ix4 i k g j) (3 : Fin 4) l = ix4 i k g l := by
  funext a
  match a with
  | ⟨0, _⟩ => rfl
  | ⟨1, _⟩ => rfl
  | ⟨2, _⟩ => rfl
  | ⟨3, _⟩ => rfl

theorem slice4 {α : Type} {A B G n p : ℕ} (x : (⟨4, ![A, B, G, n]⟩ : Shape).Idx → α)
    (h : (⟨4, ![A, B, G, n]⟩ : Shape).Slices (fun _ => 0) ⟨4, ![A, B, G, p]⟩) (i : Fin A) (k : Fin B) (g : Fin G) (j : Fin p) (hj : j.val < n) :
    extractStridedSlice (⟨4, ![A, B, G, p]⟩ : Shape) (fun _ => 0) x h (ix4 i k g j) = x (ix4 i k g ⟨j.val, hj⟩) := by
  unfold extractStridedSlice
  refine congrArg x (funext fun a => ?_)
  match a with
  | ⟨0, _⟩ => exact Fin.ext (Nat.zero_add _)
  | ⟨1, _⟩ => exact Fin.ext (Nat.zero_add _)
  | ⟨2, _⟩ => exact Fin.ext (Nat.zero_add _)
  | ⟨3, _⟩ => exact Fin.ext (Nat.zero_add _)

/-- A head's row's top-k: the position at rank `j`. -/
theorem topK4 {A B G n p : ℕ} (x : (⟨4, ![A, B, G, n]⟩ : Shape).Idx → EReal)
    (h : (⟨4, ![A, B, G, n]⟩ : Shape).Slices (fun _ => 0) ⟨4, ![A, B, G, p]⟩) (i : Fin A) (k : Fin B) (g : Fin G) (j : Fin p) (hj : j.val < n) :
    (Host.topK (⟨4, ![A, B, G, p]⟩ : Shape) 3 (FloatOps.cmpfTotal (F := Ideal) (φ := .f32) .gt) x h).2 (ix4 i k g j)
      = BitVec.ofNat 32 (sortedFrom (byValue fun l => x (ix4 i k g l)) ⟨j.val, hj⟩).val := by
  unfold Host.topK
  dsimp only
  rw [slice4 _ h i k g j hj]
  have b := Cert.ReferenceOutIdeal.Out.before_eq fun l : Fin n => x (Shape.Idx.along (s := ⟨4, ![A, B, G, n]⟩) (ix4 i k g ⟨j.val, hj⟩) (3 : Fin 4) l)
  have b' : (fun l : Fin n => x (Shape.Idx.along (s := ⟨4, ![A, B, G, n]⟩) (ix4 i k g ⟨j.val, hj⟩) (3 : Fin 4) l)) = fun l => x (ix4 i k g l) :=
    funext fun l => congrArg x (along4 i k g _ l)
  rw [b'] at b
  have s : ∀ idx : IVec ⟨4, ![A, B, G, n]⟩ 32,
      (Host.sort2 ⟨4, ![A, B, G, n]⟩ 3 (fun l r => FloatOps.cmpfTotal (F := Ideal) (φ := .f32) .gt l.1 r.1) x idx).2 (ix4 i k g ⟨j.val, hj⟩)
        = idx (Shape.Idx.along (s := ⟨4, ![A, B, G, n]⟩) (ix4 i k g ⟨j.val, hj⟩) (3 : Fin 4) (sortedFrom (fun l l' =>
            FloatOps.cmpfTotal (F := Ideal) (φ := .f32) .gt (x (Shape.Idx.along (s := ⟨4, ![A, B, G, n]⟩) (ix4 i k g ⟨j.val, hj⟩) (3 : Fin 4) l))
              (x (Shape.Idx.along (s := ⟨4, ![A, B, G, n]⟩) (ix4 i k g ⟨j.val, hj⟩) (3 : Fin 4) l')) == 1#1) ⟨j.val, hj⟩)) := fun idx => rfl
  have s' : ∀ idx : IVec ⟨4, ![A, B, G, n]⟩ 32,
      (Host.sort2 ⟨4, ![A, B, G, n]⟩ 3 (fun l r => FloatOps.cmpfTotal (F := Ideal) (φ := .f32) .gt l.1 r.1) x idx).2 (ix4 i k g ⟨j.val, hj⟩)
        = idx (ix4 i k g (sortedFrom (byValue fun l => x (ix4 i k g l)) ⟨j.val, hj⟩)) := fun idx =>
    (s idx).trans ((congrArg (fun f : Fin n → Fin n → Bool => idx (Shape.Idx.along (s := ⟨4, ![A, B, G, n]⟩) (ix4 i k g ⟨j.val, hj⟩) (3 : Fin 4)
      (sortedFrom f ⟨j.val, hj⟩))) b).trans (congrArg idx (along4 i k g _ _)))
  exact (s' _).trans rfl

variable (P : FVec Ideal S16384x3072 .f32) (C S : FVec Ideal S16384x128 .f32)

theorem own_at (n : Fin 64) (s : Fin 256) (h : Fin 8) (b : Fin 64) : own (ix4 n s h b) = 1#1 ↔ b = n := by
  pointwise [own]
  exact (eq_word (by omega) (by omega)).trans Fin.ext_iff.symm

theorem ranked_at (j : Fin 3) (off : Fin 4 → ℕ) (ho : off = ![0, 0, 0, j.val]) (hs : S64x256x8x3.Slices off S64x256x8x1)
    (n : Fin 64) (s : Fin 256) (h : Fin 8) (b : Fin 64) :
    ranked P C S (BitVec.ofNat 32 j.val) off hs (ix4 n s h b) = 1#1
      ↔ j.val < n.val ∧ place (gateAt P C S n s h) ⟨j.val, by omega⟩ = b := by
  subst ho
  pointwise [ranked]
  have ht := topK4 (gates P C S) sliceFits_S64x256x8x64_S64x256x8x3 n s h j (by omega)
  rw [funext fun b => gates_at P C S n s h b] at ht
  refine (and_one _ _).trans ?_
  refine (and_congr ((iff_of_eq (congrArg (fun w => IntOp.cmpi CmpIPredicate.eq w (BitVec.ofNat 32 b.val) = 1#1) ht)).trans
    (eq_word (by omega) (by omega))) (lt_word (a := j.val) (b := n.val) (by omega) (by omega))).trans ?_
  exact and_comm.trans (and_congr_right fun _ => Fin.ext_iff.symm)

open Classical in
theorem mask_at (n : Fin 64) (s : Fin 256) (h : Fin 8) (b : Fin 64) :
    mask P C S (ix4 n s h b) = if Attends (gateAt P C S n s h) n b then 0 else ⊥ := by
  have e0 := ranked_at P C S 0 ![0, 0, 0, 0] rfl slices_S64x256x8x3_S64x256x8x1_0_0_0_0 n s h b
  have e1 := ranked_at P C S 1 ![0, 0, 0, 1] rfl slices_S64x256x8x3_S64x256x8x1_0_0_0_1 n s h b
  have e2 := ranked_at P C S 2 ![0, 0, 0, 2] rfl slices_S64x256x8x3_S64x256x8x1_0_0_0_2 n s h b
  have hm : mask P C S (ix4 n s h b)
      = Scalar.select (IntOp.ori (IntOp.ori (IntOp.ori (own (ix4 n s h b))
          (ranked P C S 0#32 ![0, 0, 0, 0] slices_S64x256x8x3_S64x256x8x1_0_0_0_0 (ix4 n s h b)))
          (ranked P C S 1#32 ![0, 0, 0, 1] slices_S64x256x8x3_S64x256x8x1_0_0_0_1 (ix4 n s h b)))
          (ranked P C S 2#32 ![0, 0, 0, 2] slices_S64x256x8x3_S64x256x8x1_0_0_0_2 (ix4 n s h b)))
        (Ideal.ofBits .f32 0x00000000#32) (Ideal.ofBits .f32 0xFF800000#32) := rfl
  have hc := (or_one _ _).trans (or_congr ((or_one _ _).trans (or_congr ((or_one _ _).trans (or_congr (own_at n s h b) e0)) e1)) e2)
  have ha : ((b = n ∨ ((0 : Fin 3).val < n.val ∧ place (gateAt P C S n s h) ⟨(0 : Fin 3).val, by omega⟩ = b))
      ∨ ((1 : Fin 3).val < n.val ∧ place (gateAt P C S n s h) ⟨(1 : Fin 3).val, by omega⟩ = b))
      ∨ ((2 : Fin 3).val < n.val ∧ place (gateAt P C S n s h) ⟨(2 : Fin 3).val, by omega⟩ = b) ↔ Attends (gateAt P C S n s h) n b := Iff.rfl
  have hd := hc.trans ha
  refine hm.trans ?_
  unfold Scalar.select
  by_cases hb : Attends (gateAt P C S n s h) n b
  · exact (if_pos (hd.mpr hb)).trans (zero_eq.trans (if_pos hb).symm)
  · exact (if_neg fun h' => hb (hd.mp h')).trans (bot_eq.trans (if_neg hb).symm)

/-- The scale, as the reference computes it. -/
theorem scale_at : Ideal.div 1 (Ideal.sqrt (Ideal.ofBits .f32 0x43000000#32) * Ideal.log (Ideal.ofBits .f32 0x40000000#32)) = scale := by
  have hs : (0 : ℝ) < Real.sqrt 128 := Real.sqrt_pos.mpr (by norm_num)
  have hl : (0 : ℝ) < Real.log 2 := Real.log_pos (by norm_num)
  rw [c128_eq, two_eq, Ideal.sqrt_coe, if_neg (by norm_num), Ideal.log_coe, if_neg (by norm_num), ← EReal.coe_mul, ← EReal.coe_one,
    Cert.OutProj.div_coe _ _ (mul_pos hs hl).ne']
  unfold scale
  rw [one_div, mul_inv]

/-- The queries' result by block, row and head. -/
def columns : FVec Ideal S64x256x8x256 .f32 :=
  concatenate S64x256x8x256 3
    [⟨S64x256x8x128, mulf (turn C S (qRaw P)) (broadcastInDim S64x256x8x128 ![] bcast_S_S64x256x8x128
        (Host.divf (constant S_ .f32 0x3F800000#32)
          (mulf (Host.sqrt (constant S_ .f32 0x43000000#32)) (Host.log (constant S_ .f32 0x40000000#32)))))⟩,
     ⟨S64x256x8x64, mask P C S⟩,
     ⟨S64x256x8x64, broadcastInDim S64x256x8x64 ![] bcast_S_S64x256x8x64 (constant S_ .f32 0x00000000#32)⟩]
    concatenates_S64x256x8x128_S64x256x8x64_S64x256x8x64_S64x256x8x256_d3

theorem columns_at (n : Fin 64) (s : Fin 256) (h : Fin 8) (r : Fin 256) : columns P C S (ix4 n s h r) = qaAt P C S h r n s := by
  pointwise [columns]
  rw [scale_at]
  unfold qaAt
  by_cases hr : r.val < 128
  · rw [dif_pos hr, dif_pos hr]
    exact congrArg (· * scale) (q_at P C S n s h _)
  · rw [dif_neg hr, dif_neg hr]
    by_cases hr' : r.val - 128 < 64
    · rw [dif_pos hr', dif_pos hr']
      exact mask_at P C S n s h _
    · rw [dif_neg hr', dif_neg hr']

theorem cast_at (x : FVec Ideal S8x256x64x256 .f32) (h : Fin 8) (r : Fin 256) (w : Fin 16384) :
    shapeCast S8x256x16384 x shapeCasts_S8x256x64x256_S8x256x16384 (ix3 h r w) = x (ix4 h r ⟨w.val / 256, by omega⟩ ⟨w.val % 256, by omega⟩) := by
  pointwise []

theorem transpose_at (x : FVec Ideal S64x256x8x256 .f32) (h : Fin 8) (r : Fin 256) (n : Fin 64) (s : Fin 256) :
    transpose S8x256x64x256 [2, 3, 0, 1] x transposes_S64x256x8x256_S8x256x64x256_2_3_0_1 (ix4 h r n s) = x (ix4 n s h r) := by
  pointwise []

theorem truncf_at (x : FVec Ideal S8x256x16384 .f32) (y : S8x256x16384.Idx) : truncf .bf16 x bitsLt_bf16_f32 y = x y := rfl

theorem queries_columns : queries P C S
    = truncf .bf16 (shapeCast S8x256x16384 (transpose S8x256x64x256 [2, 3, 0, 1] (columns P C S) transposes_S64x256x8x256_S8x256x64x256_2_3_0_1)
        shapeCasts_S8x256x64x256_S8x256x16384) bitsLt_bf16_f32 := rfl

theorem queries_at (h : Fin 8) (r : Fin 256) (w : Fin 16384) :
    queries P C S (ix3 h r w) = qaAt P C S h r ⟨w.val / 256, by omega⟩ ⟨w.val % 256, by omega⟩ := by
  rw [queries_columns, truncf_at, cast_at, transpose_at, columns_at]

/-- The whole keys' result. -/
def keys : FVec Ideal S64x8x256x256 .bf16 :=
  truncf .bf16 (transpose S64x8x256x256 [0, 2, 1, 3] (concatenate S64x256x8x256 3
    [⟨S64x256x8x128, turn C S (kRaw P)⟩,
     ⟨S64x256x8x128, broadcastInDim S64x256x8x128 ![0, 1, 2, 3] bcast_S64x1x1x128_S64x256x8x128_0_1_2_3
        (broadcastInDim S64x1x1x128 ![0, 3] bcast_S64x128_S64x1x1x128_0_3 (uitofp .f32
          (cmpi .eq (broadcastInDim S64x128 ![0, 1] bcast_S1x128_S64x128_0_1 (broadcastInDim S1x128 ![1] bcast_S128_S1x128_1 (iotaInDim S128 32 0)))
            (broadcastInDim S64x128 ![0, 1] bcast_S64x1_S64x128_0_1 (broadcastInDim S64x1 ![0] bcast_S64_S64x1_0 (iotaInDim S64 32 0))))))⟩]
    concatenates_S64x256x8x128_S64x256x8x128_S64x256x8x256_d3) transposes_S64x256x8x256_S64x8x256x256_0_2_1_3) bitsLt_bf16_f32

theorem keys_at (n : Fin 64) (h : Fin 8) (s r : Fin 256) : keys P C S (ix4 n h s r) = kaAt P C S n h s r := by
  pointwise [keys]
  unfold kaAt
  by_cases hr : r.val < 128
  · rw [dif_pos hr, dif_pos hr]
    exact k_at P C S n s h _
  · rw [dif_neg hr, dif_neg hr]
    exact word_number (by omega) (by omega)

/-- The whole values' result. -/
def values : FVec Ideal S64x8x144x256 .bf16 :=
  truncf .bf16 (transpose S64x8x144x256 [0, 2, 3, 1] (concatenate S64x256x8x144 3
    [⟨S64x256x8x128, vRaw P⟩,
     ⟨S64x256x8x1, broadcastInDim S64x256x8x1 ![] bcast_S_S64x256x8x1 (constant S_ .f32 0x3F800000#32)⟩,
     ⟨S64x256x8x15, broadcastInDim S64x256x8x15 ![] bcast_S_S64x256x8x15 (constant S_ .f32 0x00000000#32)⟩]
    concatenates_S64x256x8x128_S64x256x8x1_S64x256x8x15_S64x256x8x144_d3) transposes_S64x256x8x144_S64x8x144x256_0_2_3_1) bitsLt_bf16_f32

theorem values_at (n : Fin 64) (h : Fin 8) (r : Fin 144) (s : Fin 256) : values P (ix4 n h r s) = vaAt P n h r s := by
  pointwise [values]
  unfold vaAt
  by_cases hr : r.val < 128
  · rw [dif_pos hr, dif_pos hr]
    exact vRaw_at P n s h _
  · rw [dif_neg hr, dif_neg hr]
    by_cases h1 : r.val = 128
    · exact (dif_pos (by omega)).trans (if_pos h1).symm
    · exact (dif_neg (by omega)).trans (if_neg h1).symm

end Cert.ReferencePrepIdeal.Prep

end
-- ==== Proof.Prep.Finite.lean ====
/- The precondition of the preparation, decoded: where it is all ones, every entry of the three arguments is a real
   number. -/
module

public import proofs.«01_k».proof.Pre_finite_prep
public import proofs.«01_k».proof.Proof.Gen.Pre_finite_prep
public import proofs.«01_k».proof.Proof.OutProj.Finite

@[expose] public section

set_option Elab.async false

noncomputable section

namespace Cert.FinitePrep

open Idealize.ShloMosaic Cert.Pre_finite_prep Cert.Pre_finite_prep.Gen Cert.OutProj

/-- A conjunction over a whole array that is one is one at each element. -/
theorem all_one {s u : Shape} {axes : List (Fin s.rank)} (x : s.Idx → BitVec 1) (v : u.Idx → BitVec 1) (h : s.ReducesTo axes S_)
    (hu : 0 < u.numel) (j : S_.Idx) (e : Host.reduce IntOp.andi x v h hu j = 1#1) (y : s.Idx) : x y = 1#1 := by
  rw [Host.reduce_eq_foldl] at e
  refine (Cert.Finite.foldl_one x _ _ e).2 y (List.mem_filter.mpr ⟨?_, ?_⟩)
  · exact List.mem_map.mpr ⟨s.rowMajor y, List.mem_finRange _, Equiv.symm_apply_apply _ _⟩
  · exact decide_eq_true (funext fun a => a.elim0)

theorem of_pre (a0 : FVec Ideal S16384x3072 .f32) (a1 a2 : FVec Ideal S16384x128 .f32)
    (h : fn (F := Ideal) a0 a1 a2 = fun _ => 1#1) :
    (∀ y, IsReal (a0 y)) ∧ (∀ y, IsReal (a1 y)) ∧ ∀ y, IsReal (a2 y) := by
  have e := congrFun h (fun a => a.elim0)
  simp only [fn, andi] at e
  obtain ⟨e, e2⟩ := Cert.Finite.andi_one.mp e
  obtain ⟨e0, e1⟩ := Cert.Finite.andi_one.mp e
  exact ⟨fun y => Cert.Finite.real_of_abs _ (all_one _ _ _ _ _ e0 y), fun y => Cert.Finite.real_of_abs _ (all_one _ _ _ _ _ e1 y),
    fun y => Cert.Finite.real_of_abs _ (all_one _ _ _ _ _ e2 y)⟩

end Cert.FinitePrep

end
-- ==== Proof.Prep.Equation.lean ====
/- The preparation of the block attention: the kernel's three arrays are the reference's. -/
module

public import proofs.«01_k».proof.Defs
public import proofs.«01_k».proof.Proof.Prep.Array
public import proofs.«01_k».proof.Proof.Prep.Reference
public import proofs.«01_k».proof.Proof.Prep.Finite
public import Idealize.ShloMosaic.Lib.Quiescent

@[expose] public section

set_option maxRecDepth 65536
set_option Elab.async false

noncomputable section

namespace Cert.Prep

open Idealize.ShloMosaic Idealize.ShloMosaic.TcCoe Idealize.SL.Sem

theorem ix3_self {a b c : ℕ} (i : (⟨3, ![a, b, c]⟩ : Shape).Idx) : i = ix3 (i 0) (i 1) (i 2) := by
  funext x
  match x with
  | ⟨0, _⟩ => rfl
  | ⟨1, _⟩ => rfl
  | ⟨2, _⟩ => rfl

theorem ix4_self {a b c d : ℕ} (i : (⟨4, ![a, b, c, d]⟩ : Shape).Idx) : i = ix4 (i 0) (i 1) (i 2) (i 3) := by
  funext x
  match x with
  | ⟨0, _⟩ => rfl
  | ⟨1, _⟩ => rfl
  | ⟨2, _⟩ => rfl
  | ⟨3, _⟩ => rfl

/-- Under the precondition every argument entry is a real number. -/
theorem real_of_pre {m : (ℓ : Loc Cert.KernelPrepIdeal.nD Cert.KernelPrepIdeal.τ Cert.KernelPrepIdeal.sig) → Buf (Elt Ideal) ℓ}
    (h : Cert.Pre_KernelPrepIdeal_finite_prep (hPre_finite_prep := Cert.Pre_finite_prep.Gen.facts) m) (c : Dev Cert.KernelPrepIdeal.nD) :
    Cert.KernelPrepIdeal.Prep.Real3 m c :=
  Cert.FinitePrep.of_pre _ _ _ (h c)

/-- The constant that stands for minus infinity and the scale of the queries are printed where the table names them. -/
theorem preserves : Cert.preserves_KernelPrep_KernelPrepIdeal :=
  ⟨IdealRules.named_const.statement Cert.KernelPrepIdeal.κ "q_scale" .f32 0x3E0293EE#32 (((Real.sqrt 128)⁻¹ * (Real.log 2)⁻¹ : ℝ) : EReal) rfl,
    IdealRules.named_const.statement Cert.KernelPrepIdeal.κ "neg" .f32 0xF149F2CA#32 ⊥ rfl⟩

section Reference

open Cert.ReferencePrepIdeal Cert.ReferencePrepIdeal.Value

/-- The reference runs; its three arrays are the three named ones of its arguments. -/
theorem run_reference (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v102) = Cert.ReferencePrepIdeal.Prep.queries (m ((c.tc : Thread nD τ).loc main_arg0)) (m ((c.tc : Thread nD τ).loc main_arg1)) (m ((c.tc : Thread nD τ).loc main_arg2))
      ∧ r.2.mem ((c.tc : Thread nD τ).loc main_v104) = Cert.ReferencePrepIdeal.Prep.keys (m ((c.tc : Thread nD τ).loc main_arg0)) (m ((c.tc : Thread nD τ).loc main_arg1)) (m ((c.tc : Thread nD τ).loc main_arg2))
      ∧ r.2.mem ((c.tc : Thread nD τ).loc main_v106) = Cert.ReferencePrepIdeal.Prep.values (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (Cert.ReferencePrepIdeal.Prep.queries_eq m c), (h c).2.1.trans rfl, (h c).2.2.1.trans rfl, (h c).2.2.2⟩)
    (Cert.ReferencePrepIdeal.Value.run (F := Ideal) m g)

end Reference

/-- The kernel's arrays and the reference's are the same extended reals, and both programs run. -/
theorem algebraic : Cert.algebraic_KernelPrepIdeal_ReferencePrepIdeal_pre_finite_prep (hKernelPrepIdeal := Cert.KernelPrepIdeal.Gen.facts)
    (hReferencePrepIdeal := Cert.ReferencePrepIdeal.Gen.facts) (hPre_finite_prep := Cert.Pre_finite_prep.Gen.facts) := by
  intro m g m' g' hpre hagree
  refine ⟨fun c => Cert.KernelPrepIdeal.Value.G5 m c, fun c => Cert.KernelPrepIdeal.Value.G6 m c, fun c => Cert.KernelPrepIdeal.Value.G7 m c,
    Cert.KernelPrepIdeal.Value.run m g, ?_⟩
  refine (θ_run Cert.ReferencePrepIdeal.defs _ _).mono
    (fun _ h c => ⟨(h c).1.trans ?_, (h c).2.1.trans ?_, (h c).2.2.1.trans ?_, (h c).2.2.2⟩) (run_reference m' g')
  · obtain ⟨e0, e1, e2⟩ := hagree c
    rw [e0, e1, e2]
    funext i
    rw [ix3_self i]
    exact (Cert.ReferencePrepIdeal.Prep.queries_at _ _ _ _ _ _).trans
      (Cert.KernelPrepIdeal.Prep.array5 m c (real_of_pre hpre c) _ _ _).symm
  · obtain ⟨e0, e1, e2⟩ := hagree c
    rw [e0, e1, e2]
    funext i
    rw [ix4_self i]
    exact (Cert.ReferencePrepIdeal.Prep.keys_at _ _ _ _ _ _ _).trans (Cert.KernelPrepIdeal.Prep.array6 m c _ _ _ _).symm
  · obtain ⟨e0, -, -⟩ := hagree c
    rw [e0]
    funext i
    rw [ix4_self i]
    exact (Cert.ReferencePrepIdeal.Prep.values_at _ _ _ _ _).trans (Cert.KernelPrepIdeal.Prep.array7 m c _ _ _ _).symm

/-- The reference's preparation runs; it declares no semaphore. -/
theorem frame_reference : Cert.quiescent_ReferencePrepIdeal (hReferencePrepIdeal := Cert.ReferencePrepIdeal.Gen.facts) :=
  fun m g _ =>
    (θ_run Cert.ReferencePrepIdeal.defs _ _).mono (fun r h => ⟨fun c => (h c).2.2.2, sem_eq_zero_of_no_sems (by decide) r.2⟩)
      (run_reference m g)

end Cert.Prep

end
-- ==== Proof.Combine.Cells.lean ====
/- Where the combine kernel's copies land and start: trip `k` of a grid point's loops copies one row of the rows'
   array into row `k` of each half of the scratch buffer. The sets of elements, the contents copied, and the row
   numbers read from the table. -/
module

public import proofs.«01_k».proof.Proof.Gen.KernelCombineIdeal.Skeleton
public import proofs.«01_k».proof.Proof.Gen.KernelCombineIdeal.Launch
public import proofs.«01_k».proof.Proof.Gen.KernelCombineIdeal.Loops
public import Idealize.ShloMosaic.Lib.Pipeline.ValueKit
public import Idealize.ShloMosaic.Lib.Exec
public import Idealize.ShloMosaic.Lib.Ring
public import Idealize.ShloMosaic.Lib.Batch
public import Idealize.ShloMosaic.Lib.Pipeline.Quiescent
public import Idealize.ShloMosaic.Lib.Pipeline.FrameBody
public import Idealize.ShloMosaic.Lib.Affine
public import Idealize.ShloMosaic.Lib.ValueLayout
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.KernelCombineIdeal.Combine

open Cert.KernelCombineIdeal Cert.KernelCombineIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

abbrev tab : Memref sig .tc .smem S32768 .i32 := Memref.whole main_arg0
abbrev yM : Memref sig .tc .hbm S40960x2048 .f32 := Memref.whole main_arg1
abbrev scM : Memref sig .tc .vmem S2x256x2048 .f32 := Memref.whole cc0_scratch0

theorem trips1 : k0_t1_loop.trips = 256 := by decide
theorem trips2 : k0_t2_loop.trips = 256 := by decide

/-- The table's entry for half `h` of row `k` of grid point `i`. -/
def word (T : S32768.Idx → Elt F .i32) (i : grid0.Coords) (h k : ℕ) : BitVec 32 :=
  T (ValueIdx.ix1 (n := 32768) ⟨(512 * (i 0).val + 2 * k + h) % 32768, Nat.mod_lt _ (by decide)⟩)

theorem i_lt (i : grid0.Coords) : (i 0).val < 64 := (i 0).isLt

theorem iv_toNat (k : ℕ) (hk : k < 256) : (Scf.iv (0#32) (1#32) k).toNat = k := by
  simp only [Scf.iv, BitVec.toNat_add, BitVec.toNat_mul, BitVec.toNat_ofNat]; omega

theorem off1_val (i : grid0.Coords) (k : Fin k0_t1_loop.trips) : k0_off1 i k 0 = 512 * (i 0).val + 2 * k.val := by
  have hk : k.val < 256 := trips1 ▸ k.isLt
  have hi := i_lt i
  have := iv_toNat k.val hk
  show (Scalar.indexCast (Scalar.addi (Scalar.muli (BitVec.ofNat 32 (i 0).val) 512#32) (Scalar.muli 2#32 (Scf.iv 0#32 1#32 k)))).toNat = _
  simp only [Scalar.indexCast, Scalar.addi, Scalar.muli, IntOp.addi, IntOp.muli, BitVec.toNat_add, BitVec.toNat_mul, BitVec.toNat_ofNat, this]
  omega

theorem off4_val (i : grid0.Coords) (k : Fin k0_t1_loop.trips) : k0_off4 i k 0 = 512 * (i 0).val + 2 * k.val + 1 := by
  have hk : k.val < 256 := trips1 ▸ k.isLt
  have hi := i_lt i
  have := iv_toNat k.val hk
  show (Scalar.indexCast (Scalar.addi (Scalar.addi (Scalar.muli (BitVec.ofNat 32 (i 0).val) 512#32) (Scalar.muli 2#32 (Scf.iv 0#32 1#32 k))) 1#32)).toNat = _
  simp only [Scalar.indexCast, Scalar.addi, Scalar.muli, IntOp.addi, IntOp.muli, BitVec.toNat_add, BitVec.toNat_mul, BitVec.toNat_ofNat, this]
  omega

theorem off2_val (k : Fin k0_t1_loop.trips) : k0_off2 k = ![k.val, 0] := by
  have hk : k.val < 256 := trips1 ▸ k.isLt
  show ![(Scf.iv 0#32 1#32 k).toNat, 0] = _
  rw [iv_toNat k.val hk]

/-- The entry the first loop reads for the first half, and for the second. -/
theorem read1 (T : S32768.Idx → Elt F .i32) (i : grid0.Coords) (k : Fin k0_t1_loop.trips) :
    View.readAt (Elt F) tab.view (Rect.unit (s := S32768) (k0_off1 i k) S1.size (k0_off1_inb i k)).toLoadRect T
      (Shape.Idx.first (numel1_S1.symm ▸ Nat.one_pos)) = word T i 0 k.val := by
  have hk : k.val < 256 := trips1 ▸ k.isLt
  have hi := i_lt i
  have h1 := off1_val i k
  rw [View.readAt_apply]
  show T _ = T _
  congr 1
  funext a; fin_cases a
  apply Fin.ext
  show k0_off1 i k 0 + _ * _ = (512 * (i 0).val + 2 * k.val + 0) % 32768
  rw [h1]
  have hz : ((Shape.Idx.first (numel1_S1.symm ▸ Nat.one_pos) : S1.Idx) 0).val < 1 := Fin.isLt _
  have hz' : ((Shape.Idx.first (numel1_S1.symm ▸ Nat.one_pos) : S1.Idx) 0).val = 0 := by omega
  rw [Nat.mod_eq_of_lt (by omega)]
  show 512 * (i 0).val + 2 * k.val + 1 * ((Shape.Idx.first (numel1_S1.symm ▸ Nat.one_pos) : S1.Idx) 0).val = _
  rw [hz']

theorem read2 (T : S32768.Idx → Elt F .i32) (i : grid0.Coords) (k : Fin k0_t1_loop.trips) :
    View.readAt (Elt F) tab.view (Rect.unit (s := S32768) (k0_off4 i k) S1.size (k0_off4_inb i k)).toLoadRect T
      (Shape.Idx.first (numel1_S1.symm ▸ Nat.one_pos)) = word T i 1 k.val := by
  have hk : k.val < 256 := trips1 ▸ k.isLt
  have hi := i_lt i
  have h1 := off4_val i k
  rw [View.readAt_apply]
  show T _ = T _
  congr 1
  funext a; fin_cases a
  apply Fin.ext
  show k0_off4 i k 0 + _ * _ = (512 * (i 0).val + 2 * k.val + 1) % 32768
  rw [h1]
  have hz : ((Shape.Idx.first (numel1_S1.symm ▸ Nat.one_pos) : S1.Idx) 0).val < 1 := Fin.isLt _
  have hz' : ((Shape.Idx.first (numel1_S1.symm ▸ Nat.one_pos) : S1.Idx) 0).val = 0 := by omega
  rw [Nat.mod_eq_of_lt (by omega)]
  show 512 * (i 0).val + 2 * k.val + 1 + 1 * ((Shape.Idx.first (numel1_S1.symm ▸ Nat.one_pos) : S1.Idx) 0).val = _
  rw [hz']

/-- Row `w` of the rows' array; row `k` of half `h` of the scratch buffer. -/
def srcSet (w : BitVec 32) : Finset S40960x2048.Idx := Finset.univ.filter fun x => (x 0).val = w.toNat
def rowSet (h k : ℕ) : Finset S2x256x2048.Idx := Finset.univ.filter fun z => (z 0).val = h ∧ (z 1).val = k

theorem mem_srcSet (w : BitVec 32) (x : S40960x2048.Idx) : x ∈ srcSet w ↔ (x 0).val = w.toNat := by simp [srcSet]
theorem mem_rowSet (h k : ℕ) (z : S2x256x2048.Idx) : z ∈ rowSet h k ↔ (z 0).val = h ∧ (z 1).val = k := by simp [rowSet]

/-- The scratch buffer once every copy has landed. -/
def landed (T : S32768.Idx → Elt F .i32) (i : grid0.Coords) (y : S40960x2048.Idx → Elt F .f32) :
    S2x256x2048.Idx → Elt F .f32 := fun z =>
  y (ValueIdx.ix2 (n0 := 40960) (n1 := 2048) ⟨(word T i (z 0).val (z 1).val).toNat % 40960, Nat.mod_lt _ (by decide)⟩ (z 2))

/-- The row of the rows' array a copy reads, and the rows of the two halves the copies write. -/
def src (w : BitVec 32) (hw : k0_chk1 w) : Memref sig .tc .hbm S1x2048 .f32 :=
  yM.slice (Rect.unit (s := S40960x2048) (k0_off3 w) S1x2048.size (k0_off3_inb w hw)) (fun _ => rfl)
def dst0 (k : Fin k0_t1_loop.trips) : Memref sig .tc .vmem S1x2048 .f32 :=
  ((scM.slice (Rect.unit (s := S2x256x2048) ![0, 0, 0] S1x256x2048.size inb_S2x256x2048_S1x256x2048_0_0_0) (fun _ => rfl)).squeeze S256x2048 squeezes_S1x256x2048_S256x2048).slice (Rect.unit (s := S256x2048) (k0_off2 k) S1x2048.size (k0_off2_inb k)) (fun _ => rfl)
def dst1 (k : Fin k0_t1_loop.trips) : Memref sig .tc .vmem S1x2048 .f32 :=
  ((scM.slice (Rect.unit (s := S2x256x2048) ![1, 0, 0] S1x256x2048.size inb_S2x256x2048_S1x256x2048_1_0_0) (fun _ => rfl)).squeeze S256x2048 squeezes_S1x256x2048_S256x2048).slice (Rect.unit (s := S256x2048) (k0_off5 k) S1x2048.size (k0_off5_inb k)) (fun _ => rfl)

theorem src_emb (w : BitVec 32) (hw : k0_chk1 w) (j : Fin 2048) :
    (src w hw).view.emb (ValueIdx.ix2 (n0 := 1) (n1 := 2048) 0 j) = ValueIdx.ix2 (n0 := 40960) (n1 := 2048) ⟨w.toNat, by have := hw 0; exact this⟩ j := by
  funext a; fin_cases a
  · apply Fin.ext; show w.toNat + 1 * 0 = w.toNat; omega
  · apply Fin.ext; show 0 + 1 * j.val = j.val; omega

theorem dst0_emb (k : Fin k0_t1_loop.trips) (j : Fin 2048) :
    (dst0 k).view.emb (ValueIdx.ix2 (n0 := 1) (n1 := 2048) 0 j) = ValueIdx.ix3 (n0 := 2) (n1 := 256) (n2 := 2048) 0 ⟨k.val, trips1 ▸ k.isLt⟩ j := by
  have hk : k.val < 256 := trips1 ▸ k.isLt
  have e1 : (Rect.unit (s := S256x2048) (k0_off2 k) S1x2048.size (k0_off2_inb k)).emb (ValueIdx.ix2 (n0 := 1) (n1 := 2048) 0 j) = ValueIdx.ix2 (n0 := 256) (n1 := 2048) ⟨k.val, hk⟩ j := by
    funext a; fin_cases a
    · apply Fin.ext; show k0_off2 k 0 + 1 * 0 = k.val; rw [off2_val]; show k.val + 1 * 0 = k.val; omega
    · apply Fin.ext; show k0_off2 k 1 + 1 * j.val = j.val; rw [off2_val]; show 0 + 1 * j.val = j.val; omega
  show (Rect.unit (s := S2x256x2048) ![0, 0, 0] S1x256x2048.size inb_S2x256x2048_S1x256x2048_0_0_0).emb (Shape.reshapeEquiv _ ((Rect.unit (s := S256x2048) (k0_off2 k) S1x2048.size (k0_off2_inb k)).emb (ValueIdx.ix2 (n0 := 1) (n1 := 2048) 0 j))) = _
  rw [e1]
  rw [show ∀ h : S256x2048.numel = S1x256x2048.numel, Shape.reshapeEquiv h (ValueIdx.ix2 (n0 := 256) (n1 := 2048) ⟨k.val, hk⟩ j) = ValueIdx.ix3 (n0 := 1) (n1 := 256) (n2 := 2048) 0 ⟨k.val, hk⟩ j from fun h => ValueIdx.reshapeEquiv_ix2_1ab h _ _]
  funext a; fin_cases a
  · rfl
  · apply Fin.ext; show 0 + 1 * k.val = k.val; omega
  · apply Fin.ext; show 0 + 1 * j.val = j.val; omega

theorem dst1_emb (k : Fin k0_t1_loop.trips) (j : Fin 2048) :
    (dst1 k).view.emb (ValueIdx.ix2 (n0 := 1) (n1 := 2048) 0 j) = ValueIdx.ix3 (n0 := 2) (n1 := 256) (n2 := 2048) 1 ⟨k.val, trips1 ▸ k.isLt⟩ j := by
  have hk : k.val < 256 := trips1 ▸ k.isLt
  have e1 : (Rect.unit (s := S256x2048) (k0_off5 k) S1x2048.size (k0_off5_inb k)).emb (ValueIdx.ix2 (n0 := 1) (n1 := 2048) 0 j) = ValueIdx.ix2 (n0 := 256) (n1 := 2048) ⟨k.val, hk⟩ j := by
    funext a; fin_cases a
    · apply Fin.ext; show k0_off2 k 0 + 1 * 0 = k.val; rw [off2_val]; show k.val + 1 * 0 = k.val; omega
    · apply Fin.ext; show k0_off2 k 1 + 1 * j.val = j.val; rw [off2_val]; show 0 + 1 * j.val = j.val; omega
  show (Rect.unit (s := S2x256x2048) ![1, 0, 0] S1x256x2048.size inb_S2x256x2048_S1x256x2048_1_0_0).emb (Shape.reshapeEquiv _ ((Rect.unit (s := S256x2048) (k0_off5 k) S1x2048.size (k0_off5_inb k)).emb (ValueIdx.ix2 (n0 := 1) (n1 := 2048) 0 j))) = _
  rw [e1]
  rw [show ∀ h : S256x2048.numel = S1x256x2048.numel, Shape.reshapeEquiv h (ValueIdx.ix2 (n0 := 256) (n1 := 2048) ⟨k.val, hk⟩ j) = ValueIdx.ix3 (n0 := 1) (n1 := 256) (n2 := 2048) 0 ⟨k.val, hk⟩ j from fun h => ValueIdx.reshapeEquiv_ix2_1ab h _ _]
  funext a; fin_cases a
  · rfl
  · apply Fin.ext; show 0 + 1 * k.val = k.val; omega
  · apply Fin.ext; show 0 + 1 * j.val = j.val; omega

/-- An index of a one-row block is its column. -/
theorem row_idx (x : S1x2048.Idx) : ∃ j : Fin 2048, x = ValueIdx.ix2 (n0 := 1) (n1 := 2048) 0 j := by
  refine ⟨x 1, ?_⟩
  funext a; fin_cases a
  · apply Fin.ext; have h : (x 0).val < 1 := (x 0).isLt; show (x 0).val = 0; omega
  · rfl

theorem src_set (w : BitVec 32) (hw : k0_chk1 w) : (src w hw).view.set = srcSet w := by
  refine Finset.ext fun (x : S40960x2048.Idx) => Iff.trans ?_ (mem_srcSet w x).symm
  constructor
  · intro h
    obtain ⟨u, -, rfl⟩ := Finset.mem_map.mp h
    obtain ⟨j, rfl⟩ := row_idx u
    exact congrArg (fun z : S40960x2048.Idx => (z 0).val) (src_emb w hw j)
  · intro h
    refine Finset.mem_map.mpr ⟨ValueIdx.ix2 (n0 := 1) (n1 := 2048) 0 (x 1), Finset.mem_univ _, ?_⟩
    refine (src_emb w hw (x 1)).trans ?_
    funext a; fin_cases a
    · apply Fin.ext; exact h.symm
    · rfl

theorem dst0_set (k : Fin k0_t1_loop.trips) : (dst0 k).view.set = rowSet 0 k.val := by
  refine Finset.ext fun (x : S2x256x2048.Idx) => Iff.trans ?_ (mem_rowSet 0 k.val x).symm
  constructor
  · intro h
    obtain ⟨u, -, rfl⟩ := Finset.mem_map.mp h
    obtain ⟨j, rfl⟩ := row_idx u
    exact ⟨congrArg (fun z : S2x256x2048.Idx => (z 0).val) (dst0_emb k j),
      congrArg (fun z : S2x256x2048.Idx => (z 1).val) (dst0_emb k j)⟩
  · intro h
    refine Finset.mem_map.mpr ⟨ValueIdx.ix2 (n0 := 1) (n1 := 2048) 0 (x 2), Finset.mem_univ _, ?_⟩
    refine (dst0_emb k (x 2)).trans ?_
    funext a; fin_cases a
    · apply Fin.ext; exact h.1.symm
    · apply Fin.ext; exact h.2.symm
    · rfl

theorem dst1_set (k : Fin k0_t1_loop.trips) : (dst1 k).view.set = rowSet 1 k.val := by
  refine Finset.ext fun (x : S2x256x2048.Idx) => Iff.trans ?_ (mem_rowSet 1 k.val x).symm
  constructor
  · intro h
    obtain ⟨u, -, rfl⟩ := Finset.mem_map.mp h
    obtain ⟨j, rfl⟩ := row_idx u
    exact ⟨congrArg (fun z : S2x256x2048.Idx => (z 0).val) (dst1_emb k j),
      congrArg (fun z : S2x256x2048.Idx => (z 1).val) (dst1_emb k j)⟩
  · intro h
    refine Finset.mem_map.mpr ⟨ValueIdx.ix2 (n0 := 1) (n1 := 2048) 0 (x 2), Finset.mem_univ _, ?_⟩
    refine (dst1_emb k (x 2)).trans ?_
    funext a; fin_cases a
    · apply Fin.ext; exact h.1.symm
    · apply Fin.ext; exact h.2.symm
    · rfl

/-- On its row, a copy leaves what the buffer holds once every copy has landed. -/
theorem write0 (T : S32768.Idx → Elt F .i32) (i : grid0.Coords) (y : S40960x2048.Idx → Elt F .f32)
    (k : Fin k0_t1_loop.trips) (hw) (f : S2x256x2048.Idx → Elt F .f32) (z : S2x256x2048.Idx) (hz : z ∈ rowSet 0 k.val) :
    (dst0 k).view.write (Elt F) f ((src (word T i 0 k.val) hw).view.read (Elt F) y) Finset.univ z = landed T i y z := by
  replace hz : z ∈ (dst0 k).view.set := (dst0_set k).symm ▸ hz
  obtain ⟨u, -, rfl⟩ := Finset.mem_map.mp hz
  have hlt : (word T i 0 k.val).toNat < 40960 := hw 0
  refine (View.write_emb_of_mem (v := (dst0 k).view) (Val := Elt F) f _ (Finset.mem_univ u)).trans ?_
  show y ((src (word T i 0 k.val) hw).view.emb u) = landed T i y ((dst0 k).view.emb u)
  obtain ⟨j, rfl⟩ := row_idx u
  refine Eq.trans ?_ (congrArg (landed T i y) (dst0_emb k j)).symm
  refine (congrArg y (src_emb _ hw j)).trans ?_
  unfold landed
  congr 1
  funext a; fin_cases a
  · apply Fin.ext; exact (Nat.mod_eq_of_lt hlt).symm
  · rfl

theorem write1 (T : S32768.Idx → Elt F .i32) (i : grid0.Coords) (y : S40960x2048.Idx → Elt F .f32)
    (k : Fin k0_t1_loop.trips) (hw) (f : S2x256x2048.Idx → Elt F .f32) (z : S2x256x2048.Idx) (hz : z ∈ rowSet 1 k.val) :
    (dst1 k).view.write (Elt F) f ((src (word T i 1 k.val) hw).view.read (Elt F) y) Finset.univ z = landed T i y z := by
  replace hz : z ∈ (dst1 k).view.set := (dst1_set k).symm ▸ hz
  obtain ⟨u, -, rfl⟩ := Finset.mem_map.mp hz
  have hlt : (word T i 1 k.val).toNat < 40960 := hw 0
  refine (View.write_emb_of_mem (v := (dst1 k).view) (Val := Elt F) f _ (Finset.mem_univ u)).trans ?_
  show y ((src (word T i 1 k.val) hw).view.emb u) = landed T i y ((dst1 k).view.emb u)
  obtain ⟨j, rfl⟩ := row_idx u
  refine Eq.trans ?_ (congrArg (landed T i y) (dst1_emb k j)).symm
  refine (congrArg y (src_emb _ hw j)).trans ?_
  unfold landed
  congr 1
  funext a; fin_cases a
  · apply Fin.ext; exact (Nat.mod_eq_of_lt hlt).symm
  · rfl

end Cert.KernelCombineIdeal.Combine
-- ==== Proof.Combine.Body.lean ====
/- One grid point of the combine kernel: the copies of its first loop are issued as one batch, the second loop takes
   them all in, and the point's block of the result is computed from what landed. -/
module

public import proofs.«01_k».proof.Proof.Combine.Cells

@[expose] public section

set_option maxRecDepth 16384
set_option Elab.async false

noncomputable section

namespace Cert.KernelCombineIdeal.Combine

open Cert.KernelCombineIdeal Cert.KernelCombineIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

section Families

variable (c : Dev nD) (T : S32768.Idx → Elt F .i32) (i : grid0.Coords) (y : S40960x2048.Idx → Elt F .f32)

/-- A copy's source row, under the read share numbered `t`. -/
def yTok (w : BitVec 32) (t : ℕ) : sProp 𝕄 :=
  yM.view.loc (c : Thread nD τ) ↦[srcSet w]{Transfers.shareTokN fullShare t} y
/-- Row `k` of half `h` of the scratch buffer, at contents `f`. -/
def rowPt (f : S2x256x2048.Idx → Elt F .f32) (h k : ℕ) : sProp 𝕄 :=
  scM.view.loc (c : Thread nD τ) ↦[rowSet h k]{fullShare} f

/-- What the copy of trip `k` into half `h` needs, at a scratch buffer holding `f`; with `f` the landed contents, what
    it hands back. -/
def cell (f : S2x256x2048.Idx → Elt F .f32) (h k : ℕ) : sProp 𝕄 :=
  iprop(rowPt c f h k ∗ yTok c y (word T i h k) (2 * k + h))

instance cell_storable (f : S2x256x2048.Idx → Elt F .f32) (h k : ℕ) :
    BI.Storable (upEmb : UEmb _ 𝕄) (cell c T i y f h k) := by
  unfold cell rowPt yTok; infer_instance

/-- The credit of one row. -/
abbrev NN : ℕ := 256
theorem credit0 (k : Fin k0_t1_loop.trips) : (dst0 k).view.amount (.dma cc0_scratch1.sem : SemLoc sig) = NN := by
  show RefSig.tileCredit S1x2048 .f32 = 256; decide
theorem credit1 (k : Fin k0_t1_loop.trips) : (dst1 k).view.amount (.dma cc0_scratch1.sem : SemLoc sig) = NN := by
  show RefSig.tileCredit S1x2048 .f32 = 256; decide

/-- A source row held as its view spells it, and the row a copy leaves. -/
theorem srcPt (w : BitVec 32) (hw : k0_chk1 w) (t : ℕ) :
    ((src w hw).view.loc (c : Thread nD τ) ↦[(src w hw).view.set]{Transfers.shareTokN fullShare t} y : sProp 𝕄) = yTok c y w t :=
  congrArg (fun S => (yM.view.loc (c : Thread nD τ) ↦[S]{Transfers.shareTokN fullShare t} y : sProp 𝕄)) (src_set w hw)
theorem dstPt0 (f : S2x256x2048.Idx → Elt F .f32) (k : Fin k0_t1_loop.trips) (hw) :
    ((dst0 k).view.loc (c : Thread nD τ) ↦[rowSet 0 k.val]{fullShare}
        ((dst0 k).view.write (Elt F) f ((src (word T i 0 k.val) hw).view.read (Elt F) y) Finset.univ) : sProp 𝕄)
      = rowPt c (landed T i y) 0 k.val :=
  pointsTo_congr (ℓ := scM.view.loc (c : Thread nD τ)) (write0 T i y k hw f)
theorem dstPt1 (f : S2x256x2048.Idx → Elt F .f32) (k : Fin k0_t1_loop.trips) (hw) :
    ((dst1 k).view.loc (c : Thread nD τ) ↦[rowSet 1 k.val]{fullShare}
        ((dst1 k).view.write (Elt F) f ((src (word T i 1 k.val) hw).view.read (Elt F) y) Finset.univ) : sProp 𝕄)
      = rowPt c (landed T i y) 1 k.val :=
  pointsTo_congr (ℓ := scM.view.loc (c : Thread nD τ)) (write1 T i y k hw f)

/-- The deliveries: copy `2k` lands in the first half, copy `2k + 1` in the second. -/
abbrev deliv : Fin (2 * 256) → sProp 𝕄 :=
  Ring.interleaved 256 (cell c T i y (landed T i y) 0) (cell c T i y (landed T i y) 1)

abbrev batch (j u : ℕ) : sProp 𝕄 :=
  Transfers.Batch (countersEmb (U := Pipeline.UD sig nD τ)) (c : Thread nD τ) (.dma cc0_scratch1.sem) () NN (deliv c T i y) j u

theorem issue0 (f : S2x256x2048.Idx → Elt F .f32) (k : Fin k0_t1_loop.trips) (hk : k.val < 256)
    (w : BitVec 32) (hw : k0_chk1 w) (e : w = word T i 0 k.val)
    {hsrc hdst hsem} (kk : PUnit → Prog (TpuEff nD τ sig (Elt F) Λ₀ .tc) Unit) (Q : Unit → sProp 𝕄) :
    iprop(cell c T i y f 0 k.val ∗ batch c T i y (2 * k.val) 0)
      ⊢ iprop((batch c T i y (2 * k.val + 1) 0 -∗ wp frame (wpE (defs₀ (F := F)) Variants.none (c : Thread nD τ) none) Set.univ (kk ⟨⟩) Q)
        -∗ wp frame (wpE (defs₀ (F := F)) Variants.none (c : Thread nD τ) none) Set.univ
          (.op (.enqueueDmaAs (src w hw) (.here (dst0 k)) .same (.dma cc0_scratch1.sem) hsrc hdst hsem) kk) Q) := by
  subst e
  have hj : 2 * k.val < 2 * 256 := by omega
  have hD : iprop(((dst0 k).view.loc (c : Thread nD τ) ↦[rowSet 0 k.val]{fullShare}
        ((dst0 k).view.write (Elt F) f ((ReadAs.same (Val := Elt F)).apply ((src (word T i 0 k.val) hw).view.read (Elt F) y)) Finset.univ))
      ∗ ((src (word T i 0 k.val) hw).view.loc (c : Thread nD τ) ↦[(src (word T i 0 k.val) hw).view.set]{Transfers.shareTokN fullShare (2 * k.val + 0)} y))
      ⊢ (deliv c T i y ⟨2 * k.val, hj⟩ : sProp 𝕄) :=
    Entails.of_eq ((congrArg₂ (fun A B : sProp 𝕄 => iprop(A ∗ B)) (dstPt0 c T i y f k hw) (srcPt c y _ hw _)).trans
      (Ring.interleaved_even 256 (cell c T i y (landed T i y) 0) (cell c T i y (landed T i y) 1) k.val hj).symm)
  have hE : cell c T i y f 0 k.val ⊢ (iprop(((src (word T i 0 k.val) hw).view.loc (c : Thread nD τ) ↦[(src (word T i 0 k.val) hw).view.set]{Transfers.shareTokN fullShare (2 * k.val + 0)} y)
      ∗ ((dst0 k).view.loc (c : Thread nD τ) ↦[rowSet 0 k.val]{fullShare} f)) : sProp 𝕄) :=
    sep_comm.1.trans (Entails.of_eq (congrArg (fun A : sProp 𝕄 => iprop(A ∗ rowPt c f 0 k.val)) (srcPt c y _ hw _).symm))
  have hu : 0 ≤ (2 * k.val) * NN := Nat.zero_le _
  have H := Transfers.wp_dmaBatch (Lvl := ℕ) (defs := defs₀ (F := F)) (countersEmb (U := Pipeline.UD sig nD τ)) Variants.none (c : Thread nD τ) none
    (src := src (word T i 0 k.val) hw) (via := .same) (dst := dst0 k) (sm := .dma cc0_scratch1.sem) (hsrc := hsrc) (hdst := hdst) (hsem := hsem)
    (k := kk) (Q := Q) (q := Transfers.shareTokN fullShare (2 * k.val + 0)) (fs := y) (Sd := rowSet 0 k.val) (fd := f)
    (D := deliv c T i y) (j := 2 * k.val) (u := 0) () NN (credit0 k) (dst0_set k).subset hj hu hD
  exact ((sep_mono hE .rfl).trans sep_assoc.1).trans H

theorem issue1 (f : S2x256x2048.Idx → Elt F .f32) (k : Fin k0_t1_loop.trips) (hk : k.val < 256)
    (w : BitVec 32) (hw : k0_chk1 w) (e : w = word T i 1 k.val)
    {hsrc hdst hsem} (kk : PUnit → Prog (TpuEff nD τ sig (Elt F) Λ₀ .tc) Unit) (Q : Unit → sProp 𝕄) :
    iprop(cell c T i y f 1 k.val ∗ batch c T i y (2 * k.val + 1) 0)
      ⊢ iprop((batch c T i y (2 * k.val + 1 + 1) 0 -∗ wp frame (wpE (defs₀ (F := F)) Variants.none (c : Thread nD τ) none) Set.univ (kk ⟨⟩) Q)
        -∗ wp frame (wpE (defs₀ (F := F)) Variants.none (c : Thread nD τ) none) Set.univ
          (.op (.enqueueDmaAs (src w hw) (.here (dst1 k)) .same (.dma cc0_scratch1.sem) hsrc hdst hsem) kk) Q) := by
  subst e
  have hj : 2 * k.val + 1 < 2 * 256 := by omega
  have hD : iprop(((dst1 k).view.loc (c : Thread nD τ) ↦[rowSet 1 k.val]{fullShare}
        ((dst1 k).view.write (Elt F) f ((ReadAs.same (Val := Elt F)).apply ((src (word T i 1 k.val) hw).view.read (Elt F) y)) Finset.univ))
      ∗ ((src (word T i 1 k.val) hw).view.loc (c : Thread nD τ) ↦[(src (word T i 1 k.val) hw).view.set]{Transfers.shareTokN fullShare (2 * k.val + 1)} y))
      ⊢ (deliv c T i y ⟨2 * k.val + 1, hj⟩ : sProp 𝕄) :=
    Entails.of_eq ((congrArg₂ (fun A B : sProp 𝕄 => iprop(A ∗ B)) (dstPt1 c T i y f k hw) (srcPt c y _ hw _)).trans
      (Ring.interleaved_odd 256 (cell c T i y (landed T i y) 0) (cell c T i y (landed T i y) 1) k.val hj).symm)
  have hE : cell c T i y f 1 k.val ⊢ (iprop(((src (word T i 1 k.val) hw).view.loc (c : Thread nD τ) ↦[(src (word T i 1 k.val) hw).view.set]{Transfers.shareTokN fullShare (2 * k.val + 1)} y)
      ∗ ((dst1 k).view.loc (c : Thread nD τ) ↦[rowSet 1 k.val]{fullShare} f)) : sProp 𝕄) :=
    sep_comm.1.trans (Entails.of_eq (congrArg (fun A : sProp 𝕄 => iprop(A ∗ rowPt c f 1 k.val)) (srcPt c y _ hw _).symm))
  have hu : 0 ≤ (2 * k.val + 1) * NN := Nat.zero_le _
  have H := Transfers.wp_dmaBatch (Lvl := ℕ) (defs := defs₀ (F := F)) (countersEmb (U := Pipeline.UD sig nD τ)) Variants.none (c : Thread nD τ) none
    (src := src (word T i 1 k.val) hw) (via := .same) (dst := dst1 k) (sm := .dma cc0_scratch1.sem) (hsrc := hsrc) (hdst := hdst) (hsem := hsem)
    (k := kk) (Q := Q) (q := Transfers.shareTokN fullShare (2 * k.val + 1)) (fs := y) (Sd := rowSet 1 k.val) (fd := f)
    (D := deliv c T i y) (j := 2 * k.val + 1) (u := 0) () NN (credit1 k) (dst1_set k).subset hj hu hD
  exact ((sep_mono hE .rfl).trans sep_assoc.1).trans H

/-- Before trip `k` of the first loop. -/
def issueAt (f : S2x256x2048.Idx → Elt F .f32) (k : ℕ) (_ : Unit) : sProp 𝕄 :=
  iprop(batch c T i y (2 * k) 0
    ∗ bigSep (Ring.rangeSet 256 k 256) (fun k => cell c T i y f 0 k.val)
    ∗ bigSep (Ring.rangeSet 256 k 256) (fun k => cell c T i y f 1 k.val)
    ∗ (tab.view.loc (c : Thread nD τ) ↦{fullShare.right} T))

variable (arg3 : Memref sig .tc .vmem S256x2048 .f32) (harg3 : arg3.IsWhole)
  (arg4 : Memref sig .tc .vmem S256x128 .f32) (harg4 : arg4.IsWhole)
  (arg5 : Memref sig .tc .vmem S1x2048 .f32) (harg5 : arg5.IsWhole)
  (arg6 : Memref sig .tc .vmem S1x2048 .f32) (harg6 : arg6.IsWhole)
  (arg7 : Memref sig .tc .vmem S256x2048 .f32) (harg7 : arg7.IsWhole)

/-- The table's entries are rows of the rows' array. -/
def InRange : Prop := ∀ y, (T y : BitVec 32).toNat < 40960

abbrev issueBody := k0_t1_body (F := F) i tab (Memref.isWhole_whole _) yM (Memref.isWhole_whole _) arg3 harg3 arg4 harg4 arg5 harg5 arg6 harg6 arg7 harg7 scM (Memref.isWhole_whole _) cc0_scratch1

set_option maxHeartbeats 4000000 in
theorem issue_step (hT : InRange T) (f : S2x256x2048.Idx → Elt F .f32) (k : Fin k0_t1_loop.trips) (acc : Unit) :
    issueAt c T i y f k acc ⊢ wp frame (wpE (defs₀ (F := F)) Variants.none (c : Thread nD τ) none) Set.univ
      (issueBody i arg3 harg3 arg4 harg4 arg5 harg5 arg6 harg6 arg7 harg7 k acc) (issueAt c T i y f (k.val + 1)) := by
  have hk : k.val < 256 := trips1 ▸ k.isLt
  have e1 := read1 T i k
  have e2 := read2 T i k
  have hT1 : (word T i 0 k.val).toNat < 40960 := hT _
  have hT2 : (word T i 1 k.val).toNat < 40960 := hT _
  have hc1 : k0_chk1 (word T i 0 k.val) := by
    intro a; fin_cases a
    · show (word T i 0 k.val).toNat + 1 ≤ 40960; omega
    · show 0 + 2048 ≤ 2048; omega
  have hc2 : k0_chk2 (word T i 1 k.val) := by
    intro a; fin_cases a
    · show (word T i 1 k.val).toNat + 1 ≤ 40960; omega
    · show 0 + 2048 ≤ 2048; omega
  have hc1' := hc1
  have hc2' := hc2
  rw [← e1] at hc1'
  rw [← e2] at hc2'
  unfold issueAt
  rw [Ring.bigSep_rangeSet_head (Φ := fun k : Fin 256 => cell c T i y f 0 k.val) hk hk,
    Ring.bigSep_rangeSet_head (Φ := fun k : Fin 256 => cell c T i y f 1 k.val) hk hk]
  unfold issueBody k0_t1_body
  iintro ⟨HB, ⟨HA, HAs⟩, ⟨HC, HCs⟩, HT⟩
  sl_exec (disch := first | exact hc1' | exact hc2')
  iapply (issue0 c T i y f k hk _ hc1' e1) $$ [HA HB]
  · isplitl [HA]; · iexact HA
    iexact HB
  iintro HB
  sl_exec (disch := first | exact hc1' | exact hc2')
  iapply (issue1 c T i y f k hk _ hc2' e2) $$ [HC HB]
  · isplitl [HC]; · iexact HC
    iexact HB
  iintro HB
  sl_exec
  sl_step
  rw [show 2 * (k.val + 1) = 2 * k.val + 1 + 1 by omega]
  isplitl [HB]; · iexact HB
  isplitl [HAs]; · iexact HAs
  isplitl [HCs]; · iexact HCs
  iexact HT

abbrev drainBody := k0_t2_body (F := F) i tab (Memref.isWhole_whole _) yM (Memref.isWhole_whole _) arg3 harg3 arg4 harg4 arg5 harg5 arg6 harg6 arg7 harg7 scM (Memref.isWhole_whole _) cc0_scratch1

/-- Before trip `k` of the second loop; after the last trip, every copy has been taken in. -/
def drainInv (k : ℕ) (_ : Unit) : sProp 𝕄 :=
  iprop(⌜k ≤ 256⌝ ∗ (∃ W, owes (c : Thread nD τ) 0 W) ∗ (tab.view.loc (c : Thread nD τ) ↦{fullShare.right} T)
    ∗ (if k < 256 then batch c T i y (2 * 256) (2 * k * NN)
       else iprop(semVal ((c : Thread nD τ), SemLoc.dma cc0_scratch1.sem) 0 ∗ bigSep Finset.univ (deliv c T i y))))

set_option maxHeartbeats 4000000 in
theorem drain_step (hT : InRange T) (k : Fin k0_t2_loop.trips) (acc : Unit) :
    drainInv c T i y k acc ⊢ wp frame (wpE (defs₀ (F := F)) Variants.none (c : Thread nD τ) none) Set.univ
      (drainBody i arg3 harg3 arg4 harg4 arg5 harg5 arg6 harg6 arg7 harg7 k acc) (drainInv c T i y (k.val + 1)) := by
  have hk : k.val < 256 := trips2 ▸ k.isLt
  have e1 := read1 T i (k.cast (trips2.trans trips1.symm))
  have e2 := read2 T i (k.cast (trips2.trans trips1.symm))
  have hT1 : (word T i 0 k.val).toNat < 40960 := hT _
  have hT2 : (word T i 1 k.val).toNat < 40960 := hT _
  have hc1' : k0_chk3 (View.readAt (Elt F) tab.view (Rect.unit (s := S32768) (k0_off7 i k) S1.size (k0_off7_inb i k)).toLoadRect T
      (Shape.Idx.first (numel1_S1.symm ▸ Nat.one_pos))) := by
    refine (congrArg k0_chk3 e1).mpr ?_
    intro a; fin_cases a
    · show (word T i 0 k.val).toNat + 1 ≤ 40960; omega
    · show 0 + 2048 ≤ 2048; omega
  have hc2' : k0_chk4 (View.readAt (Elt F) tab.view (Rect.unit (s := S32768) (k0_off10 i k) S1.size (k0_off10_inb i k)).toLoadRect T
      (Shape.Idx.first (numel1_S1.symm ▸ Nat.one_pos))) := by
    refine (congrArg k0_chk4 e2).mpr ?_
    intro a; fin_cases a
    · show (word T i 1 k.val).toNat + 1 ≤ 40960; omega
    · show 0 + 2048 ≤ 2048; omega
  unfold drainInv
  rw [if_pos hk]
  rcases Nat.lt_or_ge (k.val + 1) 256 with h1 | h1
  · rw [if_pos h1]
    unfold drainBody k0_t2_body
    iintro ⟨-, ⟨%W, HO⟩, HT, HB⟩
    sl_exec (disch := first | exact hc1' | exact hc2')
    sl_step
    isplitr; · ipureintro; omega
    isplitl [HO]; · iexists _; iexact HO
    isplitl [HT]; · iexact HT
    rw [show 2 * (k.val + 1) * NN = 2 * k.val * NN + NN + NN by simp only [NN]; omega]
    iexact HB
  · rw [if_neg (Nat.not_lt.mpr h1)]
    unfold drainBody k0_t2_body
    iintro ⟨-, ⟨%W, HO⟩, HT, HB⟩
    sl_exec (disch := first | exact hc1' | exact hc2')
    sl_step
    isplitr; · ipureintro; omega
    isplitl [HO]; · iexists _; iexact HO
    isplitl [HT]; · iexact HT
    isplitl [HB]; · iexact HB
    iexact HB_all

/-! ## The buffers as rows -/

theorem rows_disjoint : ∀ b b' : Fin (2 * 256), b ≠ b' → Disjoint (rowSet (b.val % 2) (b.val / 2)) (rowSet (b'.val % 2) (b'.val / 2)) :=
  fun b b' hne => by
    rw [Finset.disjoint_left]; intro z hz hz'; rw [mem_rowSet] at hz hz'; exact hne (Fin.ext (by omega))
theorem rows_cover : Finset.univ.biUnion (fun b : Fin (2 * 256) => rowSet (b.val % 2) (b.val / 2)) = Finset.univ := by
  ext z
  simp only [Finset.mem_biUnion, Finset.mem_univ, true_and, iff_true]
  have h0 : (z 0).val < 2 := (z 0).isLt
  have h1 : (z 1).val < 256 := (z 1).isLt
  refine ⟨⟨2 * (z 1).val + (z 0).val, by omega⟩, (mem_rowSet _ _ _).mpr ⟨?_, ?_⟩⟩
  · show (z 0).val = (2 * (z 1).val + (z 0).val) % 2; omega
  · show (z 1).val = (2 * (z 1).val + (z 0).val) / 2; omega

theorem scratch_rows (f : S2x256x2048.Idx → Elt F .f32) :
    (scM.view.loc (c : Thread nD τ) ↦{fullShare} f : sProp 𝕄)
      = iprop(bigSep (Finset.range 256) (rowPt c f 0) ∗ bigSep (Finset.range 256) (rowPt c f 1)) := by
  refine (Ring.pointsTo_blocks (ℓ := scM.view.loc (c : Thread nD τ)) (q := fullShare)
    (fun b : Fin (2 * 256) => rowSet (b.val % 2) (b.val / 2)) rows_disjoint rows_cover f).trans ?_
  rw [← Ring.bigSep_interleaved 256 (rowPt c f 0) (rowPt c f 1)]
  refine congrArg (bigSep Finset.univ) (funext fun b => ?_)
  show rowPt c f (b.val % 2) (b.val / 2) = Ring.interleaved 256 (rowPt c f 0) (rowPt c f 1) b
  unfold Ring.interleaved
  rcases Nat.mod_two_eq_zero_or_one b.val with h | h
  · rw [if_pos h, h]
  · rw [if_neg (by omega), h]

/-- The elements a copy does not read, under its read share. -/
def yOff (w : BitVec 32) (t : ℕ) : sProp 𝕄 :=
  yM.view.loc (c : Thread nD τ) ↦[Finset.univ \ srcSet w]{Transfers.shareTokN fullShare t} y

/-- What is left of the rows' array besides the rows the copies read. -/
def yRest : sProp 𝕄 :=
  iprop((yM.view.loc (c : Thread nD τ) ↦{Transfers.shareDrop fullShare (2 * 256)} y)
    ∗ bigSep (Finset.range 256) (fun k => yOff c y (word T i 0 k) (2 * k + 0))
    ∗ bigSep (Finset.range 256) (fun k => yOff c y (word T i 1 k) (2 * k + 1)))

theorem tok_split (w : BitVec 32) (t : ℕ) :
    (yM.view.loc (c : Thread nD τ) ↦{Transfers.shareTokN fullShare t} y : sProp 𝕄) ⊣⊢ iprop(yTok c y w t ∗ yOff c y w t) :=
  pointsTo_split_subset (Finset.subset_univ _)

theorem toks_split (h : ℕ) :
    (bigSep (Finset.range 256) (fun k => (yM.view.loc (c : Thread nD τ) ↦{Transfers.shareTokN fullShare (2 * k + h)} y : sProp 𝕄)))
      ⊢ iprop(bigSep (Finset.range 256) (fun k => yTok c y (word T i h k) (2 * k + h))
        ∗ bigSep (Finset.range 256) (fun k => yOff c y (word T i h k) (2 * k + h))) :=
  (BI.bigSep_mono fun k _ => (tok_split c y (word T i h k) (2 * k + h)).1).trans (Entails.of_eq (BI.bigSep_sep _ _ _))

theorem toks_join (h : ℕ) :
    iprop(bigSep (Finset.range 256) (fun k => yTok c y (word T i h k) (2 * k + h))
        ∗ bigSep (Finset.range 256) (fun k => yOff c y (word T i h k) (2 * k + h)))
      ⊢ (bigSep (Finset.range 256) (fun k => (yM.view.loc (c : Thread nD τ) ↦{Transfers.shareTokN fullShare (2 * k + h)} y : sProp 𝕄))) :=
  (Entails.of_eq (BI.bigSep_sep _ _ _).symm).trans (BI.bigSep_mono fun k _ => (tok_split c y (word T i h k) (2 * k + h)).2)

theorem cells_eq (f : S2x256x2048.Idx → Elt F .f32) (h : ℕ) :
    (bigSep (Finset.range 256) (cell c T i y f h) : sProp 𝕄)
      = iprop(bigSep (Finset.range 256) (rowPt c f h) ∗ bigSep (Finset.range 256) (fun k => yTok c y (word T i h k) (2 * k + h))) :=
  BI.bigSep_sep _ _ _

theorem cells_range (f : S2x256x2048.Idx → Elt F .f32) (h : ℕ) :
    (bigSep (Ring.rangeSet 256 0 256) (fun k => cell c T i y f h k.val) : sProp 𝕄) = bigSep (Finset.range 256) (cell c T i y f h) :=
  Ring.bigSep_rangeSet_eq_range (NB := 256) (lo := 0) (hi := 256) (Φ := fun k : Fin 256 => cell c T i y f h k.val) le_rfl
    (cell c T i y f h) (fun k _ => by show _ = cell c T i y f h (0 + k); rw [Nat.zero_add])

theorem y_split :
    (yM.view.loc (c : Thread nD τ) ↦{fullShare} y : sProp 𝕄)
      ⊢ iprop(bigSep (Finset.range 256) (fun k => yTok c y (word T i 0 k) (2 * k + 0))
        ∗ bigSep (Finset.range 256) (fun k => yTok c y (word T i 1 k) (2 * k + 1)) ∗ yRest c T i y) := by
  iintro H
  ihave H' := (Transfers.pointsTo_toks_range fullShare (2 * 256)).1 $$ H
  icases H' with ⟨HR, HT⟩
  ihave HT' := (show (bigSep (Finset.range (2 * 256)) (fun t => (yM.view.loc (c : Thread nD τ) ↦{Transfers.shareTokN fullShare t} y : sProp 𝕄)))
      ⊢ iprop(bigSep (Finset.range 256) (fun k => (yM.view.loc (c : Thread nD τ) ↦{Transfers.shareTokN fullShare (2 * k + 0)} y : sProp 𝕄))
        ∗ bigSep (Finset.range 256) (fun k => (yM.view.loc (c : Thread nD τ) ↦{Transfers.shareTokN fullShare (2 * k + 1)} y : sProp 𝕄)))
    from Entails.of_eq (Ring.bigSep_range_deinterleave 256 (fun t => (yM.view.loc (c : Thread nD τ) ↦{Transfers.shareTokN fullShare t} y : sProp 𝕄)))) $$ HT
  icases HT' with ⟨H0, H1⟩
  ihave H0' := (toks_split c T i y 0) $$ H0
  ihave H1' := (toks_split c T i y 1) $$ H1
  icases H0' with ⟨HA, HA'⟩
  icases H1' with ⟨HB, HB'⟩
  isplitl [HA]; · iexact HA
  isplitl [HB]; · iexact HB
  unfold yRest
  isplitl [HR]; · iexact HR
  isplitl [HA']; · iexact HA'
  iexact HB'

theorem y_join :
    iprop(bigSep (Finset.range 256) (fun k => yTok c y (word T i 0 k) (2 * k + 0))
        ∗ bigSep (Finset.range 256) (fun k => yTok c y (word T i 1 k) (2 * k + 1)) ∗ yRest c T i y)
      ⊢ (yM.view.loc (c : Thread nD τ) ↦{fullShare} y : sProp 𝕄) := by
  unfold yRest
  iintro ⟨HA, HB, HR, HA', HB'⟩
  iapply (Transfers.pointsTo_toks_range fullShare (2 * 256)).2
  isplitl [HR]; · iexact HR
  iapply (show iprop(bigSep (Finset.range 256) (fun k => (yM.view.loc (c : Thread nD τ) ↦{Transfers.shareTokN fullShare (2 * k + 0)} y : sProp 𝕄))
        ∗ bigSep (Finset.range 256) (fun k => (yM.view.loc (c : Thread nD τ) ↦{Transfers.shareTokN fullShare (2 * k + 1)} y : sProp 𝕄)))
      ⊢ (bigSep (Finset.range (2 * 256)) (fun t => (yM.view.loc (c : Thread nD τ) ↦{Transfers.shareTokN fullShare t} y : sProp 𝕄)))
    from Entails.of_eq (Ring.bigSep_range_deinterleave 256 (fun t => (yM.view.loc (c : Thread nD τ) ↦{Transfers.shareTokN fullShare t} y : sProp 𝕄))).symm)
  isplitl [HA HA']
  · iapply (toks_join c T i y 0); isplitl [HA] <;> iassumption
  · iapply (toks_join c T i y 1); isplitl [HB] <;> iassumption

/-- The scratch buffer and the rows' array, as what the copies need and what is left. -/
theorem before (f : S2x256x2048.Idx → Elt F .f32) :
    iprop((scM.view.loc (c : Thread nD τ) ↦{fullShare} f) ∗ (yM.view.loc (c : Thread nD τ) ↦{fullShare} y))
      ⊢ (iprop(bigSep (Ring.rangeSet 256 0 256) (fun k => cell c T i y f 0 k.val)
        ∗ bigSep (Ring.rangeSet 256 0 256) (fun k => cell c T i y f 1 k.val) ∗ yRest c T i y) : sProp 𝕄) := by
  rw [scratch_rows, cells_range, cells_range, cells_eq, cells_eq]
  iintro ⟨⟨H0, H1⟩, HY⟩
  ihave HY' := (y_split c T i y) $$ HY
  icases HY' with ⟨HA, HB, HR⟩
  isplitl [H0 HA]
  · isplitl [H0] <;> iassumption
  isplitl [H1 HB]
  · isplitl [H1] <;> iassumption
  iexact HR

/-- Every copy taken in: the scratch buffer whole at the landed contents, and the rows' array whole again. -/
theorem after :
    iprop(bigSep Finset.univ (deliv c T i y) ∗ yRest c T i y)
      ⊢ (iprop((scM.view.loc (c : Thread nD τ) ↦{fullShare} landed T i y) ∗ (yM.view.loc (c : Thread nD τ) ↦{fullShare} y)) : sProp 𝕄) := by
  unfold deliv
  rw [Ring.bigSep_interleaved, scratch_rows, cells_eq, cells_eq]
  iintro ⟨⟨⟨H0, HA⟩, ⟨H1, HB⟩⟩, HR⟩
  isplitl [H0 H1]
  · isplitl [H0] <;> iassumption
  iapply (y_join c T i y)
  isplitl [HA]; · iexact HA
  isplitl [HB]; · iexact HB
  iexact HR

/-! ## The whole body -/

set_option warn.classDefReducibility false in
/-- The first loop's invariant. -/
@[sl_loop] def issueInv (hT : InRange T) (f : S2x256x2048.Idx → Elt F .f32) :
    LoopInv (M := 𝕄) frame (wpE (defs₀ (F := F)) Variants.none (c : Thread nD τ) none) Set.univ k0_t1_loop.lb k0_t1_loop.ub k0_t1_loop.st
      k0_t1_ok () (issueBody (F := F) i arg3 harg3 arg4 harg4 arg5 harg5 arg6 harg6 arg7 harg7) where
  inv := issueAt c T i y f
  step := issue_step c T i y arg3 harg3 arg4 harg4 arg5 harg5 arg6 harg6 arg7 harg7 hT f

variable (x3 : S256x2048.Idx → Elt F .f32) (x4 : S256x128.Idx → Elt F .f32) (x5 x6 : S1x2048.Idx → Elt F .f32)

/-- The four input blocks. -/
def blocks : sProp 𝕄 :=
  iprop((arg3.view.loc (c : Thread nD τ) ↦[arg3.view.set]{fullShare} arg3.view.rep x3)
    ∗ (arg4.view.loc (c : Thread nD τ) ↦[arg4.view.set]{fullShare} arg4.view.rep x4)
    ∗ (arg5.view.loc (c : Thread nD τ) ↦[arg5.view.set]{fullShare} arg5.view.rep x5)
    ∗ (arg6.view.loc (c : Thread nD τ) ↦[arg6.view.set]{fullShare} arg6.view.rep x6))

set_option backward.proofsInPublic true in
set_option maxHeartbeats 8000000 in
/-- A grid point's stores, with the proof that the body runs and makes them. -/
noncomputable def run (hT : InRange T) :
    { out : List (View.Piece (Elt F) S256x2048 .f32) //
      ∀ (W : Waits sig Unit) (K : PUnit → sProp 𝕄),
        iprop(blocks c arg3 arg4 arg5 arg6 x3 x4 x5 x6
          ∗ (tab.view.loc (c : Thread nD τ) ↦{fullShare.right} T)
          ∗ (yM.view.loc (c : Thread nD τ) ↦{fullShare} y)
          ∗ (∃ f, scM.view.loc (c : Thread nD τ) ↦{fullShare} f)
          ∗ semVal ((c : Thread nD τ), SemLoc.dma cc0_scratch1.sem) 0
          ∗ owes (c : Thread nD τ) 0 W
          ∗ (∃ d, owns (c : Thread nD τ) arg7 fullShare d)
          ∗ (iprop(blocks c arg3 arg4 arg5 arg6 x3 x4 x5 x6
              ∗ (tab.view.loc (c : Thread nD τ) ↦{fullShare.right} T)
              ∗ (yM.view.loc (c : Thread nD τ) ↦{fullShare} y)
              ∗ (∃ f, scM.view.loc (c : Thread nD τ) ↦{fullShare} f)
              ∗ semVal ((c : Thread nD τ), SemLoc.dma cc0_scratch1.sem) 0
              ∗ (∃ W, owes (c : Thread nD τ) 0 W)
              ∗ (∃ f, arg7.view.loc (c : Thread nD τ) ↦[arg7.view.set]{fullShare} arg7.view.writes (Elt F) f out)) -∗ K ⟨⟩))
          ⊢ wp frame (wpE (defs₀ (F := F)) Variants.none c none) Set.univ
              (cc0_moe_combine_ln i tab (Memref.isWhole_whole _) yM (Memref.isWhole_whole _)
                arg3 harg3 arg4 harg4 arg5 harg5 arg6 harg6 arg7 harg7 scM (Memref.isWhole_whole _) cc0_scratch1) K } :=
  ⟨_, fun W K => by
    unfold blocks owns
    rw [cc0_moe_combine_ln_eq_skeleton]; unfold cc0_moe_combine_ln_skel
    rw [k0_part1_eq_skeleton]; unfold k0_part1_skel
    rw [bind_assoc]
    iintro ⟨⟨H3, H4, H5, H6⟩, HT, HY, ⟨%f, HS⟩, Hc, HO, ⟨%d7, %f7, -, HO7⟩, Hk⟩
    ihave Hb := (before c T i y f) $$ [HS HY]
    · isplitl [HS] <;> iassumption
    icases Hb with ⟨HA, HC, HR⟩
    imod (Transfers.batch_alloc' (Lvl := ℕ) (countersEmb (U := Pipeline.UD sig nD τ)) (c : Thread nD τ) () NN (deliv c T i y)
      (sm := .dma cc0_scratch1.sem) (E := Set.univ)) $$ Hc with HB
    sl_for (issueAt c T i y f) $$ [HB HA HC HT]
    · intro k acc; exact issue_step c T i y arg3 harg3 arg4 harg4 arg5 harg5 arg6 harg6 arg7 harg7 hT f k acc
    · unfold issueAt
      isplitl [HB]; · iexact HB
      isplitl [HA]; · iexact HA
      isplitl [HC]; · iexact HC
      iexact HT
    iintro %acc HL
    ihave HL' := (show issueAt c T i y f k0_t1_loop.trips acc ⊢ iprop(batch c T i y (2 * 256) 0 ∗ (tab.view.loc (c : Thread nD τ) ↦{fullShare.right} T)) from by
      rw [trips1]; unfold issueAt; iintro ⟨HB, -, -, HT⟩
      isplitl [HB] <;> iassumption) $$ HL
    icases HL' with ⟨HB, HT⟩
    sl_unfold [run.sl.prog.cont_1]
    rw [bind_assoc]
    sl_for (drainInv c T i y) $$ [HB HO HT]
    · intro k acc; exact drain_step c T i y arg3 harg3 arg4 harg4 arg5 harg5 arg6 harg6 arg7 harg7 hT k acc
    · unfold drainInv
      rw [if_pos (by decide : 0 < 256)]
      isplitr; · ipureintro; omega
      isplitl [HO]; · iexists _; iexact HO
      isplitl [HT]; · iexact HT
      rw [show 2 * 0 * NN = 0 from rfl]
      iexact HB
    iintro %acc2 HL
    ihave HL' := (show drainInv c T i y k0_t2_loop.trips acc2 ⊢ iprop((∃ W, owes (c : Thread nD τ) 0 W) ∗ (tab.view.loc (c : Thread nD τ) ↦{fullShare.right} T)
        ∗ semVal ((c : Thread nD τ), SemLoc.dma cc0_scratch1.sem) 0 ∗ bigSep Finset.univ (deliv c T i y)) from by
      rw [trips2]; unfold drainInv; rw [if_neg (Nat.lt_irrefl _)]; iintro ⟨-, HO, HT, Hc, Hall⟩
      isplitl [HO]; · iexact HO
      isplitl [HT]; · iexact HT
      isplitl [Hc] <;> iassumption) $$ HL
    icases HL' with ⟨⟨%W', HO⟩, HT, Hc, Hall⟩
    ihave Hd := (after c T i y) $$ [Hall HR]
    · isplitl [Hall] <;> iassumption
    icases Hd with ⟨HS, HY⟩
    have hS : scM.IsWhole := Memref.isWhole_whole _
    sl_exec
    sl_step
    iapply Hk
    isplitl [H3 H4 H5 H6]
    · isplitl [H3]; · iexact H3
      isplitl [H4]; · iexact H4
      isplitl [H5]; · iexact H5
      iexact H6
    isplitl [HT]; · iexact HT
    isplitl [HY]; · iexact HY
    isplitl [HS]; · iexists _; iexact HS
    isplitl [Hc]; · iexact Hc
    isplitl [HO]; · iexists _; iexact HO
    iexists _; iexact HO7⟩

/-- The stores cover the output block. -/
theorem cover (hT : InRange T) (z : S256x2048.Idx) :
    ∃ pc ∈ (run c T i y arg3 harg3 arg4 harg4 arg5 harg5 arg6 harg6 arg7 harg7 x3 x4 x5 x6 hT).1, z ∈ pc.1.set :=
  View.cover_of_tiledL (run c T i y arg3 harg3 arg4 harg4 arg5 harg5 arg6 harg6 arg7 harg7 x3 x4 x5 x6 hT).1
    S256x2048.size (by sl_kernel_rfl) z

/-- One output staging buffer, through which block contents are stated. -/
abbrev VO : View sig .tc .vmem S256x2048 .f32 := (Memref.whole cc0_stg4_0 : Memref sig .tc .vmem S256x2048 .f32).view

/-- One half of the scratch buffer. -/
abbrev half0 (g : S2x256x2048.Idx → Elt F .f32) : S1x256x2048.Idx → Elt F .f32 :=
  View.ld g (Rect.unit (s := S2x256x2048) ![0, 0, 0] S1x256x2048.size inb_S2x256x2048_S1x256x2048_0_0_0)
abbrev half1 (g : S2x256x2048.Idx → Elt F .f32) : S1x256x2048.Idx → Elt F .f32 :=
  View.ld g (Rect.unit (s := S2x256x2048) ![1, 0, 0] S1x256x2048.size inb_S2x256x2048_S1x256x2048_1_0_0)

/-- The output block: the scaled residual block plus the two weighted rows of each token, normalized. -/
def outBlock (g : S2x256x2048.Idx → Elt F .f32) : S256x2048.Idx → Elt F .f32 :=
  k0_pay1 x5 x6 (k0_pay2 x4 (half0 g) (half1 g) x3) (k0_pay3 x4 (half0 g) (half1 g) x3)

theorem value (hT : InRange T) :
    VO.read (Elt F) (VO.writes (Elt F) VO.junk
      (run c T i y arg3 harg3 arg4 harg4 arg5 harg5 arg6 harg6 arg7 harg7 x3 x4 x5 x6 hT).1)
      = outBlock x3 x4 x5 x6 (landed T i y) := by
  rw [View.read_writes_junk_eq_canon]
  unfold run outBlock
  frame_out
  simp only [View.read_rep]
  rfl

end Families

end Cert.KernelCombineIdeal.Combine
-- ==== Proof.Combine.Launch.lean ====
/- The combine kernel run whole, at any table in range: every execution terminates with every counter at zero, the
   arguments unchanged, and the result array made of the blocks the tiles leave. -/
module

public import proofs.«01_k».proof.Proof.Combine.Body
public import proofs.«01_k».proof.Proof.Gen.KernelCombineIdeal.Launch
public import Idealize.ShloMosaic.Lib.Claim
public import Idealize.ShloMosaic.Lib.Pipeline.Kit
public import Idealize.ShloMosaic.Lib.Writes
public import Idealize.ShloMosaic.Lib.Pipeline.TableIdle

@[expose] public section

set_option maxRecDepth 16384
set_option Elab.async false

noncomputable section

namespace Cert.KernelCombineIdeal.Combine

open Cert.KernelCombineIdeal Cert.KernelCombineIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- Each token's two rows, read off the memory. -/
def posT : S32768.Idx → Elt F .i32 := m (((0 : Dev nD) : Thread nD τ).loc main_arg0)
/-- The experts' rows, read off the memory. -/
def rowsY (c : Dev nD) : S40960x2048.Idx → Elt F .f32 := m ((c : Thread nD τ).loc main_arg1)

set_option backward.proofsInPublic true in
/-- The one table. -/
def tables : pre0.Contents (Elt F) :=
  fun | ⟨0, _⟩ => posT m | ⟨_ + 1, h⟩ => absurd h (by simp)

/-- The pipeline at the memory's own table. -/
def adm : (pcfg0 (F := F)).Adm := ⟨tables m, trivial⟩
abbrev cfgA : Pipeline.Cfg sig Λ₀ := cfg0 (F := F) (adm m)

/-- A tile's coordinates and its five staging buffers. -/
abbrev crd (t : Fin (cfgA m).N) : (cfgA m).grid.Coords := (cfgA m).grid.coords t
abbrev ms0 (t : Fin (cfgA m).N) : Memref sig .tc .vmem S256x2048 .f32 := spec0_0.stage ((cfgA m).slots t (0 : Fin 5))
abbrev hs0 (t : Fin (cfgA m).N) : (ms0 m t).IsWhole := hstage0_0 (((cfgA m).slots t (0 : Fin 5)).cast nbuf0_0)
abbrev ms1 (t : Fin (cfgA m).N) : Memref sig .tc .vmem S256x128 .f32 := spec0_1.stage ((cfgA m).slots t (1 : Fin 5))
abbrev hs1 (t : Fin (cfgA m).N) : (ms1 m t).IsWhole := hstage0_1 (((cfgA m).slots t (1 : Fin 5)).cast nbuf0_1)
abbrev ms2 (t : Fin (cfgA m).N) : Memref sig .tc .vmem S1x2048 .f32 := spec0_2.stage ((cfgA m).slots t (2 : Fin 5))
abbrev hs2 (t : Fin (cfgA m).N) : (ms2 m t).IsWhole := hstage0_2 (((cfgA m).slots t (2 : Fin 5)).cast nbuf0_2)
abbrev ms3 (t : Fin (cfgA m).N) : Memref sig .tc .vmem S1x2048 .f32 := spec0_3.stage ((cfgA m).slots t (3 : Fin 5))
abbrev hs3 (t : Fin (cfgA m).N) : (ms3 m t).IsWhole := hstage0_3 (((cfgA m).slots t (3 : Fin 5)).cast nbuf0_3)
abbrev ms4 (t : Fin (cfgA m).N) : Memref sig .tc .vmem S256x2048 .f32 := spec0_4.stage ((cfgA m).slots t (4 : Fin 5))
abbrev hs4 (t : Fin (cfgA m).N) : (ms4 m t).IsWhole := hstage0_4 (((cfgA m).slots t (4 : Fin 5)).cast nbuf0_4)

/-- A window's block at a tile, read off its array at launch. -/
def iblk (c : Dev nD) (w : Fin (cfgA m).W) (t : Fin (cfgA m).N) :
    (((cfgA m).win w).xblock (crd m t)).Idx → Elt F ((cfgA m).win w).elt :=
  (((cfgA m).win w).blk t).view.read (Elt F) (m (((cfgA m).win w).arr.view.loc (c : Thread nD τ)))

/-- The block a tile leaves. -/
def left (c : Dev nD) (t : Fin (cfgA m).N) : S256x2048.Idx → Elt F .f32 :=
  outBlock (iblk m c (0 : Fin 5) t) (iblk m c (1 : Fin 5) t) (iblk m c (2 : Fin 5) t) (iblk m c (3 : Fin 5) t)
    (landed (posT m) (crd m t) (rowsY m c))

/-- The body's own counter, and the buffer it reads itself. -/
abbrev osem0 : Fin 1 → SemLoc sig := fun _ => SemLoc.dma cc0_scratch1.sem
theorem ownSemFacts0 : Pipeline.OwnSemFacts spec0 osem0 := by decide
def H0 : Finset (Ref sig .tc) := {main_arg1}
theorem H0_sub : H0 ⊆ Pipeline.restRefsP sig pre0 spec0 := by decide

abbrev V (c : Dev nD) (b : Ref sig .tc) : Buf (Elt F) ((c : Thread nD τ).loc b) := m ((c : Thread nD τ).loc b)

/-- What the body keeps between tiles. -/
def Phi (c : Dev nD) : sProp 𝕄 :=
  iprop((∃ f, scM.view.loc (c : Thread nD τ) ↦{fullShare} f) ∗ (∃ r, prngReg c r)
    ∗ semVal ((c : Thread nD τ), SemLoc.dma cc0_scratch1.sem) 0
    ∗ (yM.view.loc (c : Thread nD τ) ↦{fullShare} rowsY m c)
    ∗ (tab.view.loc (c : Thread nD τ) ↦{fullShare.right} posT m))

/-- The pipeline's proof data on core `c`. -/
def dats (_ : Fin 1) (c : Dev nD) : Dat τ (Elt F) Unit ℕ (Pipeline.UD sig nD τ) ℕ (cfgA m) c where
  A w := V m c (Pipeline.arrRef spec0 w)
  after w t := match w with
    | ⟨0, _⟩ => iblk m c (0 : Fin 5) t
    | ⟨1, _⟩ => iblk m c (1 : Fin 5) t
    | ⟨2, _⟩ => iblk m c (2 : Fin 5) t
    | ⟨3, _⟩ => iblk m c (3 : Fin 5) t
    | ⟨4, _⟩ => left m c t
  Φ _ := Phi m c
  q _ := fullShare
  owed _ := 0

theorem after0 (c : Dev nD) (t : Fin (cfgA m).N) : (dats m 0 c).after (0 : Fin 5) t = iblk m c (0 : Fin 5) t := rfl
theorem after1 (c : Dev nD) (t : Fin (cfgA m).N) : (dats m 0 c).after (1 : Fin 5) t = iblk m c (1 : Fin 5) t := rfl
theorem after2 (c : Dev nD) (t : Fin (cfgA m).N) : (dats m 0 c).after (2 : Fin 5) t = iblk m c (2 : Fin 5) t := rfl
theorem after3 (c : Dev nD) (t : Fin (cfgA m).N) : (dats m 0 c).after (3 : Fin 5) t = iblk m c (3 : Fin 5) t := rfl
theorem after4 (c : Dev nD) (t : Fin (cfgA m).N) : (dats m 0 c).after (4 : Fin 5) t = left m c t := rfl

/-- Each input's staging buffer holds its block when the body runs. -/
theorem before0 (c : Dev nD) (t : Fin (cfgA m).N) (d) : (dats m 0 c).before (0 : Fin 5) t d = iblk m c (0 : Fin 5) t :=
  ((dats m 0 c).before_in_eq_fetched (0 : Fin 5) rfl (fun _ => rfl) (fun _ _ _ => rfl) (fun t => by rw [after0]; unfold Dat.blockOf iblk; rfl) t d).trans
    (by unfold Dat.fetched Dat.blockOf iblk; rfl)
theorem before1 (c : Dev nD) (t : Fin (cfgA m).N) (d) : (dats m 0 c).before (1 : Fin 5) t d = iblk m c (1 : Fin 5) t :=
  ((dats m 0 c).before_in_eq_fetched (1 : Fin 5) rfl (fun _ => rfl) (fun _ _ _ => rfl) (fun t => by rw [after1]; unfold Dat.blockOf iblk; rfl) t d).trans
    (by unfold Dat.fetched Dat.blockOf iblk; rfl)
theorem before2 (c : Dev nD) (t : Fin (cfgA m).N) (d) : (dats m 0 c).before (2 : Fin 5) t d = iblk m c (2 : Fin 5) t :=
  ((dats m 0 c).before_in_eq_fetched (2 : Fin 5) rfl (fun _ => rfl) (fun _ _ _ => rfl) (fun t => by rw [after2]; unfold Dat.blockOf iblk; rfl) t d).trans
    (by unfold Dat.fetched Dat.blockOf iblk; rfl)
theorem before3 (c : Dev nD) (t : Fin (cfgA m).N) (d) : (dats m 0 c).before (3 : Fin 5) t d = iblk m c (3 : Fin 5) t :=
  ((dats m 0 c).before_in_eq_fetched (3 : Fin 5) rfl (fun _ => rfl) (fun _ _ _ => rfl) (fun t => by rw [after3]; unfold Dat.blockOf iblk; rfl) t d).trans
    (by unfold Dat.fetched Dat.blockOf iblk; rfl)

/-- The body at a tile. -/
abbrev bodyAt (t : Fin (cfgA m).N) : Prog (TpuEff nD τ sig (Elt F) Λ₀ .tc) PUnit :=
  cc0_moe_combine_ln (crd m t) tab (Memref.isWhole_whole _) yM (Memref.isWhole_whole _)
    (ms0 m t) (hs0 m t) (ms1 m t) (hs1 m t) (ms2 m t) (hs2 m t) (ms3 m t) (hs3 m t) (ms4 m t) (hs4 m t)
    scM (Memref.isWhole_whole _) cc0_scratch1

set_option maxHeartbeats 4000000 in
/-- The body's obligation at a tile. -/
theorem sound_body (hT : InRange (F := F) (posT m)) (c : Dev nD) (t : Fin (cfgA m).N) :
    iprop((dats m 0 c).Φ t.castSucc ∗ (dats m 0 c).owesAt () t.castSucc
        ∗ (∃ d, owns (c : Thread nD τ) (ms0 m t) fullShare ((dats m 0 c).before (0 : Fin 5) t d))
        ∗ (∃ d, owns (c : Thread nD τ) (ms1 m t) fullShare ((dats m 0 c).before (1 : Fin 5) t d))
        ∗ (∃ d, owns (c : Thread nD τ) (ms2 m t) fullShare ((dats m 0 c).before (2 : Fin 5) t d))
        ∗ (∃ d, owns (c : Thread nD τ) (ms3 m t) fullShare ((dats m 0 c).before (3 : Fin 5) t d))
        ∗ (∃ d, owns (c : Thread nD τ) (ms4 m t) fullShare ((dats m 0 c).before (4 : Fin 5) t d)))
      ⊢ wp frame (wpE (defs₀ (F := F)) Variants.none c none) Set.univ (bodyAt m t) fun _ =>
          iprop((dats m 0 c).Φ t.succ ∗ (dats m 0 c).owesAt () t.succ
            ∗ owns (c : Thread nD τ) (ms0 m t) fullShare ((dats m 0 c).after (0 : Fin 5) t)
            ∗ owns (c : Thread nD τ) (ms1 m t) fullShare ((dats m 0 c).after (1 : Fin 5) t)
            ∗ owns (c : Thread nD τ) (ms2 m t) fullShare ((dats m 0 c).after (2 : Fin 5) t)
            ∗ owns (c : Thread nD τ) (ms3 m t) fullShare ((dats m 0 c).after (3 : Fin 5) t)
            ∗ owns (c : Thread nD τ) (ms4 m t) fullShare ((dats m 0 c).after (4 : Fin 5) t)) := by
  simp only [before0, before1, before2, before3, after0, after1, after2, after3, after4]
  rewrite [show (dats m 0 c).Φ t.succ = Phi m c from rfl, show (dats m 0 c).Φ t.castSucc = Phi m c from rfl]
  unfold Dat.owesAt Pipeline.owesWithin
  rw [show (dats m 0 c).owed t.castSucc = 0 from rfl, show (dats m 0 c).owed t.succ = 0 from rfl]
  unfold Phi
  iintro ⟨⟨HS, Hg, Hc, HY, HT⟩, ⟨%W, -, HW⟩, ⟨%d0, H0⟩, ⟨%d1, H1⟩, ⟨%d2, H2⟩, ⟨%d3, H3⟩, ⟨%d4, H4⟩⟩
  iapply ((run c (posT m) (crd m t) (rowsY m c) (ms0 m t) (hs0 m t) (ms1 m t) (hs1 m t) (ms2 m t) (hs2 m t) (ms3 m t) (hs3 m t)
    (ms4 m t) (hs4 m t) (iblk m c (0 : Fin 5) t) (iblk m c (1 : Fin 5) t) (iblk m c (2 : Fin 5) t) (iblk m c (3 : Fin 5) t) hT).2 W _)
  unfold blocks
  isplitl [H0 H1 H2 H3]
  · isplitl [H0]; · iapply rep_of_owns; iexact H0
    isplitl [H1]; · iapply rep_of_owns; iexact H1
    isplitl [H2]; · iapply rep_of_owns; iexact H2
    iapply rep_of_owns; iexact H3
  isplitl [HT]; · iexact HT
  isplitl [HY]; · iexact HY
  isplitl [HS]; · iexact HS
  isplitl [Hc]; · iexact Hc
  isplitl [HW]; · iexact HW
  isplitl [H4]; · iexists _; iexact H4
  iintro ⟨⟨H0, H1, H2, H3⟩, HT, HY, HS, Hc, ⟨%W', HW'⟩, ⟨%e, He⟩⟩
  isplitl [HT HY HS Hc Hg]
  · isplitl [HS]; · iexact HS
    isplitl [Hg]; · iexact Hg
    isplitl [Hc]; · iexact Hc
    isplitl [HY]; · iexact HY
    iexact HT
  isplitl [HW']
  · iexists W'; isplitr; · ipureintro; exact fun _ _ => Or.inl trivial
    iexact HW'
  isplitl [H0]; · iapply owns_of_rep; iexact H0
  isplitl [H1]; · iapply owns_of_rep; iexact H1
  isplitl [H2]; · iapply owns_of_rep; iexact H2
  isplitl [H3]; · iapply owns_of_rep; iexact H3
  unfold owns; iexists _; isplitr; swap
  · iexact He
  · ipureintro
    unfold left
    rw [← value c (posT m) (crd m t) (rowsY m c) (ms0 m t) (hs0 m t) (ms1 m t) (hs1 m t) (ms2 m t) (hs2 m t) (ms3 m t) (hs3 m t)
      (ms4 m t) (hs4 m t) (iblk m c (0 : Fin 5) t) (iblk m c (1 : Fin 5) t) (iblk m c (2 : Fin 5) t) (iblk m c (3 : Fin 5) t) hT]
    exact View.read_writes_of_cover _ _ _ _ _ (cover c _ _ _ _ _ _ _ _ _ _ _ _ _ _ _ _ _ hT)

theorem body_obligation (hT : InRange (F := F) (posT m)) (c : Dev nD) :
    BodyObligation (dats m 0 c) (defs₀ (F := F)) Variants.none () Set.univ := fun t => by
  rw [bigSep_W0, bigSep_W0]
  exact sound_body m hT c t

theorem ownSems0_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma cc0_scratch1.sem) 0 := by
  unfold Pipeline.ownSems0
  rw [show (Finset.univ : Finset (Fin 1)) = {(0 : Fin 1)} from by decide, bigSep_singleton]

theorem phiD_eq (c : Dev nD) :
    (Pipeline.ΦD osem0 spec0 H0 (V m) c : sProp 𝕄)
      = iprop((∃ f : Buf (Elt F) ((c : Thread nD τ).loc cc0_scratch0), ((c : Thread nD τ).loc cc0_scratch0) ↦{fullShare} f) ∗ (∃ r, prngReg c r)
          ∗ semVal ((c : Thread nD τ), SemLoc.dma cc0_scratch1.sem) 0
          ∗ (((c : Thread nD τ).loc main_arg1) ↦{fullShare} V m c main_arg1)) := by
  rw [Pipeline.ΦD_eq, scopedRest0_eq, ownSems0_eq]
  unfold H0
  rw [bigSep_singleton]

theorem prefHeld_eq (c : Dev nD) (q : Fin 1 → PosShare TreeShare) (v : pre0.Contents (Elt F)) :
    (Pipeline.prefHeld (Ix := Unit) (Name := ℕ) (U := Pipeline.UD sig nD τ) (Lvl := ℕ) pre0 c q v : sProp 𝕄)
      = iprop((((c : Thread nD τ).loc main_arg0) ↦{q 0} v 0)) := by
  unfold Pipeline.prefHeld
  rw [show (Finset.univ : Finset (Fin 1)) = {(0 : Fin 1)} from by decide, bigSep_singleton]
  rfl

theorem phi_intro (c : Dev nD) :
    iprop(Pipeline.ΦD osem0 spec0 H0 (V m) c ∗ Pipeline.ΦT pre0 (adm m).1 c) ⊢ (dats m 0 c).Φ 0 := by
  rw [phiD_eq, show (Pipeline.ΦT pre0 (adm m).1 c : sProp 𝕄) = Pipeline.prefHeld pre0 c (fun _ => fullShare.right) (adm m).1 from rfl,
    prefHeld_eq, show (dats m 0 c).Φ 0 = Phi m c from rfl]
  unfold Phi
  iintro ⟨⟨HS, Hg, Hc, HY⟩, HT⟩
  isplitl [HS]; · iexact HS
  isplitl [Hg]; · iexact Hg
  isplitl [Hc]; · iexact Hc
  isplitl [HY]; · iexact HY
  iexact HT

theorem phi_exit (c : Dev nD) : (dats m 0 c).Φ (Fin.last (cfgA m).N) ⊢ Pipeline.ΦD osem0 spec0 H0 (V m) c := by
  rw [phiD_eq, show (dats m 0 c).Φ (Fin.last (cfgA m).N) = Phi m c from rfl]
  unfold Phi
  iintro ⟨HS, Hg, Hc, HY, -⟩
  isplitl [HS]; · iexact HS
  isplitl [Hg]; · iexact Hg
  isplitl [Hc]; · iexact Hc
  iexact HY

theorem tables_held (c : Dev nD) (j : Fin 1) : V m c (pre0.ref j) = (adm m).1 j := by
  obtain rfl : c = 0 := Subsingleton.elim _ _
  fin_cases j <;> rfl

theorem A_eq (c : Dev nD) (w : Fin (cfgA m).W) : (dats m 0 c).A w = V m c (Pipeline.arrRef spec0 w) := rfl

set_option backward.isDefEq.respectTransparency.types false in
set_option maxHeartbeats 4000000 in
/-- The kernel's program terminates from any memory whose table is in range. -/
theorem run_quiescent (hT : InRange (F := F) (posT m)) : θ_run (defs (F := F)) (onTc (τ := τ) (main (F := F))) (s₀ m ρ)
    (fun r => Pipeline.FramePost (Pipeline.pin (pcfgs (F := F)) fun _ => adm m) (dats m) 0 (V m) r ∧ r.2.sem = fun _ => 0) :=
  Pipeline.θ_run_frameP_dma (Q' := _) pcfgs (fun _ => adm m) (dats m) (0 : Fin 1) (launch0 (F := F)) osem0 defs₀ Variants.none
    ownSemFacts0 H0 H0_sub m ρ main
    (hbody := fun c => (body_obligation m hT c).loose) (hshare := fun c => (dats m 0 c).share_full fun _ => rfl)
    (howed := fun _ _ => rfl) (V := V m)
    (hmain := fun c Q => by
      delta main; simp only [Prog.bind_lift, Prog.pure_eq_ret]
      iintro ⟨Hk, Hb⟩; iapply Hk; iexact Hb)
    (hA := A_eq m) (hpf := tables_held m) (hin := phi_intro m) (hout := phi_exit m)

theorem rest0 : main_arg0 ∈ Pipeline.restRefs sig spec0 := by decide
theorem rest1 : main_arg1 ∈ Pipeline.restRefs sig spec0 := by decide

/-- The run with the result array named and the arguments unchanged. -/
theorem run_result (hT : InRange (F := F) (posT m)) :
    θ_run (defs (F := F)) (onTc (τ := τ) (main (F := F))) ⟨m, fun _ => 0, ρ⟩ (fun r => (∀ c : Dev nD,
      r.2.mem ((c.tc : Thread nD τ).loc main_v0) = (dats m 0 c).arrAt (4 : Fin 5) (cfgA m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (4 : Fin 5),
    (h.1 c).2 main_arg0 rest0, (h.1 c).2 main_arg1 rest1,
    ((h.1 c).1 (0 : Fin 5)).trans ((dats m 0 c).arrAt_in (0 : Fin 5) rfl _),
    ((h.1 c).1 (1 : Fin 5)).trans ((dats m 0 c).arrAt_in (1 : Fin 5) rfl _),
    ((h.1 c).1 (2 : Fin 5)).trans ((dats m 0 c).arrAt_in (2 : Fin 5) rfl _),
    ((h.1 c).1 (3 : Fin 5)).trans ((dats m 0 c).arrAt_in (3 : Fin 5) rfl _)⟩, h.2⟩) (run_quiescent m ρ hT)

end Cert.KernelCombineIdeal.Combine

end
-- ==== Proof.Combine.Spec.lean ====
/- The two chosen experts' rows of each token, weighted and added to the residual stream, then normalised: what the combine
   kernel and the reference both compute. -/
module

public import proofs.«01_k».proof.Proof.OutProj.Row
public import Idealize.ShloMosaic.Lib.Pointwise

@[expose] public section

set_option Elab.async false

noncomputable section

namespace Cert.Combine

open Idealize.ShloMosaic Cert.OutProj

/-- The row that entry `n` of the table names. -/
def pick (pos : (⟨1, ![32768]⟩ : Shape).Idx → BitVec 32) (y : (⟨2, ![40960, 2048]⟩ : Shape).Idx → EReal) (n : Fin 32768) (x : Fin 2048) : EReal :=
  y (ix2 (⟨(pos (ix1 n)).toNat % 40960, Nat.mod_lt _ (by decide)⟩ : Fin 40960) x)

/-- A token's row before the layer norm. -/
def joined (pos : (⟨1, ![32768]⟩ : Shape).Idx → BitVec 32) (y : (⟨2, ![40960, 2048]⟩ : Shape).Idx → EReal)
    (h : (⟨2, ![16384, 2048]⟩ : Shape).Idx → EReal) (info : (⟨2, ![16384, 128]⟩ : Shape).Idx → EReal) (i : Fin 16384) (x : Fin 2048) : EReal :=
  alpha * h (ix2 i x) + (info (ix2 i (2 : Fin 128)) * pick pos y (⟨2 * i.val, by omega⟩ : Fin 32768) x
    + info (ix2 i (3 : Fin 128)) * pick pos y (⟨2 * i.val + 1, by omega⟩ : Fin 32768) x)

/-- A token's row of the result. -/
def combined (pos : (⟨1, ![32768]⟩ : Shape).Idx → BitVec 32) (y : (⟨2, ![40960, 2048]⟩ : Shape).Idx → EReal)
    (h : (⟨2, ![16384, 2048]⟩ : Shape).Idx → EReal) (info : (⟨2, ![16384, 128]⟩ : Shape).Idx → EReal)
    (g b : (⟨2, ![1, 2048]⟩ : Shape).Idx → EReal) (i : Fin 16384) : Fin 2048 → EReal :=
  normed (joined pos y h info i) (fun j => g (ix2 (0 : Fin 1) j)) (fun j => b (ix2 (0 : Fin 1) j))

end Cert.Combine

end
-- ==== Proof.Combine.Array.lean ====
/- The combine kernel's result array, element by element: each token's row is its two rows weighted, added to the residual
   stream and normalised. -/
module

public import proofs.«01_k».proof.Proof.Combine.Launch
public import proofs.«01_k».proof.Proof.Combine.Spec
public import Idealize.ShloMosaic.Lib.Pipeline.Covers
public import Idealize.ShloMosaic.Lib.Pipeline.ValueKit

@[expose] public section

set_option maxRecDepth 16384
set_option Elab.async false

noncomputable section

namespace Cert.KernelCombineIdeal.Combine

open Cert.KernelCombineIdeal Cert.KernelCombineIdeal.Gen Cert.OutProj Cert.Combine
open Idealize.ShloMosaic
open Idealize.ShloMosaic.TcCoe
open Idealize.SL Idealize.SL.Sem
open Idealize.ShloMosaic.Pipeline (Dat Cfg Window)

theorem alpha_eq : (Named.named (F := Ideal) (φ := .f32) κ "alpha" 0x3FB504F3#32 : EReal) = alpha := rfl
theorem eps_eq : (Named.named (F := Ideal) (φ := .f32) κ "ln_eps" 0x3727C5AC#32 : EReal) = eps := rfl
theorem width_eq : Ideal.ofBits .f32 0x45000000#32 = width := by
  unfold width
  simp [Ideal.ofBits, Ideal.ieee, -EReal.coe_mul]; norm_num

theorem centred_rows (v3 : S256x128.Idx → Elt Ideal .f32) (v5 v10 : S1x256x2048.Idx → Elt Ideal .f32) (v15 : S256x2048.Idx → Elt Ideal .f32)
    (r : Fin 256) (l : Fin 2048) :
    k0_pay2 (F := Ideal) v3 v5 v10 v15 (ix2 r l)
      = (fun x => alpha * v15 (ix2 r x) + (v3 (ix2 r (2 : Fin 128)) * v5 (ix3 (0 : Fin 1) r x) + v3 (ix2 r (3 : Fin 128)) * v10 (ix3 (0 : Fin 1) r x))) l
        - mean (fun x => alpha * v15 (ix2 r x) + (v3 (ix2 r (2 : Fin 128)) * v5 (ix3 (0 : Fin 1) r x) + v3 (ix2 r (3 : Fin 128)) * v10 (ix3 (0 : Fin 1) r x))) := by
  pointwise [k0_pay2]
  rw [alpha_eq, width_eq]
  rfl

theorem squares (v3 : S256x128.Idx → Elt Ideal .f32) (v5 v10 : S1x256x2048.Idx → Elt Ideal .f32) (v15 : S256x2048.Idx → Elt Ideal .f32)
    (r : Fin 256) :
    k0_pay3 (F := Ideal) v3 v5 v10 v15 (ix2 r (0 : Fin 1))
      = ∑ x, k0_pay2 (F := Ideal) v3 v5 v10 v15 (ix2 r x) * k0_pay2 (F := Ideal) v3 v5 v10 v15 (ix2 r x) := by
  pointwise [k0_pay3]

theorem scaled_rows (g b : S1x2048.Idx → Elt Ideal .f32) (d : S256x2048.Idx → Elt Ideal .f32) (s : S256x1.Idx → Elt Ideal .f32)
    (r : Fin 256) (l : Fin 2048) :
    k0_pay1 (F := Ideal) g b d s (ix2 r l)
      = d (ix2 r l) * Ideal.rsqrt (Ideal.div (s (ix2 r (0 : Fin 1))) width + eps) * g (ix2 (0 : Fin 1) l) + b (ix2 (0 : Fin 1) l) := by
  pointwise [k0_pay1]
  rw [eps_eq, width_eq]

/-- A block's rows, normalised. -/
theorem rows_normed (v3 : S256x128.Idx → Elt Ideal .f32) (v5 v10 : S1x256x2048.Idx → Elt Ideal .f32) (v15 : S256x2048.Idx → Elt Ideal .f32)
    (g b : S1x2048.Idx → Elt Ideal .f32) (r : Fin 256) (l : Fin 2048) :
    k0_pay1 (F := Ideal) g b (k0_pay2 v3 v5 v10 v15) (k0_pay3 v3 v5 v10 v15) (ix2 r l)
      = normed (fun x => alpha * v15 (ix2 r x) + (v3 (ix2 r (2 : Fin 128)) * v5 (ix3 (0 : Fin 1) r x) + v3 (ix2 r (3 : Fin 128)) * v10 (ix3 (0 : Fin 1) r x)))
          (fun j => g (ix2 (0 : Fin 1) j)) (fun j => b (ix2 (0 : Fin 1) j)) l := by
  rw [scaled_rows, squares]
  simp only [centred_rows]
  rfl

theorem outBlocks : ∀ β0 : Fin 64, ∀ β1 : Fin 1, ∃ i : grid0.Coords, cc0_transform_5 i = ![β0.val, β1.val] := by decide +kernel
theorem index1 (t : Fin grid0.N) : cc0_transform_1 (grid0.coords t) = ![t.val, 0] := by revert t; decide +kernel
theorem index2 (t : Fin grid0.N) : cc0_transform_2 (grid0.coords t) = ![t.val, 0] := by revert t; decide +kernel
theorem index3 (t : Fin grid0.N) : cc0_transform_3 (grid0.coords t) = ![0, 0] := by revert t; decide +kernel
theorem index4 (t : Fin grid0.N) : cc0_transform_4 (grid0.coords t) = ![0, 0] := by revert t; decide +kernel
theorem index5 (t : Fin grid0.N) : cc0_transform_5 (grid0.coords t) = ![t.val, 0] := by revert t; decide +kernel
theorem coord0 (t : Fin grid0.N) : ((grid0.coords t) 0).val = t.val := by revert t; decide +kernel

variable (m : (ℓ : Loc nD τ sig) → Buf (Elt Ideal) ℓ)

theorem covers4 : ((cfgA m).win (4 : Fin 5)).Covers :=
  Window.covers_of_indexMap_surj _ rfl
    (fun a => match a with
      | ⟨0, _⟩ => by show 0 < 256; decide
      | ⟨1, _⟩ => by show 0 < 2048; decide)
    (fun β => by
      obtain ⟨i, hi⟩ := outBlocks
        ⟨(β (0 : Fin 2)).val, (β (0 : Fin 2)).isLt.trans_eq (show (16384 + 256 - 1) / 256 = 64 by decide)⟩
        ⟨(β (1 : Fin 2)).val, (β (1 : Fin 2)).isLt.trans_eq (show (2048 + 2048 - 1) / 2048 = 1 by decide)⟩
      refine ⟨i, fun a => ?_⟩
      match a with
      | ⟨0, _⟩ => exact congrFun hi 0
      | ⟨1, _⟩ => exact congrFun hi 1)

/-- Row `r` of a point's row block. -/
def rowAt (t : Fin grid0.N) (r : Fin 256) : Fin 16384 := ⟨t.val * 256 + r.val, by have : t.val < 64 := t.isLt; omega⟩

theorem iblk0_apply (c : Dev nD) (t : Fin (cfgA m).N) (r : Fin 256) (j : Fin 2048) :
    iblk m c (0 : Fin 5) t (ix2 r j) = m ((c : Thread nD τ).loc main_arg2) (ix2 (rowAt t r) j) := by
  unfold iblk
  rw [View.read_apply]
  show m ((c : Thread nD τ).loc main_arg2) _ = m ((c : Thread nD τ).loc main_arg2) _
  congr 1
  funext a
  apply Fin.ext
  match a with
  | ⟨0, _⟩ =>
    refine (Window.rect_emb_val ((cfgA m).win (0 : Fin 5)) t (ix2 r j) (0 : Fin 2)).trans ?_
    show cc0_transform_1 (grid0.coords t) 0 * 256 + r.val = t.val * 256 + r.val
    rw [index1]; rfl
  | ⟨1, _⟩ =>
    refine (Window.rect_emb_val ((cfgA m).win (0 : Fin 5)) t (ix2 r j) (1 : Fin 2)).trans ?_
    show cc0_transform_1 (grid0.coords t) 1 * 2048 + j.val = j.val
    rw [index1]; show 0 * 2048 + j.val = j.val; omega

theorem iblk1_apply (c : Dev nD) (t : Fin (cfgA m).N) (r : Fin 256) (j : Fin 128) :
    iblk m c (1 : Fin 5) t (ix2 r j) = m ((c : Thread nD τ).loc main_arg3) (ix2 (rowAt t r) j) := by
  unfold iblk
  rw [View.read_apply]
  show m ((c : Thread nD τ).loc main_arg3) _ = m ((c : Thread nD τ).loc main_arg3) _
  congr 1
  funext a
  apply Fin.ext
  match a with
  | ⟨0, _⟩ =>
    refine (Window.rect_emb_val ((cfgA m).win (1 : Fin 5)) t (ix2 r j) (0 : Fin 2)).trans ?_
    show cc0_transform_2 (grid0.coords t) 0 * 256 + r.val = t.val * 256 + r.val
    rw [index2]; rfl
  | ⟨1, _⟩ =>
    refine (Window.rect_emb_val ((cfgA m).win (1 : Fin 5)) t (ix2 r j) (1 : Fin 2)).trans ?_
    show cc0_transform_2 (grid0.coords t) 1 * 128 + j.val = j.val
    rw [index2]; show 0 * 128 + j.val = j.val; omega

theorem iblk2_apply (c : Dev nD) (t : Fin (cfgA m).N) (r : Fin 1) (j : Fin 2048) :
    iblk m c (2 : Fin 5) t (ix2 r j) = m ((c : Thread nD τ).loc main_arg4) (ix2 r j) := by
  unfold iblk
  rw [View.read_apply]
  show m ((c : Thread nD τ).loc main_arg4) _ = m ((c : Thread nD τ).loc main_arg4) _
  congr 1
  funext a
  apply Fin.ext
  match a with
  | ⟨0, _⟩ =>
    refine (Window.rect_emb_val ((cfgA m).win (2 : Fin 5)) t (ix2 r j) (0 : Fin 2)).trans ?_
    show cc0_transform_3 (grid0.coords t) 0 * 1 + r.val = r.val
    rw [index3]; show 0 * 1 + r.val = r.val; omega
  | ⟨1, _⟩ =>
    refine (Window.rect_emb_val ((cfgA m).win (2 : Fin 5)) t (ix2 r j) (1 : Fin 2)).trans ?_
    show cc0_transform_3 (grid0.coords t) 1 * 2048 + j.val = j.val
    rw [index3]; show 0 * 2048 + j.val = j.val; omega

theorem iblk3_apply (c : Dev nD) (t : Fin (cfgA m).N) (r : Fin 1) (j : Fin 2048) :
    iblk m c (3 : Fin 5) t (ix2 r j) = m ((c : Thread nD τ).loc main_arg5) (ix2 r j) := by
  unfold iblk
  rw [View.read_apply]
  show m ((c : Thread nD τ).loc main_arg5) _ = m ((c : Thread nD τ).loc main_arg5) _
  congr 1
  funext a
  apply Fin.ext
  match a with
  | ⟨0, _⟩ =>
    refine (Window.rect_emb_val ((cfgA m).win (3 : Fin 5)) t (ix2 r j) (0 : Fin 2)).trans ?_
    show cc0_transform_4 (grid0.coords t) 0 * 1 + r.val = r.val
    rw [index4]; show 0 * 1 + r.val = r.val; omega
  | ⟨1, _⟩ =>
    refine (Window.rect_emb_val ((cfgA m).win (3 : Fin 5)) t (ix2 r j) (1 : Fin 2)).trans ?_
    show cc0_transform_4 (grid0.coords t) 1 * 2048 + j.val = j.val
    rw [index4]; show 0 * 2048 + j.val = j.val; omega

theorem half0_apply (g : S2x256x2048.Idx → Elt Ideal .f32) (r : Fin 256) (x : Fin 2048) :
    half0 g (ix3 (0 : Fin 1) r x) = g (ix3 (0 : Fin 2) r x) := by
  refine View.ld_unit_apply_of _ _ _ _ _ _ fun a => ?_
  match a with
  | ⟨0, _⟩ => rfl
  | ⟨1, _⟩ => exact (Nat.zero_add _).symm
  | ⟨2, _⟩ => exact (Nat.zero_add _).symm
theorem half1_apply (g : S2x256x2048.Idx → Elt Ideal .f32) (r : Fin 256) (x : Fin 2048) :
    half1 g (ix3 (0 : Fin 1) r x) = g (ix3 (1 : Fin 2) r x) := by
  refine View.ld_unit_apply_of _ _ _ _ _ _ fun a => ?_
  match a with
  | ⟨0, _⟩ => rfl
  | ⟨1, _⟩ => exact (Nat.zero_add _).symm
  | ⟨2, _⟩ => exact (Nat.zero_add _).symm

/-- What a copy leaves is the row its table entry names. -/
theorem landed_apply (T : S32768.Idx → BitVec 32) (y : S40960x2048.Idx → Elt Ideal .f32) (t : Fin grid0.N) (h : Fin 2) (r : Fin 256) (x : Fin 2048) :
    landed (F := Ideal) T (grid0.coords t) y (ix3 h r x)
      = pick T y (⟨2 * (rowAt t r).val + h.val, by have := (rowAt t r).isLt; omega⟩ : Fin 32768) x := by
  have ht : t.val < 64 := t.isLt
  have hw : word (F := Ideal) T (grid0.coords t) h.val r.val
      = T (ix1 (⟨2 * (rowAt t r).val + h.val, by have := (rowAt t r).isLt; omega⟩ : Fin 32768)) := by
    unfold word
    refine congrArg T ?_
    funext a
    obtain rfl : a = 0 := Subsingleton.elim _ _
    apply Fin.ext
    show (512 * ((grid0.coords t) 0).val + 2 * r.val + h.val) % 32768 = 2 * (t.val * 256 + r.val) + h.val
    rw [coord0]; omega
  show y _ = y _
  refine congrArg y ?_
  funext a
  apply Fin.ext
  match a with
  | ⟨0, _⟩ =>
    show (word (F := Ideal) T (grid0.coords t) h.val r.val).toNat % 40960 = _
    rw [hw]; rfl
  | ⟨1, _⟩ => rfl

theorem left_apply (c : Dev nD) (t : Fin (cfgA m).N) (r : Fin 256) (l : Fin 2048) :
    left m c t (ix2 r l) = combined (posT m) (rowsY m c) (m ((c : Thread nD τ).loc main_arg2)) (m ((c : Thread nD τ).loc main_arg3))
      (m ((c : Thread nD τ).loc main_arg4)) (m ((c : Thread nD τ).loc main_arg5)) (rowAt t r) l := by
  unfold left outBlock
  refine (rows_normed _ _ _ _ _ _ r l).trans ?_
  unfold combined
  have hg : (fun j => iblk m c (2 : Fin 5) t (ix2 (0 : Fin 1) j)) = fun j => m ((c : Thread nD τ).loc main_arg4) (ix2 (0 : Fin 1) j) :=
    funext fun j => iblk2_apply m c t 0 j
  have hb : (fun j => iblk m c (3 : Fin 5) t (ix2 (0 : Fin 1) j)) = fun j => m ((c : Thread nD τ).loc main_arg5) (ix2 (0 : Fin 1) j) :=
    funext fun j => iblk3_apply m c t 0 j
  refine (congrArg (fun y => normed y _ _ l) (?_ : _ = joined (posT m) (rowsY m c) (m ((c : Thread nD τ).loc main_arg2)) (m ((c : Thread nD τ).loc main_arg3)) (rowAt t r))).trans
    ((congrArg (fun y => normed _ y _ l) hg).trans (congrArg (fun y => normed _ _ y l) hb))
  funext x
  have e0 := (half0_apply (landed (F := Ideal) (posT m) (crd m t) (rowsY m c)) r x).trans (landed_apply (posT m) (rowsY m c) t 0 r x)
  have e1 := (half1_apply (landed (F := Ideal) (posT m) (crd m t) (rowsY m c)) r x).trans (landed_apply (posT m) (rowsY m c) t 1 r x)
  exact congrArg₂ (fun a b : EReal => a + b) (congrArg (fun a => alpha * a) (iblk0_apply m c t r x))
    (congrArg₂ (fun a b : EReal => a + b)
      (congrArg₂ (fun a b : EReal => a * b) (iblk1_apply m c t r 2) e0)
      (congrArg₂ (fun a b : EReal => a * b) (iblk1_apply m c t r 3) e1))

/-- The result. -/
def out (c : Dev nD) : S16384x2048.Idx → Elt Ideal .f32 := fun i =>
  combined (posT m) (rowsY m c) (m ((c : Thread nD τ).loc main_arg2)) (m ((c : Thread nD τ).loc main_arg3))
    (m ((c : Thread nD τ).loc main_arg4)) (m ((c : Thread nD τ).loc main_arg5)) (i 0) (i 1)

/-- The result array. -/
theorem final4 (c : Dev nD) : (dats m 0 c).arrAt (4 : Fin 5) (cfgA m).N = out m c := by
  refine (dats m 0 c).arrAt_eq_of_covers (4 : Fin 5) _ (covers4 m) (fun t _ y => ?_) (Memref.isWhole_whole _)
  refine (cast_eq _ _).trans ?_
  refine (congrArg (left m c t) (show _ = ix2 (y (0 : Fin 2)) (y (1 : Fin 2)) from ?_)).trans
    ((left_apply m c t (y (0 : Fin 2)) (y (1 : Fin 2))).trans
      ((rfl : _ = out m c (ix2 (rowAt t (y (0 : Fin 2))) (y (1 : Fin 2)))).trans (congrArg (out m c) ?_)))
  · funext a
    match a with
    | ⟨0, _⟩ => rfl
    | ⟨1, _⟩ => rfl
  · funext a
    apply Fin.ext
    match a with
    | ⟨0, _⟩ =>
      refine Eq.trans ?_ (Window.rect_emb_val ((cfgA m).win (4 : Fin 5)) t y (0 : Fin 2)).symm
      show t.val * 256 + (y (0 : Fin 2)).val = cc0_transform_5 (grid0.coords t) 0 * 256 + (y (0 : Fin 2)).val
      rw [index5]; rfl
    | ⟨1, _⟩ =>
      refine Eq.trans ?_ (Window.rect_emb_val ((cfgA m).win (4 : Fin 5)) t y (1 : Fin 2)).symm
      show (y (1 : Fin 2)).val = cc0_transform_5 (grid0.coords t) 1 * 2048 + (y (1 : Fin 2)).val
      rw [index5]; show _ = 0 * 2048 + _; omega

end Cert.KernelCombineIdeal.Combine

end
-- ==== Proof.Combine.Reference.lean ====
/- The reference's combine, element by element, for row numbers in range. -/
module

public import proofs.«01_k».proof.Proof.Combine.Spec
public import proofs.«01_k».proof.Proof.Gen.ReferenceCombineIdeal.Run

@[expose] public section

set_option maxRecDepth 16384
set_option Elab.async false

noncomputable section

namespace Cert.ReferenceCombineIdeal.Combine

open Cert.ReferenceCombineIdeal Cert.ReferenceCombineIdeal.Gen Cert.ReferenceCombineIdeal.Value Cert.OutProj Cert.Combine
open Idealize.ShloMosaic Idealize.ShloMosaic.TcCoe Idealize.SL.Sem

/-! ## The constants -/

theorem two_eq : Ideal.ofBits .f32 0x40000000#32 = ((2 : ℝ) : EReal) := by
  simp [Ideal.ofBits, Ideal.ieee, -EReal.coe_mul]; norm_num
theorem width_eq : Ideal.ofBits .f32 0x45000000#32 = width := by
  unfold width
  simp [Ideal.ofBits, Ideal.ieee, -EReal.coe_mul]; norm_num
theorem sqrt_two : Ideal.sqrt ((2 : ℝ) : EReal) = alpha := by
  rw [Ideal.sqrt_coe, if_neg (by norm_num)]
  rfl
theorem hundred_thousand : Ideal.div 1 (Ideal.ofBits .f32 0x47C35000#32) = eps := by
  have h : Ideal.ofBits .f32 0x47C35000#32 = ((100000 : ℝ) : EReal) := by
    simp [Ideal.ofBits, Ideal.ieee, -EReal.coe_mul]; norm_num
  rw [h, ← EReal.coe_one, div_coe _ _ (by norm_num)]
  rfl

section
variable (pos : S32768.Idx → BitVec 32) (y : S40960x2048.Idx → Elt Ideal .f32) (h : S16384x2048.Idx → Elt Ideal .f32)
  (info : S16384x128.Idx → Elt Ideal .f32) (g b : S1x2048.Idx → Elt Ideal .f32)

/-- The row numbers, wrapped where negative. -/
def wrapped : S32768x1.Idx → BitVec 32 :=
  broadcastInDim S32768x1 ![0] bcast_S32768_S32768x1_0 (select (cmpi .slt pos (broadcastInDim S32768 ![] bcast_S_S32768 (constantI S_ 32 0#32)))
    (addi pos (broadcastInDim S32768 ![] bcast_S_S32768 (constantI S_ 32 40960#32))) pos)

/-- The rows taken. -/
def taken : S32768x2048.Idx → Elt Ideal .f32 :=
  Host.gather gather_S40960x2048_S32768x1_S32768x2048_1_0_n_n_0_1_12048 y (wrapped pos)

/-- The rows before the layer norm. -/
def stream : S16384x2048.Idx → Elt Ideal .f32 :=
  addf (F := Ideal) (φ := .f32) (mulf (F := Ideal) (φ := .f32) (broadcastInDim S16384x2048 ![] bcast_S_S16384x2048 (Host.sqrt (constant S_ .f32 0x40000000#32))) h)
    (addf (F := Ideal) (φ := .f32)
      (mulf (F := Ideal) (φ := .f32) (broadcastInDim S16384x2048 ![0, 1] bcast_S16384x1_S16384x2048_0_1 (extractStridedSlice S16384x1 ![0, 2] info slices_S16384x128_S16384x1_0_2))
        (shapeCast _ (extractStridedSlice S16384x1x2048 ![0, 0, 0] (shapeCast _ (taken pos y) shapeCasts_S32768x2048_S16384x2x2048) slices_S16384x2x2048_S16384x1x2048_0_0_0) shapeCasts_S16384x1x2048_S16384x2048))
      (mulf (F := Ideal) (φ := .f32) (broadcastInDim S16384x2048 ![0, 1] bcast_S16384x1_S16384x2048_0_1 (extractStridedSlice S16384x1 ![0, 3] info slices_S16384x128_S16384x1_0_3))
        (shapeCast _ (extractStridedSlice S16384x1x2048 ![0, 1, 0] (shapeCast _ (taken pos y) shapeCasts_S32768x2048_S16384x2x2048) slices_S16384x2x2048_S16384x1x2048_0_1_0) shapeCasts_S16384x1x2048_S16384x2048)))

/-- A row less its mean. -/
def centred (z : S16384x2048.Idx → Elt Ideal .f32) : S16384x2048.Idx → Elt Ideal .f32 :=
  subf (F := Ideal) (φ := .f32) z (broadcastInDim S16384x2048 ![0, 1] bcast_S16384x1_S16384x2048_0_1 (Host.divf (F := Ideal) (φ := .f32)
    (broadcastInDim S16384x1 ![0] bcast_S16384_S16384x1_0 (Host.reduceAdd z (constant S_ .f32 0x00000000#32) reducesTo_S16384x2048_S16384_d1 h_S_))
    (broadcastInDim S16384x1 ![] bcast_S_S16384x1 (constant S_ .f32 0x45000000#32))))

/-- The layer norm of rows already centred. -/
def scaled (d : S16384x2048.Idx → Elt Ideal .f32) : S16384x2048.Idx → Elt Ideal .f32 :=
  addf (F := Ideal) (φ := .f32) (mulf (F := Ideal) (φ := .f32) (mulf (F := Ideal) (φ := .f32) d
    (broadcastInDim S16384x2048 ![0, 1] bcast_S16384x1_S16384x2048_0_1 (Host.rsqrt (F := Ideal) (φ := .f32) (addf (F := Ideal) (φ := .f32) (Host.divf (F := Ideal) (φ := .f32) (broadcastInDim S16384x1 ![0] bcast_S16384_S16384x1_0
      (Host.reduceAdd (F := Ideal) (φ := .f32) (mulf (F := Ideal) (φ := .f32) d d) (constant S_ .f32 0x00000000#32) reducesTo_S16384x2048_S16384_d1 h_S_))
      (broadcastInDim S16384x1 ![] bcast_S_S16384x1 (constant S_ .f32 0x45000000#32)))
      (broadcastInDim S16384x1 ![] bcast_S_S16384x1 (Host.divf (constant S_ .f32 0x3F800000#32) (constant S_ .f32 0x47C35000#32)))))))
    (broadcastInDim S16384x2048 ![0, 1] bcast_S1x2048_S16384x2048_0_1 g))
    (broadcastInDim S16384x2048 ![0, 1] bcast_S1x2048_S16384x2048_0_1 b)

/-- In range, the wrapped number is the number itself. -/
theorem wrapped_apply (hp : ∀ n, (pos n).toNat < 40960) (n : Fin 32768) : wrapped pos (ix2 n (0 : Fin 1)) = pos (ix1 n) := by
  pointwise [wrapped]
  have hn := hp (ix1 n)
  have : IntOp.cmpi .slt (pos (ix1 n)) 0#32 = 0#1 := by
    have e : (pos (ix1 n)).slt 0#32 = false := by
      rw [BitVec.slt_eq_decide, decide_eq_false_iff_not]
      have := BitVec.toInt_eq_toNat_cond (pos (ix1 n))
      have z : (0#32).toInt = 0 := by decide
      rw [z]
      split at this <;> omega
    simp only [IntOp.cmpi, e]; rfl
  rw [this]
  rfl

theorem taken_apply (hp : ∀ n, (pos n).toNat < 40960) (n : Fin 32768) (x : Fin 2048) : taken pos y (ix2 n x) = pick pos y n x := by
  unfold taken pick Host.gather
  congr 1
  funext a
  refine Fin.ext ?_
  show (gather_S40960x2048_S32768x1_S32768x2048_1_0_n_n_0_1_12048).start (ix2 n x) (wrapped pos) a
    + (gather_S40960x2048_S32768x1_S32768x2048_1_0_n_n_0_1_12048).batchCoord (ix2 n x) a
    + (gather_S40960x2048_S32768x1_S32768x2048_1_0_n_n_0_1_12048).offCoord (ix2 n x) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => by exact List.not_mem_nil h),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S40960x2048_S32768x1_S32768x2048_1_0_n_n_0_1_12048).startIndexMap from List.mem_singleton.mpr rfl)]
    have hsi : (gather_S40960x2048_S32768x1_S32768x2048_1_0_n_n_0_1_12048).siIdx (ix2 n x)
        ⟨List.idxOf (0 : Fin 2) (gather_S40960x2048_S32768x1_S32768x2048_1_0_n_n_0_1_12048).startIndexMap,
          List.idxOf_lt_length_iff.2 (List.mem_singleton.mpr rfl)⟩ = ix2 n (0 : Fin 1) := by
      funext b; refine Fin.ext ?_
      match b with
      | ⟨0, _⟩ => rfl
      | ⟨1, _⟩ => rfl
    rw [hsi, wrapped_apply pos hp]
    have hn := hp (ix1 n)
    show min (pos (ix1 n)).toInt.toNat (40960 - 1) = (pos (ix1 n)).toNat % 40960
    have := BitVec.toInt_eq_toNat_cond (pos (ix1 n))
    split at this <;> omega
  · rw [GatherDims.batchCoord_eq_zero _ _ _ (fun h => by exact List.not_mem_nil h)]
    unfold GatherDims.start
    rw [dif_neg (show ¬ (1 : Fin 2) ∈ (gather_S40960x2048_S32768x1_S32768x2048_1_0_n_n_0_1_12048).startIndexMap from by
      intro h; exact absurd (List.mem_singleton.mp h) (by decide))]
    simp only [Nat.zero_add, Nat.add_zero]
    rfl

theorem stream_apply (hp : ∀ n, (pos n).toNat < 40960) (i : Fin 16384) (x : Fin 2048) :
    stream pos y h info (ix2 i x) = joined pos y h info i x := by
  pointwise [stream]
  rw [two_eq, sqrt_two]
  unfold joined
  rw [← taken_apply pos y hp, ← taken_apply pos y hp]
  have e0 : ∀ hh, (⟨2 * i.val, hh⟩ : Fin 32768) = ⟨i.val * 2, by omega⟩ := fun _ => Fin.ext (Nat.mul_comm _ _)
  have e1 : ∀ hh, (⟨2 * i.val + 1, hh⟩ : Fin 32768) = ⟨i.val * 2 + 1, by omega⟩ := fun _ => Fin.ext (by show 2 * i.val + 1 = i.val * 2 + 1; omega)
  rw [e0, e1]

theorem centred_apply (z : S16384x2048.Idx → Elt Ideal .f32) (i : Fin 16384) (x : Fin 2048) :
    centred z (ix2 i x) = z (ix2 i x) - mean (fun x => z (ix2 i x)) := by
  pointwise [centred]
  rw [width_eq]
  rfl

theorem scaled_apply (d : S16384x2048.Idx → Elt Ideal .f32) (i : Fin 16384) (x : Fin 2048) :
    scaled g b d (ix2 i x) = d (ix2 i x) * Ideal.rsqrt (Ideal.div (∑ x, d (ix2 i x) * d (ix2 i x)) width + eps) * g (ix2 (0 : Fin 1) x) + b (ix2 (0 : Fin 1) x) := by
  pointwise [scaled]
  rw [width_eq, hundred_thousand]

/-- The reference's result. -/
theorem result_apply (hp : ∀ n, (pos n).toNat < 40960) (i : Fin 16384) (x : Fin 2048) :
    scaled g b (centred (stream pos y h info)) (ix2 i x) = combined pos y h info g b i x := by
  rw [scaled_apply]
  have e : ∀ x, centred (stream pos y h info) (ix2 i x) = joined pos y h info i x - mean (joined pos y h info i) := fun x => by
    rw [centred_apply]
    have : (fun x => stream pos y h info (ix2 i x)) = joined pos y h info i := funext fun x => stream_apply pos y h info hp i x
    rw [this, stream_apply pos y h info hp]
  simp only [e]
  rfl

end

theorem res_eq (m : (ℓ : Loc nD τ sig) → Buf (Elt Ideal) ℓ) (c : Dev nD) :
    res_out0 (F := Ideal) m c
      = scaled (m ((c.tc : Thread nD τ).loc main_arg4)) (m ((c.tc : Thread nD τ).loc main_arg5))
          (centred (stream (m ((c.tc : Thread nD τ).loc main_arg0)) (m ((c.tc : Thread nD τ).loc main_arg1))
            (m ((c.tc : Thread nD τ).loc main_arg2)) (m ((c.tc : Thread nD τ).loc main_arg3)))) := rfl

end Cert.ReferenceCombineIdeal.Combine

end
-- ==== Proof.Combine.Range.lean ====
/- The combine's precondition, decoded: where it is all ones, every row number is one of the experts' rows. -/
module

public import proofs.«01_k».proof.Pre_in_rows
public import proofs.«01_k».proof.Proof.Gen.Pre_in_rows
public import Idealize.ShloMosaic.Lib.Pointwise

@[expose] public section

set_option Elab.async false

noncomputable section

namespace Cert.RowRange

open Idealize.ShloMosaic Cert.Pre_in_rows Cert.Pre_in_rows.Gen

theorem andi_ofBool (p q : Bool) : IntOp.andi (BitVec.ofBool p) (BitVec.ofBool q) = BitVec.ofBool (p && q) := by
  cases p <;> cases q <;> decide
theorem ofBool_eq_one (p : Bool) : BitVec.ofBool p = 1#1 ↔ p = true := by cases p <;> decide

variable {F : FTy → Type} [FloatOps F]

theorem of_pre (pos : IVec S32768 32) (y : FVec F S40960x2048 .f32) (h1 : FVec F S16384x2048 .f32) (info : FVec F S16384x128 .f32)
    (g b : FVec F S1x2048 .f32) (h : fn (F := F) pos y h1 info g b = fun _ => 1#1) (n : S32768.Idx) : (pos n).toNat < 40960 := by
  have e := congrFun h n
  simp only [fn, andi, cmpi, broadcastInDim, constantI, IntOp.cmpi, andi_ofBool, ofBool_eq_one, Bool.and_eq_true] at e
  obtain ⟨h1, h2⟩ := e
  simp only [BitVec.sle, BitVec.slt, decide_eq_true_eq] at h1 h2
  have z : (0#32).toInt = 0 := by decide
  have s : (40960#32).toInt = 40960 := by decide
  rw [z] at h1
  rw [s] at h2
  have := BitVec.toInt_eq_toNat_cond (pos n)
  split at this <;> omega

end Cert.RowRange

end
-- ==== Proof.Combine.Equation.lean ====
/- The combine: the kernel's array is the reference's. -/
module

public import proofs.«01_k».proof.Defs
public import proofs.«01_k».proof.Proof.Combine.Array
public import proofs.«01_k».proof.Proof.Combine.Reference
public import proofs.«01_k».proof.Proof.Combine.Range
public import proofs.«01_k».proof.Proof.Combine.Bits.Launch
public import Idealize.ShloMosaic.Lib.Quiescent

@[expose] public section

set_option Elab.async false

noncomputable section

namespace Cert.Combine

open Idealize.ShloMosaic Idealize.ShloMosaic.TcCoe Idealize.SL.Sem

theorem ix2_self {n k : ℕ} (i : (⟨2, ![n, k]⟩ : Shape).Idx) : i = ix2 (i 0) (i 1) := by
  funext a
  match a with
  | ⟨0, _⟩ => rfl
  | ⟨1, _⟩ => rfl

/-- Under the precondition every entry of the table names one of the experts' rows. -/
theorem range_ideal {m : (ℓ : Loc Cert.KernelCombineIdeal.nD Cert.KernelCombineIdeal.τ Cert.KernelCombineIdeal.sig) → Buf (Elt Ideal) ℓ}
    (h : Cert.Pre_KernelCombineIdeal (hPre_in_rows := Cert.Pre_in_rows.Gen.facts) m) (n : Cert.KernelCombineIdeal.S32768.Idx) :
    (Cert.KernelCombineIdeal.Combine.posT m n : BitVec 32).toNat < 40960 :=
  Cert.RowRange.of_pre _ _ _ _ _ _ (h 0) n

/-- The two constants that stand for a square root and a fraction are printed where the table names them. -/
theorem preserves : Cert.preserves_KernelCombine_KernelCombineIdeal :=
  ⟨IdealRules.named_const.statement Cert.KernelCombineIdeal.κ "alpha" .f32 0x3FB504F3#32 ((Real.sqrt 2 : ℝ) : EReal) rfl,
    IdealRules.named_const.statement Cert.KernelCombineIdeal.κ "ln_eps" .f32 0x3727C5AC#32 ((1 / 100000 : ℝ) : EReal) rfl⟩

/-- The kernel's array and the reference's are the same extended reals, and both programs run. -/
theorem algebraic : Cert.algebraic_KernelCombineIdeal_ReferenceCombineIdeal (hKernelCombineIdeal := Cert.KernelCombineIdeal.Gen.facts)
    (hReferenceCombineIdeal := Cert.ReferenceCombineIdeal.Gen.facts) (hPre_in_rows := Cert.Pre_in_rows.Gen.facts) := by
  intro m g m' g' hpre hagree
  refine ⟨fun c => Cert.KernelCombineIdeal.Combine.out m c, ?_, ?_⟩
  · exact (θ_run Cert.KernelCombineIdeal.defs _ _).mono
      (fun _ h c => ⟨(h.1 c).1.trans (Cert.KernelCombineIdeal.Combine.final4 m c), (h.1 c).2⟩)
      (Cert.KernelCombineIdeal.Combine.run_result m g (range_ideal hpre))
  · refine (θ_run Cert.ReferenceCombineIdeal.defs _ _).mono (fun _ h c => ⟨(h c).1.trans ?_, (h c).2⟩)
      (Cert.ReferenceCombineIdeal.Value.run (F := Ideal) m' g')
    obtain rfl : c = 0 := Subsingleton.elim _ _
    obtain ⟨e0, e1, e2, e3, e4, e5⟩ := hagree 0
    have hp : ∀ n, (m' (((0 : Dev Cert.ReferenceCombineIdeal.nD).tc : Thread Cert.ReferenceCombineIdeal.nD Cert.ReferenceCombineIdeal.τ).loc Cert.ReferenceCombineIdeal.main_arg0) n : BitVec 32).toNat < 40960 := fun n => by
      rw [e0]; exact range_ideal hpre n
    refine (Cert.ReferenceCombineIdeal.Combine.res_eq m' 0).trans ?_
    funext i
    refine (congrArg _ (ix2_self i)).trans ?_
    refine (Cert.ReferenceCombineIdeal.Combine.result_apply _ _ _ _ _ _ hp (i 0) (i 1)).trans ?_
    rw [e0, e1, e2, e3, e4, e5]
    rfl

/-- The combine as compiled runs, at row numbers in range. -/
theorem frame_kernel : Cert.quiescent_KernelCombine (hKernelCombine := Cert.KernelCombine.Gen.facts) (hPre_in_rows := Cert.Pre_in_rows.Gen.facts) :=
  fun m g hpre =>
    (θ_run Cert.KernelCombine.defs _ _).mono (fun _ h => ⟨fun c => (h.1 c).2, h.2⟩)
      (Cert.KernelCombine.Combine.run_result m g (fun n => Cert.RowRange.of_pre _ _ _ _ _ _ (hpre 0) n))

/-- The combine over the extended reals runs, at row numbers in range. -/
theorem frame_kernelIdeal : Cert.quiescent_KernelCombineIdeal (hKernelCombineIdeal := Cert.KernelCombineIdeal.Gen.facts) (hPre_in_rows := Cert.Pre_in_rows.Gen.facts) :=
  fun m g hpre =>
    (θ_run Cert.KernelCombineIdeal.defs _ _).mono (fun _ h => ⟨fun c => (h.1 c).2, h.2⟩)
      (Cert.KernelCombineIdeal.Combine.run_result m g (range_ideal hpre))

/-- The reference's combine runs; it declares no semaphore. -/
theorem frame_reference : Cert.quiescent_ReferenceCombineIdeal (hReferenceCombineIdeal := Cert.ReferenceCombineIdeal.Gen.facts) :=
  fun m g _ =>
    (θ_run Cert.ReferenceCombineIdeal.defs _ _).mono (fun r h => ⟨fun c => (h c).2, sem_eq_zero_of_no_sems (by decide) r.2⟩)
      (Cert.ReferenceCombineIdeal.Value.run (F := Ideal) m g)

end Cert.Combine

end
-- ==== Proof.lean ====
module

public import proofs.«01_k».proof.Proof.Gen.KernelGla.Frame
public import proofs.«01_k».proof.Proof.Gen.KernelGlaIdeal.Value
public import proofs.«01_k».proof.Proof.Gen.ReferenceGlaIdeal.Run
public import proofs.«01_k».proof.Proof.Gen.KernelMoba.Frame
public import proofs.«01_k».proof.Proof.Gen.KernelMobaIdeal.Value
public import proofs.«01_k».proof.Proof.Gen.ReferenceMobaIdeal.Run
public import proofs.«01_k».proof.Proof.Gen.KernelOut.Frame
public import proofs.«01_k».proof.Proof.Gen.KernelOutIdeal.Value
public import proofs.«01_k».proof.Proof.Gen.ReferenceOutIdeal.Run
public import proofs.«01_k».proof.Proof.Gen.KernelLow.Frame
public import proofs.«01_k».proof.Proof.Gen.KernelLowIdeal.Value
public import proofs.«01_k».proof.Proof.Gen.ReferenceLowIdeal.Run
public import proofs.«01_k».proof.Proof.Gen.KernelRope.Frame
public import proofs.«01_k».proof.Proof.Gen.KernelRopeIdeal.Value
public import proofs.«01_k».proof.Proof.Gen.ReferenceRopeIdeal.Run
public import proofs.«01_k».proof.Proof.Gen.KernelPrep.Frame
public import proofs.«01_k».proof.Proof.Gen.KernelPrepIdeal.Value
public import proofs.«01_k».proof.Proof.Gen.ReferencePrepIdeal.Run
public import proofs.«01_k».proof.Proof.Gen.Pre_finite_prep
public import proofs.«01_k».proof.Proof.Gen.KernelCombine
public import proofs.«01_k».proof.Proof.Gen.KernelCombine.Launch
public import proofs.«01_k».proof.Proof.Gen.KernelCombine.Flash
public import proofs.«01_k».proof.Proof.Gen.KernelCombine.Loops
public import proofs.«01_k».proof.Proof.Gen.KernelCombineIdeal
public import proofs.«01_k».proof.Proof.Gen.KernelCombineIdeal.Launch
public import proofs.«01_k».proof.Proof.Gen.KernelCombineIdeal.Flash
public import proofs.«01_k».proof.Proof.Gen.KernelCombineIdeal.Loops
public import proofs.«01_k».proof.Proof.Gen.ReferenceCombineIdeal
public import proofs.«01_k».proof.Proof.Gen.ReferenceCombineIdeal.Run
public import proofs.«01_k».proof.Proof.Gen.Pre_finite
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Gen.Pre_in_rows
public import proofs.«01_k».proof.Proof.Bits.Launch
public import proofs.«01_k».proof.Proof.Equation
public import proofs.«01_k».proof.Proof.ProjMoba.Equation
public import proofs.«01_k».proof.Proof.ProjGla.Equation
public import proofs.«01_k».proof.Proof.OutProj.Equation
public import proofs.«01_k».proof.Proof.ProjLow.Equation
public import proofs.«01_k».proof.Proof.Rope.Equation
public import proofs.«01_k».proof.Proof.Prep.Equation
public import proofs.«01_k».proof.Proof.Combine.Equation
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel as compiled runs, at tables in range. -/
theorem frame_kernel : Cert.quiescent_Kernel (hKernel := Cert.Kernel.Gen.facts) (hPre_in_range := Cert.Pre_in_range.Gen.facts) :=
  fun m g hpre =>
    have hr : Cert.Kernel.Experts.InRange m :=
      ⟨fun y => (Cert.Range.of_pre _ _ _ _ _ _ (hpre 0) y).1, fun y => (Cert.Range.of_pre _ _ _ _ _ _ (hpre 0) y).2⟩
    (θ_run Cert.Kernel.defs _ _).mono (fun _ h => ⟨fun c => (h.1 c).2, h.2⟩) (Cert.Kernel.Experts.run_result hr g)

/-- The kernel over the extended reals runs, at tables in range. -/
theorem frame_kernelIdeal : Cert.quiescent_KernelIdeal (hKernelIdeal := Cert.KernelIdeal.Gen.facts) (hPre_in_range := Cert.Pre_in_range.Gen.facts) :=
  fun m g hpre =>
    (θ_run Cert.KernelIdeal.defs _ _).mono (fun _ h => ⟨fun c => (h.1 c).2, h.2⟩)
      (Cert.KernelIdeal.Experts.run_result (Cert.Equation.range_ideal hpre) g)

/-- The reference runs; it declares no semaphore. -/
theorem frame_reference : Cert.quiescent_ReferenceIdeal (hReferenceIdeal := Cert.ReferenceIdeal.Gen.facts) :=
  fun m g _ =>
    (θ_run Cert.ReferenceIdeal.defs _ _).mono (fun r h => ⟨fun c => (h c).2, sem_eq_zero_of_no_sems (by decide) r.2⟩)
      (Cert.ReferenceIdeal.Value.run (F := Ideal) m g)

/-- The reference's projection onto the linear attention's columns runs; it declares no semaphore. -/
theorem frame_referenceGla : Cert.quiescent_ReferenceGlaIdeal (hReferenceGlaIdeal := Cert.ReferenceGlaIdeal.Gen.facts) :=
  fun m g _ =>
    (θ_run Cert.ReferenceGlaIdeal.defs _ _).mono (fun r h => ⟨fun c => (h c).2, sem_eq_zero_of_no_sems (by decide) r.2⟩)
      (Cert.ReferenceGlaIdeal.Value.run (F := Ideal) m g)

/-- The reference's projection onto the block attention's columns runs; it declares no semaphore. -/
theorem frame_referenceMoba : Cert.quiescent_ReferenceMobaIdeal (hReferenceMobaIdeal := Cert.ReferenceMobaIdeal.Gen.facts) :=
  fun m g _ =>
    (θ_run Cert.ReferenceMobaIdeal.defs _ _).mono (fun r h => ⟨fun c => (h c).2, sem_eq_zero_of_no_sems (by decide) r.2⟩)
      (Cert.ReferenceMobaIdeal.Value.run (F := Ideal) m g)

/-- The reference's projection onto the decay's columns runs; it declares no semaphore. -/
theorem frame_referenceLow : Cert.quiescent_ReferenceLowIdeal (hReferenceLowIdeal := Cert.ReferenceLowIdeal.Gen.facts) :=
  fun m g _ =>
    (θ_run Cert.ReferenceLowIdeal.defs _ _).mono (fun r h => ⟨fun c => (h c).2, sem_eq_zero_of_no_sems (by decide) r.2⟩)
      (Cert.ReferenceLowIdeal.Value.run (F := Ideal) m g)

/-- The reference's rotary tables run; they declare no semaphore. -/
theorem frame_referenceRope : Cert.quiescent_ReferenceRopeIdeal (hReferenceRopeIdeal := Cert.ReferenceRopeIdeal.Gen.facts) :=
  fun m g _ =>
    (θ_run Cert.ReferenceRopeIdeal.defs _ _).mono (fun r h => ⟨fun c => (h c).2.2, sem_eq_zero_of_no_sems (by decide) r.2⟩)
      (Cert.ReferenceRopeIdeal.Value.run (F := Ideal) m g)

theorem claim : Cert.Claim :=
  ⟨Cert.Kernel.Gen.facts, Cert.KernelIdeal.Gen.facts, Cert.ReferenceIdeal.Gen.facts,
    Cert.KernelGla.Gen.facts, Cert.KernelGlaIdeal.Gen.facts, Cert.ReferenceGlaIdeal.Gen.facts,
    Cert.KernelMoba.Gen.facts, Cert.KernelMobaIdeal.Gen.facts, Cert.ReferenceMobaIdeal.Gen.facts,
    Cert.KernelOut.Gen.facts, Cert.KernelOutIdeal.Gen.facts, Cert.ReferenceOutIdeal.Gen.facts,
    Cert.KernelLow.Gen.facts, Cert.KernelLowIdeal.Gen.facts, Cert.ReferenceLowIdeal.Gen.facts,
    Cert.KernelRope.Gen.facts, Cert.KernelRopeIdeal.Gen.facts, Cert.ReferenceRopeIdeal.Gen.facts,
    Cert.KernelPrep.Gen.facts, Cert.KernelPrepIdeal.Gen.facts, Cert.ReferencePrepIdeal.Gen.facts,
    Cert.KernelCombine.Gen.facts, Cert.KernelCombineIdeal.Gen.facts, Cert.ReferenceCombineIdeal.Gen.facts,
    Cert.Pre_in_range.Gen.facts, Cert.Pre_finite.Gen.facts, Cert.Pre_finite_prep.Gen.facts, Cert.Pre_in_rows.Gen.facts,
    frame_kernel, frame_kernelIdeal, frame_reference, fun m g _ => frame_reference m g trivial,
    fun m g _ => Cert.KernelGla.Gen.frame m g, fun m g _ => Cert.KernelGlaIdeal.Gen.frame m g, frame_referenceGla,
    fun m g _ => Cert.KernelMoba.Gen.frame m g, fun m g _ => Cert.KernelMobaIdeal.Gen.frame m g, frame_referenceMoba,
    fun m g _ => Cert.KernelOut.Gen.frame m g, fun m g _ => Cert.KernelOutIdeal.Gen.frame m g,
    fun m g _ => Cert.KernelOutIdeal.Gen.frame m g, Cert.OutProj.frame_reference,
    fun m g _ => Cert.OutProj.frame_reference m g trivial,
    fun m g _ => Cert.KernelLow.Gen.frame m g, fun m g _ => Cert.KernelLowIdeal.Gen.frame m g, frame_referenceLow,
    fun m g _ => Cert.KernelRope.Gen.frame m g, fun m g _ => Cert.KernelRopeIdeal.Gen.frame m g, frame_referenceRope,
    fun m g _ => Cert.KernelPrep.Gen.frame m g, fun m g _ => Cert.KernelPrepIdeal.Gen.frame m g,
    fun m g _ => Cert.KernelPrepIdeal.Gen.frame m g, Cert.Prep.frame_reference,
    fun m g _ => Cert.Prep.frame_reference m g trivial,
    Cert.Combine.frame_kernel, Cert.Combine.frame_kernelIdeal, Cert.Combine.frame_reference,
    fun m g _ => Cert.Combine.frame_reference m g trivial,
    trivial, Cert.Equation.algebraic, trivial, Cert.ProjGla.algebraic, trivial, Cert.ProjMoba.algebraic,
    Cert.OutProj.preserves, Cert.OutProj.algebraic, trivial, Cert.ProjLow.algebraic, trivial, Cert.Rope.algebraic,
    Cert.Prep.preserves, Cert.Prep.algebraic, Cert.Combine.preserves, Cert.Combine.algebraic⟩

end Cert.Proof

end
